-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_below_infinity [hPre_gates_below_infinity : Cert.Pre_gates_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_gates_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_below_infinity [hPre_gates_below_infinity : Cert.Pre_gates_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_ReferenceMemIdeal (m : (ℓ : Loc Cert.ReferenceMemIdeal.nD Cert.ReferenceMemIdeal.τ Cert.ReferenceMemIdeal.sig) → Buf (Elt Ideal) ℓ) : Prop :=
  True

def Pre_KernelPostSample (m : (ℓ : Loc Cert.KernelPostSample.nD Cert.KernelPostSample.τ Cert.KernelPostSample.sig) → Buf (Elt Bits) ℓ) : Prop :=
  True

def Pre_KernelPostSampleIdeal (m : (ℓ : Loc Cert.KernelPostSampleIdeal.nD Cert.KernelPostSampleIdeal.τ Cert.KernelPostSampleIdeal.sig) → Buf (Elt Ideal) ℓ) : Prop :=
  True

def Pre_ReferencePostSampleIdeal (m : (ℓ : Loc Cert.ReferencePostSampleIdeal.nD Cert.ReferencePostSampleIdeal.τ Cert.ReferencePostSampleIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelPostFirst (m : (ℓ : Loc Cert.KernelPostFirst.nD Cert.KernelPostFirst.τ Cert.KernelPostFirst.sig) → Buf (Elt Bits) ℓ) : Prop :=
  True

def Pre_KernelPostFirstIdeal (m : (ℓ : Loc Cert.KernelPostFirstIdeal.nD Cert.KernelPostFirstIdeal.τ Cert.KernelPostFirstIdeal.sig) → Buf (Elt Ideal) ℓ) : Prop :=
  True

def Pre_ReferencePostFirstIdeal (m : (ℓ : Loc Cert.ReferencePostFirstIdeal.nD Cert.ReferencePostFirstIdeal.τ Cert.ReferencePostFirstIdeal.sig) → Buf (Elt Ideal) ℓ) : Prop :=
  True

def Pre_KernelPostSecond (m : (ℓ : Loc Cert.KernelPostSecond.nD Cert.KernelPostSecond.τ Cert.KernelPostSecond.sig) → Buf (Elt Bits) ℓ) : Prop :=
  True

def Pre_KernelPostSecondIdeal (m : (ℓ : Loc Cert.KernelPostSecondIdeal.nD Cert.KernelPostSecondIdeal.τ Cert.KernelPostSecondIdeal.sig) → Buf (Elt Ideal) ℓ) : Prop :=
  True

def Pre_ReferencePostSecondIdeal (m : (ℓ : Loc Cert.ReferencePostSecondIdeal.nD Cert.ReferencePostSecondIdeal.τ Cert.ReferencePostSecondIdeal.sig) → Buf (Elt Ideal) ℓ) : Prop :=
  True

def Pre_KernelPostThird (m : (ℓ : Loc Cert.KernelPostThird.nD Cert.KernelPostThird.τ Cert.KernelPostThird.sig) → Buf (Elt Bits) ℓ) : Prop :=
  True

def Pre_KernelPostThirdIdeal (m : (ℓ : Loc Cert.KernelPostThirdIdeal.nD Cert.KernelPostThirdIdeal.τ Cert.KernelPostThirdIdeal.sig) → Buf (Elt Ideal) ℓ) : Prop :=
  True

def Pre_ReferencePostThirdIdeal (m : (ℓ : Loc Cert.ReferencePostThirdIdeal.nD Cert.ReferencePostThirdIdeal.τ Cert.ReferencePostThirdIdeal.sig) → Buf (Elt Ideal) ℓ) : Prop :=
  True

def Pre_KernelSample (m : (ℓ : Loc Cert.KernelSample.nD Cert.KernelSample.τ Cert.KernelSample.sig) → Buf (Elt Bits) ℓ) : Prop :=
  True

def Pre_KernelSampleIdeal (m : (ℓ : Loc Cert.KernelSampleIdeal.nD Cert.KernelSampleIdeal.τ Cert.KernelSampleIdeal.sig) → Buf (Elt Ideal) ℓ) : Prop :=
  True

def Pre_KernelSampleIdeal_sample_gates_below_infinity [hPre_sample_gates_below_infinity : Cert.Pre_sample_gates_below_infinity.Facts] (m : (ℓ : Loc Cert.KernelSampleIdeal.nD Cert.KernelSampleIdeal.τ Cert.KernelSampleIdeal.sig) → Buf (Elt Ideal) ℓ) : Prop :=
  ∀ c : Dev Cert.KernelSampleIdeal.nD,
    (Cert.Pre_sample_gates_below_infinity.fn (F := Ideal) (m ((c.tc : Thread Cert.KernelSampleIdeal.nD Cert.KernelSampleIdeal.τ).loc Cert.KernelSampleIdeal.main_arg0)) (m ((c.tc : Thread Cert.KernelSampleIdeal.nD Cert.KernelSampleIdeal.τ).loc Cert.KernelSampleIdeal.main_arg1)) (m ((c.tc : Thread Cert.KernelSampleIdeal.nD Cert.KernelSampleIdeal.τ).loc Cert.KernelSampleIdeal.main_arg2)) (m ((c.tc : Thread Cert.KernelSampleIdeal.nD Cert.KernelSampleIdeal.τ).loc Cert.KernelSampleIdeal.main_arg3)) (m ((c.tc : Thread Cert.KernelSampleIdeal.nD Cert.KernelSampleIdeal.τ).loc Cert.KernelSampleIdeal.main_arg4))) = (fun _ => 1#1)

def Pre_ReferenceSampleIdeal (m : (ℓ : Loc Cert.ReferenceSampleIdeal.nD Cert.ReferenceSampleIdeal.τ Cert.ReferenceSampleIdeal.sig) → Buf (Elt Ideal) ℓ) : Prop :=
  True

def Pre_ReferenceSampleIdeal_sample_gates_below_infinity [hPre_sample_gates_below_infinity : Cert.Pre_sample_gates_below_infinity.Facts] (m : (ℓ : Loc Cert.ReferenceSampleIdeal.nD Cert.ReferenceSampleIdeal.τ Cert.ReferenceSampleIdeal.sig) → Buf (Elt Ideal) ℓ) : Prop :=
  ∀ c : Dev Cert.ReferenceSampleIdeal.nD,
    (Cert.Pre_sample_gates_below_infinity.fn (F := Ideal) (m ((c.tc : Thread Cert.ReferenceSampleIdeal.nD Cert.ReferenceSampleIdeal.τ).loc Cert.ReferenceSampleIdeal.main_arg0)) (m ((c.tc : Thread Cert.ReferenceSampleIdeal.nD Cert.ReferenceSampleIdeal.τ).loc Cert.ReferenceSampleIdeal.main_arg1)) (m ((c.tc : Thread Cert.ReferenceSampleIdeal.nD Cert.ReferenceSampleIdeal.τ).loc Cert.ReferenceSampleIdeal.main_arg2)) (m ((c.tc : Thread Cert.ReferenceSampleIdeal.nD Cert.ReferenceSampleIdeal.τ).loc Cert.ReferenceSampleIdeal.main_arg3)) (m ((c.tc : Thread Cert.ReferenceSampleIdeal.nD Cert.ReferenceSampleIdeal.τ).loc Cert.ReferenceSampleIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gates_below_infinity [hKernelIdeal : Cert.KernelIdeal.Facts] [hPre_gates_below_infinity : Cert.Pre_gates_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gates_below_infinity [hReferenceIdeal : Cert.ReferenceIdeal.Facts] [hPre_gates_below_infinity : Cert.Pre_gates_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3)
      ∧ r.2.mem ((c.tc : Thread Cert.KernelPost.nD Cert.KernelPost.τ).loc Cert.KernelPost.main_arg4) = m ((c.tc : Thread Cert.KernelPost.nD Cert.KernelPost.τ).loc Cert.KernelPost.main_arg4)
      ∧ r.2.mem ((c.tc : Thread Cert.KernelPost.nD Cert.KernelPost.τ).loc Cert.KernelPost.main_arg5) = m ((c.tc : Thread Cert.KernelPost.nD Cert.KernelPost.τ).loc Cert.KernelPost.main_arg5)
      ∧ r.2.mem ((c.tc : Thread Cert.KernelPost.nD Cert.KernelPost.τ).loc Cert.KernelPost.main_arg6) = m ((c.tc : Thread Cert.KernelPost.nD Cert.KernelPost.τ).loc Cert.KernelPost.main_arg6)
      ∧ r.2.mem ((c.tc : Thread Cert.KernelPost.nD Cert.KernelPost.τ).loc Cert.KernelPost.main_arg7) = m ((c.tc : Thread Cert.KernelPost.nD Cert.KernelPost.τ).loc Cert.KernelPost.main_arg7)
      ∧ r.2.mem ((c.tc : Thread Cert.KernelPost.nD Cert.KernelPost.τ).loc Cert.KernelPost.main_arg8) = m ((c.tc : Thread Cert.KernelPost.nD Cert.KernelPost.τ).loc Cert.KernelPost.main_arg8)
      ∧ r.2.mem ((c.tc : Thread Cert.KernelPost.nD Cert.KernelPost.τ).loc Cert.KernelPost.main_arg9) = m ((c.tc : Thread Cert.KernelPost.nD Cert.KernelPost.τ).loc Cert.KernelPost.main_arg9)
      ∧ r.2.mem ((c.tc : Thread Cert.KernelPost.nD Cert.KernelPost.τ).loc Cert.KernelPost.main_arg10) = m ((c.tc : Thread Cert.KernelPost.nD Cert.KernelPost.τ).loc Cert.KernelPost.main_arg10))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
      ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5)
      ∧ r.2.mem ((c.tc : Thread Cert.KernelPostIdeal.nD Cert.KernelPostIdeal.τ).loc Cert.KernelPostIdeal.main_arg6) = m ((c.tc : Thread Cert.KernelPostIdeal.nD Cert.KernelPostIdeal.τ).loc Cert.KernelPostIdeal.main_arg6)
      ∧ r.2.mem ((c.tc : Thread Cert.KernelPostIdeal.nD Cert.KernelPostIdeal.τ).loc Cert.KernelPostIdeal.main_arg7) = m ((c.tc : Thread Cert.KernelPostIdeal.nD Cert.KernelPostIdeal.τ).loc Cert.KernelPostIdeal.main_arg7)
      ∧ r.2.mem ((c.tc : Thread Cert.KernelPostIdeal.nD Cert.KernelPostIdeal.τ).loc Cert.KernelPostIdeal.main_arg8) = m ((c.tc : Thread Cert.KernelPostIdeal.nD Cert.KernelPostIdeal.τ).loc Cert.KernelPostIdeal.main_arg8)
      ∧ r.2.mem ((c.tc : Thread Cert.KernelPostIdeal.nD Cert.KernelPostIdeal.τ).loc Cert.KernelPostIdeal.main_arg9) = m ((c.tc : Thread Cert.KernelPostIdeal.nD Cert.KernelPostIdeal.τ).loc Cert.KernelPostIdeal.main_arg9)
      ∧ r.2.mem ((c.tc : Thread Cert.KernelPostIdeal.nD Cert.KernelPostIdeal.τ).loc Cert.KernelPostIdeal.main_arg10) = m ((c.tc : Thread Cert.KernelPostIdeal.nD Cert.KernelPostIdeal.τ).loc Cert.KernelPostIdeal.main_arg10))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4)
      ∧ r.2.mem ((c.tc : Thread Cert.ReferencePostIdeal.nD Cert.ReferencePostIdeal.τ).loc Cert.ReferencePostIdeal.main_arg5) = m ((c.tc : Thread Cert.ReferencePostIdeal.nD Cert.ReferencePostIdeal.τ).loc Cert.ReferencePostIdeal.main_arg5)
      ∧ r.2.mem ((c.tc : Thread Cert.ReferencePostIdeal.nD Cert.ReferencePostIdeal.τ).loc Cert.ReferencePostIdeal.main_arg6) = m ((c.tc : Thread Cert.ReferencePostIdeal.nD Cert.ReferencePostIdeal.τ).loc Cert.ReferencePostIdeal.main_arg6)
      ∧ r.2.mem ((c.tc : Thread Cert.ReferencePostIdeal.nD Cert.ReferencePostIdeal.τ).loc Cert.ReferencePostIdeal.main_arg7) = m ((c.tc : Thread Cert.ReferencePostIdeal.nD Cert.ReferencePostIdeal.τ).loc Cert.ReferencePostIdeal.main_arg7)
      ∧ r.2.mem ((c.tc : Thread Cert.ReferencePostIdeal.nD Cert.ReferencePostIdeal.τ).loc Cert.ReferencePostIdeal.main_arg8) = m ((c.tc : Thread Cert.ReferencePostIdeal.nD Cert.ReferencePostIdeal.τ).loc Cert.ReferencePostIdeal.main_arg8)
      ∧ r.2.mem ((c.tc : Thread Cert.ReferencePostIdeal.nD Cert.ReferencePostIdeal.τ).loc Cert.ReferencePostIdeal.main_arg9) = m ((c.tc : Thread Cert.ReferencePostIdeal.nD Cert.ReferencePostIdeal.τ).loc Cert.ReferencePostIdeal.main_arg9)
      ∧ r.2.mem ((c.tc : Thread Cert.ReferencePostIdeal.nD Cert.ReferencePostIdeal.τ).loc Cert.ReferencePostIdeal.main_arg10) = m ((c.tc : Thread Cert.ReferencePostIdeal.nD Cert.ReferencePostIdeal.τ).loc Cert.ReferencePostIdeal.main_arg10))
      ∧ r.2.sem = fun _ => 0)

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2))
      ∧ r.2.sem = fun _ => 0)

def quiescent_KernelPostSample [hKernelPostSample : Cert.KernelPostSample.Facts] : Prop :=
  ∀ (m : (ℓ : Loc Cert.KernelPostSample.nD Cert.KernelPostSample.τ Cert.KernelPostSample.sig) → Buf (Elt Bits) ℓ) (g : Dev Cert.KernelPostSample.nD → PrngReg), Pre_KernelPostSample m →
    θ_run (Cert.KernelPostSample.defs (F := Bits)) (onTc (τ := Cert.KernelPostSample.τ) (Cert.KernelPostSample.main (F := Bits))) ⟨m, fun _ => 0, g⟩ (fun r => (∀ c : Dev Cert.KernelPostSample.nD,
      r.2.mem ((c.tc : Thread Cert.KernelPostSample.nD Cert.KernelPostSample.τ).loc Cert.KernelPostSample.main_arg0) = m ((c.tc : Thread Cert.KernelPostSample.nD Cert.KernelPostSample.τ).loc Cert.KernelPostSample.main_arg0)
      ∧ r.2.mem ((c.tc : Thread Cert.KernelPostSample.nD Cert.KernelPostSample.τ).loc Cert.KernelPostSample.main_arg1) = m ((c.tc : Thread Cert.KernelPostSample.nD Cert.KernelPostSample.τ).loc Cert.KernelPostSample.main_arg1)
      ∧ r.2.mem ((c.tc : Thread Cert.KernelPostSample.nD Cert.KernelPostSample.τ).loc Cert.KernelPostSample.main_arg2) = m ((c.tc : Thread Cert.KernelPostSample.nD Cert.KernelPostSample.τ).loc Cert.KernelPostSample.main_arg2)
      ∧ r.2.mem ((c.tc : Thread Cert.KernelPostSample.nD Cert.KernelPostSample.τ).loc Cert.KernelPostSample.main_arg3) = m ((c.tc : Thread Cert.KernelPostSample.nD Cert.KernelPostSample.τ).loc Cert.KernelPostSample.main_arg3)
      ∧ r.2.mem ((c.tc : Thread Cert.KernelPostSample.nD Cert.KernelPostSample.τ).loc Cert.KernelPostSample.main_arg4) = m ((c.tc : Thread Cert.KernelPostSample.nD Cert.KernelPostSample.τ).loc Cert.KernelPostSample.main_arg4)
      ∧ r.2.mem ((c.tc : Thread Cert.KernelPostSample.nD Cert.KernelPostSample.τ).loc Cert.KernelPostSample.main_arg5) = m ((c.tc : Thread Cert.KernelPostSample.nD Cert.KernelPostSample.τ).loc Cert.KernelPostSample.main_arg5)
      ∧ r.2.mem ((c.tc : Thread Cert.KernelPostSample.nD Cert.KernelPostSample.τ).loc Cert.KernelPostSample.main_arg6) = m ((c.tc : Thread Cert.KernelPostSample.nD Cert.KernelPostSample.τ).loc Cert.KernelPostSample.main_arg6))
      ∧ r.2.sem = fun _ => 0)

def quiescent_KernelPostSampleIdeal [hKernelPostSampleIdeal : Cert.KernelPostSampleIdeal.Facts] : Prop :=
  ∀ (m : (ℓ : Loc Cert.KernelPostSampleIdeal.nD Cert.KernelPostSampleIdeal.τ Cert.KernelPostSampleIdeal.sig) → Buf (Elt Ideal) ℓ) (g : Dev Cert.KernelPostSampleIdeal.nD → PrngReg), Pre_KernelPostSampleIdeal m →
    θ_run (Cert.KernelPostSampleIdeal.defs (F := Ideal)) (onTc (τ := Cert.KernelPostSampleIdeal.τ) (Cert.KernelPostSampleIdeal.main (F := Ideal))) ⟨m, fun _ => 0, g⟩ (fun r => (∀ c : Dev Cert.KernelPostSampleIdeal.nD,
      r.2.mem ((c.tc : Thread Cert.KernelPostSampleIdeal.nD Cert.KernelPostSampleIdeal.τ).loc Cert.KernelPostSampleIdeal.main_arg0) = m ((c.tc : Thread Cert.KernelPostSampleIdeal.nD Cert.KernelPostSampleIdeal.τ).loc Cert.KernelPostSampleIdeal.main_arg0)
      ∧ r.2.mem ((c.tc : Thread Cert.KernelPostSampleIdeal.nD Cert.KernelPostSampleIdeal.τ).loc Cert.KernelPostSampleIdeal.main_arg1) = m ((c.tc : Thread Cert.KernelPostSampleIdeal.nD Cert.KernelPostSampleIdeal.τ).loc Cert.KernelPostSampleIdeal.main_arg1)
      ∧ r.2.mem ((c.tc : Thread Cert.KernelPostSampleIdeal.nD Cert.KernelPostSampleIdeal.τ).loc Cert.KernelPostSampleIdeal.main_arg2) = m ((c.tc : Thread Cert.KernelPostSampleIdeal.nD Cert.KernelPostSampleIdeal.τ).loc Cert.KernelPostSampleIdeal.main_arg2)
      ∧ r.2.mem ((c.tc : Thread Cert.KernelPostSampleIdeal.nD Cert.KernelPostSampleIdeal.τ).loc Cert.KernelPostSampleIdeal.main_arg3) = m ((c.tc : Thread Cert.KernelPostSampleIdeal.nD Cert.KernelPostSampleIdeal.τ).loc Cert.KernelPostSampleIdeal.main_arg3)
      ∧ r.2.mem ((c.tc : Thread Cert.KernelPostSampleIdeal.nD Cert.KernelPostSampleIdeal.τ).loc Cert.KernelPostSampleIdeal.main_arg4) = m ((c.tc : Thread Cert.KernelPostSampleIdeal.nD Cert.KernelPostSampleIdeal.τ).loc Cert.KernelPostSampleIdeal.main_arg4)
      ∧ r.2.mem ((c.tc : Thread Cert.KernelPostSampleIdeal.nD Cert.KernelPostSampleIdeal.τ).loc Cert.KernelPostSampleIdeal.main_arg5) = m ((c.tc : Thread Cert.KernelPostSampleIdeal.nD Cert.KernelPostSampleIdeal.τ).loc Cert.KernelPostSampleIdeal.main_arg5)
      ∧ r.2.mem ((c.tc : Thread Cert.KernelPostSampleIdeal.nD Cert.KernelPostSampleIdeal.τ).loc Cert.KernelPostSampleIdeal.main_arg6) = m ((c.tc : Thread Cert.KernelPostSampleIdeal.nD Cert.KernelPostSampleIdeal.τ).loc Cert.KernelPostSampleIdeal.main_arg6))
      ∧ r.2.sem = fun _ => 0)

def quiescent_ReferencePostSampleIdeal [hReferencePostSampleIdeal : Cert.ReferencePostSampleIdeal.Facts] : Prop :=
  ∀ (m : (ℓ : Loc Cert.ReferencePostSampleIdeal.nD Cert.ReferencePostSampleIdeal.τ Cert.ReferencePostSampleIdeal.sig) → Buf (Elt Ideal) ℓ) (g : Dev Cert.ReferencePostSampleIdeal.nD → PrngReg), Pre_ReferencePostSampleIdeal m →
    θ_run (Cert.ReferencePostSampleIdeal.defs (F := Ideal)) (onTc (τ := Cert.ReferencePostSampleIdeal.τ) (Cert.ReferencePostSampleIdeal.main (F := Ideal))) ⟨m, fun _ => 0, g⟩ (fun r => (∀ c : Dev Cert.ReferencePostSampleIdeal.nD,
      r.2.mem ((c.tc : Thread Cert.ReferencePostSampleIdeal.nD Cert.ReferencePostSampleIdeal.τ).loc Cert.ReferencePostSampleIdeal.main_arg0) = m ((c.tc : Thread Cert.ReferencePostSampleIdeal.nD Cert.ReferencePostSampleIdeal.τ).loc Cert.ReferencePostSampleIdeal.main_arg0)
      ∧ r.2.mem ((c.tc : Thread Cert.ReferencePostSampleIdeal.nD Cert.ReferencePostSampleIdeal.τ).loc Cert.ReferencePostSampleIdeal.main_arg1) = m ((c.tc : Thread Cert.ReferencePostSampleIdeal.nD Cert.ReferencePostSampleIdeal.τ).loc Cert.ReferencePostSampleIdeal.main_arg1)
      ∧ r.2.mem ((c.tc : Thread Cert.ReferencePostSampleIdeal.nD Cert.ReferencePostSampleIdeal.τ).loc Cert.ReferencePostSampleIdeal.main_arg2) = m ((c.tc : Thread Cert.ReferencePostSampleIdeal.nD Cert.ReferencePostSampleIdeal.τ).loc Cert.ReferencePostSampleIdeal.main_arg2)
      ∧ r.2.mem ((c.tc : Thread Cert.ReferencePostSampleIdeal.nD Cert.ReferencePostSampleIdeal.τ).loc Cert.ReferencePostSampleIdeal.main_arg3) = m ((c.tc : Thread Cert.ReferencePostSampleIdeal.nD Cert.ReferencePostSampleIdeal.τ).loc Cert.ReferencePostSampleIdeal.main_arg3)
      ∧ r.2.mem ((c.tc : Thread Cert.ReferencePostSampleIdeal.nD Cert.ReferencePostSampleIdeal.τ).loc Cert.ReferencePostSampleIdeal.main_arg4) = m ((c.tc : Thread Cert.ReferencePostSampleIdeal.nD Cert.ReferencePostSampleIdeal.τ).loc Cert.ReferencePostSampleIdeal.main_arg4)
      ∧ r.2.mem ((c.tc : Thread Cert.ReferencePostSampleIdeal.nD Cert.ReferencePostSampleIdeal.τ).loc Cert.ReferencePostSampleIdeal.main_arg5) = m ((c.tc : Thread Cert.ReferencePostSampleIdeal.nD Cert.ReferencePostSampleIdeal.τ).loc Cert.ReferencePostSampleIdeal.main_arg5)
      ∧ r.2.mem ((c.tc : Thread Cert.ReferencePostSampleIdeal.nD Cert.ReferencePostSampleIdeal.τ).loc Cert.ReferencePostSampleIdeal.main_arg6) = m ((c.tc : Thread Cert.ReferencePostSampleIdeal.nD Cert.ReferencePostSampleIdeal.τ).loc Cert.ReferencePostSampleIdeal.main_arg6))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_KernelPostFirst [hKernelPostFirst : Cert.KernelPostFirst.Facts] : Prop :=
  ∀ (m : (ℓ : Loc Cert.KernelPostFirst.nD Cert.KernelPostFirst.τ Cert.KernelPostFirst.sig) → Buf (Elt Bits) ℓ) (g : Dev Cert.KernelPostFirst.nD → PrngReg), Pre_KernelPostFirst m →
    θ_run (Cert.KernelPostFirst.defs (F := Bits)) (onTc (τ := Cert.KernelPostFirst.τ) (Cert.KernelPostFirst.main (F := Bits))) ⟨m, fun _ => 0, g⟩ (fun r => (∀ c : Dev Cert.KernelPostFirst.nD,
      r.2.mem ((c.tc : Thread Cert.KernelPostFirst.nD Cert.KernelPostFirst.τ).loc Cert.KernelPostFirst.main_arg0) = m ((c.tc : Thread Cert.KernelPostFirst.nD Cert.KernelPostFirst.τ).loc Cert.KernelPostFirst.main_arg0)
      ∧ r.2.mem ((c.tc : Thread Cert.KernelPostFirst.nD Cert.KernelPostFirst.τ).loc Cert.KernelPostFirst.main_arg1) = m ((c.tc : Thread Cert.KernelPostFirst.nD Cert.KernelPostFirst.τ).loc Cert.KernelPostFirst.main_arg1)
      ∧ r.2.mem ((c.tc : Thread Cert.KernelPostFirst.nD Cert.KernelPostFirst.τ).loc Cert.KernelPostFirst.main_arg2) = m ((c.tc : Thread Cert.KernelPostFirst.nD Cert.KernelPostFirst.τ).loc Cert.KernelPostFirst.main_arg2)
      ∧ r.2.mem ((c.tc : Thread Cert.KernelPostFirst.nD Cert.KernelPostFirst.τ).loc Cert.KernelPostFirst.main_arg3) = m ((c.tc : Thread Cert.KernelPostFirst.nD Cert.KernelPostFirst.τ).loc Cert.KernelPostFirst.main_arg3)
      ∧ r.2.mem ((c.tc : Thread Cert.KernelPostFirst.nD Cert.KernelPostFirst.τ).loc Cert.KernelPostFirst.main_arg4) = m ((c.tc : Thread Cert.KernelPostFirst.nD Cert.KernelPostFirst.τ).loc Cert.KernelPostFirst.main_arg4)
      ∧ r.2.mem ((c.tc : Thread Cert.KernelPostFirst.nD Cert.KernelPostFirst.τ).loc Cert.KernelPostFirst.main_arg5) = m ((c.tc : Thread Cert.KernelPostFirst.nD Cert.KernelPostFirst.τ).loc Cert.KernelPostFirst.main_arg5)
      ∧ r.2.mem ((c.tc : Thread Cert.KernelPostFirst.nD Cert.KernelPostFirst.τ).loc Cert.KernelPostFirst.main_arg6) = m ((c.tc : Thread Cert.KernelPostFirst.nD Cert.KernelPostFirst.τ).loc Cert.KernelPostFirst.main_arg6)
      ∧ r.2.mem ((c.tc : Thread Cert.KernelPostFirst.nD Cert.KernelPostFirst.τ).loc Cert.KernelPostFirst.main_arg7) = m ((c.tc : Thread Cert.KernelPostFirst.nD Cert.KernelPostFirst.τ).loc Cert.KernelPostFirst.main_arg7)
      ∧ r.2.mem ((c.tc : Thread Cert.KernelPostFirst.nD Cert.KernelPostFirst.τ).loc Cert.KernelPostFirst.main_arg8) = m ((c.tc : Thread Cert.KernelPostFirst.nD Cert.KernelPostFirst.τ).loc Cert.KernelPostFirst.main_arg8)
      ∧ r.2.mem ((c.tc : Thread Cert.KernelPostFirst.nD Cert.KernelPostFirst.τ).loc Cert.KernelPostFirst.main_arg9) = m ((c.tc : Thread Cert.KernelPostFirst.nD Cert.KernelPostFirst.τ).loc Cert.KernelPostFirst.main_arg9))
      ∧ r.2.sem = fun _ => 0)

def quiescent_KernelPostFirstIdeal [hKernelPostFirstIdeal : Cert.KernelPostFirstIdeal.Facts] : Prop :=
  ∀ (m : (ℓ : Loc Cert.KernelPostFirstIdeal.nD Cert.KernelPostFirstIdeal.τ Cert.KernelPostFirstIdeal.sig) → Buf (Elt Ideal) ℓ) (g : Dev Cert.KernelPostFirstIdeal.nD → PrngReg), Pre_KernelPostFirstIdeal m →
    θ_run (Cert.KernelPostFirstIdeal.defs (F := Ideal)) (onTc (τ := Cert.KernelPostFirstIdeal.τ) (Cert.KernelPostFirstIdeal.main (F := Ideal))) ⟨m, fun _ => 0, g⟩ (fun r => (∀ c : Dev Cert.KernelPostFirstIdeal.nD,
      r.2.mem ((c.tc : Thread Cert.KernelPostFirstIdeal.nD Cert.KernelPostFirstIdeal.τ).loc Cert.KernelPostFirstIdeal.main_arg0) = m ((c.tc : Thread Cert.KernelPostFirstIdeal.nD Cert.KernelPostFirstIdeal.τ).loc Cert.KernelPostFirstIdeal.main_arg0)
      ∧ r.2.mem ((c.tc : Thread Cert.KernelPostFirstIdeal.nD Cert.KernelPostFirstIdeal.τ).loc Cert.KernelPostFirstIdeal.main_arg1) = m ((c.tc : Thread Cert.KernelPostFirstIdeal.nD Cert.KernelPostFirstIdeal.τ).loc Cert.KernelPostFirstIdeal.main_arg1)
      ∧ r.2.mem ((c.tc : Thread Cert.KernelPostFirstIdeal.nD Cert.KernelPostFirstIdeal.τ).loc Cert.KernelPostFirstIdeal.main_arg2) = m ((c.tc : Thread Cert.KernelPostFirstIdeal.nD Cert.KernelPostFirstIdeal.τ).loc Cert.KernelPostFirstIdeal.main_arg2)
      ∧ r.2.mem ((c.tc : Thread Cert.KernelPostFirstIdeal.nD Cert.KernelPostFirstIdeal.τ).loc Cert.KernelPostFirstIdeal.main_arg3) = m ((c.tc : Thread Cert.KernelPostFirstIdeal.nD Cert.KernelPostFirstIdeal.τ).loc Cert.KernelPostFirstIdeal.main_arg3)
      ∧ r.2.mem ((c.tc : Thread Cert.KernelPostFirstIdeal.nD Cert.KernelPostFirstIdeal.τ).loc Cert.KernelPostFirstIdeal.main_arg4) = m ((c.tc : Thread Cert.KernelPostFirstIdeal.nD Cert.KernelPostFirstIdeal.τ).loc Cert.KernelPostFirstIdeal.main_arg4)
      ∧ r.2.mem ((c.tc : Thread Cert.KernelPostFirstIdeal.nD Cert.KernelPostFirstIdeal.τ).loc Cert.KernelPostFirstIdeal.main_arg5) = m ((c.tc : Thread Cert.KernelPostFirstIdeal.nD Cert.KernelPostFirstIdeal.τ).loc Cert.KernelPostFirstIdeal.main_arg5)
      ∧ r.2.mem ((c.tc : Thread Cert.KernelPostFirstIdeal.nD Cert.KernelPostFirstIdeal.τ).loc Cert.KernelPostFirstIdeal.main_arg6) = m ((c.tc : Thread Cert.KernelPostFirstIdeal.nD Cert.KernelPostFirstIdeal.τ).loc Cert.KernelPostFirstIdeal.main_arg6)
      ∧ r.2.mem ((c.tc : Thread Cert.KernelPostFirstIdeal.nD Cert.KernelPostFirstIdeal.τ).loc Cert.KernelPostFirstIdeal.main_arg7) = m ((c.tc : Thread Cert.KernelPostFirstIdeal.nD Cert.KernelPostFirstIdeal.τ).loc Cert.KernelPostFirstIdeal.main_arg7)
      ∧ r.2.mem ((c.tc : Thread Cert.KernelPostFirstIdeal.nD Cert.KernelPostFirstIdeal.τ).loc Cert.KernelPostFirstIdeal.main_arg8) = m ((c.tc : Thread Cert.KernelPostFirstIdeal.nD Cert.KernelPostFirstIdeal.τ).loc Cert.KernelPostFirstIdeal.main_arg8)
      ∧ r.2.mem ((c.tc : Thread Cert.KernelPostFirstIdeal.nD Cert.KernelPostFirstIdeal.τ).loc Cert.KernelPostFirstIdeal.main_arg9) = m ((c.tc : Thread Cert.KernelPostFirstIdeal.nD Cert.KernelPostFirstIdeal.τ).loc Cert.KernelPostFirstIdeal.main_arg9))
      ∧ r.2.sem = fun _ => 0)

def quiescent_ReferencePostFirstIdeal [hReferencePostFirstIdeal : Cert.ReferencePostFirstIdeal.Facts] : Prop :=
  ∀ (m : (ℓ : Loc Cert.ReferencePostFirstIdeal.nD Cert.ReferencePostFirstIdeal.τ Cert.ReferencePostFirstIdeal.sig) → Buf (Elt Ideal) ℓ) (g : Dev Cert.ReferencePostFirstIdeal.nD → PrngReg), Pre_ReferencePostFirstIdeal m →
    θ_run (Cert.ReferencePostFirstIdeal.defs (F := Ideal)) (onTc (τ := Cert.ReferencePostFirstIdeal.τ) (Cert.ReferencePostFirstIdeal.main (F := Ideal))) ⟨m, fun _ => 0, g⟩ (fun r => (∀ c : Dev Cert.ReferencePostFirstIdeal.nD,
      r.2.mem ((c.tc : Thread Cert.ReferencePostFirstIdeal.nD Cert.ReferencePostFirstIdeal.τ).loc Cert.ReferencePostFirstIdeal.main_arg0) = m ((c.tc : Thread Cert.ReferencePostFirstIdeal.nD Cert.ReferencePostFirstIdeal.τ).loc Cert.ReferencePostFirstIdeal.main_arg0)
      ∧ r.2.mem ((c.tc : Thread Cert.ReferencePostFirstIdeal.nD Cert.ReferencePostFirstIdeal.τ).loc Cert.ReferencePostFirstIdeal.main_arg1) = m ((c.tc : Thread Cert.ReferencePostFirstIdeal.nD Cert.ReferencePostFirstIdeal.τ).loc Cert.ReferencePostFirstIdeal.main_arg1)
      ∧ r.2.mem ((c.tc : Thread Cert.ReferencePostFirstIdeal.nD Cert.ReferencePostFirstIdeal.τ).loc Cert.ReferencePostFirstIdeal.main_arg2) = m ((c.tc : Thread Cert.ReferencePostFirstIdeal.nD Cert.ReferencePostFirstIdeal.τ).loc Cert.ReferencePostFirstIdeal.main_arg2)
      ∧ r.2.mem ((c.tc : Thread Cert.ReferencePostFirstIdeal.nD Cert.ReferencePostFirstIdeal.τ).loc Cert.ReferencePostFirstIdeal.main_arg3) = m ((c.tc : Thread Cert.ReferencePostFirstIdeal.nD Cert.ReferencePostFirstIdeal.τ).loc Cert.ReferencePostFirstIdeal.main_arg3)
      ∧ r.2.mem ((c.tc : Thread Cert.ReferencePostFirstIdeal.nD Cert.ReferencePostFirstIdeal.τ).loc Cert.ReferencePostFirstIdeal.main_arg4) = m ((c.tc : Thread Cert.ReferencePostFirstIdeal.nD Cert.ReferencePostFirstIdeal.τ).loc Cert.ReferencePostFirstIdeal.main_arg4)
      ∧ r.2.mem ((c.tc : Thread Cert.ReferencePostFirstIdeal.nD Cert.ReferencePostFirstIdeal.τ).loc Cert.ReferencePostFirstIdeal.main_arg5) = m ((c.tc : Thread Cert.ReferencePostFirstIdeal.nD Cert.ReferencePostFirstIdeal.τ).loc Cert.ReferencePostFirstIdeal.main_arg5)
      ∧ r.2.mem ((c.tc : Thread Cert.ReferencePostFirstIdeal.nD Cert.ReferencePostFirstIdeal.τ).loc Cert.ReferencePostFirstIdeal.main_arg6) = m ((c.tc : Thread Cert.ReferencePostFirstIdeal.nD Cert.ReferencePostFirstIdeal.τ).loc Cert.ReferencePostFirstIdeal.main_arg6)
      ∧ r.2.mem ((c.tc : Thread Cert.ReferencePostFirstIdeal.nD Cert.ReferencePostFirstIdeal.τ).loc Cert.ReferencePostFirstIdeal.main_arg7) = m ((c.tc : Thread Cert.ReferencePostFirstIdeal.nD Cert.ReferencePostFirstIdeal.τ).loc Cert.ReferencePostFirstIdeal.main_arg7)
      ∧ r.2.mem ((c.tc : Thread Cert.ReferencePostFirstIdeal.nD Cert.ReferencePostFirstIdeal.τ).loc Cert.ReferencePostFirstIdeal.main_arg8) = m ((c.tc : Thread Cert.ReferencePostFirstIdeal.nD Cert.ReferencePostFirstIdeal.τ).loc Cert.ReferencePostFirstIdeal.main_arg8)
      ∧ r.2.mem ((c.tc : Thread Cert.ReferencePostFirstIdeal.nD Cert.ReferencePostFirstIdeal.τ).loc Cert.ReferencePostFirstIdeal.main_arg9) = m ((c.tc : Thread Cert.ReferencePostFirstIdeal.nD Cert.ReferencePostFirstIdeal.τ).loc Cert.ReferencePostFirstIdeal.main_arg9))
      ∧ r.2.sem = fun _ => 0)

def quiescent_KernelPostSecond [hKernelPostSecond : Cert.KernelPostSecond.Facts] : Prop :=
  ∀ (m : (ℓ : Loc Cert.KernelPostSecond.nD Cert.KernelPostSecond.τ Cert.KernelPostSecond.sig) → Buf (Elt Bits) ℓ) (g : Dev Cert.KernelPostSecond.nD → PrngReg), Pre_KernelPostSecond m →
    θ_run (Cert.KernelPostSecond.defs (F := Bits)) (onTc (τ := Cert.KernelPostSecond.τ) (Cert.KernelPostSecond.main (F := Bits))) ⟨m, fun _ => 0, g⟩ (fun r => (∀ c : Dev Cert.KernelPostSecond.nD,
      r.2.mem ((c.tc : Thread Cert.KernelPostSecond.nD Cert.KernelPostSecond.τ).loc Cert.KernelPostSecond.main_arg0) = m ((c.tc : Thread Cert.KernelPostSecond.nD Cert.KernelPostSecond.τ).loc Cert.KernelPostSecond.main_arg0)
      ∧ r.2.mem ((c.tc : Thread Cert.KernelPostSecond.nD Cert.KernelPostSecond.τ).loc Cert.KernelPostSecond.main_arg1) = m ((c.tc : Thread Cert.KernelPostSecond.nD Cert.KernelPostSecond.τ).loc Cert.KernelPostSecond.main_arg1)
      ∧ r.2.mem ((c.tc : Thread Cert.KernelPostSecond.nD Cert.KernelPostSecond.τ).loc Cert.KernelPostSecond.main_arg2) = m ((c.tc : Thread Cert.KernelPostSecond.nD Cert.KernelPostSecond.τ).loc Cert.KernelPostSecond.main_arg2)
      ∧ r.2.mem ((c.tc : Thread Cert.KernelPostSecond.nD Cert.KernelPostSecond.τ).loc Cert.KernelPostSecond.main_arg3) = m ((c.tc : Thread Cert.KernelPostSecond.nD Cert.KernelPostSecond.τ).loc Cert.KernelPostSecond.main_arg3)
      ∧ r.2.mem ((c.tc : Thread Cert.KernelPostSecond.nD Cert.KernelPostSecond.τ).loc Cert.KernelPostSecond.main_arg4) = m ((c.tc : Thread Cert.KernelPostSecond.nD Cert.KernelPostSecond.τ).loc Cert.KernelPostSecond.main_arg4)
      ∧ r.2.mem ((c.tc : Thread Cert.KernelPostSecond.nD Cert.KernelPostSecond.τ).loc Cert.KernelPostSecond.main_arg5) = m ((c.tc : Thread Cert.KernelPostSecond.nD Cert.KernelPostSecond.τ).loc Cert.KernelPostSecond.main_arg5)
      ∧ r.2.mem ((c.tc : Thread Cert.KernelPostSecond.nD Cert.KernelPostSecond.τ).loc Cert.KernelPostSecond.main_arg6) = m ((c.tc : Thread Cert.KernelPostSecond.nD Cert.KernelPostSecond.τ).loc Cert.KernelPostSecond.main_arg6)
      ∧ r.2.mem ((c.tc : Thread Cert.KernelPostSecond.nD Cert.KernelPostSecond.τ).loc Cert.KernelPostSecond.main_arg7) = m ((c.tc : Thread Cert.KernelPostSecond.nD Cert.KernelPostSecond.τ).loc Cert.KernelPostSecond.main_arg7)
      ∧ r.2.mem ((c.tc : Thread Cert.KernelPostSecond.nD Cert.KernelPostSecond.τ).loc Cert.KernelPostSecond.main_arg8) = m ((c.tc : Thread Cert.KernelPostSecond.nD Cert.KernelPostSecond.τ).loc Cert.KernelPostSecond.main_arg8)
      ∧ r.2.mem ((c.tc : Thread Cert.KernelPostSecond.nD Cert.KernelPostSecond.τ).loc Cert.KernelPostSecond.main_arg9) = m ((c.tc : Thread Cert.KernelPostSecond.nD Cert.KernelPostSecond.τ).loc Cert.KernelPostSecond.main_arg9))
      ∧ r.2.sem = fun _ => 0)

def quiescent_KernelPostSecondIdeal [hKernelPostSecondIdeal : Cert.KernelPostSecondIdeal.Facts] : Prop :=
  ∀ (m : (ℓ : Loc Cert.KernelPostSecondIdeal.nD Cert.KernelPostSecondIdeal.τ Cert.KernelPostSecondIdeal.sig) → Buf (Elt Ideal) ℓ) (g : Dev Cert.KernelPostSecondIdeal.nD → PrngReg), Pre_KernelPostSecondIdeal m →
    θ_run (Cert.KernelPostSecondIdeal.defs (F := Ideal)) (onTc (τ := Cert.KernelPostSecondIdeal.τ) (Cert.KernelPostSecondIdeal.main (F := Ideal))) ⟨m, fun _ => 0, g⟩ (fun r => (∀ c : Dev Cert.KernelPostSecondIdeal.nD,
      r.2.mem ((c.tc : Thread Cert.KernelPostSecondIdeal.nD Cert.KernelPostSecondIdeal.τ).loc Cert.KernelPostSecondIdeal.main_arg0) = m ((c.tc : Thread Cert.KernelPostSecondIdeal.nD Cert.KernelPostSecondIdeal.τ).loc Cert.KernelPostSecondIdeal.main_arg0)
      ∧ r.2.mem ((c.tc : Thread Cert.KernelPostSecondIdeal.nD Cert.KernelPostSecondIdeal.τ).loc Cert.KernelPostSecondIdeal.main_arg1) = m ((c.tc : Thread Cert.KernelPostSecondIdeal.nD Cert.KernelPostSecondIdeal.τ).loc Cert.KernelPostSecondIdeal.main_arg1)
      ∧ r.2.mem ((c.tc : Thread Cert.KernelPostSecondIdeal.nD Cert.KernelPostSecondIdeal.τ).loc Cert.KernelPostSecondIdeal.main_arg2) = m ((c.tc : Thread Cert.KernelPostSecondIdeal.nD Cert.KernelPostSecondIdeal.τ).loc Cert.KernelPostSecondIdeal.main_arg2)
      ∧ r.2.mem ((c.tc : Thread Cert.KernelPostSecondIdeal.nD Cert.KernelPostSecondIdeal.τ).loc Cert.KernelPostSecondIdeal.main_arg3) = m ((c.tc : Thread Cert.KernelPostSecondIdeal.nD Cert.KernelPostSecondIdeal.τ).loc Cert.KernelPostSecondIdeal.main_arg3)
      ∧ r.2.mem ((c.tc : Thread Cert.KernelPostSecondIdeal.nD Cert.KernelPostSecondIdeal.τ).loc Cert.KernelPostSecondIdeal.main_arg4) = m ((c.tc : Thread Cert.KernelPostSecondIdeal.nD Cert.KernelPostSecondIdeal.τ).loc Cert.KernelPostSecondIdeal.main_arg4)
      ∧ r.2.mem ((c.tc : Thread Cert.KernelPostSecondIdeal.nD Cert.KernelPostSecondIdeal.τ).loc Cert.KernelPostSecondIdeal.main_arg5) = m ((c.tc : Thread Cert.KernelPostSecondIdeal.nD Cert.KernelPostSecondIdeal.τ).loc Cert.KernelPostSecondIdeal.main_arg5)
      ∧ r.2.mem ((c.tc : Thread Cert.KernelPostSecondIdeal.nD Cert.KernelPostSecondIdeal.τ).loc Cert.KernelPostSecondIdeal.main_arg6) = m ((c.tc : Thread Cert.KernelPostSecondIdeal.nD Cert.KernelPostSecondIdeal.τ).loc Cert.KernelPostSecondIdeal.main_arg6)
      ∧ r.2.mem ((c.tc : Thread Cert.KernelPostSecondIdeal.nD Cert.KernelPostSecondIdeal.τ).loc Cert.KernelPostSecondIdeal.main_arg7) = m ((c.tc : Thread Cert.KernelPostSecondIdeal.nD Cert.KernelPostSecondIdeal.τ).loc Cert.KernelPostSecondIdeal.main_arg7)
      ∧ r.2.mem ((c.tc : Thread Cert.KernelPostSecondIdeal.nD Cert.KernelPostSecondIdeal.τ).loc Cert.KernelPostSecondIdeal.main_arg8) = m ((c.tc : Thread Cert.KernelPostSecondIdeal.nD Cert.KernelPostSecondIdeal.τ).loc Cert.KernelPostSecondIdeal.main_arg8)
      ∧ r.2.mem ((c.tc : Thread Cert.KernelPostSecondIdeal.nD Cert.KernelPostSecondIdeal.τ).loc Cert.KernelPostSecondIdeal.main_arg9) = m ((c.tc : Thread Cert.KernelPostSecondIdeal.nD Cert.KernelPostSecondIdeal.τ).loc Cert.KernelPostSecondIdeal.main_arg9))
      ∧ r.2.sem = fun _ => 0)

def quiescent_ReferencePostSecondIdeal [hReferencePostSecondIdeal : Cert.ReferencePostSecondIdeal.Facts] : Prop :=
  ∀ (m : (ℓ : Loc Cert.ReferencePostSecondIdeal.nD Cert.ReferencePostSecondIdeal.τ Cert.ReferencePostSecondIdeal.sig) → Buf (Elt Ideal) ℓ) (g : Dev Cert.ReferencePostSecondIdeal.nD → PrngReg), Pre_ReferencePostSecondIdeal m →
    θ_run (Cert.ReferencePostSecondIdeal.defs (F := Ideal)) (onTc (τ := Cert.ReferencePostSecondIdeal.τ) (Cert.ReferencePostSecondIdeal.main (F := Ideal))) ⟨m, fun _ => 0, g⟩ (fun r => (∀ c : Dev Cert.ReferencePostSecondIdeal.nD,
      r.2.mem ((c.tc : Thread Cert.ReferencePostSecondIdeal.nD Cert.ReferencePostSecondIdeal.τ).loc Cert.ReferencePostSecondIdeal.main_arg0) = m ((c.tc : Thread Cert.ReferencePostSecondIdeal.nD Cert.ReferencePostSecondIdeal.τ).loc Cert.ReferencePostSecondIdeal.main_arg0)
      ∧ r.2.mem ((c.tc : Thread Cert.ReferencePostSecondIdeal.nD Cert.ReferencePostSecondIdeal.τ).loc Cert.ReferencePostSecondIdeal.main_arg1) = m ((c.tc : Thread Cert.ReferencePostSecondIdeal.nD Cert.ReferencePostSecondIdeal.τ).loc Cert.ReferencePostSecondIdeal.main_arg1)
      ∧ r.2.mem ((c.tc : Thread Cert.ReferencePostSecondIdeal.nD Cert.ReferencePostSecondIdeal.τ).loc Cert.ReferencePostSecondIdeal.main_arg2) = m ((c.tc : Thread Cert.ReferencePostSecondIdeal.nD Cert.ReferencePostSecondIdeal.τ).loc Cert.ReferencePostSecondIdeal.main_arg2)
      ∧ r.2.mem ((c.tc : Thread Cert.ReferencePostSecondIdeal.nD Cert.ReferencePostSecondIdeal.τ).loc Cert.ReferencePostSecondIdeal.main_arg3) = m ((c.tc : Thread Cert.ReferencePostSecondIdeal.nD Cert.ReferencePostSecondIdeal.τ).loc Cert.ReferencePostSecondIdeal.main_arg3)
      ∧ r.2.mem ((c.tc : Thread Cert.ReferencePostSecondIdeal.nD Cert.ReferencePostSecondIdeal.τ).loc Cert.ReferencePostSecondIdeal.main_arg4) = m ((c.tc : Thread Cert.ReferencePostSecondIdeal.nD Cert.ReferencePostSecondIdeal.τ).loc Cert.ReferencePostSecondIdeal.main_arg4)
      ∧ r.2.mem ((c.tc : Thread Cert.ReferencePostSecondIdeal.nD Cert.ReferencePostSecondIdeal.τ).loc Cert.ReferencePostSecondIdeal.main_arg5) = m ((c.tc : Thread Cert.ReferencePostSecondIdeal.nD Cert.ReferencePostSecondIdeal.τ).loc Cert.ReferencePostSecondIdeal.main_arg5)
      ∧ r.2.mem ((c.tc : Thread Cert.ReferencePostSecondIdeal.nD Cert.ReferencePostSecondIdeal.τ).loc Cert.ReferencePostSecondIdeal.main_arg6) = m ((c.tc : Thread Cert.ReferencePostSecondIdeal.nD Cert.ReferencePostSecondIdeal.τ).loc Cert.ReferencePostSecondIdeal.main_arg6)
      ∧ r.2.mem ((c.tc : Thread Cert.ReferencePostSecondIdeal.nD Cert.ReferencePostSecondIdeal.τ).loc Cert.ReferencePostSecondIdeal.main_arg7) = m ((c.tc : Thread Cert.ReferencePostSecondIdeal.nD Cert.ReferencePostSecondIdeal.τ).loc Cert.ReferencePostSecondIdeal.main_arg7)
      ∧ r.2.mem ((c.tc : Thread Cert.ReferencePostSecondIdeal.nD Cert.ReferencePostSecondIdeal.τ).loc Cert.ReferencePostSecondIdeal.main_arg8) = m ((c.tc : Thread Cert.ReferencePostSecondIdeal.nD Cert.ReferencePostSecondIdeal.τ).loc Cert.ReferencePostSecondIdeal.main_arg8)
      ∧ r.2.mem ((c.tc : Thread Cert.ReferencePostSecondIdeal.nD Cert.ReferencePostSecondIdeal.τ).loc Cert.ReferencePostSecondIdeal.main_arg9) = m ((c.tc : Thread Cert.ReferencePostSecondIdeal.nD Cert.ReferencePostSecondIdeal.τ).loc Cert.ReferencePostSecondIdeal.main_arg9))
      ∧ r.2.sem = fun _ => 0)

def quiescent_KernelPostThird [hKernelPostThird : Cert.KernelPostThird.Facts] : Prop :=
  ∀ (m : (ℓ : Loc Cert.KernelPostThird.nD Cert.KernelPostThird.τ Cert.KernelPostThird.sig) → Buf (Elt Bits) ℓ) (g : Dev Cert.KernelPostThird.nD → PrngReg), Pre_KernelPostThird m →
    θ_run (Cert.KernelPostThird.defs (F := Bits)) (onTc (τ := Cert.KernelPostThird.τ) (Cert.KernelPostThird.main (F := Bits))) ⟨m, fun _ => 0, g⟩ (fun r => (∀ c : Dev Cert.KernelPostThird.nD,
      r.2.mem ((c.tc : Thread Cert.KernelPostThird.nD Cert.KernelPostThird.τ).loc Cert.KernelPostThird.main_arg0) = m ((c.tc : Thread Cert.KernelPostThird.nD Cert.KernelPostThird.τ).loc Cert.KernelPostThird.main_arg0)
      ∧ r.2.mem ((c.tc : Thread Cert.KernelPostThird.nD Cert.KernelPostThird.τ).loc Cert.KernelPostThird.main_arg1) = m ((c.tc : Thread Cert.KernelPostThird.nD Cert.KernelPostThird.τ).loc Cert.KernelPostThird.main_arg1)
      ∧ r.2.mem ((c.tc : Thread Cert.KernelPostThird.nD Cert.KernelPostThird.τ).loc Cert.KernelPostThird.main_arg2) = m ((c.tc : Thread Cert.KernelPostThird.nD Cert.KernelPostThird.τ).loc Cert.KernelPostThird.main_arg2)
      ∧ r.2.mem ((c.tc : Thread Cert.KernelPostThird.nD Cert.KernelPostThird.τ).loc Cert.KernelPostThird.main_arg3) = m ((c.tc : Thread Cert.KernelPostThird.nD Cert.KernelPostThird.τ).loc Cert.KernelPostThird.main_arg3)
      ∧ r.2.mem ((c.tc : Thread Cert.KernelPostThird.nD Cert.KernelPostThird.τ).loc Cert.KernelPostThird.main_arg4) = m ((c.tc : Thread Cert.KernelPostThird.nD Cert.KernelPostThird.τ).loc Cert.KernelPostThird.main_arg4)
      ∧ r.2.mem ((c.tc : Thread Cert.KernelPostThird.nD Cert.KernelPostThird.τ).loc Cert.KernelPostThird.main_arg5) = m ((c.tc : Thread Cert.KernelPostThird.nD Cert.KernelPostThird.τ).loc Cert.KernelPostThird.main_arg5)
      ∧ r.2.mem ((c.tc : Thread Cert.KernelPostThird.nD Cert.KernelPostThird.τ).loc Cert.KernelPostThird.main_arg6) = m ((c.tc : Thread Cert.KernelPostThird.nD Cert.KernelPostThird.τ).loc Cert.KernelPostThird.main_arg6)
      ∧ r.2.mem ((c.tc : Thread Cert.KernelPostThird.nD Cert.KernelPostThird.τ).loc Cert.KernelPostThird.main_arg7) = m ((c.tc : Thread Cert.KernelPostThird.nD Cert.KernelPostThird.τ).loc Cert.KernelPostThird.main_arg7)
      ∧ r.2.mem ((c.tc : Thread Cert.KernelPostThird.nD Cert.KernelPostThird.τ).loc Cert.KernelPostThird.main_arg8) = m ((c.tc : Thread Cert.KernelPostThird.nD Cert.KernelPostThird.τ).loc Cert.KernelPostThird.main_arg8)
      ∧ r.2.mem ((c.tc : Thread Cert.KernelPostThird.nD Cert.KernelPostThird.τ).loc Cert.KernelPostThird.main_arg9) = m ((c.tc : Thread Cert.KernelPostThird.nD Cert.KernelPostThird.τ).loc Cert.KernelPostThird.main_arg9))
      ∧ r.2.sem = fun _ => 0)

def quiescent_KernelPostThirdIdeal [hKernelPostThirdIdeal : Cert.KernelPostThirdIdeal.Facts] : Prop :=
  ∀ (m : (ℓ : Loc Cert.KernelPostThirdIdeal.nD Cert.KernelPostThirdIdeal.τ Cert.KernelPostThirdIdeal.sig) → Buf (Elt Ideal) ℓ) (g : Dev Cert.KernelPostThirdIdeal.nD → PrngReg), Pre_KernelPostThirdIdeal m →
    θ_run (Cert.KernelPostThirdIdeal.defs (F := Ideal)) (onTc (τ := Cert.KernelPostThirdIdeal.τ) (Cert.KernelPostThirdIdeal.main (F := Ideal))) ⟨m, fun _ => 0, g⟩ (fun r => (∀ c : Dev Cert.KernelPostThirdIdeal.nD,
      r.2.mem ((c.tc : Thread Cert.KernelPostThirdIdeal.nD Cert.KernelPostThirdIdeal.τ).loc Cert.KernelPostThirdIdeal.main_arg0) = m ((c.tc : Thread Cert.KernelPostThirdIdeal.nD Cert.KernelPostThirdIdeal.τ).loc Cert.KernelPostThirdIdeal.main_arg0)
      ∧ r.2.mem ((c.tc : Thread Cert.KernelPostThirdIdeal.nD Cert.KernelPostThirdIdeal.τ).loc Cert.KernelPostThirdIdeal.main_arg1) = m ((c.tc : Thread Cert.KernelPostThirdIdeal.nD Cert.KernelPostThirdIdeal.τ).loc Cert.KernelPostThirdIdeal.main_arg1)
      ∧ r.2.mem ((c.tc : Thread Cert.KernelPostThirdIdeal.nD Cert.KernelPostThirdIdeal.τ).loc Cert.KernelPostThirdIdeal.main_arg2) = m ((c.tc : Thread Cert.KernelPostThirdIdeal.nD Cert.KernelPostThirdIdeal.τ).loc Cert.KernelPostThirdIdeal.main_arg2)
      ∧ r.2.mem ((c.tc : Thread Cert.KernelPostThirdIdeal.nD Cert.KernelPostThirdIdeal.τ).loc Cert.KernelPostThirdIdeal.main_arg3) = m ((c.tc : Thread Cert.KernelPostThirdIdeal.nD Cert.KernelPostThirdIdeal.τ).loc Cert.KernelPostThirdIdeal.main_arg3)
      ∧ r.2.mem ((c.tc : Thread Cert.KernelPostThirdIdeal.nD Cert.KernelPostThirdIdeal.τ).loc Cert.KernelPostThirdIdeal.main_arg4) = m ((c.tc : Thread Cert.KernelPostThirdIdeal.nD Cert.KernelPostThirdIdeal.τ).loc Cert.KernelPostThirdIdeal.main_arg4)
      ∧ r.2.mem ((c.tc : Thread Cert.KernelPostThirdIdeal.nD Cert.KernelPostThirdIdeal.τ).loc Cert.KernelPostThirdIdeal.main_arg5) = m ((c.tc : Thread Cert.KernelPostThirdIdeal.nD Cert.KernelPostThirdIdeal.τ).loc Cert.KernelPostThirdIdeal.main_arg5)
      ∧ r.2.mem ((c.tc : Thread Cert.KernelPostThirdIdeal.nD Cert.KernelPostThirdIdeal.τ).loc Cert.KernelPostThirdIdeal.main_arg6) = m ((c.tc : Thread Cert.KernelPostThirdIdeal.nD Cert.KernelPostThirdIdeal.τ).loc Cert.KernelPostThirdIdeal.main_arg6)
      ∧ r.2.mem ((c.tc : Thread Cert.KernelPostThirdIdeal.nD Cert.KernelPostThirdIdeal.τ).loc Cert.KernelPostThirdIdeal.main_arg7) = m ((c.tc : Thread Cert.KernelPostThirdIdeal.nD Cert.KernelPostThirdIdeal.τ).loc Cert.KernelPostThirdIdeal.main_arg7)
      ∧ r.2.mem ((c.tc : Thread Cert.KernelPostThirdIdeal.nD Cert.KernelPostThirdIdeal.τ).loc Cert.KernelPostThirdIdeal.main_arg8) = m ((c.tc : Thread Cert.KernelPostThirdIdeal.nD Cert.KernelPostThirdIdeal.τ).loc Cert.KernelPostThirdIdeal.main_arg8)
      ∧ r.2.mem ((c.tc : Thread Cert.KernelPostThirdIdeal.nD Cert.KernelPostThirdIdeal.τ).loc Cert.KernelPostThirdIdeal.main_arg9) = m ((c.tc : Thread Cert.KernelPostThirdIdeal.nD Cert.KernelPostThirdIdeal.τ).loc Cert.KernelPostThirdIdeal.main_arg9))
      ∧ r.2.sem = fun _ => 0)

def quiescent_ReferencePostThirdIdeal [hReferencePostThirdIdeal : Cert.ReferencePostThirdIdeal.Facts] : Prop :=
  ∀ (m : (ℓ : Loc Cert.ReferencePostThirdIdeal.nD Cert.ReferencePostThirdIdeal.τ Cert.ReferencePostThirdIdeal.sig) → Buf (Elt Ideal) ℓ) (g : Dev Cert.ReferencePostThirdIdeal.nD → PrngReg), Pre_ReferencePostThirdIdeal m →
    θ_run (Cert.ReferencePostThirdIdeal.defs (F := Ideal)) (onTc (τ := Cert.ReferencePostThirdIdeal.τ) (Cert.ReferencePostThirdIdeal.main (F := Ideal))) ⟨m, fun _ => 0, g⟩ (fun r => (∀ c : Dev Cert.ReferencePostThirdIdeal.nD,
      r.2.mem ((c.tc : Thread Cert.ReferencePostThirdIdeal.nD Cert.ReferencePostThirdIdeal.τ).loc Cert.ReferencePostThirdIdeal.main_arg0) = m ((c.tc : Thread Cert.ReferencePostThirdIdeal.nD Cert.ReferencePostThirdIdeal.τ).loc Cert.ReferencePostThirdIdeal.main_arg0)
      ∧ r.2.mem ((c.tc : Thread Cert.ReferencePostThirdIdeal.nD Cert.ReferencePostThirdIdeal.τ).loc Cert.ReferencePostThirdIdeal.main_arg1) = m ((c.tc : Thread Cert.ReferencePostThirdIdeal.nD Cert.ReferencePostThirdIdeal.τ).loc Cert.ReferencePostThirdIdeal.main_arg1)
      ∧ r.2.mem ((c.tc : Thread Cert.ReferencePostThirdIdeal.nD Cert.ReferencePostThirdIdeal.τ).loc Cert.ReferencePostThirdIdeal.main_arg2) = m ((c.tc : Thread Cert.ReferencePostThirdIdeal.nD Cert.ReferencePostThirdIdeal.τ).loc Cert.ReferencePostThirdIdeal.main_arg2)
      ∧ r.2.mem ((c.tc : Thread Cert.ReferencePostThirdIdeal.nD Cert.ReferencePostThirdIdeal.τ).loc Cert.ReferencePostThirdIdeal.main_arg3) = m ((c.tc : Thread Cert.ReferencePostThirdIdeal.nD Cert.ReferencePostThirdIdeal.τ).loc Cert.ReferencePostThirdIdeal.main_arg3)
      ∧ r.2.mem ((c.tc : Thread Cert.ReferencePostThirdIdeal.nD Cert.ReferencePostThirdIdeal.τ).loc Cert.ReferencePostThirdIdeal.main_arg4) = m ((c.tc : Thread Cert.ReferencePostThirdIdeal.nD Cert.ReferencePostThirdIdeal.τ).loc Cert.ReferencePostThirdIdeal.main_arg4)
      ∧ r.2.mem ((c.tc : Thread Cert.ReferencePostThirdIdeal.nD Cert.ReferencePostThirdIdeal.τ).loc Cert.ReferencePostThirdIdeal.main_arg5) = m ((c.tc : Thread Cert.ReferencePostThirdIdeal.nD Cert.ReferencePostThirdIdeal.τ).loc Cert.ReferencePostThirdIdeal.main_arg5)
      ∧ r.2.mem ((c.tc : Thread Cert.ReferencePostThirdIdeal.nD Cert.ReferencePostThirdIdeal.τ).loc Cert.ReferencePostThirdIdeal.main_arg6) = m ((c.tc : Thread Cert.ReferencePostThirdIdeal.nD Cert.ReferencePostThirdIdeal.τ).loc Cert.ReferencePostThirdIdeal.main_arg6)
      ∧ r.2.mem ((c.tc : Thread Cert.ReferencePostThirdIdeal.nD Cert.ReferencePostThirdIdeal.τ).loc Cert.ReferencePostThirdIdeal.main_arg7) = m ((c.tc : Thread Cert.ReferencePostThirdIdeal.nD Cert.ReferencePostThirdIdeal.τ).loc Cert.ReferencePostThirdIdeal.main_arg7)
      ∧ r.2.mem ((c.tc : Thread Cert.ReferencePostThirdIdeal.nD Cert.ReferencePostThirdIdeal.τ).loc Cert.ReferencePostThirdIdeal.main_arg8) = m ((c.tc : Thread Cert.ReferencePostThirdIdeal.nD Cert.ReferencePostThirdIdeal.τ).loc Cert.ReferencePostThirdIdeal.main_arg8)
      ∧ r.2.mem ((c.tc : Thread Cert.ReferencePostThirdIdeal.nD Cert.ReferencePostThirdIdeal.τ).loc Cert.ReferencePostThirdIdeal.main_arg9) = m ((c.tc : Thread Cert.ReferencePostThirdIdeal.nD Cert.ReferencePostThirdIdeal.τ).loc Cert.ReferencePostThirdIdeal.main_arg9))
      ∧ r.2.sem = fun _ => 0)

def quiescent_KernelSample [hKernelSample : Cert.KernelSample.Facts] : Prop :=
  ∀ (m : (ℓ : Loc Cert.KernelSample.nD Cert.KernelSample.τ Cert.KernelSample.sig) → Buf (Elt Bits) ℓ) (g : Dev Cert.KernelSample.nD → PrngReg), Pre_KernelSample m →
    θ_run (Cert.KernelSample.defs (F := Bits)) (onTc (τ := Cert.KernelSample.τ) (Cert.KernelSample.main (F := Bits))) ⟨m, fun _ => 0, g⟩ (fun r => (∀ c : Dev Cert.KernelSample.nD,
      r.2.mem ((c.tc : Thread Cert.KernelSample.nD Cert.KernelSample.τ).loc Cert.KernelSample.main_arg0) = m ((c.tc : Thread Cert.KernelSample.nD Cert.KernelSample.τ).loc Cert.KernelSample.main_arg0)
      ∧ r.2.mem ((c.tc : Thread Cert.KernelSample.nD Cert.KernelSample.τ).loc Cert.KernelSample.main_arg1) = m ((c.tc : Thread Cert.KernelSample.nD Cert.KernelSample.τ).loc Cert.KernelSample.main_arg1)
      ∧ r.2.mem ((c.tc : Thread Cert.KernelSample.nD Cert.KernelSample.τ).loc Cert.KernelSample.main_arg2) = m ((c.tc : Thread Cert.KernelSample.nD Cert.KernelSample.τ).loc Cert.KernelSample.main_arg2)
      ∧ r.2.mem ((c.tc : Thread Cert.KernelSample.nD Cert.KernelSample.τ).loc Cert.KernelSample.main_arg3) = m ((c.tc : Thread Cert.KernelSample.nD Cert.KernelSample.τ).loc Cert.KernelSample.main_arg3)
      ∧ r.2.mem ((c.tc : Thread Cert.KernelSample.nD Cert.KernelSample.τ).loc Cert.KernelSample.main_arg4) = m ((c.tc : Thread Cert.KernelSample.nD Cert.KernelSample.τ).loc Cert.KernelSample.main_arg4))
      ∧ r.2.sem = fun _ => 0)

def quiescent_KernelSampleIdeal [hKernelSampleIdeal : Cert.KernelSampleIdeal.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg), Pre_KernelSampleIdeal m →
    θ_run (Cert.KernelSampleIdeal.defs (F := Ideal)) (onTc (τ := Cert.KernelSampleIdeal.τ) (Cert.KernelSampleIdeal.main (F := Ideal))) ⟨m, fun _ => 0, g⟩ (fun r => (∀ c : Dev Cert.KernelSampleIdeal.nD,
      r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
      ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
      ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2)
      ∧ r.2.mem ((c.tc : Thread Cert.KernelSampleIdeal.nD Cert.KernelSampleIdeal.τ).loc Cert.KernelSampleIdeal.main_arg3) = m ((c.tc : Thread Cert.KernelSampleIdeal.nD Cert.KernelSampleIdeal.τ).loc Cert.KernelSampleIdeal.main_arg3)
      ∧ r.2.mem ((c.tc : Thread Cert.KernelSampleIdeal.nD Cert.KernelSampleIdeal.τ).loc Cert.KernelSampleIdeal.main_arg4) = m ((c.tc : Thread Cert.KernelSampleIdeal.nD Cert.KernelSampleIdeal.τ).loc Cert.KernelSampleIdeal.main_arg4))
      ∧ r.2.sem = fun _ => 0)

def quiescent_KernelSampleIdeal_pre_sample_gates_below_infinity [hKernelSampleIdeal : Cert.KernelSampleIdeal.Facts] [hPre_sample_gates_below_infinity : Cert.Pre_sample_gates_below_infinity.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg), Pre_KernelSampleIdeal_sample_gates_below_infinity m →
    θ_run (Cert.KernelSampleIdeal.defs (F := Ideal)) (onTc (τ := Cert.KernelSampleIdeal.τ) (Cert.KernelSampleIdeal.main (F := Ideal))) ⟨m, fun _ => 0, g⟩ (fun r => (∀ c : Dev Cert.KernelSampleIdeal.nD,
      r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
      ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
      ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2)
      ∧ r.2.mem ((c.tc : Thread Cert.KernelSampleIdeal.nD Cert.KernelSampleIdeal.τ).loc Cert.KernelSampleIdeal.main_arg3) = m ((c.tc : Thread Cert.KernelSampleIdeal.nD Cert.KernelSampleIdeal.τ).loc Cert.KernelSampleIdeal.main_arg3)
      ∧ r.2.mem ((c.tc : Thread Cert.KernelSampleIdeal.nD Cert.KernelSampleIdeal.τ).loc Cert.KernelSampleIdeal.main_arg4) = m ((c.tc : Thread Cert.KernelSampleIdeal.nD Cert.KernelSampleIdeal.τ).loc Cert.KernelSampleIdeal.main_arg4))
      ∧ r.2.sem = fun _ => 0)

def quiescent_ReferenceSampleIdeal [hReferenceSampleIdeal : Cert.ReferenceSampleIdeal.Facts] : Prop :=
  ∀ (m : (ℓ : Loc Cert.ReferenceSampleIdeal.nD Cert.ReferenceSampleIdeal.τ Cert.ReferenceSampleIdeal.sig) → Buf (Elt Ideal) ℓ) (g : Dev Cert.ReferenceSampleIdeal.nD → PrngReg), Pre_ReferenceSampleIdeal m →
    θ_run (Cert.ReferenceSampleIdeal.defs (F := Ideal)) (onTc (τ := Cert.ReferenceSampleIdeal.τ) (Cert.ReferenceSampleIdeal.main (F := Ideal))) ⟨m, fun _ => 0, g⟩ (fun r => (∀ c : Dev Cert.ReferenceSampleIdeal.nD,
      r.2.mem ((c.tc : Thread Cert.ReferenceSampleIdeal.nD Cert.ReferenceSampleIdeal.τ).loc Cert.ReferenceSampleIdeal.main_arg0) = m ((c.tc : Thread Cert.ReferenceSampleIdeal.nD Cert.ReferenceSampleIdeal.τ).loc Cert.ReferenceSampleIdeal.main_arg0)
      ∧ r.2.mem ((c.tc : Thread Cert.ReferenceSampleIdeal.nD Cert.ReferenceSampleIdeal.τ).loc Cert.ReferenceSampleIdeal.main_arg1) = m ((c.tc : Thread Cert.ReferenceSampleIdeal.nD Cert.ReferenceSampleIdeal.τ).loc Cert.ReferenceSampleIdeal.main_arg1)
      ∧ r.2.mem ((c.tc : Thread Cert.ReferenceSampleIdeal.nD Cert.ReferenceSampleIdeal.τ).loc Cert.ReferenceSampleIdeal.main_arg2) = m ((c.tc : Thread Cert.ReferenceSampleIdeal.nD Cert.ReferenceSampleIdeal.τ).loc Cert.ReferenceSampleIdeal.main_arg2)
      ∧ r.2.mem ((c.tc : Thread Cert.ReferenceSampleIdeal.nD Cert.ReferenceSampleIdeal.τ).loc Cert.ReferenceSampleIdeal.main_arg3) = m ((c.tc : Thread Cert.ReferenceSampleIdeal.nD Cert.ReferenceSampleIdeal.τ).loc Cert.ReferenceSampleIdeal.main_arg3)
      ∧ r.2.mem ((c.tc : Thread Cert.ReferenceSampleIdeal.nD Cert.ReferenceSampleIdeal.τ).loc Cert.ReferenceSampleIdeal.main_arg4) = m ((c.tc : Thread Cert.ReferenceSampleIdeal.nD Cert.ReferenceSampleIdeal.τ).loc Cert.ReferenceSampleIdeal.main_arg4))
      ∧ r.2.sem = fun _ => 0)

def quiescent_ReferenceSampleIdeal_pre_sample_gates_below_infinity [hReferenceSampleIdeal : Cert.ReferenceSampleIdeal.Facts] [hPre_sample_gates_below_infinity : Cert.Pre_sample_gates_below_infinity.Facts] : Prop :=
  ∀ (m : (ℓ : Loc Cert.ReferenceSampleIdeal.nD Cert.ReferenceSampleIdeal.τ Cert.ReferenceSampleIdeal.sig) → Buf (Elt Ideal) ℓ) (g : Dev Cert.ReferenceSampleIdeal.nD → PrngReg), Pre_ReferenceSampleIdeal_sample_gates_below_infinity m →
    θ_run (Cert.ReferenceSampleIdeal.defs (F := Ideal)) (onTc (τ := Cert.ReferenceSampleIdeal.τ) (Cert.ReferenceSampleIdeal.main (F := Ideal))) ⟨m, fun _ => 0, g⟩ (fun r => (∀ c : Dev Cert.ReferenceSampleIdeal.nD,
      r.2.mem ((c.tc : Thread Cert.ReferenceSampleIdeal.nD Cert.ReferenceSampleIdeal.τ).loc Cert.ReferenceSampleIdeal.main_arg0) = m ((c.tc : Thread Cert.ReferenceSampleIdeal.nD Cert.ReferenceSampleIdeal.τ).loc Cert.ReferenceSampleIdeal.main_arg0)
      ∧ r.2.mem ((c.tc : Thread Cert.ReferenceSampleIdeal.nD Cert.ReferenceSampleIdeal.τ).loc Cert.ReferenceSampleIdeal.main_arg1) = m ((c.tc : Thread Cert.ReferenceSampleIdeal.nD Cert.ReferenceSampleIdeal.τ).loc Cert.ReferenceSampleIdeal.main_arg1)
      ∧ r.2.mem ((c.tc : Thread Cert.ReferenceSampleIdeal.nD Cert.ReferenceSampleIdeal.τ).loc Cert.ReferenceSampleIdeal.main_arg2) = m ((c.tc : Thread Cert.ReferenceSampleIdeal.nD Cert.ReferenceSampleIdeal.τ).loc Cert.ReferenceSampleIdeal.main_arg2)
      ∧ r.2.mem ((c.tc : Thread Cert.ReferenceSampleIdeal.nD Cert.ReferenceSampleIdeal.τ).loc Cert.ReferenceSampleIdeal.main_arg3) = m ((c.tc : Thread Cert.ReferenceSampleIdeal.nD Cert.ReferenceSampleIdeal.τ).loc Cert.ReferenceSampleIdeal.main_arg3)
      ∧ r.2.mem ((c.tc : Thread Cert.ReferenceSampleIdeal.nD Cert.ReferenceSampleIdeal.τ).loc Cert.ReferenceSampleIdeal.main_arg4) = m ((c.tc : Thread Cert.ReferenceSampleIdeal.nD Cert.ReferenceSampleIdeal.τ).loc Cert.ReferenceSampleIdeal.main_arg4))
      ∧ r.2.sem = fun _ => 0)

def preserves_Kernel_KernelIdeal : Prop :=
  True

def algebraic_KernelIdeal_ReferenceIdeal_pre_gates_below_infinity [hKernelIdeal : Cert.KernelIdeal.Facts] [hReferenceIdeal : Cert.ReferenceIdeal.Facts] [hPre_gates_below_infinity : Cert.Pre_gates_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)
      ∧ m' ((c.tc : Thread Cert.ReferencePostIdeal.nD Cert.ReferencePostIdeal.τ).loc Cert.ReferencePostIdeal.main_arg4) = m ((c.tc : Thread Cert.KernelPostIdeal.nD Cert.KernelPostIdeal.τ).loc Cert.KernelPostIdeal.main_arg4)
      ∧ m' ((c.tc : Thread Cert.ReferencePostIdeal.nD Cert.ReferencePostIdeal.τ).loc Cert.ReferencePostIdeal.main_arg5) = m ((c.tc : Thread Cert.KernelPostIdeal.nD Cert.KernelPostIdeal.τ).loc Cert.KernelPostIdeal.main_arg5)
      ∧ m' ((c.tc : Thread Cert.ReferencePostIdeal.nD Cert.ReferencePostIdeal.τ).loc Cert.ReferencePostIdeal.main_arg6) = m ((c.tc : Thread Cert.KernelPostIdeal.nD Cert.KernelPostIdeal.τ).loc Cert.KernelPostIdeal.main_arg6)
      ∧ m' ((c.tc : Thread Cert.ReferencePostIdeal.nD Cert.ReferencePostIdeal.τ).loc Cert.ReferencePostIdeal.main_arg7) = m ((c.tc : Thread Cert.KernelPostIdeal.nD Cert.KernelPostIdeal.τ).loc Cert.KernelPostIdeal.main_arg7)
      ∧ m' ((c.tc : Thread Cert.ReferencePostIdeal.nD Cert.ReferencePostIdeal.τ).loc Cert.ReferencePostIdeal.main_arg8) = m ((c.tc : Thread Cert.KernelPostIdeal.nD Cert.KernelPostIdeal.τ).loc Cert.KernelPostIdeal.main_arg8)
      ∧ m' ((c.tc : Thread Cert.ReferencePostIdeal.nD Cert.ReferencePostIdeal.τ).loc Cert.ReferencePostIdeal.main_arg9) = m ((c.tc : Thread Cert.KernelPostIdeal.nD Cert.KernelPostIdeal.τ).loc Cert.KernelPostIdeal.main_arg9)
      ∧ m' ((c.tc : Thread Cert.ReferencePostIdeal.nD Cert.ReferencePostIdeal.τ).loc Cert.ReferencePostIdeal.main_arg10) = m ((c.tc : Thread Cert.KernelPostIdeal.nD Cert.KernelPostIdeal.τ).loc Cert.KernelPostIdeal.main_arg10)) →
    ∃ (v0 : (c : Dev Cert.KernelPostIdeal.nD) → Buf (Elt Ideal) ((c.tc : Thread Cert.KernelPostIdeal.nD Cert.KernelPostIdeal.τ).loc Cert.KernelPostIdeal.main_v8)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v8) = v0 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
          ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
          ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5)
          ∧ r.2.mem ((c.tc : Thread Cert.KernelPostIdeal.nD Cert.KernelPostIdeal.τ).loc Cert.KernelPostIdeal.main_arg6) = m ((c.tc : Thread Cert.KernelPostIdeal.nD Cert.KernelPostIdeal.τ).loc Cert.KernelPostIdeal.main_arg6)
          ∧ r.2.mem ((c.tc : Thread Cert.KernelPostIdeal.nD Cert.KernelPostIdeal.τ).loc Cert.KernelPostIdeal.main_arg7) = m ((c.tc : Thread Cert.KernelPostIdeal.nD Cert.KernelPostIdeal.τ).loc Cert.KernelPostIdeal.main_arg7)
          ∧ r.2.mem ((c.tc : Thread Cert.KernelPostIdeal.nD Cert.KernelPostIdeal.τ).loc Cert.KernelPostIdeal.main_arg8) = m ((c.tc : Thread Cert.KernelPostIdeal.nD Cert.KernelPostIdeal.τ).loc Cert.KernelPostIdeal.main_arg8)
          ∧ r.2.mem ((c.tc : Thread Cert.KernelPostIdeal.nD Cert.KernelPostIdeal.τ).loc Cert.KernelPostIdeal.main_arg9) = m ((c.tc : Thread Cert.KernelPostIdeal.nD Cert.KernelPostIdeal.τ).loc Cert.KernelPostIdeal.main_arg9)
          ∧ r.2.mem ((c.tc : Thread Cert.KernelPostIdeal.nD Cert.KernelPostIdeal.τ).loc Cert.KernelPostIdeal.main_arg10) = m ((c.tc : Thread Cert.KernelPostIdeal.nD Cert.KernelPostIdeal.τ).loc Cert.KernelPostIdeal.main_arg10))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v83) = v0 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3)
          ∧ r.2.mem ((c.tc : Thread Cert.ReferencePostIdeal.nD Cert.ReferencePostIdeal.τ).loc Cert.ReferencePostIdeal.main_arg4) = m' ((c.tc : Thread Cert.ReferencePostIdeal.nD Cert.ReferencePostIdeal.τ).loc Cert.ReferencePostIdeal.main_arg4)
          ∧ r.2.mem ((c.tc : Thread Cert.ReferencePostIdeal.nD Cert.ReferencePostIdeal.τ).loc Cert.ReferencePostIdeal.main_arg5) = m' ((c.tc : Thread Cert.ReferencePostIdeal.nD Cert.ReferencePostIdeal.τ).loc Cert.ReferencePostIdeal.main_arg5)
          ∧ r.2.mem ((c.tc : Thread Cert.ReferencePostIdeal.nD Cert.ReferencePostIdeal.τ).loc Cert.ReferencePostIdeal.main_arg6) = m' ((c.tc : Thread Cert.ReferencePostIdeal.nD Cert.ReferencePostIdeal.τ).loc Cert.ReferencePostIdeal.main_arg6)
          ∧ r.2.mem ((c.tc : Thread Cert.ReferencePostIdeal.nD Cert.ReferencePostIdeal.τ).loc Cert.ReferencePostIdeal.main_arg7) = m' ((c.tc : Thread Cert.ReferencePostIdeal.nD Cert.ReferencePostIdeal.τ).loc Cert.ReferencePostIdeal.main_arg7)
          ∧ r.2.mem ((c.tc : Thread Cert.ReferencePostIdeal.nD Cert.ReferencePostIdeal.τ).loc Cert.ReferencePostIdeal.main_arg8) = m' ((c.tc : Thread Cert.ReferencePostIdeal.nD Cert.ReferencePostIdeal.τ).loc Cert.ReferencePostIdeal.main_arg8)
          ∧ r.2.mem ((c.tc : Thread Cert.ReferencePostIdeal.nD Cert.ReferencePostIdeal.τ).loc Cert.ReferencePostIdeal.main_arg9) = m' ((c.tc : Thread Cert.ReferencePostIdeal.nD Cert.ReferencePostIdeal.τ).loc Cert.ReferencePostIdeal.main_arg9)
          ∧ r.2.mem ((c.tc : Thread Cert.ReferencePostIdeal.nD Cert.ReferencePostIdeal.τ).loc Cert.ReferencePostIdeal.main_arg10) = m' ((c.tc : Thread Cert.ReferencePostIdeal.nD Cert.ReferencePostIdeal.τ).loc Cert.ReferencePostIdeal.main_arg10))

def preserves_KernelMem_KernelMemIdeal : Prop :=
  True

def algebraic_KernelMemIdeal_ReferenceMemIdeal [hKernelMemIdeal : Cert.KernelMemIdeal.Facts] [hReferenceMemIdeal : Cert.ReferenceMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)) →
    ∃ (v0 : (c : Dev Cert.KernelMemIdeal.nD) → Buf (Elt Ideal) ((c.tc : Thread Cert.KernelMemIdeal.nD Cert.KernelMemIdeal.τ).loc Cert.KernelMemIdeal.main_v3)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v3) = v0 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v16) = v0 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2))

def preserves_KernelPostSample_KernelPostSampleIdeal : Prop :=
  True

def algebraic_KernelPostSampleIdeal_ReferencePostSampleIdeal [hKernelPostSampleIdeal : Cert.KernelPostSampleIdeal.Facts] [hReferencePostSampleIdeal : Cert.ReferencePostSampleIdeal.Facts] : Prop :=
  ∀ (m : (ℓ : Loc Cert.KernelPostSampleIdeal.nD Cert.KernelPostSampleIdeal.τ Cert.KernelPostSampleIdeal.sig) → Buf (Elt Ideal) ℓ) (g : Dev Cert.KernelPostSampleIdeal.nD → PrngReg)
    (m' : (ℓ : Loc Cert.ReferencePostSampleIdeal.nD Cert.ReferencePostSampleIdeal.τ Cert.ReferencePostSampleIdeal.sig) → Buf (Elt Ideal) ℓ) (g' : Dev Cert.ReferencePostSampleIdeal.nD → PrngReg), Pre_KernelPostSampleIdeal m →
    (∀ c : Dev Cert.KernelPostSampleIdeal.nD,
      m' ((c.tc : Thread Cert.ReferencePostSampleIdeal.nD Cert.ReferencePostSampleIdeal.τ).loc Cert.ReferencePostSampleIdeal.main_arg0) = m ((c.tc : Thread Cert.KernelPostSampleIdeal.nD Cert.KernelPostSampleIdeal.τ).loc Cert.KernelPostSampleIdeal.main_arg0)
      ∧ m' ((c.tc : Thread Cert.ReferencePostSampleIdeal.nD Cert.ReferencePostSampleIdeal.τ).loc Cert.ReferencePostSampleIdeal.main_arg1) = m ((c.tc : Thread Cert.KernelPostSampleIdeal.nD Cert.KernelPostSampleIdeal.τ).loc Cert.KernelPostSampleIdeal.main_arg1)
      ∧ m' ((c.tc : Thread Cert.ReferencePostSampleIdeal.nD Cert.ReferencePostSampleIdeal.τ).loc Cert.ReferencePostSampleIdeal.main_arg2) = m ((c.tc : Thread Cert.KernelPostSampleIdeal.nD Cert.KernelPostSampleIdeal.τ).loc Cert.KernelPostSampleIdeal.main_arg2)
      ∧ m' ((c.tc : Thread Cert.ReferencePostSampleIdeal.nD Cert.ReferencePostSampleIdeal.τ).loc Cert.ReferencePostSampleIdeal.main_arg3) = m ((c.tc : Thread Cert.KernelPostSampleIdeal.nD Cert.KernelPostSampleIdeal.τ).loc Cert.KernelPostSampleIdeal.main_arg3)
      ∧ m' ((c.tc : Thread Cert.ReferencePostSampleIdeal.nD Cert.ReferencePostSampleIdeal.τ).loc Cert.ReferencePostSampleIdeal.main_arg4) = m ((c.tc : Thread Cert.KernelPostSampleIdeal.nD Cert.KernelPostSampleIdeal.τ).loc Cert.KernelPostSampleIdeal.main_arg4)
      ∧ m' ((c.tc : Thread Cert.ReferencePostSampleIdeal.nD Cert.ReferencePostSampleIdeal.τ).loc Cert.ReferencePostSampleIdeal.main_arg5) = m ((c.tc : Thread Cert.KernelPostSampleIdeal.nD Cert.KernelPostSampleIdeal.τ).loc Cert.KernelPostSampleIdeal.main_arg5)
      ∧ m' ((c.tc : Thread Cert.ReferencePostSampleIdeal.nD Cert.ReferencePostSampleIdeal.τ).loc Cert.ReferencePostSampleIdeal.main_arg6) = m ((c.tc : Thread Cert.KernelPostSampleIdeal.nD Cert.KernelPostSampleIdeal.τ).loc Cert.KernelPostSampleIdeal.main_arg6)) →
    ∃ (v0 : (c : Dev Cert.KernelPostSampleIdeal.nD) → Buf (Elt Ideal) ((c.tc : Thread Cert.KernelPostSampleIdeal.nD Cert.KernelPostSampleIdeal.τ).loc Cert.KernelPostSampleIdeal.main_v5)),
      θ_run (Cert.KernelPostSampleIdeal.defs (F := Ideal)) (onTc (τ := Cert.KernelPostSampleIdeal.τ) (Cert.KernelPostSampleIdeal.main (F := Ideal))) ⟨m, fun _ => 0, g⟩ (fun r => ∀ c : Dev Cert.KernelPostSampleIdeal.nD,
          r.2.mem ((c.tc : Thread Cert.KernelPostSampleIdeal.nD Cert.KernelPostSampleIdeal.τ).loc Cert.KernelPostSampleIdeal.main_v5) = v0 c
          ∧ r.2.mem ((c.tc : Thread Cert.KernelPostSampleIdeal.nD Cert.KernelPostSampleIdeal.τ).loc Cert.KernelPostSampleIdeal.main_arg0) = m ((c.tc : Thread Cert.KernelPostSampleIdeal.nD Cert.KernelPostSampleIdeal.τ).loc Cert.KernelPostSampleIdeal.main_arg0)
          ∧ r.2.mem ((c.tc : Thread Cert.KernelPostSampleIdeal.nD Cert.KernelPostSampleIdeal.τ).loc Cert.KernelPostSampleIdeal.main_arg1) = m ((c.tc : Thread Cert.KernelPostSampleIdeal.nD Cert.KernelPostSampleIdeal.τ).loc Cert.KernelPostSampleIdeal.main_arg1)
          ∧ r.2.mem ((c.tc : Thread Cert.KernelPostSampleIdeal.nD Cert.KernelPostSampleIdeal.τ).loc Cert.KernelPostSampleIdeal.main_arg2) = m ((c.tc : Thread Cert.KernelPostSampleIdeal.nD Cert.KernelPostSampleIdeal.τ).loc Cert.KernelPostSampleIdeal.main_arg2)
          ∧ r.2.mem ((c.tc : Thread Cert.KernelPostSampleIdeal.nD Cert.KernelPostSampleIdeal.τ).loc Cert.KernelPostSampleIdeal.main_arg3) = m ((c.tc : Thread Cert.KernelPostSampleIdeal.nD Cert.KernelPostSampleIdeal.τ).loc Cert.KernelPostSampleIdeal.main_arg3)
          ∧ r.2.mem ((c.tc : Thread Cert.KernelPostSampleIdeal.nD Cert.KernelPostSampleIdeal.τ).loc Cert.KernelPostSampleIdeal.main_arg4) = m ((c.tc : Thread Cert.KernelPostSampleIdeal.nD Cert.KernelPostSampleIdeal.τ).loc Cert.KernelPostSampleIdeal.main_arg4)
          ∧ r.2.mem ((c.tc : Thread Cert.KernelPostSampleIdeal.nD Cert.KernelPostSampleIdeal.τ).loc Cert.KernelPostSampleIdeal.main_arg5) = m ((c.tc : Thread Cert.KernelPostSampleIdeal.nD Cert.KernelPostSampleIdeal.τ).loc Cert.KernelPostSampleIdeal.main_arg5)
          ∧ r.2.mem ((c.tc : Thread Cert.KernelPostSampleIdeal.nD Cert.KernelPostSampleIdeal.τ).loc Cert.KernelPostSampleIdeal.main_arg6) = m ((c.tc : Thread Cert.KernelPostSampleIdeal.nD Cert.KernelPostSampleIdeal.τ).loc Cert.KernelPostSampleIdeal.main_arg6))
      ∧ θ_run (Cert.ReferencePostSampleIdeal.defs (F := Ideal)) (onTc (τ := Cert.ReferencePostSampleIdeal.τ) (Cert.ReferencePostSampleIdeal.main (F := Ideal))) ⟨m', fun _ => 0, g'⟩ (fun r => ∀ c : Dev Cert.ReferencePostSampleIdeal.nD,
          r.2.mem ((c.tc : Thread Cert.ReferencePostSampleIdeal.nD Cert.ReferencePostSampleIdeal.τ).loc Cert.ReferencePostSampleIdeal.main_v41) = v0 c
          ∧ r.2.mem ((c.tc : Thread Cert.ReferencePostSampleIdeal.nD Cert.ReferencePostSampleIdeal.τ).loc Cert.ReferencePostSampleIdeal.main_arg0) = m' ((c.tc : Thread Cert.ReferencePostSampleIdeal.nD Cert.ReferencePostSampleIdeal.τ).loc Cert.ReferencePostSampleIdeal.main_arg0)
          ∧ r.2.mem ((c.tc : Thread Cert.ReferencePostSampleIdeal.nD Cert.ReferencePostSampleIdeal.τ).loc Cert.ReferencePostSampleIdeal.main_arg1) = m' ((c.tc : Thread Cert.ReferencePostSampleIdeal.nD Cert.ReferencePostSampleIdeal.τ).loc Cert.ReferencePostSampleIdeal.main_arg1)
          ∧ r.2.mem ((c.tc : Thread Cert.ReferencePostSampleIdeal.nD Cert.ReferencePostSampleIdeal.τ).loc Cert.ReferencePostSampleIdeal.main_arg2) = m' ((c.tc : Thread Cert.ReferencePostSampleIdeal.nD Cert.ReferencePostSampleIdeal.τ).loc Cert.ReferencePostSampleIdeal.main_arg2)
          ∧ r.2.mem ((c.tc : Thread Cert.ReferencePostSampleIdeal.nD Cert.ReferencePostSampleIdeal.τ).loc Cert.ReferencePostSampleIdeal.main_arg3) = m' ((c.tc : Thread Cert.ReferencePostSampleIdeal.nD Cert.ReferencePostSampleIdeal.τ).loc Cert.ReferencePostSampleIdeal.main_arg3)
          ∧ r.2.mem ((c.tc : Thread Cert.ReferencePostSampleIdeal.nD Cert.ReferencePostSampleIdeal.τ).loc Cert.ReferencePostSampleIdeal.main_arg4) = m' ((c.tc : Thread Cert.ReferencePostSampleIdeal.nD Cert.ReferencePostSampleIdeal.τ).loc Cert.ReferencePostSampleIdeal.main_arg4)
          ∧ r.2.mem ((c.tc : Thread Cert.ReferencePostSampleIdeal.nD Cert.ReferencePostSampleIdeal.τ).loc Cert.ReferencePostSampleIdeal.main_arg5) = m' ((c.tc : Thread Cert.ReferencePostSampleIdeal.nD Cert.ReferencePostSampleIdeal.τ).loc Cert.ReferencePostSampleIdeal.main_arg5)
          ∧ r.2.mem ((c.tc : Thread Cert.ReferencePostSampleIdeal.nD Cert.ReferencePostSampleIdeal.τ).loc Cert.ReferencePostSampleIdeal.main_arg6) = m' ((c.tc : Thread Cert.ReferencePostSampleIdeal.nD Cert.ReferencePostSampleIdeal.τ).loc Cert.ReferencePostSampleIdeal.main_arg6))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)) →
    ∃ (v0 : (c : Dev Cert.KernelInIdeal.nD) → Buf (Elt Ideal) ((c.tc : Thread Cert.KernelInIdeal.nD Cert.KernelInIdeal.τ).loc Cert.KernelInIdeal.main_v7_0)) (v1 : (c : Dev Cert.KernelInIdeal.nD) → Buf (Elt Ideal) ((c.tc : Thread Cert.KernelInIdeal.nD Cert.KernelInIdeal.τ).loc Cert.KernelInIdeal.main_v7_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v7_0) = v0 c
          ∧ r.2.mem ((c.tc : Thread Cert.KernelInIdeal.nD Cert.KernelInIdeal.τ).loc Cert.KernelInIdeal.main_v7_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v23) = v0 c
          ∧ r.2.mem ((c.tc : Thread Cert.ReferenceInIdeal.nD Cert.ReferenceInIdeal.τ).loc Cert.ReferenceInIdeal.main_v24) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5))

def preserves_KernelPostFirst_KernelPostFirstIdeal : Prop :=
  True

def algebraic_KernelPostFirstIdeal_ReferencePostFirstIdeal [hKernelPostFirstIdeal : Cert.KernelPostFirstIdeal.Facts] [hReferencePostFirstIdeal : Cert.ReferencePostFirstIdeal.Facts] : Prop :=
  ∀ (m : (ℓ : Loc Cert.KernelPostFirstIdeal.nD Cert.KernelPostFirstIdeal.τ Cert.KernelPostFirstIdeal.sig) → Buf (Elt Ideal) ℓ) (g : Dev Cert.KernelPostFirstIdeal.nD → PrngReg)
    (m' : (ℓ : Loc Cert.ReferencePostFirstIdeal.nD Cert.ReferencePostFirstIdeal.τ Cert.ReferencePostFirstIdeal.sig) → Buf (Elt Ideal) ℓ) (g' : Dev Cert.ReferencePostFirstIdeal.nD → PrngReg), Pre_KernelPostFirstIdeal m →
    (∀ c : Dev Cert.KernelPostFirstIdeal.nD,
      m' ((c.tc : Thread Cert.ReferencePostFirstIdeal.nD Cert.ReferencePostFirstIdeal.τ).loc Cert.ReferencePostFirstIdeal.main_arg0) = m ((c.tc : Thread Cert.KernelPostFirstIdeal.nD Cert.KernelPostFirstIdeal.τ).loc Cert.KernelPostFirstIdeal.main_arg0)
      ∧ m' ((c.tc : Thread Cert.ReferencePostFirstIdeal.nD Cert.ReferencePostFirstIdeal.τ).loc Cert.ReferencePostFirstIdeal.main_arg1) = m ((c.tc : Thread Cert.KernelPostFirstIdeal.nD Cert.KernelPostFirstIdeal.τ).loc Cert.KernelPostFirstIdeal.main_arg1)
      ∧ m' ((c.tc : Thread Cert.ReferencePostFirstIdeal.nD Cert.ReferencePostFirstIdeal.τ).loc Cert.ReferencePostFirstIdeal.main_arg2) = m ((c.tc : Thread Cert.KernelPostFirstIdeal.nD Cert.KernelPostFirstIdeal.τ).loc Cert.KernelPostFirstIdeal.main_arg2)
      ∧ m' ((c.tc : Thread Cert.ReferencePostFirstIdeal.nD Cert.ReferencePostFirstIdeal.τ).loc Cert.ReferencePostFirstIdeal.main_arg3) = m ((c.tc : Thread Cert.KernelPostFirstIdeal.nD Cert.KernelPostFirstIdeal.τ).loc Cert.KernelPostFirstIdeal.main_arg3)
      ∧ m' ((c.tc : Thread Cert.ReferencePostFirstIdeal.nD Cert.ReferencePostFirstIdeal.τ).loc Cert.ReferencePostFirstIdeal.main_arg4) = m ((c.tc : Thread Cert.KernelPostFirstIdeal.nD Cert.KernelPostFirstIdeal.τ).loc Cert.KernelPostFirstIdeal.main_arg4)
      ∧ m' ((c.tc : Thread Cert.ReferencePostFirstIdeal.nD Cert.ReferencePostFirstIdeal.τ).loc Cert.ReferencePostFirstIdeal.main_arg5) = m ((c.tc : Thread Cert.KernelPostFirstIdeal.nD Cert.KernelPostFirstIdeal.τ).loc Cert.KernelPostFirstIdeal.main_arg5)
      ∧ m' ((c.tc : Thread Cert.ReferencePostFirstIdeal.nD Cert.ReferencePostFirstIdeal.τ).loc Cert.ReferencePostFirstIdeal.main_arg6) = m ((c.tc : Thread Cert.KernelPostFirstIdeal.nD Cert.KernelPostFirstIdeal.τ).loc Cert.KernelPostFirstIdeal.main_arg6)
      ∧ m' ((c.tc : Thread Cert.ReferencePostFirstIdeal.nD Cert.ReferencePostFirstIdeal.τ).loc Cert.ReferencePostFirstIdeal.main_arg7) = m ((c.tc : Thread Cert.KernelPostFirstIdeal.nD Cert.KernelPostFirstIdeal.τ).loc Cert.KernelPostFirstIdeal.main_arg7)
      ∧ m' ((c.tc : Thread Cert.ReferencePostFirstIdeal.nD Cert.ReferencePostFirstIdeal.τ).loc Cert.ReferencePostFirstIdeal.main_arg8) = m ((c.tc : Thread Cert.KernelPostFirstIdeal.nD Cert.KernelPostFirstIdeal.τ).loc Cert.KernelPostFirstIdeal.main_arg8)
      ∧ m' ((c.tc : Thread Cert.ReferencePostFirstIdeal.nD Cert.ReferencePostFirstIdeal.τ).loc Cert.ReferencePostFirstIdeal.main_arg9) = m ((c.tc : Thread Cert.KernelPostFirstIdeal.nD Cert.KernelPostFirstIdeal.τ).loc Cert.KernelPostFirstIdeal.main_arg9)) →
    ∃ (v0 : (c : Dev Cert.KernelPostFirstIdeal.nD) → Buf (Elt Ideal) ((c.tc : Thread Cert.KernelPostFirstIdeal.nD Cert.KernelPostFirstIdeal.τ).loc Cert.KernelPostFirstIdeal.main_v7)),
      θ_run (Cert.KernelPostFirstIdeal.defs (F := Ideal)) (onTc (τ := Cert.KernelPostFirstIdeal.τ) (Cert.KernelPostFirstIdeal.main (F := Ideal))) ⟨m, fun _ => 0, g⟩ (fun r => ∀ c : Dev Cert.KernelPostFirstIdeal.nD,
          r.2.mem ((c.tc : Thread Cert.KernelPostFirstIdeal.nD Cert.KernelPostFirstIdeal.τ).loc Cert.KernelPostFirstIdeal.main_v7) = v0 c
          ∧ r.2.mem ((c.tc : Thread Cert.KernelPostFirstIdeal.nD Cert.KernelPostFirstIdeal.τ).loc Cert.KernelPostFirstIdeal.main_arg0) = m ((c.tc : Thread Cert.KernelPostFirstIdeal.nD Cert.KernelPostFirstIdeal.τ).loc Cert.KernelPostFirstIdeal.main_arg0)
          ∧ r.2.mem ((c.tc : Thread Cert.KernelPostFirstIdeal.nD Cert.KernelPostFirstIdeal.τ).loc Cert.KernelPostFirstIdeal.main_arg1) = m ((c.tc : Thread Cert.KernelPostFirstIdeal.nD Cert.KernelPostFirstIdeal.τ).loc Cert.KernelPostFirstIdeal.main_arg1)
          ∧ r.2.mem ((c.tc : Thread Cert.KernelPostFirstIdeal.nD Cert.KernelPostFirstIdeal.τ).loc Cert.KernelPostFirstIdeal.main_arg2) = m ((c.tc : Thread Cert.KernelPostFirstIdeal.nD Cert.KernelPostFirstIdeal.τ).loc Cert.KernelPostFirstIdeal.main_arg2)
          ∧ r.2.mem ((c.tc : Thread Cert.KernelPostFirstIdeal.nD Cert.KernelPostFirstIdeal.τ).loc Cert.KernelPostFirstIdeal.main_arg3) = m ((c.tc : Thread Cert.KernelPostFirstIdeal.nD Cert.KernelPostFirstIdeal.τ).loc Cert.KernelPostFirstIdeal.main_arg3)
          ∧ r.2.mem ((c.tc : Thread Cert.KernelPostFirstIdeal.nD Cert.KernelPostFirstIdeal.τ).loc Cert.KernelPostFirstIdeal.main_arg4) = m ((c.tc : Thread Cert.KernelPostFirstIdeal.nD Cert.KernelPostFirstIdeal.τ).loc Cert.KernelPostFirstIdeal.main_arg4)
          ∧ r.2.mem ((c.tc : Thread Cert.KernelPostFirstIdeal.nD Cert.KernelPostFirstIdeal.τ).loc Cert.KernelPostFirstIdeal.main_arg5) = m ((c.tc : Thread Cert.KernelPostFirstIdeal.nD Cert.KernelPostFirstIdeal.τ).loc Cert.KernelPostFirstIdeal.main_arg5)
          ∧ r.2.mem ((c.tc : Thread Cert.KernelPostFirstIdeal.nD Cert.KernelPostFirstIdeal.τ).loc Cert.KernelPostFirstIdeal.main_arg6) = m ((c.tc : Thread Cert.KernelPostFirstIdeal.nD Cert.KernelPostFirstIdeal.τ).loc Cert.KernelPostFirstIdeal.main_arg6)
          ∧ r.2.mem ((c.tc : Thread Cert.KernelPostFirstIdeal.nD Cert.KernelPostFirstIdeal.τ).loc Cert.KernelPostFirstIdeal.main_arg7) = m ((c.tc : Thread Cert.KernelPostFirstIdeal.nD Cert.KernelPostFirstIdeal.τ).loc Cert.KernelPostFirstIdeal.main_arg7)
          ∧ r.2.mem ((c.tc : Thread Cert.KernelPostFirstIdeal.nD Cert.KernelPostFirstIdeal.τ).loc Cert.KernelPostFirstIdeal.main_arg8) = m ((c.tc : Thread Cert.KernelPostFirstIdeal.nD Cert.KernelPostFirstIdeal.τ).loc Cert.KernelPostFirstIdeal.main_arg8)
          ∧ r.2.mem ((c.tc : Thread Cert.KernelPostFirstIdeal.nD Cert.KernelPostFirstIdeal.τ).loc Cert.KernelPostFirstIdeal.main_arg9) = m ((c.tc : Thread Cert.KernelPostFirstIdeal.nD Cert.KernelPostFirstIdeal.τ).loc Cert.KernelPostFirstIdeal.main_arg9))
      ∧ θ_run (Cert.ReferencePostFirstIdeal.defs (F := Ideal)) (onTc (τ := Cert.ReferencePostFirstIdeal.τ) (Cert.ReferencePostFirstIdeal.main (F := Ideal))) ⟨m', fun _ => 0, g'⟩ (fun r => ∀ c : Dev Cert.ReferencePostFirstIdeal.nD,
          r.2.mem ((c.tc : Thread Cert.ReferencePostFirstIdeal.nD Cert.ReferencePostFirstIdeal.τ).loc Cert.ReferencePostFirstIdeal.main_v70) = v0 c
          ∧ r.2.mem ((c.tc : Thread Cert.ReferencePostFirstIdeal.nD Cert.ReferencePostFirstIdeal.τ).loc Cert.ReferencePostFirstIdeal.main_arg0) = m' ((c.tc : Thread Cert.ReferencePostFirstIdeal.nD Cert.ReferencePostFirstIdeal.τ).loc Cert.ReferencePostFirstIdeal.main_arg0)
          ∧ r.2.mem ((c.tc : Thread Cert.ReferencePostFirstIdeal.nD Cert.ReferencePostFirstIdeal.τ).loc Cert.ReferencePostFirstIdeal.main_arg1) = m' ((c.tc : Thread Cert.ReferencePostFirstIdeal.nD Cert.ReferencePostFirstIdeal.τ).loc Cert.ReferencePostFirstIdeal.main_arg1)
          ∧ r.2.mem ((c.tc : Thread Cert.ReferencePostFirstIdeal.nD Cert.ReferencePostFirstIdeal.τ).loc Cert.ReferencePostFirstIdeal.main_arg2) = m' ((c.tc : Thread Cert.ReferencePostFirstIdeal.nD Cert.ReferencePostFirstIdeal.τ).loc Cert.ReferencePostFirstIdeal.main_arg2)
          ∧ r.2.mem ((c.tc : Thread Cert.ReferencePostFirstIdeal.nD Cert.ReferencePostFirstIdeal.τ).loc Cert.ReferencePostFirstIdeal.main_arg3) = m' ((c.tc : Thread Cert.ReferencePostFirstIdeal.nD Cert.ReferencePostFirstIdeal.τ).loc Cert.ReferencePostFirstIdeal.main_arg3)
          ∧ r.2.mem ((c.tc : Thread Cert.ReferencePostFirstIdeal.nD Cert.ReferencePostFirstIdeal.τ).loc Cert.ReferencePostFirstIdeal.main_arg4) = m' ((c.tc : Thread Cert.ReferencePostFirstIdeal.nD Cert.ReferencePostFirstIdeal.τ).loc Cert.ReferencePostFirstIdeal.main_arg4)
          ∧ r.2.mem ((c.tc : Thread Cert.ReferencePostFirstIdeal.nD Cert.ReferencePostFirstIdeal.τ).loc Cert.ReferencePostFirstIdeal.main_arg5) = m' ((c.tc : Thread Cert.ReferencePostFirstIdeal.nD Cert.ReferencePostFirstIdeal.τ).loc Cert.ReferencePostFirstIdeal.main_arg5)
          ∧ r.2.mem ((c.tc : Thread Cert.ReferencePostFirstIdeal.nD Cert.ReferencePostFirstIdeal.τ).loc Cert.ReferencePostFirstIdeal.main_arg6) = m' ((c.tc : Thread Cert.ReferencePostFirstIdeal.nD Cert.ReferencePostFirstIdeal.τ).loc Cert.ReferencePostFirstIdeal.main_arg6)
          ∧ r.2.mem ((c.tc : Thread Cert.ReferencePostFirstIdeal.nD Cert.ReferencePostFirstIdeal.τ).loc Cert.ReferencePostFirstIdeal.main_arg7) = m' ((c.tc : Thread Cert.ReferencePostFirstIdeal.nD Cert.ReferencePostFirstIdeal.τ).loc Cert.ReferencePostFirstIdeal.main_arg7)
          ∧ r.2.mem ((c.tc : Thread Cert.ReferencePostFirstIdeal.nD Cert.ReferencePostFirstIdeal.τ).loc Cert.ReferencePostFirstIdeal.main_arg8) = m' ((c.tc : Thread Cert.ReferencePostFirstIdeal.nD Cert.ReferencePostFirstIdeal.τ).loc Cert.ReferencePostFirstIdeal.main_arg8)
          ∧ r.2.mem ((c.tc : Thread Cert.ReferencePostFirstIdeal.nD Cert.ReferencePostFirstIdeal.τ).loc Cert.ReferencePostFirstIdeal.main_arg9) = m' ((c.tc : Thread Cert.ReferencePostFirstIdeal.nD Cert.ReferencePostFirstIdeal.τ).loc Cert.ReferencePostFirstIdeal.main_arg9))

def preserves_KernelPostSecond_KernelPostSecondIdeal : Prop :=
  True

def algebraic_KernelPostSecondIdeal_ReferencePostSecondIdeal [hKernelPostSecondIdeal : Cert.KernelPostSecondIdeal.Facts] [hReferencePostSecondIdeal : Cert.ReferencePostSecondIdeal.Facts] : Prop :=
  ∀ (m : (ℓ : Loc Cert.KernelPostSecondIdeal.nD Cert.KernelPostSecondIdeal.τ Cert.KernelPostSecondIdeal.sig) → Buf (Elt Ideal) ℓ) (g : Dev Cert.KernelPostSecondIdeal.nD → PrngReg)
    (m' : (ℓ : Loc Cert.ReferencePostSecondIdeal.nD Cert.ReferencePostSecondIdeal.τ Cert.ReferencePostSecondIdeal.sig) → Buf (Elt Ideal) ℓ) (g' : Dev Cert.ReferencePostSecondIdeal.nD → PrngReg), Pre_KernelPostSecondIdeal m →
    (∀ c : Dev Cert.KernelPostSecondIdeal.nD,
      m' ((c.tc : Thread Cert.ReferencePostSecondIdeal.nD Cert.ReferencePostSecondIdeal.τ).loc Cert.ReferencePostSecondIdeal.main_arg0) = m ((c.tc : Thread Cert.KernelPostSecondIdeal.nD Cert.KernelPostSecondIdeal.τ).loc Cert.KernelPostSecondIdeal.main_arg0)
      ∧ m' ((c.tc : Thread Cert.ReferencePostSecondIdeal.nD Cert.ReferencePostSecondIdeal.τ).loc Cert.ReferencePostSecondIdeal.main_arg1) = m ((c.tc : Thread Cert.KernelPostSecondIdeal.nD Cert.KernelPostSecondIdeal.τ).loc Cert.KernelPostSecondIdeal.main_arg1)
      ∧ m' ((c.tc : Thread Cert.ReferencePostSecondIdeal.nD Cert.ReferencePostSecondIdeal.τ).loc Cert.ReferencePostSecondIdeal.main_arg2) = m ((c.tc : Thread Cert.KernelPostSecondIdeal.nD Cert.KernelPostSecondIdeal.τ).loc Cert.KernelPostSecondIdeal.main_arg2)
      ∧ m' ((c.tc : Thread Cert.ReferencePostSecondIdeal.nD Cert.ReferencePostSecondIdeal.τ).loc Cert.ReferencePostSecondIdeal.main_arg3) = m ((c.tc : Thread Cert.KernelPostSecondIdeal.nD Cert.KernelPostSecondIdeal.τ).loc Cert.KernelPostSecondIdeal.main_arg3)
      ∧ m' ((c.tc : Thread Cert.ReferencePostSecondIdeal.nD Cert.ReferencePostSecondIdeal.τ).loc Cert.ReferencePostSecondIdeal.main_arg4) = m ((c.tc : Thread Cert.KernelPostSecondIdeal.nD Cert.KernelPostSecondIdeal.τ).loc Cert.KernelPostSecondIdeal.main_arg4)
      ∧ m' ((c.tc : Thread Cert.ReferencePostSecondIdeal.nD Cert.ReferencePostSecondIdeal.τ).loc Cert.ReferencePostSecondIdeal.main_arg5) = m ((c.tc : Thread Cert.KernelPostSecondIdeal.nD Cert.KernelPostSecondIdeal.τ).loc Cert.KernelPostSecondIdeal.main_arg5)
      ∧ m' ((c.tc : Thread Cert.ReferencePostSecondIdeal.nD Cert.ReferencePostSecondIdeal.τ).loc Cert.ReferencePostSecondIdeal.main_arg6) = m ((c.tc : Thread Cert.KernelPostSecondIdeal.nD Cert.KernelPostSecondIdeal.τ).loc Cert.KernelPostSecondIdeal.main_arg6)
      ∧ m' ((c.tc : Thread Cert.ReferencePostSecondIdeal.nD Cert.ReferencePostSecondIdeal.τ).loc Cert.ReferencePostSecondIdeal.main_arg7) = m ((c.tc : Thread Cert.KernelPostSecondIdeal.nD Cert.KernelPostSecondIdeal.τ).loc Cert.KernelPostSecondIdeal.main_arg7)
      ∧ m' ((c.tc : Thread Cert.ReferencePostSecondIdeal.nD Cert.ReferencePostSecondIdeal.τ).loc Cert.ReferencePostSecondIdeal.main_arg8) = m ((c.tc : Thread Cert.KernelPostSecondIdeal.nD Cert.KernelPostSecondIdeal.τ).loc Cert.KernelPostSecondIdeal.main_arg8)
      ∧ m' ((c.tc : Thread Cert.ReferencePostSecondIdeal.nD Cert.ReferencePostSecondIdeal.τ).loc Cert.ReferencePostSecondIdeal.main_arg9) = m ((c.tc : Thread Cert.KernelPostSecondIdeal.nD Cert.KernelPostSecondIdeal.τ).loc Cert.KernelPostSecondIdeal.main_arg9)) →
    ∃ (v0 : (c : Dev Cert.KernelPostSecondIdeal.nD) → Buf (Elt Ideal) ((c.tc : Thread Cert.KernelPostSecondIdeal.nD Cert.KernelPostSecondIdeal.τ).loc Cert.KernelPostSecondIdeal.main_v7)),
      θ_run (Cert.KernelPostSecondIdeal.defs (F := Ideal)) (onTc (τ := Cert.KernelPostSecondIdeal.τ) (Cert.KernelPostSecondIdeal.main (F := Ideal))) ⟨m, fun _ => 0, g⟩ (fun r => ∀ c : Dev Cert.KernelPostSecondIdeal.nD,
          r.2.mem ((c.tc : Thread Cert.KernelPostSecondIdeal.nD Cert.KernelPostSecondIdeal.τ).loc Cert.KernelPostSecondIdeal.main_v7) = v0 c
          ∧ r.2.mem ((c.tc : Thread Cert.KernelPostSecondIdeal.nD Cert.KernelPostSecondIdeal.τ).loc Cert.KernelPostSecondIdeal.main_arg0) = m ((c.tc : Thread Cert.KernelPostSecondIdeal.nD Cert.KernelPostSecondIdeal.τ).loc Cert.KernelPostSecondIdeal.main_arg0)
          ∧ r.2.mem ((c.tc : Thread Cert.KernelPostSecondIdeal.nD Cert.KernelPostSecondIdeal.τ).loc Cert.KernelPostSecondIdeal.main_arg1) = m ((c.tc : Thread Cert.KernelPostSecondIdeal.nD Cert.KernelPostSecondIdeal.τ).loc Cert.KernelPostSecondIdeal.main_arg1)
          ∧ r.2.mem ((c.tc : Thread Cert.KernelPostSecondIdeal.nD Cert.KernelPostSecondIdeal.τ).loc Cert.KernelPostSecondIdeal.main_arg2) = m ((c.tc : Thread Cert.KernelPostSecondIdeal.nD Cert.KernelPostSecondIdeal.τ).loc Cert.KernelPostSecondIdeal.main_arg2)
          ∧ r.2.mem ((c.tc : Thread Cert.KernelPostSecondIdeal.nD Cert.KernelPostSecondIdeal.τ).loc Cert.KernelPostSecondIdeal.main_arg3) = m ((c.tc : Thread Cert.KernelPostSecondIdeal.nD Cert.KernelPostSecondIdeal.τ).loc Cert.KernelPostSecondIdeal.main_arg3)
          ∧ r.2.mem ((c.tc : Thread Cert.KernelPostSecondIdeal.nD Cert.KernelPostSecondIdeal.τ).loc Cert.KernelPostSecondIdeal.main_arg4) = m ((c.tc : Thread Cert.KernelPostSecondIdeal.nD Cert.KernelPostSecondIdeal.τ).loc Cert.KernelPostSecondIdeal.main_arg4)
          ∧ r.2.mem ((c.tc : Thread Cert.KernelPostSecondIdeal.nD Cert.KernelPostSecondIdeal.τ).loc Cert.KernelPostSecondIdeal.main_arg5) = m ((c.tc : Thread Cert.KernelPostSecondIdeal.nD Cert.KernelPostSecondIdeal.τ).loc Cert.KernelPostSecondIdeal.main_arg5)
          ∧ r.2.mem ((c.tc : Thread Cert.KernelPostSecondIdeal.nD Cert.KernelPostSecondIdeal.τ).loc Cert.KernelPostSecondIdeal.main_arg6) = m ((c.tc : Thread Cert.KernelPostSecondIdeal.nD Cert.KernelPostSecondIdeal.τ).loc Cert.KernelPostSecondIdeal.main_arg6)
          ∧ r.2.mem ((c.tc : Thread Cert.KernelPostSecondIdeal.nD Cert.KernelPostSecondIdeal.τ).loc Cert.KernelPostSecondIdeal.main_arg7) = m ((c.tc : Thread Cert.KernelPostSecondIdeal.nD Cert.KernelPostSecondIdeal.τ).loc Cert.KernelPostSecondIdeal.main_arg7)
          ∧ r.2.mem ((c.tc : Thread Cert.KernelPostSecondIdeal.nD Cert.KernelPostSecondIdeal.τ).loc Cert.KernelPostSecondIdeal.main_arg8) = m ((c.tc : Thread Cert.KernelPostSecondIdeal.nD Cert.KernelPostSecondIdeal.τ).loc Cert.KernelPostSecondIdeal.main_arg8)
          ∧ r.2.mem ((c.tc : Thread Cert.KernelPostSecondIdeal.nD Cert.KernelPostSecondIdeal.τ).loc Cert.KernelPostSecondIdeal.main_arg9) = m ((c.tc : Thread Cert.KernelPostSecondIdeal.nD Cert.KernelPostSecondIdeal.τ).loc Cert.KernelPostSecondIdeal.main_arg9))
      ∧ θ_run (Cert.ReferencePostSecondIdeal.defs (F := Ideal)) (onTc (τ := Cert.ReferencePostSecondIdeal.τ) (Cert.ReferencePostSecondIdeal.main (F := Ideal))) ⟨m', fun _ => 0, g'⟩ (fun r => ∀ c : Dev Cert.ReferencePostSecondIdeal.nD,
          r.2.mem ((c.tc : Thread Cert.ReferencePostSecondIdeal.nD Cert.ReferencePostSecondIdeal.τ).loc Cert.ReferencePostSecondIdeal.main_v70) = v0 c
          ∧ r.2.mem ((c.tc : Thread Cert.ReferencePostSecondIdeal.nD Cert.ReferencePostSecondIdeal.τ).loc Cert.ReferencePostSecondIdeal.main_arg0) = m' ((c.tc : Thread Cert.ReferencePostSecondIdeal.nD Cert.ReferencePostSecondIdeal.τ).loc Cert.ReferencePostSecondIdeal.main_arg0)
          ∧ r.2.mem ((c.tc : Thread Cert.ReferencePostSecondIdeal.nD Cert.ReferencePostSecondIdeal.τ).loc Cert.ReferencePostSecondIdeal.main_arg1) = m' ((c.tc : Thread Cert.ReferencePostSecondIdeal.nD Cert.ReferencePostSecondIdeal.τ).loc Cert.ReferencePostSecondIdeal.main_arg1)
          ∧ r.2.mem ((c.tc : Thread Cert.ReferencePostSecondIdeal.nD Cert.ReferencePostSecondIdeal.τ).loc Cert.ReferencePostSecondIdeal.main_arg2) = m' ((c.tc : Thread Cert.ReferencePostSecondIdeal.nD Cert.ReferencePostSecondIdeal.τ).loc Cert.ReferencePostSecondIdeal.main_arg2)
          ∧ r.2.mem ((c.tc : Thread Cert.ReferencePostSecondIdeal.nD Cert.ReferencePostSecondIdeal.τ).loc Cert.ReferencePostSecondIdeal.main_arg3) = m' ((c.tc : Thread Cert.ReferencePostSecondIdeal.nD Cert.ReferencePostSecondIdeal.τ).loc Cert.ReferencePostSecondIdeal.main_arg3)
          ∧ r.2.mem ((c.tc : Thread Cert.ReferencePostSecondIdeal.nD Cert.ReferencePostSecondIdeal.τ).loc Cert.ReferencePostSecondIdeal.main_arg4) = m' ((c.tc : Thread Cert.ReferencePostSecondIdeal.nD Cert.ReferencePostSecondIdeal.τ).loc Cert.ReferencePostSecondIdeal.main_arg4)
          ∧ r.2.mem ((c.tc : Thread Cert.ReferencePostSecondIdeal.nD Cert.ReferencePostSecondIdeal.τ).loc Cert.ReferencePostSecondIdeal.main_arg5) = m' ((c.tc : Thread Cert.ReferencePostSecondIdeal.nD Cert.ReferencePostSecondIdeal.τ).loc Cert.ReferencePostSecondIdeal.main_arg5)
          ∧ r.2.mem ((c.tc : Thread Cert.ReferencePostSecondIdeal.nD Cert.ReferencePostSecondIdeal.τ).loc Cert.ReferencePostSecondIdeal.main_arg6) = m' ((c.tc : Thread Cert.ReferencePostSecondIdeal.nD Cert.ReferencePostSecondIdeal.τ).loc Cert.ReferencePostSecondIdeal.main_arg6)
          ∧ r.2.mem ((c.tc : Thread Cert.ReferencePostSecondIdeal.nD Cert.ReferencePostSecondIdeal.τ).loc Cert.ReferencePostSecondIdeal.main_arg7) = m' ((c.tc : Thread Cert.ReferencePostSecondIdeal.nD Cert.ReferencePostSecondIdeal.τ).loc Cert.ReferencePostSecondIdeal.main_arg7)
          ∧ r.2.mem ((c.tc : Thread Cert.ReferencePostSecondIdeal.nD Cert.ReferencePostSecondIdeal.τ).loc Cert.ReferencePostSecondIdeal.main_arg8) = m' ((c.tc : Thread Cert.ReferencePostSecondIdeal.nD Cert.ReferencePostSecondIdeal.τ).loc Cert.ReferencePostSecondIdeal.main_arg8)
          ∧ r.2.mem ((c.tc : Thread Cert.ReferencePostSecondIdeal.nD Cert.ReferencePostSecondIdeal.τ).loc Cert.ReferencePostSecondIdeal.main_arg9) = m' ((c.tc : Thread Cert.ReferencePostSecondIdeal.nD Cert.ReferencePostSecondIdeal.τ).loc Cert.ReferencePostSecondIdeal.main_arg9))

def preserves_KernelPostThird_KernelPostThirdIdeal : Prop :=
  True

def algebraic_KernelPostThirdIdeal_ReferencePostThirdIdeal [hKernelPostThirdIdeal : Cert.KernelPostThirdIdeal.Facts] [hReferencePostThirdIdeal : Cert.ReferencePostThirdIdeal.Facts] : Prop :=
  ∀ (m : (ℓ : Loc Cert.KernelPostThirdIdeal.nD Cert.KernelPostThirdIdeal.τ Cert.KernelPostThirdIdeal.sig) → Buf (Elt Ideal) ℓ) (g : Dev Cert.KernelPostThirdIdeal.nD → PrngReg)
    (m' : (ℓ : Loc Cert.ReferencePostThirdIdeal.nD Cert.ReferencePostThirdIdeal.τ Cert.ReferencePostThirdIdeal.sig) → Buf (Elt Ideal) ℓ) (g' : Dev Cert.ReferencePostThirdIdeal.nD → PrngReg), Pre_KernelPostThirdIdeal m →
    (∀ c : Dev Cert.KernelPostThirdIdeal.nD,
      m' ((c.tc : Thread Cert.ReferencePostThirdIdeal.nD Cert.ReferencePostThirdIdeal.τ).loc Cert.ReferencePostThirdIdeal.main_arg0) = m ((c.tc : Thread Cert.KernelPostThirdIdeal.nD Cert.KernelPostThirdIdeal.τ).loc Cert.KernelPostThirdIdeal.main_arg0)
      ∧ m' ((c.tc : Thread Cert.ReferencePostThirdIdeal.nD Cert.ReferencePostThirdIdeal.τ).loc Cert.ReferencePostThirdIdeal.main_arg1) = m ((c.tc : Thread Cert.KernelPostThirdIdeal.nD Cert.KernelPostThirdIdeal.τ).loc Cert.KernelPostThirdIdeal.main_arg1)
      ∧ m' ((c.tc : Thread Cert.ReferencePostThirdIdeal.nD Cert.ReferencePostThirdIdeal.τ).loc Cert.ReferencePostThirdIdeal.main_arg2) = m ((c.tc : Thread Cert.KernelPostThirdIdeal.nD Cert.KernelPostThirdIdeal.τ).loc Cert.KernelPostThirdIdeal.main_arg2)
      ∧ m' ((c.tc : Thread Cert.ReferencePostThirdIdeal.nD Cert.ReferencePostThirdIdeal.τ).loc Cert.ReferencePostThirdIdeal.main_arg3) = m ((c.tc : Thread Cert.KernelPostThirdIdeal.nD Cert.KernelPostThirdIdeal.τ).loc Cert.KernelPostThirdIdeal.main_arg3)
      ∧ m' ((c.tc : Thread Cert.ReferencePostThirdIdeal.nD Cert.ReferencePostThirdIdeal.τ).loc Cert.ReferencePostThirdIdeal.main_arg4) = m ((c.tc : Thread Cert.KernelPostThirdIdeal.nD Cert.KernelPostThirdIdeal.τ).loc Cert.KernelPostThirdIdeal.main_arg4)
      ∧ m' ((c.tc : Thread Cert.ReferencePostThirdIdeal.nD Cert.ReferencePostThirdIdeal.τ).loc Cert.ReferencePostThirdIdeal.main_arg5) = m ((c.tc : Thread Cert.KernelPostThirdIdeal.nD Cert.KernelPostThirdIdeal.τ).loc Cert.KernelPostThirdIdeal.main_arg5)
      ∧ m' ((c.tc : Thread Cert.ReferencePostThirdIdeal.nD Cert.ReferencePostThirdIdeal.τ).loc Cert.ReferencePostThirdIdeal.main_arg6) = m ((c.tc : Thread Cert.KernelPostThirdIdeal.nD Cert.KernelPostThirdIdeal.τ).loc Cert.KernelPostThirdIdeal.main_arg6)
      ∧ m' ((c.tc : Thread Cert.ReferencePostThirdIdeal.nD Cert.ReferencePostThirdIdeal.τ).loc Cert.ReferencePostThirdIdeal.main_arg7) = m ((c.tc : Thread Cert.KernelPostThirdIdeal.nD Cert.KernelPostThirdIdeal.τ).loc Cert.KernelPostThirdIdeal.main_arg7)
      ∧ m' ((c.tc : Thread Cert.ReferencePostThirdIdeal.nD Cert.ReferencePostThirdIdeal.τ).loc Cert.ReferencePostThirdIdeal.main_arg8) = m ((c.tc : Thread Cert.KernelPostThirdIdeal.nD Cert.KernelPostThirdIdeal.τ).loc Cert.KernelPostThirdIdeal.main_arg8)
      ∧ m' ((c.tc : Thread Cert.ReferencePostThirdIdeal.nD Cert.ReferencePostThirdIdeal.τ).loc Cert.ReferencePostThirdIdeal.main_arg9) = m ((c.tc : Thread Cert.KernelPostThirdIdeal.nD Cert.KernelPostThirdIdeal.τ).loc Cert.KernelPostThirdIdeal.main_arg9)) →
    ∃ (v0 : (c : Dev Cert.KernelPostThirdIdeal.nD) → Buf (Elt Ideal) ((c.tc : Thread Cert.KernelPostThirdIdeal.nD Cert.KernelPostThirdIdeal.τ).loc Cert.KernelPostThirdIdeal.main_v7)),
      θ_run (Cert.KernelPostThirdIdeal.defs (F := Ideal)) (onTc (τ := Cert.KernelPostThirdIdeal.τ) (Cert.KernelPostThirdIdeal.main (F := Ideal))) ⟨m, fun _ => 0, g⟩ (fun r => ∀ c : Dev Cert.KernelPostThirdIdeal.nD,
          r.2.mem ((c.tc : Thread Cert.KernelPostThirdIdeal.nD Cert.KernelPostThirdIdeal.τ).loc Cert.KernelPostThirdIdeal.main_v7) = v0 c
          ∧ r.2.mem ((c.tc : Thread Cert.KernelPostThirdIdeal.nD Cert.KernelPostThirdIdeal.τ).loc Cert.KernelPostThirdIdeal.main_arg0) = m ((c.tc : Thread Cert.KernelPostThirdIdeal.nD Cert.KernelPostThirdIdeal.τ).loc Cert.KernelPostThirdIdeal.main_arg0)
          ∧ r.2.mem ((c.tc : Thread Cert.KernelPostThirdIdeal.nD Cert.KernelPostThirdIdeal.τ).loc Cert.KernelPostThirdIdeal.main_arg1) = m ((c.tc : Thread Cert.KernelPostThirdIdeal.nD Cert.KernelPostThirdIdeal.τ).loc Cert.KernelPostThirdIdeal.main_arg1)
          ∧ r.2.mem ((c.tc : Thread Cert.KernelPostThirdIdeal.nD Cert.KernelPostThirdIdeal.τ).loc Cert.KernelPostThirdIdeal.main_arg2) = m ((c.tc : Thread Cert.KernelPostThirdIdeal.nD Cert.KernelPostThirdIdeal.τ).loc Cert.KernelPostThirdIdeal.main_arg2)
          ∧ r.2.mem ((c.tc : Thread Cert.KernelPostThirdIdeal.nD Cert.KernelPostThirdIdeal.τ).loc Cert.KernelPostThirdIdeal.main_arg3) = m ((c.tc : Thread Cert.KernelPostThirdIdeal.nD Cert.KernelPostThirdIdeal.τ).loc Cert.KernelPostThirdIdeal.main_arg3)
          ∧ r.2.mem ((c.tc : Thread Cert.KernelPostThirdIdeal.nD Cert.KernelPostThirdIdeal.τ).loc Cert.KernelPostThirdIdeal.main_arg4) = m ((c.tc : Thread Cert.KernelPostThirdIdeal.nD Cert.KernelPostThirdIdeal.τ).loc Cert.KernelPostThirdIdeal.main_arg4)
          ∧ r.2.mem ((c.tc : Thread Cert.KernelPostThirdIdeal.nD Cert.KernelPostThirdIdeal.τ).loc Cert.KernelPostThirdIdeal.main_arg5) = m ((c.tc : Thread Cert.KernelPostThirdIdeal.nD Cert.KernelPostThirdIdeal.τ).loc Cert.KernelPostThirdIdeal.main_arg5)
          ∧ r.2.mem ((c.tc : Thread Cert.KernelPostThirdIdeal.nD Cert.KernelPostThirdIdeal.τ).loc Cert.KernelPostThirdIdeal.main_arg6) = m ((c.tc : Thread Cert.KernelPostThirdIdeal.nD Cert.KernelPostThirdIdeal.τ).loc Cert.KernelPostThirdIdeal.main_arg6)
          ∧ r.2.mem ((c.tc : Thread Cert.KernelPostThirdIdeal.nD Cert.KernelPostThirdIdeal.τ).loc Cert.KernelPostThirdIdeal.main_arg7) = m ((c.tc : Thread Cert.KernelPostThirdIdeal.nD Cert.KernelPostThirdIdeal.τ).loc Cert.KernelPostThirdIdeal.main_arg7)
          ∧ r.2.mem ((c.tc : Thread Cert.KernelPostThirdIdeal.nD Cert.KernelPostThirdIdeal.τ).loc Cert.KernelPostThirdIdeal.main_arg8) = m ((c.tc : Thread Cert.KernelPostThirdIdeal.nD Cert.KernelPostThirdIdeal.τ).loc Cert.KernelPostThirdIdeal.main_arg8)
          ∧ r.2.mem ((c.tc : Thread Cert.KernelPostThirdIdeal.nD Cert.KernelPostThirdIdeal.τ).loc Cert.KernelPostThirdIdeal.main_arg9) = m ((c.tc : Thread Cert.KernelPostThirdIdeal.nD Cert.KernelPostThirdIdeal.τ).loc Cert.KernelPostThirdIdeal.main_arg9))
      ∧ θ_run (Cert.ReferencePostThirdIdeal.defs (F := Ideal)) (onTc (τ := Cert.ReferencePostThirdIdeal.τ) (Cert.ReferencePostThirdIdeal.main (F := Ideal))) ⟨m', fun _ => 0, g'⟩ (fun r => ∀ c : Dev Cert.ReferencePostThirdIdeal.nD,
          r.2.mem ((c.tc : Thread Cert.ReferencePostThirdIdeal.nD Cert.ReferencePostThirdIdeal.τ).loc Cert.ReferencePostThirdIdeal.main_v70) = v0 c
          ∧ r.2.mem ((c.tc : Thread Cert.ReferencePostThirdIdeal.nD Cert.ReferencePostThirdIdeal.τ).loc Cert.ReferencePostThirdIdeal.main_arg0) = m' ((c.tc : Thread Cert.ReferencePostThirdIdeal.nD Cert.ReferencePostThirdIdeal.τ).loc Cert.ReferencePostThirdIdeal.main_arg0)
          ∧ r.2.mem ((c.tc : Thread Cert.ReferencePostThirdIdeal.nD Cert.ReferencePostThirdIdeal.τ).loc Cert.ReferencePostThirdIdeal.main_arg1) = m' ((c.tc : Thread Cert.ReferencePostThirdIdeal.nD Cert.ReferencePostThirdIdeal.τ).loc Cert.ReferencePostThirdIdeal.main_arg1)
          ∧ r.2.mem ((c.tc : Thread Cert.ReferencePostThirdIdeal.nD Cert.ReferencePostThirdIdeal.τ).loc Cert.ReferencePostThirdIdeal.main_arg2) = m' ((c.tc : Thread Cert.ReferencePostThirdIdeal.nD Cert.ReferencePostThirdIdeal.τ).loc Cert.ReferencePostThirdIdeal.main_arg2)
          ∧ r.2.mem ((c.tc : Thread Cert.ReferencePostThirdIdeal.nD Cert.ReferencePostThirdIdeal.τ).loc Cert.ReferencePostThirdIdeal.main_arg3) = m' ((c.tc : Thread Cert.ReferencePostThirdIdeal.nD Cert.ReferencePostThirdIdeal.τ).loc Cert.ReferencePostThirdIdeal.main_arg3)
          ∧ r.2.mem ((c.tc : Thread Cert.ReferencePostThirdIdeal.nD Cert.ReferencePostThirdIdeal.τ).loc Cert.ReferencePostThirdIdeal.main_arg4) = m' ((c.tc : Thread Cert.ReferencePostThirdIdeal.nD Cert.ReferencePostThirdIdeal.τ).loc Cert.ReferencePostThirdIdeal.main_arg4)
          ∧ r.2.mem ((c.tc : Thread Cert.ReferencePostThirdIdeal.nD Cert.ReferencePostThirdIdeal.τ).loc Cert.ReferencePostThirdIdeal.main_arg5) = m' ((c.tc : Thread Cert.ReferencePostThirdIdeal.nD Cert.ReferencePostThirdIdeal.τ).loc Cert.ReferencePostThirdIdeal.main_arg5)
          ∧ r.2.mem ((c.tc : Thread Cert.ReferencePostThirdIdeal.nD Cert.ReferencePostThirdIdeal.τ).loc Cert.ReferencePostThirdIdeal.main_arg6) = m' ((c.tc : Thread Cert.ReferencePostThirdIdeal.nD Cert.ReferencePostThirdIdeal.τ).loc Cert.ReferencePostThirdIdeal.main_arg6)
          ∧ r.2.mem ((c.tc : Thread Cert.ReferencePostThirdIdeal.nD Cert.ReferencePostThirdIdeal.τ).loc Cert.ReferencePostThirdIdeal.main_arg7) = m' ((c.tc : Thread Cert.ReferencePostThirdIdeal.nD Cert.ReferencePostThirdIdeal.τ).loc Cert.ReferencePostThirdIdeal.main_arg7)
          ∧ r.2.mem ((c.tc : Thread Cert.ReferencePostThirdIdeal.nD Cert.ReferencePostThirdIdeal.τ).loc Cert.ReferencePostThirdIdeal.main_arg8) = m' ((c.tc : Thread Cert.ReferencePostThirdIdeal.nD Cert.ReferencePostThirdIdeal.τ).loc Cert.ReferencePostThirdIdeal.main_arg8)
          ∧ r.2.mem ((c.tc : Thread Cert.ReferencePostThirdIdeal.nD Cert.ReferencePostThirdIdeal.τ).loc Cert.ReferencePostThirdIdeal.main_arg9) = m' ((c.tc : Thread Cert.ReferencePostThirdIdeal.nD Cert.ReferencePostThirdIdeal.τ).loc Cert.ReferencePostThirdIdeal.main_arg9))

def preserves_KernelSample_KernelSampleIdeal : Prop :=
  True

def algebraic_KernelSampleIdeal_ReferenceSampleIdeal_pre_sample_gates_below_infinity [hKernelSampleIdeal : Cert.KernelSampleIdeal.Facts] [hReferenceSampleIdeal : Cert.ReferenceSampleIdeal.Facts] [hPre_sample_gates_below_infinity : Cert.Pre_sample_gates_below_infinity.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg)
    (m' : (ℓ : Loc Cert.ReferenceSampleIdeal.nD Cert.ReferenceSampleIdeal.τ Cert.ReferenceSampleIdeal.sig) → Buf (Elt Ideal) ℓ) (g' : Dev Cert.ReferenceSampleIdeal.nD → PrngReg), Pre_KernelSampleIdeal_sample_gates_below_infinity m →
    (∀ c : Dev Cert.KernelSampleIdeal.nD,
      m' ((c.tc : Thread Cert.ReferenceSampleIdeal.nD Cert.ReferenceSampleIdeal.τ).loc Cert.ReferenceSampleIdeal.main_arg0) = m ((c.tc : Thread Cert.KernelSampleIdeal.nD Cert.KernelSampleIdeal.τ).loc Cert.KernelSampleIdeal.main_arg0)
      ∧ m' ((c.tc : Thread Cert.ReferenceSampleIdeal.nD Cert.ReferenceSampleIdeal.τ).loc Cert.ReferenceSampleIdeal.main_arg1) = m ((c.tc : Thread Cert.KernelSampleIdeal.nD Cert.KernelSampleIdeal.τ).loc Cert.KernelSampleIdeal.main_arg1)
      ∧ m' ((c.tc : Thread Cert.ReferenceSampleIdeal.nD Cert.ReferenceSampleIdeal.τ).loc Cert.ReferenceSampleIdeal.main_arg2) = m ((c.tc : Thread Cert.KernelSampleIdeal.nD Cert.KernelSampleIdeal.τ).loc Cert.KernelSampleIdeal.main_arg2)
      ∧ m' ((c.tc : Thread Cert.ReferenceSampleIdeal.nD Cert.ReferenceSampleIdeal.τ).loc Cert.ReferenceSampleIdeal.main_arg3) = m ((c.tc : Thread Cert.KernelSampleIdeal.nD Cert.KernelSampleIdeal.τ).loc Cert.KernelSampleIdeal.main_arg3)
      ∧ m' ((c.tc : Thread Cert.ReferenceSampleIdeal.nD Cert.ReferenceSampleIdeal.τ).loc Cert.ReferenceSampleIdeal.main_arg4) = m ((c.tc : Thread Cert.KernelSampleIdeal.nD Cert.KernelSampleIdeal.τ).loc Cert.KernelSampleIdeal.main_arg4)) →
    ∃ (v0 : (c : Dev Cert.KernelSampleIdeal.nD) → Buf (Elt Ideal) ((c.tc : Thread Cert.KernelSampleIdeal.nD Cert.KernelSampleIdeal.τ).loc Cert.KernelSampleIdeal.main_v3_0)) (v1 : (c : Dev Cert.KernelSampleIdeal.nD) → Buf (Elt Ideal) ((c.tc : Thread Cert.KernelSampleIdeal.nD Cert.KernelSampleIdeal.τ).loc Cert.KernelSampleIdeal.main_v3_1)),
      θ_run (Cert.KernelSampleIdeal.defs (F := Ideal)) (onTc (τ := Cert.KernelSampleIdeal.τ) (Cert.KernelSampleIdeal.main (F := Ideal))) ⟨m, fun _ => 0, g⟩ (fun r => ∀ c : Dev Cert.KernelSampleIdeal.nD,
          r.2.mem ((c.tc : Thread Cert.KernelSampleIdeal.nD Cert.KernelSampleIdeal.τ).loc Cert.KernelSampleIdeal.main_v3_0) = v0 c
          ∧ r.2.mem ((c.tc : Thread Cert.KernelSampleIdeal.nD Cert.KernelSampleIdeal.τ).loc Cert.KernelSampleIdeal.main_v3_1) = v1 c
          ∧ r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
          ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
          ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2)
          ∧ r.2.mem ((c.tc : Thread Cert.KernelSampleIdeal.nD Cert.KernelSampleIdeal.τ).loc Cert.KernelSampleIdeal.main_arg3) = m ((c.tc : Thread Cert.KernelSampleIdeal.nD Cert.KernelSampleIdeal.τ).loc Cert.KernelSampleIdeal.main_arg3)
          ∧ r.2.mem ((c.tc : Thread Cert.KernelSampleIdeal.nD Cert.KernelSampleIdeal.τ).loc Cert.KernelSampleIdeal.main_arg4) = m ((c.tc : Thread Cert.KernelSampleIdeal.nD Cert.KernelSampleIdeal.τ).loc Cert.KernelSampleIdeal.main_arg4))
      ∧ θ_run (Cert.ReferenceSampleIdeal.defs (F := Ideal)) (onTc (τ := Cert.ReferenceSampleIdeal.τ) (Cert.ReferenceSampleIdeal.main (F := Ideal))) ⟨m', fun _ => 0, g'⟩ (fun r => ∀ c : Dev Cert.ReferenceSampleIdeal.nD,
          r.2.mem ((c.tc : Thread Cert.ReferenceSampleIdeal.nD Cert.ReferenceSampleIdeal.τ).loc Cert.ReferenceSampleIdeal.main_v57) = v0 c
          ∧ r.2.mem ((c.tc : Thread Cert.ReferenceSampleIdeal.nD Cert.ReferenceSampleIdeal.τ).loc Cert.ReferenceSampleIdeal.main_v62) = v1 c
          ∧ r.2.mem ((c.tc : Thread Cert.ReferenceSampleIdeal.nD Cert.ReferenceSampleIdeal.τ).loc Cert.ReferenceSampleIdeal.main_arg0) = m' ((c.tc : Thread Cert.ReferenceSampleIdeal.nD Cert.ReferenceSampleIdeal.τ).loc Cert.ReferenceSampleIdeal.main_arg0)
          ∧ r.2.mem ((c.tc : Thread Cert.ReferenceSampleIdeal.nD Cert.ReferenceSampleIdeal.τ).loc Cert.ReferenceSampleIdeal.main_arg1) = m' ((c.tc : Thread Cert.ReferenceSampleIdeal.nD Cert.ReferenceSampleIdeal.τ).loc Cert.ReferenceSampleIdeal.main_arg1)
          ∧ r.2.mem ((c.tc : Thread Cert.ReferenceSampleIdeal.nD Cert.ReferenceSampleIdeal.τ).loc Cert.ReferenceSampleIdeal.main_arg2) = m' ((c.tc : Thread Cert.ReferenceSampleIdeal.nD Cert.ReferenceSampleIdeal.τ).loc Cert.ReferenceSampleIdeal.main_arg2)
          ∧ r.2.mem ((c.tc : Thread Cert.ReferenceSampleIdeal.nD Cert.ReferenceSampleIdeal.τ).loc Cert.ReferenceSampleIdeal.main_arg3) = m' ((c.tc : Thread Cert.ReferenceSampleIdeal.nD Cert.ReferenceSampleIdeal.τ).loc Cert.ReferenceSampleIdeal.main_arg3)
          ∧ r.2.mem ((c.tc : Thread Cert.ReferenceSampleIdeal.nD Cert.ReferenceSampleIdeal.τ).loc Cert.ReferenceSampleIdeal.main_arg4) = m' ((c.tc : Thread Cert.ReferenceSampleIdeal.nD Cert.ReferenceSampleIdeal.τ).loc Cert.ReferenceSampleIdeal.main_arg4))

def Claim : Prop :=
  ∃ (hKernel : Cert.Kernel.Facts) (hKernelIdeal : Cert.KernelIdeal.Facts) (hReferenceIdeal : Cert.ReferenceIdeal.Facts) (hKernelPost : Cert.KernelPost.Facts) (hKernelPostIdeal : Cert.KernelPostIdeal.Facts) (hReferencePostIdeal : Cert.ReferencePostIdeal.Facts) (hKernelMem : Cert.KernelMem.Facts) (hKernelMemIdeal : Cert.KernelMemIdeal.Facts) (hReferenceMemIdeal : Cert.ReferenceMemIdeal.Facts) (hKernelPostSample : Cert.KernelPostSample.Facts) (hKernelPostSampleIdeal : Cert.KernelPostSampleIdeal.Facts) (hReferencePostSampleIdeal : Cert.ReferencePostSampleIdeal.Facts) (hKernelIn : Cert.KernelIn.Facts) (hKernelInIdeal : Cert.KernelInIdeal.Facts) (hReferenceInIdeal : Cert.ReferenceInIdeal.Facts) (hKernelPostFirst : Cert.KernelPostFirst.Facts) (hKernelPostFirstIdeal : Cert.KernelPostFirstIdeal.Facts) (hReferencePostFirstIdeal : Cert.ReferencePostFirstIdeal.Facts) (hKernelPostSecond : Cert.KernelPostSecond.Facts) (hKernelPostSecondIdeal : Cert.KernelPostSecondIdeal.Facts) (hReferencePostSecondIdeal : Cert.ReferencePostSecondIdeal.Facts) (hKernelPostThird : Cert.KernelPostThird.Facts) (hKernelPostThirdIdeal : Cert.KernelPostThirdIdeal.Facts) (hReferencePostThirdIdeal : Cert.ReferencePostThirdIdeal.Facts) (hKernelSample : Cert.KernelSample.Facts) (hKernelSampleIdeal : Cert.KernelSampleIdeal.Facts) (hReferenceSampleIdeal : Cert.ReferenceSampleIdeal.Facts) (hPre_gates_below_infinity : Cert.Pre_gates_below_infinity.Facts) (hPre_sample_gates_below_infinity : Cert.Pre_sample_gates_below_infinity.Facts),
    quiescent_Kernel (hKernel := hKernel)
    ∧ quiescent_KernelIdeal (hKernelIdeal := hKernelIdeal)
    ∧ quiescent_KernelIdeal_pre_gates_below_infinity (hKernelIdeal := hKernelIdeal) (hPre_gates_below_infinity := hPre_gates_below_infinity)
    ∧ quiescent_ReferenceIdeal (hReferenceIdeal := hReferenceIdeal)
    ∧ quiescent_ReferenceIdeal_pre_gates_below_infinity (hReferenceIdeal := hReferenceIdeal) (hPre_gates_below_infinity := hPre_gates_below_infinity)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelMem (hKernelMem := hKernelMem)
    ∧ quiescent_KernelMemIdeal (hKernelMemIdeal := hKernelMemIdeal)
    ∧ quiescent_ReferenceMemIdeal (hReferenceMemIdeal := hReferenceMemIdeal)
    ∧ quiescent_KernelPostSample (hKernelPostSample := hKernelPostSample)
    ∧ quiescent_KernelPostSampleIdeal (hKernelPostSampleIdeal := hKernelPostSampleIdeal)
    ∧ quiescent_ReferencePostSampleIdeal (hReferencePostSampleIdeal := hReferencePostSampleIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelPostFirst (hKernelPostFirst := hKernelPostFirst)
    ∧ quiescent_KernelPostFirstIdeal (hKernelPostFirstIdeal := hKernelPostFirstIdeal)
    ∧ quiescent_ReferencePostFirstIdeal (hReferencePostFirstIdeal := hReferencePostFirstIdeal)
    ∧ quiescent_KernelPostSecond (hKernelPostSecond := hKernelPostSecond)
    ∧ quiescent_KernelPostSecondIdeal (hKernelPostSecondIdeal := hKernelPostSecondIdeal)
    ∧ quiescent_ReferencePostSecondIdeal (hReferencePostSecondIdeal := hReferencePostSecondIdeal)
    ∧ quiescent_KernelPostThird (hKernelPostThird := hKernelPostThird)
    ∧ quiescent_KernelPostThirdIdeal (hKernelPostThirdIdeal := hKernelPostThirdIdeal)
    ∧ quiescent_ReferencePostThirdIdeal (hReferencePostThirdIdeal := hReferencePostThirdIdeal)
    ∧ quiescent_KernelSample (hKernelSample := hKernelSample)
    ∧ quiescent_KernelSampleIdeal (hKernelSampleIdeal := hKernelSampleIdeal)
    ∧ quiescent_KernelSampleIdeal_pre_sample_gates_below_infinity (hKernelSampleIdeal := hKernelSampleIdeal) (hPre_sample_gates_below_infinity := hPre_sample_gates_below_infinity)
    ∧ quiescent_ReferenceSampleIdeal (hReferenceSampleIdeal := hReferenceSampleIdeal)
    ∧ quiescent_ReferenceSampleIdeal_pre_sample_gates_below_infinity (hReferenceSampleIdeal := hReferenceSampleIdeal) (hPre_sample_gates_below_infinity := hPre_sample_gates_below_infinity)
    ∧ preserves_Kernel_KernelIdeal
    ∧ algebraic_KernelIdeal_ReferenceIdeal_pre_gates_below_infinity (hKernelIdeal := hKernelIdeal) (hReferenceIdeal := hReferenceIdeal) (hPre_gates_below_infinity := hPre_gates_below_infinity)
    ∧ preserves_KernelPost_KernelPostIdeal
    ∧ algebraic_KernelPostIdeal_ReferencePostIdeal (hKernelPostIdeal := hKernelPostIdeal) (hReferencePostIdeal := hReferencePostIdeal)
    ∧ preserves_KernelMem_KernelMemIdeal
    ∧ algebraic_KernelMemIdeal_ReferenceMemIdeal (hKernelMemIdeal := hKernelMemIdeal) (hReferenceMemIdeal := hReferenceMemIdeal)
    ∧ preserves_KernelPostSample_KernelPostSampleIdeal
    ∧ algebraic_KernelPostSampleIdeal_ReferencePostSampleIdeal (hKernelPostSampleIdeal := hKernelPostSampleIdeal) (hReferencePostSampleIdeal := hReferencePostSampleIdeal)
    ∧ preserves_KernelIn_KernelInIdeal
    ∧ algebraic_KernelInIdeal_ReferenceInIdeal (hKernelInIdeal := hKernelInIdeal) (hReferenceInIdeal := hReferenceInIdeal)
    ∧ preserves_KernelPostFirst_KernelPostFirstIdeal
    ∧ algebraic_KernelPostFirstIdeal_ReferencePostFirstIdeal (hKernelPostFirstIdeal := hKernelPostFirstIdeal) (hReferencePostFirstIdeal := hReferencePostFirstIdeal)
    ∧ preserves_KernelPostSecond_KernelPostSecondIdeal
    ∧ algebraic_KernelPostSecondIdeal_ReferencePostSecondIdeal (hKernelPostSecondIdeal := hKernelPostSecondIdeal) (hReferencePostSecondIdeal := hReferencePostSecondIdeal)
    ∧ preserves_KernelPostThird_KernelPostThirdIdeal
    ∧ algebraic_KernelPostThirdIdeal_ReferencePostThirdIdeal (hKernelPostThirdIdeal := hKernelPostThirdIdeal) (hReferencePostThirdIdeal := hReferencePostThirdIdeal)
    ∧ preserves_KernelSample_KernelSampleIdeal
    ∧ algebraic_KernelSampleIdeal_ReferenceSampleIdeal_pre_sample_gates_below_infinity (hKernelSampleIdeal := hKernelSampleIdeal) (hReferenceSampleIdeal := hReferenceSampleIdeal) (hPre_sample_gates_below_infinity := hPre_sample_gates_below_infinity)
-- ==== Pre_gates_below_infinity.lean ====
abbrev S16384x3072 : Shape := ⟨2, ![16384, 3072]⟩
abbrev S16384x512 : Shape := ⟨2, ![16384, 512]⟩
abbrev S1024 : Shape := ⟨1, ![1024]⟩
abbrev S2x4x4x128x256 : Shape := ⟨5, ![2, 4, 4, 128, 256]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x3072 .f32) (main_arg1 : FVec F S16384x512 .f32) (main_arg2 : FVec F S1024 .f32) (main_arg3 : FVec F S2x4x4x128x256 .f32) : IVec S16384x512 1 :=
  let main_cst : FVec F S_ .f32 := constant S_ .f32 0x7F800000#32
  let main_v0 : FVec F S16384x512 .f32 := broadcastInDim S16384x512 ![] bcast_S_S16384x512 main_cst
  let main_v1 : IVec S16384x512 1 := cmpf .olt main_arg1 main_v0
  main_v1
-- ==== Pre_sample_gates_below_infinity.lean ====
abbrev S1024x3072 : Shape := ⟨2, ![1024, 3072]⟩
abbrev S1024x512 : Shape := ⟨2, ![1024, 512]⟩
abbrev S1024 : Shape := ⟨1, ![1024]⟩
abbrev S2x128x4x128x256 : Shape := ⟨5, ![2, 128, 4, 128, 256]⟩
abbrev S_ : Shape := ⟨0, ![]⟩

class Facts : Prop where
  bcast_S_S1024x512 : S_.BroadcastsInDim S1024x512 (![] : Fin 0 → Fin S1024x512.rank)

variable [Facts]

def fn {F : FTy → Type} [FloatOps F] (main_arg0 : FVec F S1024x3072 .f32) (main_arg1 : FVec F S1024x512 .f32) (main_arg2 : FVec F S1024 .f32) (main_arg3 : FVec F S2x128x4x128x256 .f32) (main_arg4 : FVec F S2x128x4x128x256 .f32) : IVec S1024x512 1 :=
  let main_cst : FVec F S_ .f32 := constant S_ .f32 0x7F800000#32
  let main_v0 : FVec F S1024x512 .f32 := broadcastInDim S1024x512 ![] bcast_S_S1024x512 main_cst
  let main_v1 : IVec S1024x512 1 := cmpf .olt main_arg1 main_v0
  main_v1
-- ==== Kernel.lean ====
abbrev S16384x3072 : Shape := ⟨2, ![16384, 3072]⟩
abbrev S16384x512 : Shape := ⟨2, ![16384, 512]⟩
abbrev S1024 : Shape := ⟨1, ![1024]⟩
abbrev S2x4x4x128x256 : Shape := ⟨5, ![2, 4, 4, 128, 256]⟩
abbrev S4x4096x3072 : Shape := ⟨3, ![4, 4096, 3072]⟩
abbrev S4x4096x512 : Shape := ⟨3, ![4, 4096, 512]⟩
abbrev S1x1024 : Shape := ⟨2, ![1, 1024]⟩
abbrev S4x4096x1024 : Shape := ⟨3, ![4, 4096, 1024]⟩
abbrev S4x128x512 : Shape := ⟨3, ![4, 128, 512]⟩
abbrev S4x128x1024 : Shape := ⟨3, ![4, 128, 1024]⟩
abbrev S1x4x4x128x256 : Shape := ⟨5, ![1, 4, 4, 128, 256]⟩
abbrev S4x4x128x256 : Shape := ⟨4, ![4, 4, 128, 256]⟩
abbrev S64x64 : Shape := ⟨2, ![64, 64]⟩
abbrev S128x128 : Shape := ⟨2, ![128, 128]⟩
abbrev S1x64x512 : Shape := ⟨3, ![1, 64, 512]⟩
abbrev S64x512 : Shape := ⟨2, ![64, 512]⟩
abbrev S64x128 : Shape := ⟨2, ![64, 128]⟩
abbrev S1x64x128 : Shape := ⟨3, ![1, 64, 128]⟩
abbrev S1x128 : Shape := ⟨2, ![1, 128]⟩
abbrev S1x64x256 : Shape := ⟨3, ![1, 64, 256]⟩
abbrev S64x256 : Shape := ⟨2, ![64, 256]⟩
abbrev S128x256 : Shape := ⟨2, ![128, 256]⟩
abbrev S1x1x1x128x256 : Shape := ⟨5, ![1, 1, 1, 128, 256]⟩
abbrev S128 : Shape := ⟨1, ![128]⟩
abbrev S128x1 : Shape := ⟨2, ![128, 1]⟩
abbrev S1x256 : Shape := ⟨2, ![1, 256]⟩
abbrev S64 : Shape := ⟨1, ![64]⟩
abbrev S64x1 : Shape := ⟨2, ![64, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x3072, .f32⟩
  | .hbm, ⟨1, _⟩ => ⟨S16384x512, .f32⟩
  | .hbm, ⟨2, _⟩ => ⟨S1024, .f32⟩
  | .hbm, ⟨3, _⟩ => ⟨S2x4x4x128x256, .f32⟩
  | .hbm, ⟨4, _⟩ => ⟨S4x4096x3072, .f32⟩
  | .hbm, ⟨5, _⟩ => ⟨S4x4096x512, .f32⟩
  | .hbm, ⟨6, _⟩ => ⟨S1x1024, .f32⟩
  | .hbm, ⟨7, _⟩ => ⟨S4x4096x1024, .f32⟩
  | .hbm, ⟨8, _⟩ => ⟨S2x4x4x128x256, .f32⟩
  | .local _ .vmem, ⟨0, _⟩ => ⟨S4x128x512, .f32⟩
  | .local _ .vmem, ⟨1, _⟩ => ⟨S4x128x512, .f32⟩
  | .local _ .vmem, ⟨2, _⟩ => ⟨S4x128x512, .f32⟩
  | .local _ .vmem, ⟨3, _⟩ => ⟨S4x128x512, .f32⟩
  | .local _ .vmem, ⟨4, _⟩ => ⟨S4x128x1024, .f32⟩
  | .local _ .vmem, ⟨5, _⟩ => ⟨S4x128x1024, .f32⟩
  | .local _ .vmem, ⟨6, _⟩ => ⟨S4x128x1024, .f32⟩
  | .local _ .vmem, ⟨7, _⟩ => ⟨S4x128x1024, .f32⟩
  | .local _ .vmem, ⟨8, _⟩ => ⟨S4x128x512, .f32⟩
  | .local _ .vmem, ⟨9, _⟩ => ⟨S4x128x512, .f32⟩
  | .local _ .vmem, ⟨10, _⟩ => ⟨S1x1024, .f32⟩
  | .local _ .vmem, ⟨11, _⟩ => ⟨S4x128x1024, .f32⟩
  | .local _ .vmem, ⟨12, _⟩ => ⟨S4x128x1024, .f32⟩
  | .local _ .vmem, ⟨13, _⟩ => ⟨S1x4x4x128x256, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

abbrev stage0_0 : Fin 2 → Memref sig .tc .vmem S4x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x4x4x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== ReferenceIdeal.lean ====
abbrev S16384x3072 : Shape := ⟨2, ![16384, 3072]⟩
abbrev S16384x512 : Shape := ⟨2, ![16384, 512]⟩
abbrev S1024 : Shape := ⟨1, ![1024]⟩
abbrev S2x4x4x128x256 : Shape := ⟨5, ![2, 4, 4, 128, 256]⟩
abbrev S4x4096x3072 : Shape := ⟨3, ![4, 4096, 3072]⟩
abbrev S4x4096x512 : Shape := ⟨3, ![4, 4096, 512]⟩
abbrev S4x4096x1024 : Shape := ⟨3, ![4, 4096, 1024]⟩
abbrev S4x4096x4x128 : Shape := ⟨4, ![4, 4096, 4, 128]⟩
abbrev S_ : Shape := ⟨0, ![]⟩
abbrev S4x4096x4x256 : Shape := ⟨4, ![4, 4096, 4, 256]⟩
abbrev S64x64 : Shape := ⟨2, ![64, 64]⟩
abbrev S4x4x128x256 : Shape := ⟨4, ![4, 4, 128, 256]⟩
abbrev S4x64x64x4x128 : Shape := ⟨5, ![4, 64, 64, 4, 128]⟩
abbrev S64x4x64x4x128 : Shape := ⟨5, ![64, 4, 64, 4, 128]⟩
abbrev S4x64x64x4x256 : Shape := ⟨5, ![4, 64, 64, 4, 256]⟩
abbrev S64x4x64x4x256 : Shape := ⟨5, ![64, 4, 64, 4, 256]⟩
abbrev S1x4x64x4x128 : Shape := ⟨5, ![1, 4, 64, 4, 128]⟩
abbrev S4x64x4x128 : Shape := ⟨4, ![4, 64, 4, 128]⟩
abbrev S1x4x64x4x256 : Shape := ⟨5, ![1, 4, 64, 4, 256]⟩
abbrev S4x64x4x256 : Shape := ⟨4, ![4, 64, 4, 256]⟩
abbrev S4x1x4x128 : Shape := ⟨4, ![4, 1, 4, 128]⟩
abbrev S4x4x128 : Shape := ⟨3, ![4, 4, 128]⟩
abbrev S4x4x256x64 : Shape := ⟨4, ![4, 4, 256, 64]⟩
abbrev S4x4x64x64 : Shape := ⟨4, ![4, 4, 64, 64]⟩
abbrev S4x4x128x1 : Shape := ⟨4, ![4, 4, 128, 1]⟩
abbrev S4x256 : Shape := ⟨2, ![4, 256]⟩
abbrev S4x4096x4 : Shape := ⟨3, ![4, 4096, 4]⟩
abbrev S4x4096x4x1 : Shape := ⟨4, ![4, 4096, 4, 1]⟩
abbrev S1x1x4x256 : Shape := ⟨4, ![1, 1, 4, 256]⟩
abbrev S1x4x4x128x256 : Shape := ⟨5, ![1, 4, 4, 128, 256]⟩

abbrev nBuf : Space → Nat
  | .hbm => 154
  | .vmem => 0
  | .smem => 0
  | _ => 0

abbrev hbmTy0_0 (i : Nat) : BufTy := match i % 128 with
  | 0 => ⟨S16384x3072, .f32⟩
  | 1 => ⟨S16384x512, .f32⟩
  | 2 => ⟨S1024, .f32⟩
  | 3 => ⟨S2x4x4x128x256, .f32⟩
  | 4 => ⟨S4x4096x3072, .f32⟩
  | 5 => ⟨S4x4096x512, .f32⟩
  | 6 => ⟨S4x4096x512, .f32⟩
  | 7 => ⟨S4x4096x1024, .f32⟩
  | 8 => ⟨S4x4096x1024, .f32⟩
  | 9 => ⟨S4x4096x4x128, .f32⟩
  | 10 => ⟨S_, .f32⟩
  | 11 => ⟨S4x4096x4x128, .f32⟩
  | 12 => ⟨S4x4096x4x128, .f32⟩
  | 13 => ⟨S4x4096x4x128, .f32⟩
  | 14 => ⟨S4x4096x4x256, .f32⟩
  | 15 => ⟨S4x4096x4x128, .f32⟩
  | 16 => ⟨S_, .i1⟩
  | 17 => ⟨S64x64, .i1⟩
  | 18 => ⟨S64x64, .i32⟩
  | 19 => ⟨S_, .i32⟩
  | 20 => ⟨S64x64, .i32⟩
  | 21 => ⟨S64x64, .i32⟩
  | 22 => ⟨S64x64, .i32⟩
  | 23 => ⟨S64x64, .i1⟩
  | 24 => ⟨S_, .i1⟩
  | 25 => ⟨S64x64, .i1⟩
  | 26 => ⟨S64x64, .i1⟩
  | 27 => ⟨S_, .f32⟩
  | 28 => ⟨S4x4x128x256, .f32⟩
  | 29 => ⟨S4x64x64x4x128, .f32⟩
  | 30 => ⟨S64x4x64x4x128, .f32⟩
  | 31 => ⟨S4x64x64x4x128, .f32⟩
  | 32 => ⟨S64x4x64x4x128, .f32⟩
  | 33 => ⟨S4x64x64x4x256, .f32⟩
  | 34 => ⟨S64x4x64x4x256, .f32⟩
  | 35 => ⟨S4x64x64x4x128, .f32⟩
  | 36 => ⟨S64x4x64x4x128, .f32⟩
  | 37 => ⟨S_, .f32⟩
  | 38 => ⟨S64x4x64x4x256, .f32⟩
  | 39 => ⟨S_, .i32⟩
  | 40 => ⟨S64x4x64x4x128, .f32⟩
  | 41 => ⟨S64x4x64x4x128, .f32⟩
  | 42 => ⟨S64x4x64x4x256, .f32⟩
  | 43 => ⟨S64x4x64x4x128, .f32⟩
  | 44 => ⟨S64x64, .i1⟩
  | 45 => ⟨S_, .i32⟩
  | 46 => ⟨S4x4x128x256, .f32⟩
  | 47 => ⟨S64x4x64x4x256, .f32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S1x4x64x4x128, .f32⟩
  | 55 => ⟨S4x64x4x128, .f32⟩
  | 56 => ⟨S_, .i32⟩
  | 57 => ⟨S_, .i32⟩
  | 58 => ⟨S_, .i32⟩
  | 59 => ⟨S_, .i32⟩
  | 60 => ⟨S1x4x64x4x128, .f32⟩
  | 61 => ⟨S4x64x4x128, .f32⟩
  | 62 => ⟨S_, .i32⟩
  | 63 => ⟨S_, .i32⟩
  | 64 => ⟨S_, .i32⟩
  | 65 => ⟨S_, .i32⟩
  | 66 => ⟨S1x4x64x4x256, .f32⟩
  | 67 => ⟨S4x64x4x256, .f32⟩
  | 68 => ⟨S_, .i32⟩
  | 69 => ⟨S_, .i32⟩
  | 70 => ⟨S_, .i32⟩
  | 71 => ⟨S_, .i32⟩
  | 72 => ⟨S1x4x64x4x128, .f32⟩
  | 73 => ⟨S4x64x4x128, .f32⟩
  | 74 => ⟨S_, .f32⟩
  | 75 => ⟨S_, .f32⟩
  | 76 => ⟨S4x64x4x128, .f32⟩
  | 77 => ⟨S4x1x4x128, .f32⟩
  | 78 => ⟨S4x4x128, .f32⟩
  | 79 => ⟨S4x64x4x128, .f32⟩
  | 80 => ⟨S4x64x4x128, .f32⟩
  | 81 => ⟨S4x64x4x128, .f32⟩
  | 82 => ⟨S4x64x4x128, .f32⟩
  | 83 => ⟨S4x64x4x128, .f32⟩
  | 84 => ⟨S4x4x256x64, .f32⟩
  | 85 => ⟨S4x64x4x256, .f32⟩
  | 86 => ⟨S4x4x64x64, .f32⟩
  | 87 => ⟨S_, .f32⟩
  | 88 => ⟨S_, .f32⟩
  | 89 => ⟨S4x4x64x64, .i1⟩
  | 90 => ⟨S4x4x64x64, .f32⟩
  | 91 => ⟨S4x4x64x64, .f32⟩
  | 92 => ⟨S4x4x256x64, .f32⟩
  | 93 => ⟨S4x64x4x256, .f32⟩
  | 94 => ⟨S4x64x4x256, .f32⟩
  | 95 => ⟨S4x4x128, .f32⟩
  | 96 => ⟨S4x4x128x1, .f32⟩
  | 97 => ⟨S4x4x128x256, .f32⟩
  | 98 => ⟨S4x4x128x256, .f32⟩
  | 99 => ⟨S4x1x4x128, .f32⟩
  | 100 => ⟨S4x64x4x128, .f32⟩
  | 101 => ⟨S4x64x4x128, .f32⟩
  | 102 => ⟨S4x64x4x128, .f32⟩
  | 103 => ⟨S4x64x4x128, .f32⟩
  | 104 => ⟨S4x4x128x256, .f32⟩
  | 105 => ⟨S4x4x128x256, .f32⟩
  | 106 => ⟨S1x4x64x4x256, .f32⟩
  | 107 => ⟨S_, .i32⟩
  | 108 => ⟨S_, .i32⟩
  | 109 => ⟨S_, .i32⟩
  | 110 => ⟨S_, .i32⟩
  | 111 => ⟨S64x4x64x4x256, .f32⟩
  | 112 => ⟨S_, .i32⟩
  | 113 => ⟨S_, .i32⟩
  | 114 => ⟨S4x64x64x4x256, .f32⟩
  | 115 => ⟨S4x4096x4x256, .f32⟩
  | 116 => ⟨S4x4096x3072, .f32⟩
  | 117 => ⟨S4x4096x512, .f32⟩
  | 118 => ⟨S4x4096x512, .f32⟩
  | 119 => ⟨S4x4096x1024, .f32⟩
  | 120 => ⟨S4x4096x1024, .f32⟩
  | 121 => ⟨S4x256, .f32⟩
  | 122 => ⟨S4x4096x4x256, .f32⟩
  | 123 => ⟨S_, .f32⟩
  | 124 => ⟨S4x4096x4, .f32⟩
  | 125 => ⟨S4x4096x4x1, .f32⟩
  | 126 => ⟨S_, .f32⟩
  | 127 => ⟨S4x4096x4x1, .f32⟩
  | _ => ⟨S16384x3072, .f32⟩

abbrev hbmTy0_1 (i : Nat) : BufTy := match i % 128 with
  | 0 => ⟨S4x4096x4x1, .f32⟩
  | 1 => ⟨S_, .f32⟩
  | 2 => ⟨S4x4096x4x1, .f32⟩
  | 3 => ⟨S4x4096x4x1, .f32⟩
  | 4 => ⟨S4x4096x4x1, .f32⟩
  | 5 => ⟨S4x4096x4x256, .f32⟩
  | 6 => ⟨S4x4096x4x256, .f32⟩
  | 7 => ⟨S1x1x4x256, .f32⟩
  | 8 => ⟨S4x4096x4x256, .f32⟩
  | 9 => ⟨S4x4096x4x256, .f32⟩
  | 10 => ⟨S4x4096x1024, .f32⟩
  | 11 => ⟨S4x4096x1024, .f32⟩
  | 12 => ⟨S4x4096x1024, .f32⟩
  | 13 => ⟨S_, .f32⟩
  | 14 => ⟨S4x4096x1024, .f32⟩
  | 15 => ⟨S4x4096x1024, .f32⟩
  | 16 => ⟨S_, .f32⟩
  | 17 => ⟨S4x4096x1024, .f32⟩
  | 18 => ⟨S4x4096x1024, .f32⟩
  | 19 => ⟨S4x4096x1024, .f32⟩
  | 20 => ⟨S4x4096x1024, .f32⟩
  | 21 => ⟨S1x4x4x128x256, .f32⟩
  | 22 => ⟨S4x4x128x256, .f32⟩
  | 23 => ⟨S1x4x4x128x256, .f32⟩
  | 24 => ⟨S1x4x4x128x256, .f32⟩
  | 25 => ⟨S2x4x4x128x256, .f32⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_c_2 : Ref sig .tc := ⟨.hbm, 39, rfl⟩
abbrev main_v23_0 : Ref sig .tc := ⟨.hbm, 40, rfl⟩
abbrev main_v23_1 : Ref sig .tc := ⟨.hbm, 41, rfl⟩
abbrev main_v23_2 : Ref sig .tc := ⟨.hbm, 42, rfl⟩
abbrev main_v23_3 : Ref sig .tc := ⟨.hbm, 43, rfl⟩
abbrev main_v23_4 : Ref sig .tc := ⟨.hbm, 44, rfl⟩
abbrev main_v23_5 : Ref sig .tc := ⟨.hbm, 45, rfl⟩
abbrev main_v23_6 : Ref sig .tc := ⟨.hbm, 46, rfl⟩
abbrev main_v23_7 : Ref sig .tc := ⟨.hbm, 47, rfl⟩
abbrev main_while0c_c_13 : Ref sig .tc := ⟨.hbm, 48, rfl⟩
abbrev main_while0c_v53 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_c_1 : Ref sig .tc := ⟨.hbm, 52, rfl⟩
abbrev main_while0b_call1_c_2 : Ref sig .tc := ⟨.hbm, 53, rfl⟩
abbrev main_while0b_call1_v0 : Ref sig .tc := ⟨.hbm, 54, rfl⟩
abbrev main_while0b_v53 : Ref sig .tc := ⟨.hbm, 55, rfl⟩
abbrev main_while0b_call2_c : Ref sig .tc := ⟨.hbm, 56, rfl⟩
abbrev main_while0b_call2_c_0 : Ref sig .tc := ⟨.hbm, 57, rfl⟩
abbrev main_while0b_call2_c_1 : Ref sig .tc := ⟨.hbm, 58, rfl⟩
abbrev main_while0b_call2_c_2 : Ref sig .tc := ⟨.hbm, 59, rfl⟩
abbrev main_while0b_call2_v0 : Ref sig .tc := ⟨.hbm, 60, rfl⟩
abbrev main_while0b_v54 : Ref sig .tc := ⟨.hbm, 61, rfl⟩
abbrev main_while0b_call3_c : Ref sig .tc := ⟨.hbm, 62, rfl⟩
abbrev main_while0b_call3_c_0 : Ref sig .tc := ⟨.hbm, 63, rfl⟩
abbrev main_while0b_call3_c_1 : Ref sig .tc := ⟨.hbm, 64, rfl⟩
abbrev main_while0b_call3_c_2 : Ref sig .tc := ⟨.hbm, 65, rfl⟩
abbrev main_while0b_call3_v0 : Ref sig .tc := ⟨.hbm, 66, rfl⟩
abbrev main_while0b_v55 : Ref sig .tc := ⟨.hbm, 67, rfl⟩
abbrev main_while0b_call4_c : Ref sig .tc := ⟨.hbm, 68, rfl⟩
abbrev main_while0b_call4_c_0 : Ref sig .tc := ⟨.hbm, 69, rfl⟩
abbrev main_while0b_call4_c_1 : Ref sig .tc := ⟨.hbm, 70, rfl⟩
abbrev main_while0b_call4_c_2 : Ref sig .tc := ⟨.hbm, 71, rfl⟩
abbrev main_while0b_call4_v0 : Ref sig .tc := ⟨.hbm, 72, rfl⟩
abbrev main_while0b_v56 : Ref sig .tc := ⟨.hbm, 73, rfl⟩
abbrev main_while0b_call5_call0_cst : Ref sig .tc := ⟨.hbm, 74, rfl⟩
abbrev main_while0b_call5_call0_v0 : Ref sig .tc := ⟨.hbm, 75, rfl⟩
abbrev main_while0b_v57 : Ref sig .tc := ⟨.hbm, 76, rfl⟩
abbrev main_while0b_v58 : Ref sig .tc := ⟨.hbm, 77, rfl⟩
abbrev main_while0b_v59 : Ref sig .tc := ⟨.hbm, 78, rfl⟩
abbrev main_while0b_v60 : Ref sig .tc := ⟨.hbm, 79, rfl⟩
abbrev main_while0b_v61 : Ref sig .tc := ⟨.hbm, 80, rfl⟩
abbrev main_while0b_v62 : Ref sig .tc := ⟨.hbm, 81, rfl⟩
abbrev main_while0b_v63 : Ref sig .tc := ⟨.hbm, 82, rfl⟩
abbrev main_while0b_v64 : Ref sig .tc := ⟨.hbm, 83, rfl⟩
abbrev main_while0b_v65 : Ref sig .tc := ⟨.hbm, 84, rfl⟩
abbrev main_while0b_v66 : Ref sig .tc := ⟨.hbm, 85, rfl⟩
abbrev main_while0b_v67 : Ref sig .tc := ⟨.hbm, 86, rfl⟩
abbrev main_while0b_cst_13 : Ref sig .tc := ⟨.hbm, 87, rfl⟩
abbrev main_while0b_call6_v0 : Ref sig .tc := ⟨.hbm, 88, rfl⟩
abbrev main_while0b_call6_v1 : Ref sig .tc := ⟨.hbm, 89, rfl⟩
abbrev main_while0b_call6_v2 : Ref sig .tc := ⟨.hbm, 90, rfl⟩
abbrev main_while0b_v68 : Ref sig .tc := ⟨.hbm, 91, rfl⟩
abbrev main_while0b_v69 : Ref sig .tc := ⟨.hbm, 92, rfl⟩
abbrev main_while0b_v70 : Ref sig .tc := ⟨.hbm, 93, rfl⟩
abbrev main_while0b_v71 : Ref sig .tc := ⟨.hbm, 94, rfl⟩
abbrev main_while0b_v72 : Ref sig .tc := ⟨.hbm, 95, rfl⟩
abbrev main_while0b_v73 : Ref sig .tc := ⟨.hbm, 96, rfl⟩
abbrev main_while0b_v74 : Ref sig .tc := ⟨.hbm, 97, rfl⟩
abbrev main_while0b_v75 : Ref sig .tc := ⟨.hbm, 98, rfl⟩
abbrev main_while0b_v76 : Ref sig .tc := ⟨.hbm, 99, rfl⟩
abbrev main_while0b_v77 : Ref sig .tc := ⟨.hbm, 100, rfl⟩
abbrev main_while0b_v78 : Ref sig .tc := ⟨.hbm, 101, rfl⟩
abbrev main_while0b_v79 : Ref sig .tc := ⟨.hbm, 102, rfl⟩
abbrev main_while0b_v80 : Ref sig .tc := ⟨.hbm, 103, rfl⟩
abbrev main_while0b_v81 : Ref sig .tc := ⟨.hbm, 104, rfl⟩
abbrev main_while0b_v82 : Ref sig .tc := ⟨.hbm, 105, rfl⟩
abbrev main_while0b_call7_v0 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_call7_c_2 : Ref sig .tc := ⟨.hbm, 110, rfl⟩
abbrev main_while0b_v83 : Ref sig .tc := ⟨.hbm, 111, rfl⟩
abbrev main_while0b_c_14 : Ref sig .tc := ⟨.hbm, 112, rfl⟩
abbrev main_while0b_v84 : Ref sig .tc := ⟨.hbm, 113, rfl⟩
abbrev main_v24 : Ref sig .tc := ⟨.hbm, 114, rfl⟩
abbrev main_v25 : Ref sig .tc := ⟨.hbm, 115, rfl⟩
abbrev main_v26 : Ref sig .tc := ⟨.hbm, 116, rfl⟩
abbrev main_v27 : Ref sig .tc := ⟨.hbm, 117, rfl⟩
abbrev main_v28 : Ref sig .tc := ⟨.hbm, 118, rfl⟩
abbrev main_v29 : Ref sig .tc := ⟨.hbm, 119, rfl⟩
abbrev main_v30 : Ref sig .tc := ⟨.hbm, 120, rfl⟩
abbrev main_v31 : Ref sig .tc := ⟨.hbm, 121, rfl⟩
abbrev main_v32 : Ref sig .tc := ⟨.hbm, 122, rfl⟩
abbrev main_cst_3 : Ref sig .tc := ⟨.hbm, 123, rfl⟩
abbrev main_v33 : Ref sig .tc := ⟨.hbm, 124, rfl⟩
abbrev main_v34 : Ref sig .tc := ⟨.hbm, 125, rfl⟩
abbrev main_cst_4 : Ref sig .tc := ⟨.hbm, 126, rfl⟩
abbrev main_v35 : Ref sig .tc := ⟨.hbm, 127, rfl⟩
abbrev main_v36 : Ref sig .tc := ⟨.hbm, 128, rfl⟩
abbrev main_cst_5 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_call8_v0 : Ref sig .tc := ⟨.hbm, 139, rfl⟩
abbrev main_call8_v1 : Ref sig .tc := ⟨.hbm, 140, rfl⟩
abbrev main_call8_cst : Ref sig .tc := ⟨.hbm, 141, rfl⟩
abbrev main_call8_v2 : Ref sig .tc := ⟨.hbm, 142, rfl⟩
abbrev main_call8_v3 : Ref sig .tc := ⟨.hbm, 143, rfl⟩
abbrev main_call8_cst_0 : Ref sig .tc := ⟨.hbm, 144, rfl⟩
abbrev main_call8_v4 : Ref sig .tc := ⟨.hbm, 145, rfl⟩
abbrev main_call8_v5 : Ref sig .tc := ⟨.hbm, 146, rfl⟩
abbrev main_v46 : Ref sig .tc := ⟨.hbm, 147, rfl⟩
abbrev main_v47 : Ref sig .tc := ⟨.hbm, 148, rfl⟩
abbrev main_v48 : Ref sig .tc := ⟨.hbm, 149, rfl⟩
abbrev main_v49 : Ref sig .tc := ⟨.hbm, 150, rfl⟩
abbrev main_v50 : Ref sig .tc := ⟨.hbm, 151, rfl⟩
abbrev main_v51 : Ref sig .tc := ⟨.hbm, 152, rfl⟩
abbrev main_v52 : Ref sig .tc := ⟨.hbm, 153, rfl⟩

abbrev nD : Nat := 1
abbrev τ : Topo := Topo.v7x

variable {F : FTy → Type} [FloatOps F]

abbrev main_while0_count : Scf.Loop 32 := ⟨0#32, 64#32, 1#32⟩
-- ==== KernelPost.lean ====
abbrev S16384x1024 : Shape := ⟨2, ![16384, 1024]⟩
abbrev S2x1024x1024 : Shape := ⟨3, ![2, 1024, 1024]⟩
abbrev S1024 : Shape := ⟨1, ![1024]⟩
abbrev S4x1024x512 : Shape := ⟨3, ![4, 1024, 512]⟩
abbrev S4x256x1024 : Shape := ⟨3, ![4, 256, 1024]⟩
abbrev S4x512x1024 : Shape := ⟨3, ![4, 512, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S512x1024 : Shape := ⟨2, ![512, 1024]⟩
abbrev S1x1024x1024 : Shape := ⟨3, ![1, 1024, 1024]⟩
abbrev S1x1024x512 : Shape := ⟨3, ![1, 1024, 512]⟩
abbrev S1x256x1024 : Shape := ⟨3, ![1, 256, 1024]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S256x1024 : Shape := ⟨2, ![256, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 20
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2x1024x1024, .f32⟩
  | .hbm, ⟨3, _⟩ => ⟨S1024, .f32⟩
  | .hbm, ⟨4, _⟩ => ⟨S4x1024x512, .f32⟩
  | .hbm, ⟨5, _⟩ => ⟨S4x256x1024, .f32⟩
  | .hbm, ⟨6, _⟩ => ⟨S4x512x1024, .f32⟩
  | .hbm, ⟨7, _⟩ => ⟨S1024, .f32⟩
  | .hbm, ⟨8, _⟩ => ⟨S4x1024x4096, .f32⟩
  | .hbm, ⟨9, _⟩ => ⟨S4x4096x1024, .f32⟩
  | .hbm, ⟨10, _⟩ => ⟨S1024, .f32⟩
  | .hbm, ⟨11, _⟩ => ⟨S2x1024x1024, .bf16⟩
  | .hbm, ⟨12, _⟩ => ⟨S4x1024x512, .bf16⟩
  | .hbm, ⟨13, _⟩ => ⟨S4x512x1024, .bf16⟩
  | .hbm, ⟨14, _⟩ => ⟨S4x1024x4096, .bf16⟩
  | .hbm, ⟨15, _⟩ => ⟨S4x4096x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024x1024, .bf16⟩
  | .local _ .vmem, ⟨5, _⟩ => ⟨S1x1024, .f32⟩
  | .local _ .vmem, ⟨6, _⟩ => ⟨S1x1024x512, .bf16⟩
  | .local _ .vmem, ⟨7, _⟩ => ⟨S1x256x1024, .f32⟩
  | .local _ .vmem, ⟨8, _⟩ => ⟨S1x256x1024, .f32⟩
  | .local _ .vmem, ⟨9, _⟩ => ⟨S1x512x1024, .bf16⟩
  | .local _ .vmem, ⟨10, _⟩ => ⟨S1x1024, .f32⟩
  | .local _ .vmem, ⟨11, _⟩ => ⟨S1x1024x4096, .bf16⟩
  | .local _ .vmem, ⟨12, _⟩ => ⟨S1x4096x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferencePostIdeal.lean ====
abbrev S16384x1024 : Shape := ⟨2, ![16384, 1024]⟩
abbrev S2x1024x1024 : Shape := ⟨3, ![2, 1024, 1024]⟩
abbrev S1024 : Shape := ⟨1, ![1024]⟩
abbrev S4x1024x512 : Shape := ⟨3, ![4, 1024, 512]⟩
abbrev S4x256x1024 : Shape := ⟨3, ![4, 256, 1024]⟩
abbrev S4x512x1024 : Shape := ⟨3, ![4, 512, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S4x256x512 : Shape := ⟨3, ![4, 256, 512]⟩
abbrev S4x256x4x128 : Shape := ⟨4, ![4, 256, 4, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x512 : Shape := ⟨3, ![1, 1024, 512]⟩
abbrev S1024x512 : Shape := ⟨2, ![1024, 512]⟩
abbrev S4x4096x512 : Shape := ⟨3, ![4, 4096, 512]⟩
abbrev S4x4096x4x128 : Shape := ⟨4, ![4, 4096, 4, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S1x512x1024 : Shape := ⟨3, ![1, 512, 1024]⟩
abbrev S512x1024 : Shape := ⟨2, ![512, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S1x4096x1024 : Shape := ⟨3, ![1, 4096, 1024]⟩
abbrev S4096x1024 : Shape := ⟨2, ![4096, 1024]⟩

abbrev nBuf : Space → Nat
  | .hbm => 110
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2x1024x1024, .f32⟩
  | .hbm, ⟨3, _⟩ => ⟨S1024, .f32⟩
  | .hbm, ⟨4, _⟩ => ⟨S4x1024x512, .f32⟩
  | .hbm, ⟨5, _⟩ => ⟨S4x256x1024, .f32⟩
  | .hbm, ⟨6, _⟩ => ⟨S4x512x1024, .f32⟩
  | .hbm, ⟨7, _⟩ => ⟨S1024, .f32⟩
  | .hbm, ⟨8, _⟩ => ⟨S4x1024x4096, .f32⟩
  | .hbm, ⟨9, _⟩ => ⟨S4x4096x1024, .f32⟩
  | .hbm, ⟨10, _⟩ => ⟨S1024, .f32⟩
  | .hbm, ⟨11, _⟩ => ⟨S4x4096x1024, .f32⟩
  | .hbm, ⟨12, _⟩ => ⟨S4x4096x1024, .f32⟩
  | .hbm, ⟨13, _⟩ => ⟨S1x1024x1024, .f32⟩
  | .hbm, ⟨14, _⟩ => ⟨S1024x1024, .f32⟩
  | .hbm, ⟨15, _⟩ => ⟨S4x4096x1024, .f32⟩
  | .hbm, ⟨16, _⟩ => ⟨S4x4096x1024, .f32⟩
  | .hbm, ⟨17, _⟩ => ⟨S4x256x512, .f32⟩
  | .hbm, ⟨18, _⟩ => ⟨S4x256x512, .f32⟩
  | .hbm, ⟨19, _⟩ => ⟨S4x256x4x128, .f32⟩
  | .hbm, ⟨20, _⟩ => ⟨S4x256x4x128, .f32⟩
  | .hbm, ⟨21, _⟩ => ⟨S4x4096x1024, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S4x4096x1024, .f32⟩
  | .hbm, ⟨33, _⟩ => ⟨S4x4096x1024, .f32⟩
  | .hbm, ⟨34, _⟩ => ⟨S1x1x1024, .f32⟩
  | .hbm, ⟨35, _⟩ => ⟨S4x4096x1024, .f32⟩
  | .hbm, ⟨36, _⟩ => ⟨S4x4096x1024, .f32⟩
  | .hbm, ⟨37, _⟩ => ⟨S1x1024x512, .f32⟩
  | .hbm, ⟨38, _⟩ => ⟨S1024x512, .f32⟩
  | .hbm, ⟨39, _⟩ => ⟨S4x4096x512, .f32⟩
  | .hbm, ⟨40, _⟩ => ⟨S4x4096x4x128, .f32⟩
  | .hbm, ⟨41, _⟩ => ⟨S4x4x4096x256, .f32⟩
  | .hbm, ⟨42, _⟩ => ⟨S_, .f32⟩
  | .hbm, ⟨43, _⟩ => ⟨S4x4x4096x256, .f32⟩
  | .hbm, ⟨44, _⟩ => ⟨S4x4x4096x256, .f32⟩
  | .hbm, ⟨45, _⟩ => ⟨S_, .f32⟩
  | .hbm, ⟨46, _⟩ => ⟨S4x4x4096, .f32⟩
  | .hbm, ⟨47, _⟩ => ⟨S_, .f32⟩
  | .hbm, ⟨48, _⟩ => ⟨S4x4x4096, .f32⟩
  | .hbm, ⟨49, _⟩ => ⟨S4x4x4096, .f32⟩
  | .hbm, ⟨50, _⟩ => ⟨S4x4x4096x1, .f32⟩
  | .hbm, ⟨51, _⟩ => ⟨S4x4x4096x256, .f32⟩
  | .hbm, ⟨52, _⟩ => ⟨S4x4x4096x256, .f32⟩
  | .hbm, ⟨53, _⟩ => ⟨S4x4x4096x256, .f32⟩
  | .hbm, ⟨54, _⟩ => ⟨S_, .f32⟩
  | .hbm, ⟨55, _⟩ => ⟨S4x4x4096, .f32⟩
  | .hbm, ⟨56, _⟩ => ⟨S4x4x4096x1, .f32⟩
  | .hbm, ⟨57, _⟩ => ⟨S4x4x4096x256, .f32⟩
  | .hbm, ⟨58, _⟩ => ⟨S4x4x4096x256, .f32⟩
  | .hbm, ⟨59, _⟩ => ⟨S4x4x128x4096, .f32⟩
  | .hbm, ⟨60, _⟩ => ⟨S4x4096x4x128, .f32⟩
  | .hbm, ⟨61, _⟩ => ⟨S4x4096x512, .f32⟩
  | .hbm, ⟨62, _⟩ => ⟨S1x512x1024, .f32⟩
  | .hbm, ⟨63, _⟩ => ⟨S512x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S_, .f32⟩
  | .hbm, ⟨68, _⟩ => ⟨S4x4096, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S_, .f32⟩
  | .hbm, ⟨74, _⟩ => ⟨S4x4096x1, .f32⟩
  | .hbm, ⟨75, _⟩ => ⟨S4x4096x1, .f32⟩
  | .hbm, ⟨76, _⟩ => ⟨S4x4096x1, .f32⟩
  | .hbm, ⟨77, _⟩ => ⟨S4x4096x1024, .f32⟩
  | .hbm, ⟨78, _⟩ => ⟨S4x4096x1024, .f32⟩
  | .hbm, ⟨79, _⟩ => ⟨S1x1x1024, .f32⟩
  | .hbm, ⟨80, _⟩ => ⟨S4x4096x1024, .f32⟩
  | .hbm, ⟨81, _⟩ => ⟨S4x4096x1024, .f32⟩
  | .hbm, ⟨82, _⟩ => ⟨S1x1024x4096, .f32⟩
  | .hbm, ⟨83, _⟩ => ⟨S1024x4096, .f32⟩
  | .hbm, ⟨84, _⟩ => ⟨S4x4096x4096, .f32⟩
  | .hbm, ⟨85, _⟩ => ⟨S_, .f32⟩
  | .hbm, ⟨86, _⟩ => ⟨S4x4096x4096, .f32⟩
  | .hbm, ⟨87, _⟩ => ⟨S4x4096x4096, .f32⟩
  | .hbm, ⟨88, _⟩ => ⟨S4x4096x4096, .f32⟩
  | .hbm, ⟨89, _⟩ => ⟨S1x4096x1024, .f32⟩
  | .hbm, ⟨90, _⟩ => ⟨S4096x1024, .f32⟩
  | .hbm, ⟨91, _⟩ => ⟨S4x4096x1024, .f32⟩
  | .hbm, ⟨92, _⟩ => ⟨S4x4096x1024, .f32⟩
  | .hbm, ⟨93, _⟩ => ⟨S4x4096x1024, .f32⟩
  | .hbm, ⟨94, _⟩ => ⟨S_, .f32⟩
  | .hbm, ⟨95, _⟩ => ⟨S4x4096, .f32⟩
  | .hbm, ⟨96, _⟩ => ⟨S4x4096x1, .f32⟩
  | .hbm, ⟨97, _⟩ => ⟨S_, .f32⟩
  | .hbm, ⟨98, _⟩ => ⟨S4x4096x1, .f32⟩
  | .hbm, ⟨99, _⟩ => ⟨S4x4096x1, .f32⟩
  | .hbm, ⟨100, _⟩ => ⟨S_, .f32⟩
  | .hbm, ⟨101, _⟩ => ⟨S4x4096x1, .f32⟩
  | .hbm, ⟨102, _⟩ => ⟨S4x4096x1, .f32⟩
  | .hbm, ⟨103, _⟩ => ⟨S4x4096x1, .f32⟩
  | .hbm, ⟨104, _⟩ => ⟨S4x4096x1024, .f32⟩
  | .hbm, ⟨105, _⟩ => ⟨S4x4096x1024, .f32⟩
  | .hbm, ⟨106, _⟩ => ⟨S1x1x1024, .f32⟩
  | .hbm, ⟨107, _⟩ => ⟨S4x4096x1024, .f32⟩
  | .hbm, ⟨108, _⟩ => ⟨S4x4096x1024, .f32⟩
  | .hbm, ⟨109, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call0_cst : Ref sig .tc := ⟨.hbm, 85, rfl⟩
abbrev main_call0_v0 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_9 : Ref sig .tc := ⟨.hbm, 94, rfl⟩
abbrev main_v71 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]
-- ==== KernelMem.lean ====
abbrev S4x256x1024 : Shape := ⟨3, ![4, 256, 1024]⟩
abbrev S1024 : Shape := ⟨1, ![1024]⟩
abbrev S4x1024x1024 : Shape := ⟨3, ![4, 1024, 1024]⟩
abbrev S1024x1024 : Shape := ⟨2, ![1024, 1024]⟩
abbrev S1x1024 : Shape := ⟨2, ![1, 1024]⟩
abbrev S512x1024 : Shape := ⟨2, ![512, 1024]⟩
abbrev S1x1024x1024 : Shape := ⟨3, ![1, 1024, 1024]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S4x1024x1024, .f32⟩
  | .hbm, ⟨3, _⟩ => ⟨S1024x1024, .f32⟩
  | .hbm, ⟨4, _⟩ => ⟨S4x1024x1024, .bf16⟩
  | .hbm, ⟨5, _⟩ => ⟨S1x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceMemIdeal.lean ====
abbrev S4x256x1024 : Shape := ⟨3, ![4, 256, 1024]⟩
abbrev S1024 : Shape := ⟨1, ![1024]⟩
abbrev S4x1024x1024 : Shape := ⟨3, ![4, 1024, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1x1024x1024 : Shape := ⟨3, ![1, 1024, 1024]⟩
abbrev S1024x1024 : Shape := ⟨2, ![1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S4x1024x1024, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S1x1024x1024, .f32⟩
  | .hbm, ⟨20, _⟩ => ⟨S1024x1024, .f32⟩
  | .hbm, ⟨21, _⟩ => ⟨S4x256x1024, .f32⟩
  | .hbm, ⟨22, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KernelPostSample.lean ====
abbrev S1024x1024 : Shape := ⟨2, ![1024, 1024]⟩
abbrev S1024x512 : Shape := ⟨2, ![1024, 512]⟩
abbrev S4x512x1024 : Shape := ⟨3, ![4, 512, 1024]⟩
abbrev S1024 : Shape := ⟨1, ![1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S512x1024 : Shape := ⟨2, ![512, 1024]⟩
abbrev S512x512 : Shape := ⟨2, ![512, 512]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S512 : Shape := ⟨1, ![512]⟩
abbrev S512x1 : Shape := ⟨2, ![512, 1]⟩
abbrev S1x1024x1024 : Shape := ⟨3, ![1, 1024, 1024]⟩

abbrev nBuf : Space → Nat
  | .hbm => 13
  | .vmem => 11
  | .smem => 0
  | _ => 0

abbrev bufTy : (tb : Table) → Fin (tcTables nBuf tb) → BufTy
  | .hbm, ⟨0, _⟩ => ⟨S1024x1024, .f32⟩
  | .hbm, ⟨1, _⟩ => ⟨S1024x512, .f32⟩
  | .hbm, ⟨2, _⟩ => ⟨S4x512x1024, .f32⟩
  | .hbm, ⟨3, _⟩ => ⟨S1024, .f32⟩
  | .hbm, ⟨4, _⟩ => ⟨S4x1024x4096, .f32⟩
  | .hbm, ⟨5, _⟩ => ⟨S4x4096x1024, .f32⟩
  | .hbm, ⟨6, _⟩ => ⟨S1024, .f32⟩
  | .hbm, ⟨7, _⟩ => ⟨S4x512x1024, .bf16⟩
  | .hbm, ⟨8, _⟩ => ⟨S4x1024x4096, .bf16⟩
  | .hbm, ⟨9, _⟩ => ⟨S4x4096x1024, .bf16⟩
  | .hbm, ⟨10, _⟩ => ⟨S1x1024, .f32⟩
  | .hbm, ⟨11, _⟩ => ⟨S1x1024, .f32⟩
  | .hbm, ⟨12, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x512x1024, .bf16⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferencePostSampleIdeal.lean ====
abbrev S1024x1024 : Shape := ⟨2, ![1024, 1024]⟩
abbrev S1024x512 : Shape := ⟨2, ![1024, 512]⟩
abbrev S4x512x1024 : Shape := ⟨3, ![4, 512, 1024]⟩
abbrev S1024 : Shape := ⟨1, ![1024]⟩
abbrev S4x1024x4096 : Shape := ⟨3, ![4, 1024, 4096]⟩
abbrev S4x4096x1024 : Shape := ⟨3, ![4, 4096, 1024]⟩
abbrev S128x8x1024 : Shape := ⟨3, ![128, 8, 1024]⟩
abbrev S128x8x512 : Shape := ⟨3, ![128, 8, 512]⟩
abbrev S1x512x1024 : Shape := ⟨3, ![1, 512, 1024]⟩
abbrev S512x1024 : Shape := ⟨2, ![512, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S128x8x4096 : Shape := ⟨3, ![128, 8, 4096]⟩
abbrev S1x4096x1024 : Shape := ⟨3, ![1, 4096, 1024]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x512, .f32⟩
  | .hbm, ⟨2, _⟩ => ⟨S4x512x1024, .f32⟩
  | .hbm, ⟨3, _⟩ => ⟨S1024, .f32⟩
  | .hbm, ⟨4, _⟩ => ⟨S4x1024x4096, .f32⟩
  | .hbm, ⟨5, _⟩ => ⟨S4x4096x1024, .f32⟩
  | .hbm, ⟨6, _⟩ => ⟨S1024, .f32⟩
  | .hbm, ⟨7, _⟩ => ⟨S128x8x1024, .f32⟩
  | .hbm, ⟨8, _⟩ => ⟨S128x8x512, .f32⟩
  | .hbm, ⟨9, _⟩ => ⟨S1x512x1024, .f32⟩
  | .hbm, ⟨10, _⟩ => ⟨S512x1024, .f32⟩
  | .hbm, ⟨11, _⟩ => ⟨S128x8x1024, .f32⟩
  | .hbm, ⟨12, _⟩ => ⟨S128x8x1024, .f32⟩
  | .hbm, ⟨13, _⟩ => ⟨S128x8x1024, .f32⟩
  | .hbm, ⟨14, _⟩ => ⟨S_, .f32⟩
  | .hbm, ⟨15, _⟩ => ⟨S128x8, .f32⟩
  | .hbm, ⟨16, _⟩ => ⟨S128x8x1, .f32⟩
  | .hbm, ⟨17, _⟩ => ⟨S_, .f32⟩
  | .hbm, ⟨18, _⟩ => ⟨S128x8x1, .f32⟩
  | .hbm, ⟨19, _⟩ => ⟨S128x8x1, .f32⟩
  | .hbm, ⟨20, _⟩ => ⟨S_, .f32⟩
  | .hbm, ⟨21, _⟩ => ⟨S128x8x1, .f32⟩
  | .hbm, ⟨22, _⟩ => ⟨S128x8x1, .f32⟩
  | .hbm, ⟨23, _⟩ => ⟨S128x8x1, .f32⟩
  | .hbm, ⟨24, _⟩ => ⟨S128x8x1024, .f32⟩
  | .hbm, ⟨25, _⟩ => ⟨S128x8x1024, .f32⟩
  | .hbm, ⟨26, _⟩ => ⟨S1x1x1024, .f32⟩
  | .hbm, ⟨27, _⟩ => ⟨S128x8x1024, .f32⟩
  | .hbm, ⟨28, _⟩ => ⟨S128x8x1024, .f32⟩
  | .hbm, ⟨29, _⟩ => ⟨S1x1024x4096, .f32⟩
  | .hbm, ⟨30, _⟩ => ⟨S1024x4096, .f32⟩
  | .hbm, ⟨31, _⟩ => ⟨S128x8x4096, .f32⟩
  | .hbm, ⟨32, _⟩ => ⟨S_, .f32⟩
  | .hbm, ⟨33, _⟩ => ⟨S128x8x4096, .f32⟩
  | .hbm, ⟨34, _⟩ => ⟨S128x8x4096, .f32⟩
  | .hbm, ⟨35, _⟩ => ⟨S128x8x4096, .f32⟩
  | .hbm, ⟨36, _⟩ => ⟨S1x4096x1024, .f32⟩
  | .hbm, ⟨37, _⟩ => ⟨S4096x1024, .f32⟩
  | .hbm, ⟨38, _⟩ => ⟨S128x8x1024, .f32⟩
  | .hbm, ⟨39, _⟩ => ⟨S128x8x1024, .f32⟩
  | .hbm, ⟨40, _⟩ => ⟨S128x8x1024, .f32⟩
  | .hbm, ⟨41, _⟩ => ⟨S_, .f32⟩
  | .hbm, ⟨42, _⟩ => ⟨S128x8, .f32⟩
  | .hbm, ⟨43, _⟩ => ⟨S128x8x1, .f32⟩
  | .hbm, ⟨44, _⟩ => ⟨S_, .f32⟩
  | .hbm, ⟨45, _⟩ => ⟨S128x8x1, .f32⟩
  | .hbm, ⟨46, _⟩ => ⟨S128x8x1, .f32⟩
  | .hbm, ⟨47, _⟩ => ⟨S_, .f32⟩
  | .hbm, ⟨48, _⟩ => ⟨S128x8x1, .f32⟩
  | .hbm, ⟨49, _⟩ => ⟨S128x8x1, .f32⟩
  | .hbm, ⟨50, _⟩ => ⟨S128x8x1, .f32⟩
  | .hbm, ⟨51, _⟩ => ⟨S128x8x1024, .f32⟩
  | .hbm, ⟨52, _⟩ => ⟨S128x8x1024, .f32⟩
  | .hbm, ⟨53, _⟩ => ⟨S1x1x1024, .f32⟩
  | .hbm, ⟨54, _⟩ => ⟨S128x8x1024, .f32⟩
  | .hbm, ⟨55, _⟩ => ⟨S128x8x1024, .f32⟩
  | .hbm, ⟨56, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== KernelIn.lean ====
abbrev S16384x1024 : Shape := ⟨2, ![16384, 1024]⟩
abbrev S1024 : Shape := ⟨1, ![1024]⟩
abbrev S1024x3072 : Shape := ⟨2, ![1024, 3072]⟩
abbrev S1024x16 : Shape := ⟨2, ![1024, 16]⟩
abbrev S16x512 : Shape := ⟨2, ![16, 512]⟩
abbrev S512 : Shape := ⟨1, ![512]⟩
abbrev S_ : Shape := ⟨0, ![]⟩
abbrev S1024x128 : Shape := ⟨2, ![1024, 128]⟩
abbrev S1024x3200 : Shape := ⟨2, ![1024, 3200]⟩
abbrev S128x512 : Shape := ⟨2, ![128, 512]⟩
abbrev S1x1024 : Shape := ⟨2, ![1, 1024]⟩
abbrev S1x512 : Shape := ⟨2, ![1, 512]⟩
abbrev S16384x3072 : Shape := ⟨2, ![16384, 3072]⟩
abbrev S16384x512 : Shape := ⟨2, ![16384, 512]⟩
abbrev S512x1024 : Shape := ⟨2, ![512, 1024]⟩
abbrev S512x3072 : Shape := ⟨2, ![512, 3072]⟩
abbrev S512x512 : Shape := ⟨2, ![512, 512]⟩
abbrev S512x1 : Shape := ⟨2, ![512, 1]⟩
abbrev S1024x1024 : Shape := ⟨2, ![1024, 1024]⟩
abbrev S512x128 : Shape := ⟨2, ![512, 128]⟩

abbrev nBuf : Space → Nat
  | .hbm => 19
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S1024x16, .f32⟩
  | .hbm, ⟨4, _⟩ => ⟨S16x512, .f32⟩
  | .hbm, ⟨5, _⟩ => ⟨S512, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x3200, .f32⟩
  | .hbm, ⟨10, _⟩ => ⟨S1024x3200, .bf16⟩
  | .hbm, ⟨11, _⟩ => ⟨S_, .i32⟩
  | .hbm, ⟨12, _⟩ => ⟨S_, .f32⟩
  | .hbm, ⟨13, _⟩ => ⟨S128x512, .f32⟩
  | .hbm, ⟨14, _⟩ => ⟨S128x512, .bf16⟩
  | .hbm, ⟨15, _⟩ => ⟨S1x1024, .f32⟩
  | .hbm, ⟨16, _⟩ => ⟨S1x512, .f32⟩
  | .hbm, ⟨17, _⟩ => ⟨S16384x3072, .f32⟩
  | .hbm, ⟨18, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S128x512, .bf16⟩
  | .local _ .vmem, ⟨5, _⟩ => ⟨S1x512, .f32⟩
  | .local _ .vmem, ⟨6, _⟩ => ⟨S512x3072, .f32⟩
  | .local _ .vmem, ⟨7, _⟩ => ⟨S512x3072, .f32⟩
  | .local _ .vmem, ⟨8, _⟩ => ⟨S512x512, .f32⟩
  | .local _ .vmem, ⟨9, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceInIdeal.lean ====
abbrev S16384x1024 : Shape := ⟨2, ![16384, 1024]⟩
abbrev S1024 : Shape := ⟨1, ![1024]⟩
abbrev S1024x3072 : Shape := ⟨2, ![1024, 3072]⟩
abbrev S1024x16 : Shape := ⟨2, ![1024, 16]⟩
abbrev S16x512 : Shape := ⟨2, ![16, 512]⟩
abbrev S512 : Shape := ⟨1, ![512]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S4x4096x16 : Shape := ⟨3, ![4, 4096, 16]⟩
abbrev S4x4096x512 : Shape := ⟨3, ![4, 4096, 512]⟩
abbrev S1x1x512 : Shape := ⟨3, ![1, 1, 512]⟩
abbrev S16384x3072 : Shape := ⟨2, ![16384, 3072]⟩
abbrev S16384x512 : Shape := ⟨2, ![16384, 512]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S1024x16, .f32⟩
  | .hbm, ⟨4, _⟩ => ⟨S16x512, .f32⟩
  | .hbm, ⟨5, _⟩ => ⟨S512, .f32⟩
  | .hbm, ⟨6, _⟩ => ⟨S4x4096x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x3072, .f32⟩
  | .hbm, ⟨24, _⟩ => ⟨S4x4096x16, .f32⟩
  | .hbm, ⟨25, _⟩ => ⟨S4x4096x512, .f32⟩
  | .hbm, ⟨26, _⟩ => ⟨S1x1x512, .f32⟩
  | .hbm, ⟨27, _⟩ => ⟨S4x4096x512, .f32⟩
  | .hbm, ⟨28, _⟩ => ⟨S4x4096x512, .f32⟩
  | .hbm, ⟨29, _⟩ => ⟨S4x4096x512, .f32⟩
  | .hbm, ⟨30, _⟩ => ⟨S_, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S4x4096x512, .i1⟩
  | .hbm, ⟨36, _⟩ => ⟨S4x4096x512, .f32⟩
  | .hbm, ⟨37, _⟩ => ⟨S4x4096x512, .f32⟩
  | .hbm, ⟨38, _⟩ => ⟨S4x4096x512, .f32⟩
  | .hbm, ⟨39, _⟩ => ⟨S4x4096x512, .f32⟩
  | .hbm, ⟨40, _⟩ => ⟨S4x4096x512, .f32⟩
  | .hbm, ⟨41, _⟩ => ⟨S4x4096x512, .f32⟩
  | .hbm, ⟨42, _⟩ => ⟨S4x4096x512, .f32⟩
  | .hbm, ⟨43, _⟩ => ⟨S4x4096x512, .f32⟩
  | .hbm, ⟨44, _⟩ => ⟨S4x4096x512, .f32⟩
  | .hbm, ⟨45, _⟩ => ⟨S_, .f32⟩
  | .hbm, ⟨46, _⟩ => ⟨S4x4096x512, .f32⟩
  | .hbm, ⟨47, _⟩ => ⟨S4x4096x512, .f32⟩
  | .hbm, ⟨48, _⟩ => ⟨S16384x3072, .f32⟩
  | .hbm, ⟨49, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩

abbrev nD : Nat := 1
abbrev τ : Topo := Topo.v7x

variable {F : FTy → Type} [FloatOps F]
-- ==== KernelPostFirst.lean ====
abbrev S16384x1024 : Shape := ⟨2, ![16384, 1024]⟩
abbrev S2x1024x1024 : Shape := ⟨3, ![2, 1024, 1024]⟩
abbrev S1024 : Shape := ⟨1, ![1024]⟩
abbrev S4x1024x512 : Shape := ⟨3, ![4, 1024, 512]⟩
abbrev S4x256x1024 : Shape := ⟨3, ![4, 256, 1024]⟩
abbrev S4x512x1024 : Shape := ⟨3, ![4, 512, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S512x1024 : Shape := ⟨2, ![512, 1024]⟩
abbrev S1x1024x1024 : Shape := ⟨3, ![1, 1024, 1024]⟩
abbrev S1x1024x512 : Shape := ⟨3, ![1, 1024, 512]⟩
abbrev S1x256x1024 : Shape := ⟨3, ![1, 256, 1024]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S256x1024 : Shape := ⟨2, ![256, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 18
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2x1024x1024, .f32⟩
  | .hbm, ⟨3, _⟩ => ⟨S1024, .f32⟩
  | .hbm, ⟨4, _⟩ => ⟨S4x1024x512, .f32⟩
  | .hbm, ⟨5, _⟩ => ⟨S4x256x1024, .f32⟩
  | .hbm, ⟨6, _⟩ => ⟨S4x512x1024, .f32⟩
  | .hbm, ⟨7, _⟩ => ⟨S1024, .f32⟩
  | .hbm, ⟨8, _⟩ => ⟨S4x1024x4096, .f32⟩
  | .hbm, ⟨9, _⟩ => ⟨S4x4096x1024, .f32⟩
  | .hbm, ⟨10, _⟩ => ⟨S2x1024x1024, .bf16⟩
  | .hbm, ⟨11, _⟩ => ⟨S4x1024x512, .bf16⟩
  | .hbm, ⟨12, _⟩ => ⟨S4x512x1024, .bf16⟩
  | .hbm, ⟨13, _⟩ => ⟨S4x1024x4096, .bf16⟩
  | .hbm, ⟨14, _⟩ => ⟨S4x4096x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024x1024, .bf16⟩
  | .local _ .vmem, ⟨5, _⟩ => ⟨S1x1024, .f32⟩
  | .local _ .vmem, ⟨6, _⟩ => ⟨S1x1024x512, .bf16⟩
  | .local _ .vmem, ⟨7, _⟩ => ⟨S1x256x1024, .f32⟩
  | .local _ .vmem, ⟨8, _⟩ => ⟨S1x256x1024, .f32⟩
  | .local _ .vmem, ⟨9, _⟩ => ⟨S1x512x1024, .bf16⟩
  | .local _ .vmem, ⟨10, _⟩ => ⟨S1x1024, .f32⟩
  | .local _ .vmem, ⟨11, _⟩ => ⟨S1x1024x4096, .bf16⟩
  | .local _ .vmem, ⟨12, _⟩ => ⟨S1x4096x1024, .bf16⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferencePostFirstIdeal.lean ====
abbrev S16384x1024 : Shape := ⟨2, ![16384, 1024]⟩
abbrev S2x1024x1024 : Shape := ⟨3, ![2, 1024, 1024]⟩
abbrev S1024 : Shape := ⟨1, ![1024]⟩
abbrev S4x1024x512 : Shape := ⟨3, ![4, 1024, 512]⟩
abbrev S4x256x1024 : Shape := ⟨3, ![4, 256, 1024]⟩
abbrev S4x512x1024 : Shape := ⟨3, ![4, 512, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S4x256x512 : Shape := ⟨3, ![4, 256, 512]⟩
abbrev S4x256x4x128 : Shape := ⟨4, ![4, 256, 4, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x512 : Shape := ⟨3, ![1, 1024, 512]⟩
abbrev S1024x512 : Shape := ⟨2, ![1024, 512]⟩
abbrev S4x4096x512 : Shape := ⟨3, ![4, 4096, 512]⟩
abbrev S4x4096x4x128 : Shape := ⟨4, ![4, 4096, 4, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S1x512x1024 : Shape := ⟨3, ![1, 512, 1024]⟩
abbrev S512x1024 : Shape := ⟨2, ![512, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S1x4096x1024 : Shape := ⟨3, ![1, 4096, 1024]⟩
abbrev S4096x1024 : Shape := ⟨2, ![4096, 1024]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2x1024x1024, .f32⟩
  | .hbm, ⟨3, _⟩ => ⟨S1024, .f32⟩
  | .hbm, ⟨4, _⟩ => ⟨S4x1024x512, .f32⟩
  | .hbm, ⟨5, _⟩ => ⟨S4x256x1024, .f32⟩
  | .hbm, ⟨6, _⟩ => ⟨S4x512x1024, .f32⟩
  | .hbm, ⟨7, _⟩ => ⟨S1024, .f32⟩
  | .hbm, ⟨8, _⟩ => ⟨S4x1024x4096, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S1x1024x1024, .f32⟩
  | .hbm, ⟨13, _⟩ => ⟨S1024x1024, .f32⟩
  | .hbm, ⟨14, _⟩ => ⟨S4x4096x1024, .f32⟩
  | .hbm, ⟨15, _⟩ => ⟨S4x4096x1024, .f32⟩
  | .hbm, ⟨16, _⟩ => ⟨S4x256x512, .f32⟩
  | .hbm, ⟨17, _⟩ => ⟨S4x256x512, .f32⟩
  | .hbm, ⟨18, _⟩ => ⟨S4x256x4x128, .f32⟩
  | .hbm, ⟨19, _⟩ => ⟨S4x256x4x128, .f32⟩
  | .hbm, ⟨20, _⟩ => ⟨S4x4096x1024, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x1024, .f32⟩
  | .hbm, ⟨32, _⟩ => ⟨S4x4096x1024, .f32⟩
  | .hbm, ⟨33, _⟩ => ⟨S1x1x1024, .f32⟩
  | .hbm, ⟨34, _⟩ => ⟨S4x4096x1024, .f32⟩
  | .hbm, ⟨35, _⟩ => ⟨S4x4096x1024, .f32⟩
  | .hbm, ⟨36, _⟩ => ⟨S1x1024x512, .f32⟩
  | .hbm, ⟨37, _⟩ => ⟨S1024x512, .f32⟩
  | .hbm, ⟨38, _⟩ => ⟨S4x4096x512, .f32⟩
  | .hbm, ⟨39, _⟩ => ⟨S4x4096x4x128, .f32⟩
  | .hbm, ⟨40, _⟩ => ⟨S4x4x4096x256, .f32⟩
  | .hbm, ⟨41, _⟩ => ⟨S_, .f32⟩
  | .hbm, ⟨42, _⟩ => ⟨S4x4x4096x256, .f32⟩
  | .hbm, ⟨43, _⟩ => ⟨S4x4x4096x256, .f32⟩
  | .hbm, ⟨44, _⟩ => ⟨S_, .f32⟩
  | .hbm, ⟨45, _⟩ => ⟨S4x4x4096, .f32⟩
  | .hbm, ⟨46, _⟩ => ⟨S_, .f32⟩
  | .hbm, ⟨47, _⟩ => ⟨S4x4x4096, .f32⟩
  | .hbm, ⟨48, _⟩ => ⟨S4x4x4096, .f32⟩
  | .hbm, ⟨49, _⟩ => ⟨S4x4x4096x1, .f32⟩
  | .hbm, ⟨50, _⟩ => ⟨S4x4x4096x256, .f32⟩
  | .hbm, ⟨51, _⟩ => ⟨S4x4x4096x256, .f32⟩
  | .hbm, ⟨52, _⟩ => ⟨S4x4x4096x256, .f32⟩
  | .hbm, ⟨53, _⟩ => ⟨S_, .f32⟩
  | .hbm, ⟨54, _⟩ => ⟨S4x4x4096, .f32⟩
  | .hbm, ⟨55, _⟩ => ⟨S4x4x4096x1, .f32⟩
  | .hbm, ⟨56, _⟩ => ⟨S4x4x4096x256, .f32⟩
  | .hbm, ⟨57, _⟩ => ⟨S4x4x4096x256, .f32⟩
  | .hbm, ⟨58, _⟩ => ⟨S4x4x128x4096, .f32⟩
  | .hbm, ⟨59, _⟩ => ⟨S4x4096x4x128, .f32⟩
  | .hbm, ⟨60, _⟩ => ⟨S4x4096x512, .f32⟩
  | .hbm, ⟨61, _⟩ => ⟨S1x512x1024, .f32⟩
  | .hbm, ⟨62, _⟩ => ⟨S512x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1, .f32⟩
  | .hbm, ⟨76, _⟩ => ⟨S4x4096x1024, .f32⟩
  | .hbm, ⟨77, _⟩ => ⟨S4x4096x1024, .f32⟩
  | .hbm, ⟨78, _⟩ => ⟨S1x1x1024, .f32⟩
  | .hbm, ⟨79, _⟩ => ⟨S4x4096x1024, .f32⟩
  | .hbm, ⟨80, _⟩ => ⟨S4x4096x1024, .f32⟩
  | .hbm, ⟨81, _⟩ => ⟨S1x1024x4096, .f32⟩
  | .hbm, ⟨82, _⟩ => ⟨S1024x4096, .f32⟩
  | .hbm, ⟨83, _⟩ => ⟨S4x4096x4096, .f32⟩
  | .hbm, ⟨84, _⟩ => ⟨S_, .f32⟩
  | .hbm, ⟨85, _⟩ => ⟨S4x4096x4096, .f32⟩
  | .hbm, ⟨86, _⟩ => ⟨S4x4096x4096, .f32⟩
  | .hbm, ⟨87, _⟩ => ⟨S4x4096x4096, .f32⟩
  | .hbm, ⟨88, _⟩ => ⟨S1x4096x1024, .f32⟩
  | .hbm, ⟨89, _⟩ => ⟨S4096x1024, .f32⟩
  | .hbm, ⟨90, _⟩ => ⟨S4x4096x1024, .f32⟩
  | .hbm, ⟨91, _⟩ => ⟨S4x4096x1024, .f32⟩
  | .hbm, ⟨92, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_call0_cst : Ref sig .tc := ⟨.hbm, 84, rfl⟩
abbrev main_call0_v0 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== KernelPostSecond.lean ====
abbrev S16384x1024 : Shape := ⟨2, ![16384, 1024]⟩
abbrev S2x1024x1024 : Shape := ⟨3, ![2, 1024, 1024]⟩
abbrev S1024 : Shape := ⟨1, ![1024]⟩
abbrev S4x1024x512 : Shape := ⟨3, ![4, 1024, 512]⟩
abbrev S4x256x1024 : Shape := ⟨3, ![4, 256, 1024]⟩
abbrev S4x512x1024 : Shape := ⟨3, ![4, 512, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S512x1024 : Shape := ⟨2, ![512, 1024]⟩
abbrev S1x1024x1024 : Shape := ⟨3, ![1, 1024, 1024]⟩
abbrev S1x1024x512 : Shape := ⟨3, ![1, 1024, 512]⟩
abbrev S1x256x1024 : Shape := ⟨3, ![1, 256, 1024]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S256x1024 : Shape := ⟨2, ![256, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 18
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2x1024x1024, .f32⟩
  | .hbm, ⟨3, _⟩ => ⟨S1024, .f32⟩
  | .hbm, ⟨4, _⟩ => ⟨S4x1024x512, .f32⟩
  | .hbm, ⟨5, _⟩ => ⟨S4x256x1024, .f32⟩
  | .hbm, ⟨6, _⟩ => ⟨S4x512x1024, .f32⟩
  | .hbm, ⟨7, _⟩ => ⟨S1024, .f32⟩
  | .hbm, ⟨8, _⟩ => ⟨S4x1024x4096, .f32⟩
  | .hbm, ⟨9, _⟩ => ⟨S4x4096x1024, .f32⟩
  | .hbm, ⟨10, _⟩ => ⟨S2x1024x1024, .bf16⟩
  | .hbm, ⟨11, _⟩ => ⟨S4x1024x512, .bf16⟩
  | .hbm, ⟨12, _⟩ => ⟨S4x512x1024, .bf16⟩
  | .hbm, ⟨13, _⟩ => ⟨S4x1024x4096, .bf16⟩
  | .hbm, ⟨14, _⟩ => ⟨S4x4096x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024x1024, .bf16⟩
  | .local _ .vmem, ⟨5, _⟩ => ⟨S1x1024, .f32⟩
  | .local _ .vmem, ⟨6, _⟩ => ⟨S1x1024x512, .bf16⟩
  | .local _ .vmem, ⟨7, _⟩ => ⟨S1x256x1024, .f32⟩
  | .local _ .vmem, ⟨8, _⟩ => ⟨S1x256x1024, .f32⟩
  | .local _ .vmem, ⟨9, _⟩ => ⟨S1x512x1024, .bf16⟩
  | .local _ .vmem, ⟨10, _⟩ => ⟨S1x1024, .f32⟩
  | .local _ .vmem, ⟨11, _⟩ => ⟨S1x1024x4096, .bf16⟩
  | .local _ .vmem, ⟨12, _⟩ => ⟨S1x4096x1024, .bf16⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferencePostSecondIdeal.lean ====
abbrev S16384x1024 : Shape := ⟨2, ![16384, 1024]⟩
abbrev S2x1024x1024 : Shape := ⟨3, ![2, 1024, 1024]⟩
abbrev S1024 : Shape := ⟨1, ![1024]⟩
abbrev S4x1024x512 : Shape := ⟨3, ![4, 1024, 512]⟩
abbrev S4x256x1024 : Shape := ⟨3, ![4, 256, 1024]⟩
abbrev S4x512x1024 : Shape := ⟨3, ![4, 512, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S4x256x512 : Shape := ⟨3, ![4, 256, 512]⟩
abbrev S4x256x4x128 : Shape := ⟨4, ![4, 256, 4, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x512 : Shape := ⟨3, ![1, 1024, 512]⟩
abbrev S1024x512 : Shape := ⟨2, ![1024, 512]⟩
abbrev S4x4096x512 : Shape := ⟨3, ![4, 4096, 512]⟩
abbrev S4x4096x4x128 : Shape := ⟨4, ![4, 4096, 4, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S1x512x1024 : Shape := ⟨3, ![1, 512, 1024]⟩
abbrev S512x1024 : Shape := ⟨2, ![512, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S1x4096x1024 : Shape := ⟨3, ![1, 4096, 1024]⟩
abbrev S4096x1024 : Shape := ⟨2, ![4096, 1024]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2x1024x1024, .f32⟩
  | .hbm, ⟨3, _⟩ => ⟨S1024, .f32⟩
  | .hbm, ⟨4, _⟩ => ⟨S4x1024x512, .f32⟩
  | .hbm, ⟨5, _⟩ => ⟨S4x256x1024, .f32⟩
  | .hbm, ⟨6, _⟩ => ⟨S4x512x1024, .f32⟩
  | .hbm, ⟨7, _⟩ => ⟨S1024, .f32⟩
  | .hbm, ⟨8, _⟩ => ⟨S4x1024x4096, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S1x1024x1024, .f32⟩
  | .hbm, ⟨13, _⟩ => ⟨S1024x1024, .f32⟩
  | .hbm, ⟨14, _⟩ => ⟨S4x4096x1024, .f32⟩
  | .hbm, ⟨15, _⟩ => ⟨S4x4096x1024, .f32⟩
  | .hbm, ⟨16, _⟩ => ⟨S4x256x512, .f32⟩
  | .hbm, ⟨17, _⟩ => ⟨S4x256x512, .f32⟩
  | .hbm, ⟨18, _⟩ => ⟨S4x256x4x128, .f32⟩
  | .hbm, ⟨19, _⟩ => ⟨S4x256x4x128, .f32⟩
  | .hbm, ⟨20, _⟩ => ⟨S4x4096x1024, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x1024, .f32⟩
  | .hbm, ⟨32, _⟩ => ⟨S4x4096x1024, .f32⟩
  | .hbm, ⟨33, _⟩ => ⟨S1x1x1024, .f32⟩
  | .hbm, ⟨34, _⟩ => ⟨S4x4096x1024, .f32⟩
  | .hbm, ⟨35, _⟩ => ⟨S4x4096x1024, .f32⟩
  | .hbm, ⟨36, _⟩ => ⟨S1x1024x512, .f32⟩
  | .hbm, ⟨37, _⟩ => ⟨S1024x512, .f32⟩
  | .hbm, ⟨38, _⟩ => ⟨S4x4096x512, .f32⟩
  | .hbm, ⟨39, _⟩ => ⟨S4x4096x4x128, .f32⟩
  | .hbm, ⟨40, _⟩ => ⟨S4x4x4096x256, .f32⟩
  | .hbm, ⟨41, _⟩ => ⟨S_, .f32⟩
  | .hbm, ⟨42, _⟩ => ⟨S4x4x4096x256, .f32⟩
  | .hbm, ⟨43, _⟩ => ⟨S4x4x4096x256, .f32⟩
  | .hbm, ⟨44, _⟩ => ⟨S_, .f32⟩
  | .hbm, ⟨45, _⟩ => ⟨S4x4x4096, .f32⟩
  | .hbm, ⟨46, _⟩ => ⟨S_, .f32⟩
  | .hbm, ⟨47, _⟩ => ⟨S4x4x4096, .f32⟩
  | .hbm, ⟨48, _⟩ => ⟨S4x4x4096, .f32⟩
  | .hbm, ⟨49, _⟩ => ⟨S4x4x4096x1, .f32⟩
  | .hbm, ⟨50, _⟩ => ⟨S4x4x4096x256, .f32⟩
  | .hbm, ⟨51, _⟩ => ⟨S4x4x4096x256, .f32⟩
  | .hbm, ⟨52, _⟩ => ⟨S4x4x4096x256, .f32⟩
  | .hbm, ⟨53, _⟩ => ⟨S_, .f32⟩
  | .hbm, ⟨54, _⟩ => ⟨S4x4x4096, .f32⟩
  | .hbm, ⟨55, _⟩ => ⟨S4x4x4096x1, .f32⟩
  | .hbm, ⟨56, _⟩ => ⟨S4x4x4096x256, .f32⟩
  | .hbm, ⟨57, _⟩ => ⟨S4x4x4096x256, .f32⟩
  | .hbm, ⟨58, _⟩ => ⟨S4x4x128x4096, .f32⟩
  | .hbm, ⟨59, _⟩ => ⟨S4x4096x4x128, .f32⟩
  | .hbm, ⟨60, _⟩ => ⟨S4x4096x512, .f32⟩
  | .hbm, ⟨61, _⟩ => ⟨S1x512x1024, .f32⟩
  | .hbm, ⟨62, _⟩ => ⟨S512x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1, .f32⟩
  | .hbm, ⟨76, _⟩ => ⟨S4x4096x1024, .f32⟩
  | .hbm, ⟨77, _⟩ => ⟨S4x4096x1024, .f32⟩
  | .hbm, ⟨78, _⟩ => ⟨S1x1x1024, .f32⟩
  | .hbm, ⟨79, _⟩ => ⟨S4x4096x1024, .f32⟩
  | .hbm, ⟨80, _⟩ => ⟨S4x4096x1024, .f32⟩
  | .hbm, ⟨81, _⟩ => ⟨S1x1024x4096, .f32⟩
  | .hbm, ⟨82, _⟩ => ⟨S1024x4096, .f32⟩
  | .hbm, ⟨83, _⟩ => ⟨S4x4096x4096, .f32⟩
  | .hbm, ⟨84, _⟩ => ⟨S_, .f32⟩
  | .hbm, ⟨85, _⟩ => ⟨S4x4096x4096, .f32⟩
  | .hbm, ⟨86, _⟩ => ⟨S4x4096x4096, .f32⟩
  | .hbm, ⟨87, _⟩ => ⟨S4x4096x4096, .f32⟩
  | .hbm, ⟨88, _⟩ => ⟨S1x4096x1024, .f32⟩
  | .hbm, ⟨89, _⟩ => ⟨S4096x1024, .f32⟩
  | .hbm, ⟨90, _⟩ => ⟨S4x4096x1024, .f32⟩
  | .hbm, ⟨91, _⟩ => ⟨S4x4096x1024, .f32⟩
  | .hbm, ⟨92, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_call0_cst : Ref sig .tc := ⟨.hbm, 84, rfl⟩
abbrev main_call0_v0 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== KernelPostThird.lean ====
abbrev S16384x1024 : Shape := ⟨2, ![16384, 1024]⟩
abbrev S2x1024x1024 : Shape := ⟨3, ![2, 1024, 1024]⟩
abbrev S1024 : Shape := ⟨1, ![1024]⟩
abbrev S4x1024x512 : Shape := ⟨3, ![4, 1024, 512]⟩
abbrev S4x256x1024 : Shape := ⟨3, ![4, 256, 1024]⟩
abbrev S4x512x1024 : Shape := ⟨3, ![4, 512, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S512x1024 : Shape := ⟨2, ![512, 1024]⟩
abbrev S1x1024x1024 : Shape := ⟨3, ![1, 1024, 1024]⟩
abbrev S1x1024x512 : Shape := ⟨3, ![1, 1024, 512]⟩
abbrev S1x256x1024 : Shape := ⟨3, ![1, 256, 1024]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S256x1024 : Shape := ⟨2, ![256, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 18
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2x1024x1024, .f32⟩
  | .hbm, ⟨3, _⟩ => ⟨S1024, .f32⟩
  | .hbm, ⟨4, _⟩ => ⟨S4x1024x512, .f32⟩
  | .hbm, ⟨5, _⟩ => ⟨S4x256x1024, .f32⟩
  | .hbm, ⟨6, _⟩ => ⟨S4x512x1024, .f32⟩
  | .hbm, ⟨7, _⟩ => ⟨S1024, .f32⟩
  | .hbm, ⟨8, _⟩ => ⟨S4x1024x4096, .f32⟩
  | .hbm, ⟨9, _⟩ => ⟨S4x4096x1024, .f32⟩
  | .hbm, ⟨10, _⟩ => ⟨S2x1024x1024, .bf16⟩
  | .hbm, ⟨11, _⟩ => ⟨S4x1024x512, .bf16⟩
  | .hbm, ⟨12, _⟩ => ⟨S4x512x1024, .bf16⟩
  | .hbm, ⟨13, _⟩ => ⟨S4x1024x4096, .bf16⟩
  | .hbm, ⟨14, _⟩ => ⟨S4x4096x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024x1024, .bf16⟩
  | .local _ .vmem, ⟨5, _⟩ => ⟨S1x1024, .f32⟩
  | .local _ .vmem, ⟨6, _⟩ => ⟨S1x1024x512, .bf16⟩
  | .local _ .vmem, ⟨7, _⟩ => ⟨S1x256x1024, .f32⟩
  | .local _ .vmem, ⟨8, _⟩ => ⟨S1x256x1024, .f32⟩
  | .local _ .vmem, ⟨9, _⟩ => ⟨S1x512x1024, .bf16⟩
  | .local _ .vmem, ⟨10, _⟩ => ⟨S1x1024, .f32⟩
  | .local _ .vmem, ⟨11, _⟩ => ⟨S1x1024x4096, .bf16⟩
  | .local _ .vmem, ⟨12, _⟩ => ⟨S1x4096x1024, .bf16⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferencePostThirdIdeal.lean ====
abbrev S16384x1024 : Shape := ⟨2, ![16384, 1024]⟩
abbrev S2x1024x1024 : Shape := ⟨3, ![2, 1024, 1024]⟩
abbrev S1024 : Shape := ⟨1, ![1024]⟩
abbrev S4x1024x512 : Shape := ⟨3, ![4, 1024, 512]⟩
abbrev S4x256x1024 : Shape := ⟨3, ![4, 256, 1024]⟩
abbrev S4x512x1024 : Shape := ⟨3, ![4, 512, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S4x256x512 : Shape := ⟨3, ![4, 256, 512]⟩
abbrev S4x256x4x128 : Shape := ⟨4, ![4, 256, 4, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x512 : Shape := ⟨3, ![1, 1024, 512]⟩
abbrev S1024x512 : Shape := ⟨2, ![1024, 512]⟩
abbrev S4x4096x512 : Shape := ⟨3, ![4, 4096, 512]⟩
abbrev S4x4096x4x128 : Shape := ⟨4, ![4, 4096, 4, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S1x512x1024 : Shape := ⟨3, ![1, 512, 1024]⟩
abbrev S512x1024 : Shape := ⟨2, ![512, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S1x4096x1024 : Shape := ⟨3, ![1, 4096, 1024]⟩
abbrev S4096x1024 : Shape := ⟨2, ![4096, 1024]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2x1024x1024, .f32⟩
  | .hbm, ⟨3, _⟩ => ⟨S1024, .f32⟩
  | .hbm, ⟨4, _⟩ => ⟨S4x1024x512, .f32⟩
  | .hbm, ⟨5, _⟩ => ⟨S4x256x1024, .f32⟩
  | .hbm, ⟨6, _⟩ => ⟨S4x512x1024, .f32⟩
  | .hbm, ⟨7, _⟩ => ⟨S1024, .f32⟩
  | .hbm, ⟨8, _⟩ => ⟨S4x1024x4096, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S1x1024x1024, .f32⟩
  | .hbm, ⟨13, _⟩ => ⟨S1024x1024, .f32⟩
  | .hbm, ⟨14, _⟩ => ⟨S4x4096x1024, .f32⟩
  | .hbm, ⟨15, _⟩ => ⟨S4x4096x1024, .f32⟩
  | .hbm, ⟨16, _⟩ => ⟨S4x256x512, .f32⟩
  | .hbm, ⟨17, _⟩ => ⟨S4x256x512, .f32⟩
  | .hbm, ⟨18, _⟩ => ⟨S4x256x4x128, .f32⟩
  | .hbm, ⟨19, _⟩ => ⟨S4x256x4x128, .f32⟩
  | .hbm, ⟨20, _⟩ => ⟨S4x4096x1024, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x1024, .f32⟩
  | .hbm, ⟨32, _⟩ => ⟨S4x4096x1024, .f32⟩
  | .hbm, ⟨33, _⟩ => ⟨S1x1x1024, .f32⟩
  | .hbm, ⟨34, _⟩ => ⟨S4x4096x1024, .f32⟩
  | .hbm, ⟨35, _⟩ => ⟨S4x4096x1024, .f32⟩
  | .hbm, ⟨36, _⟩ => ⟨S1x1024x512, .f32⟩
  | .hbm, ⟨37, _⟩ => ⟨S1024x512, .f32⟩
  | .hbm, ⟨38, _⟩ => ⟨S4x4096x512, .f32⟩
  | .hbm, ⟨39, _⟩ => ⟨S4x4096x4x128, .f32⟩
  | .hbm, ⟨40, _⟩ => ⟨S4x4x4096x256, .f32⟩
  | .hbm, ⟨41, _⟩ => ⟨S_, .f32⟩
  | .hbm, ⟨42, _⟩ => ⟨S4x4x4096x256, .f32⟩
  | .hbm, ⟨43, _⟩ => ⟨S4x4x4096x256, .f32⟩
  | .hbm, ⟨44, _⟩ => ⟨S_, .f32⟩
  | .hbm, ⟨45, _⟩ => ⟨S4x4x4096, .f32⟩
  | .hbm, ⟨46, _⟩ => ⟨S_, .f32⟩
  | .hbm, ⟨47, _⟩ => ⟨S4x4x4096, .f32⟩
  | .hbm, ⟨48, _⟩ => ⟨S4x4x4096, .f32⟩
  | .hbm, ⟨49, _⟩ => ⟨S4x4x4096x1, .f32⟩
  | .hbm, ⟨50, _⟩ => ⟨S4x4x4096x256, .f32⟩
  | .hbm, ⟨51, _⟩ => ⟨S4x4x4096x256, .f32⟩
  | .hbm, ⟨52, _⟩ => ⟨S4x4x4096x256, .f32⟩
  | .hbm, ⟨53, _⟩ => ⟨S_, .f32⟩
  | .hbm, ⟨54, _⟩ => ⟨S4x4x4096, .f32⟩
  | .hbm, ⟨55, _⟩ => ⟨S4x4x4096x1, .f32⟩
  | .hbm, ⟨56, _⟩ => ⟨S4x4x4096x256, .f32⟩
  | .hbm, ⟨57, _⟩ => ⟨S4x4x4096x256, .f32⟩
  | .hbm, ⟨58, _⟩ => ⟨S4x4x128x4096, .f32⟩
  | .hbm, ⟨59, _⟩ => ⟨S4x4096x4x128, .f32⟩
  | .hbm, ⟨60, _⟩ => ⟨S4x4096x512, .f32⟩
  | .hbm, ⟨61, _⟩ => ⟨S1x512x1024, .f32⟩
  | .hbm, ⟨62, _⟩ => ⟨S512x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1, .f32⟩
  | .hbm, ⟨76, _⟩ => ⟨S4x4096x1024, .f32⟩
  | .hbm, ⟨77, _⟩ => ⟨S4x4096x1024, .f32⟩
  | .hbm, ⟨78, _⟩ => ⟨S1x1x1024, .f32⟩
  | .hbm, ⟨79, _⟩ => ⟨S4x4096x1024, .f32⟩
  | .hbm, ⟨80, _⟩ => ⟨S4x4096x1024, .f32⟩
  | .hbm, ⟨81, _⟩ => ⟨S1x1024x4096, .f32⟩
  | .hbm, ⟨82, _⟩ => ⟨S1024x4096, .f32⟩
  | .hbm, ⟨83, _⟩ => ⟨S4x4096x4096, .f32⟩
  | .hbm, ⟨84, _⟩ => ⟨S_, .f32⟩
  | .hbm, ⟨85, _⟩ => ⟨S4x4096x4096, .f32⟩
  | .hbm, ⟨86, _⟩ => ⟨S4x4096x4096, .f32⟩
  | .hbm, ⟨87, _⟩ => ⟨S4x4096x4096, .f32⟩
  | .hbm, ⟨88, _⟩ => ⟨S1x4096x1024, .f32⟩
  | .hbm, ⟨89, _⟩ => ⟨S4096x1024, .f32⟩
  | .hbm, ⟨90, _⟩ => ⟨S4x4096x1024, .f32⟩
  | .hbm, ⟨91, _⟩ => ⟨S4x4096x1024, .f32⟩
  | .hbm, ⟨92, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_call0_cst : Ref sig .tc := ⟨.hbm, 84, rfl⟩
abbrev main_call0_v0 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== KernelSample.lean ====
abbrev S1024x3072 : Shape := ⟨2, ![1024, 3072]⟩
abbrev S1024x512 : Shape := ⟨2, ![1024, 512]⟩
abbrev S1024 : Shape := ⟨1, ![1024]⟩
abbrev S2x128x4x128x256 : Shape := ⟨5, ![2, 128, 4, 128, 256]⟩
abbrev S128x8x3072 : Shape := ⟨3, ![128, 8, 3072]⟩
abbrev S128x8x512 : Shape := ⟨3, ![128, 8, 512]⟩
abbrev S1x1024 : Shape := ⟨2, ![1, 1024]⟩
abbrev S128x8x1024 : Shape := ⟨3, ![128, 8, 1024]⟩
abbrev S4x8x512 : Shape := ⟨3, ![4, 8, 512]⟩
abbrev S4x8x1024 : Shape := ⟨3, ![4, 8, 1024]⟩
abbrev S1x4x4x128x256 : Shape := ⟨5, ![1, 4, 4, 128, 256]⟩
abbrev S4x4x128x256 : Shape := ⟨4, ![4, 4, 128, 256]⟩
abbrev S8x8 : Shape := ⟨2, ![8, 8]⟩
abbrev S128x128 : Shape := ⟨2, ![128, 128]⟩
abbrev S1x8x512 : Shape := ⟨3, ![1, 8, 512]⟩
abbrev S8x512 : Shape := ⟨2, ![8, 512]⟩
abbrev S8x128 : Shape := ⟨2, ![8, 128]⟩
abbrev S1x8x128 : Shape := ⟨3, ![1, 8, 128]⟩
abbrev S1x128 : Shape := ⟨2, ![1, 128]⟩
abbrev S1x8x256 : Shape := ⟨3, ![1, 8, 256]⟩
abbrev S8x256 : Shape := ⟨2, ![8, 256]⟩
abbrev S128x256 : Shape := ⟨2, ![128, 256]⟩
abbrev S1x1x1x128x256 : Shape := ⟨5, ![1, 1, 1, 128, 256]⟩
abbrev S128 : Shape := ⟨1, ![128]⟩
abbrev S128x1 : Shape := ⟨2, ![128, 1]⟩
abbrev S1x256 : Shape := ⟨2, ![1, 256]⟩
abbrev S8 : Shape := ⟨1, ![8]⟩
abbrev S8x1 : Shape := ⟨2, ![8, 1]⟩

abbrev nBuf : Space → Nat
  | .hbm => 10
  | .vmem => 17
  | .smem => 0
  | _ => 0

abbrev bufTy : (tb : Table) → Fin (tcTables nBuf tb) → BufTy
  | .hbm, ⟨0, _⟩ => ⟨S1024x3072, .f32⟩
  | .hbm, ⟨1, _⟩ => ⟨S1024x512, .f32⟩
  | .hbm, ⟨2, _⟩ => ⟨S1024, .f32⟩
  | .hbm, ⟨3, _⟩ => ⟨S2x128x4x128x256, .f32⟩
  | .hbm, ⟨4, _⟩ => ⟨S2x128x4x128x256, .f32⟩
  | .hbm, ⟨5, _⟩ => ⟨S128x8x3072, .f32⟩
  | .hbm, ⟨6, _⟩ => ⟨S128x8x512, .f32⟩
  | .hbm, ⟨7, _⟩ => ⟨S1x1024, .f32⟩
  | .hbm, ⟨8, _⟩ => ⟨S128x8x1024, .f32⟩
  | .hbm, ⟨9, _⟩ => ⟨S2x128x4x128x256, .f32⟩
  | .local _ .vmem, ⟨0, _⟩ => ⟨S4x8x512, .f32⟩
  | .local _ .vmem, ⟨1, _⟩ => ⟨S4x8x512, .f32⟩
  | .local _ .vmem, ⟨2, _⟩ => ⟨S4x8x512, .f32⟩
  | .local _ .vmem, ⟨3, _⟩ => ⟨S4x8x512, .f32⟩
  | .local _ .vmem, ⟨4, _⟩ => ⟨S4x8x1024, .f32⟩
  | .local _ .vmem, ⟨5, _⟩ => ⟨S4x8x1024, .f32⟩
  | .local _ .vmem, ⟨6, _⟩ => ⟨S4x8x1024, .f32⟩
  | .local _ .vmem, ⟨7, _⟩ => ⟨S4x8x1024, .f32⟩
  | .local _ .vmem, ⟨8, _⟩ => ⟨S4x8x512, .f32⟩
  | .local _ .vmem, ⟨9, _⟩ => ⟨S4x8x512, .f32⟩
  | .local _ .vmem, ⟨10, _⟩ => ⟨S1x1024, .f32⟩
  | .local _ .vmem, ⟨11, _⟩ => ⟨S1x4x4x128x256, .f32⟩
  | .local _ .vmem, ⟨12, _⟩ => ⟨S1x4x4x128x256, .f32⟩
  | .local _ .vmem, ⟨13, _⟩ => ⟨S4x8x1024, .f32⟩
  | .local _ .vmem, ⟨14, _⟩ => ⟨S4x8x1024, .f32⟩
  | .local _ .vmem, ⟨15, _⟩ => ⟨S1x4x4x128x256, .f32⟩
  | .local _ .vmem, ⟨16, _⟩ => ⟨S1x4x4x128x256, .f32⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

abbrev stage0_0 : Fin 2 → Memref sig .tc .vmem S4x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceSampleIdeal.lean ====
abbrev S1024x3072 : Shape := ⟨2, ![1024, 3072]⟩
abbrev S1024x512 : Shape := ⟨2, ![1024, 512]⟩
abbrev S1024 : Shape := ⟨1, ![1024]⟩
abbrev S2x128x4x128x256 : Shape := ⟨5, ![2, 128, 4, 128, 256]⟩
abbrev S128x8x3072 : Shape := ⟨3, ![128, 8, 3072]⟩
abbrev S128x8x512 : Shape := ⟨3, ![128, 8, 512]⟩
abbrev S128x8x1024 : Shape := ⟨3, ![128, 8, 1024]⟩
abbrev S128x8x4x128 : Shape := ⟨4, ![128, 8, 4, 128]⟩
abbrev S_ : Shape := ⟨0, ![]⟩
abbrev S128x8x4x256 : Shape := ⟨4, ![128, 8, 4, 256]⟩
abbrev S8x8 : Shape := ⟨2, ![8, 8]⟩
abbrev S1x128x4x128x256 : Shape := ⟨5, ![1, 128, 4, 128, 256]⟩
abbrev S128x4x128x256 : Shape := ⟨4, ![128, 4, 128, 256]⟩
abbrev S128x1x4x128 : Shape := ⟨4, ![128, 1, 4, 128]⟩
abbrev S128x4x128 : Shape := ⟨3, ![128, 4, 128]⟩
abbrev S128x4x256x8 : Shape := ⟨4, ![128, 4, 256, 8]⟩
abbrev S128x4x8x8 : Shape := ⟨4, ![128, 4, 8, 8]⟩
abbrev S128x4x128x1 : Shape := ⟨4, ![128, 4, 128, 1]⟩
abbrev S4x256 : Shape := ⟨2, ![4, 256]⟩
abbrev S128x8x4 : Shape := ⟨3, ![128, 8, 4]⟩
abbrev S128x8x4x1 : Shape := ⟨4, ![128, 8, 4, 1]⟩
abbrev S1x1x4x256 : Shape := ⟨4, ![1, 1, 4, 256]⟩

abbrev nBuf : Space → Nat
  | .hbm => 95
  | .vmem => 0
  | .smem => 0
  | _ => 0

abbrev bufTy : (tb : Table) → Fin (tcTables nBuf tb) → BufTy
  | .hbm, ⟨0, _⟩ => ⟨S1024x3072, .f32⟩
  | .hbm, ⟨1, _⟩ => ⟨S1024x512, .f32⟩
  | .hbm, ⟨2, _⟩ => ⟨S1024, .f32⟩
  | .hbm, ⟨3, _⟩ => ⟨S2x128x4x128x256, .f32⟩
  | .hbm, ⟨4, _⟩ => ⟨S2x128x4x128x256, .f32⟩
  | .hbm, ⟨5, _⟩ => ⟨S128x8x3072, .f32⟩
  | .hbm, ⟨6, _⟩ => ⟨S128x8x512, .f32⟩
  | .hbm, ⟨7, _⟩ => ⟨S128x8x512, .f32⟩
  | .hbm, ⟨8, _⟩ => ⟨S128x8x1024, .f32⟩
  | .hbm, ⟨9, _⟩ => ⟨S128x8x1024, .f32⟩
  | .hbm, ⟨10, _⟩ => ⟨S128x8x4x128, .f32⟩
  | .hbm, ⟨11, _⟩ => ⟨S_, .f32⟩
  | .hbm, ⟨12, _⟩ => ⟨S128x8x4x128, .f32⟩
  | .hbm, ⟨13, _⟩ => ⟨S128x8x4x128, .f32⟩
  | .hbm, ⟨14, _⟩ => ⟨S128x8x4x128, .f32⟩
  | .hbm, ⟨15, _⟩ => ⟨S128x8x4x256, .f32⟩
  | .hbm, ⟨16, _⟩ => ⟨S128x8x4x128, .f32⟩
  | .hbm, ⟨17, _⟩ => ⟨S_, .i1⟩
  | .hbm, ⟨18, _⟩ => ⟨S8x8, .i1⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i32⟩
  | .hbm, ⟨24, _⟩ => ⟨S8x8, .i1⟩
  | .hbm, ⟨25, _⟩ => ⟨S_, .i1⟩
  | .hbm, ⟨26, _⟩ => ⟨S8x8, .i1⟩
  | .hbm, ⟨27, _⟩ => ⟨S8x8, .i1⟩
  | .hbm, ⟨28, _⟩ => ⟨S1x128x4x128x256, .f32⟩
  | .hbm, ⟨29, _⟩ => ⟨S128x4x128x256, .f32⟩
  | .hbm, ⟨30, _⟩ => ⟨S_, .f32⟩
  | .hbm, ⟨31, _⟩ => ⟨S_, .f32⟩
  | .hbm, ⟨32, _⟩ => ⟨S128x8x4x128, .f32⟩
  | .hbm, ⟨33, _⟩ => ⟨S128x1x4x128, .f32⟩
  | .hbm, ⟨34, _⟩ => ⟨S128x4x128, .f32⟩
  | .hbm, ⟨35, _⟩ => ⟨S128x8x4x128, .f32⟩
  | .hbm, ⟨36, _⟩ => ⟨S128x8x4x128, .f32⟩
  | .hbm, ⟨37, _⟩ => ⟨S128x8x4x128, .f32⟩
  | .hbm, ⟨38, _⟩ => ⟨S128x8x4x128, .f32⟩
  | .hbm, ⟨39, _⟩ => ⟨S128x8x4x128, .f32⟩
  | .hbm, ⟨40, _⟩ => ⟨S128x4x256x8, .f32⟩
  | .hbm, ⟨41, _⟩ => ⟨S128x8x4x256, .f32⟩
  | .hbm, ⟨42, _⟩ => ⟨S128x4x8x8, .f32⟩
  | .hbm, ⟨43, _⟩ => ⟨S_, .f32⟩
  | .hbm, ⟨44, _⟩ => ⟨S_, .f32⟩
  | .hbm, ⟨45, _⟩ => ⟨S128x4x8x8, .i1⟩
  | .hbm, ⟨46, _⟩ => ⟨S128x4x8x8, .f32⟩
  | .hbm, ⟨47, _⟩ => ⟨S128x4x8x8, .f32⟩
  | .hbm, ⟨48, _⟩ => ⟨S128x4x256x8, .f32⟩
  | .hbm, ⟨49, _⟩ => ⟨S128x8x4x256, .f32⟩
  | .hbm, ⟨50, _⟩ => ⟨S128x8x4x256, .f32⟩
  | .hbm, ⟨51, _⟩ => ⟨S128x4x128, .f32⟩
  | .hbm, ⟨52, _⟩ => ⟨S128x4x128x1, .f32⟩
  | .hbm, ⟨53, _⟩ => ⟨S128x4x128x256, .f32⟩
  | .hbm, ⟨54, _⟩ => ⟨S128x4x128x256, .f32⟩
  | .hbm, ⟨55, _⟩ => ⟨S128x1x4x128, .f32⟩
  | .hbm, ⟨56, _⟩ => ⟨S128x8x4x128, .f32⟩
  | .hbm, ⟨57, _⟩ => ⟨S128x8x4x128, .f32⟩
  | .hbm, ⟨58, _⟩ => ⟨S128x8x4x128, .f32⟩
  | .hbm, ⟨59, _⟩ => ⟨S128x8x4x128, .f32⟩
  | .hbm, ⟨60, _⟩ => ⟨S128x4x128x256, .f32⟩
  | .hbm, ⟨61, _⟩ => ⟨S128x4x128x256, .f32⟩
  | .hbm, ⟨62, _⟩ => ⟨S4x256, .f32⟩
  | .hbm, ⟨63, _⟩ => ⟨S128x8x4x256, .f32⟩
  | .hbm, ⟨64, _⟩ => ⟨S_, .f32⟩
  | .hbm, ⟨65, _⟩ => ⟨S128x8x4, .f32⟩
  | .hbm, ⟨66, _⟩ => ⟨S128x8x4x1, .f32⟩
  | .hbm, ⟨67, _⟩ => ⟨S_, .f32⟩
  | .hbm, ⟨68, _⟩ => ⟨S128x8x4x1, .f32⟩
  | .hbm, ⟨69, _⟩ => ⟨S128x8x4x1, .f32⟩
  | .hbm, ⟨70, _⟩ => ⟨S_, .f32⟩
  | .hbm, ⟨71, _⟩ => ⟨S128x8x4x1, .f32⟩
  | .hbm, ⟨72, _⟩ => ⟨S128x8x4x1, .f32⟩
  | .hbm, ⟨73, _⟩ => ⟨S128x8x4x1, .f32⟩
  | .hbm, ⟨74, _⟩ => ⟨S128x8x4x256, .f32⟩
  | .hbm, ⟨75, _⟩ => ⟨S128x8x4x256, .f32⟩
  | .hbm, ⟨76, _⟩ => ⟨S1x1x4x256, .f32⟩
  | .hbm, ⟨77, _⟩ => ⟨S128x8x4x256, .f32⟩
  | .hbm, ⟨78, _⟩ => ⟨S128x8x4x256, .f32⟩
  | .hbm, ⟨79, _⟩ => ⟨S128x8x1024, .f32⟩
  | .hbm, ⟨80, _⟩ => ⟨S128x8x1024, .f32⟩
  | .hbm, ⟨81, _⟩ => ⟨S128x8x1024, .f32⟩
  | .hbm, ⟨82, _⟩ => ⟨S_, .f32⟩
  | .hbm, ⟨83, _⟩ => ⟨S128x8x1024, .f32⟩
  | .hbm, ⟨84, _⟩ => ⟨S128x8x1024, .f32⟩
  | .hbm, ⟨85, _⟩ => ⟨S_, .f32⟩
  | .hbm, ⟨86, _⟩ => ⟨S128x8x1024, .f32⟩
  | .hbm, ⟨87, _⟩ => ⟨S128x8x1024, .f32⟩
  | .hbm, ⟨88, _⟩ => ⟨S128x8x1024, .f32⟩
  | .hbm, ⟨89, _⟩ => ⟨S128x8x1024, .f32⟩
  | .hbm, ⟨90, _⟩ => ⟨S1x128x4x128x256, .f32⟩
  | .hbm, ⟨91, _⟩ => ⟨S128x4x128x256, .f32⟩
  | .hbm, ⟨92, _⟩ => ⟨S1x128x4x128x256, .f32⟩
  | .hbm, ⟨93, _⟩ => ⟨S1x128x4x128x256, .f32⟩
  | .hbm, ⟨94, _⟩ => ⟨S2x128x4x128x256, .f32⟩
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_call0_cst : Ref sig .tc := ⟨.hbm, 30, rfl⟩
abbrev main_call1_call0_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_0 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_1 : Ref sig .tc := ⟨.hbm, 64, rfl⟩
abbrev main_v43 : Ref sig .tc := ⟨.hbm, 65, rfl⟩
abbrev main_v44 : Ref sig .tc := ⟨.hbm, 66, rfl⟩
abbrev main_cst_2 : Ref sig .tc := ⟨.hbm, 67, rfl⟩
abbrev main_v45 : Ref sig .tc := ⟨.hbm, 68, rfl⟩
abbrev main_v46 : Ref sig .tc := ⟨.hbm, 69, rfl⟩
abbrev main_cst_3 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call3_v0 : Ref sig .tc := ⟨.hbm, 80, rfl⟩
abbrev main_call3_v1 : Ref sig .tc := ⟨.hbm, 81, rfl⟩
abbrev main_call3_cst : Ref sig .tc := ⟨.hbm, 82, rfl⟩
abbrev main_call3_v2 : Ref sig .tc := ⟨.hbm, 83, rfl⟩
abbrev main_call3_v3 : Ref sig .tc := ⟨.hbm, 84, rfl⟩
abbrev main_call3_cst_0 : Ref sig .tc := ⟨.hbm, 85, rfl⟩
abbrev main_call3_v4 : Ref sig .tc := ⟨.hbm, 86, rfl⟩
abbrev main_call3_v5 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩

abbrev nD : Nat := 1
abbrev τ : Topo := Topo.v7x

variable {F : FTy → Type} [FloatOps F]
-- ==== Proof.PostSpec.lean ====
/- The residual block after a mixer, row by row over the extended reals: output projection, cross attention over the memory
   slots, squared-ReLU MLP, final norm. Both the kernel and the reference are shown to compute these functions. -/
module

public import Idealize.ShloMosaic.PureOps.Ideal.Laws

@[expose] public section

noncomputable section

namespace Cert.Post

open Idealize.ShloMosaic

/-- RMS norm of one row of 1024 entries with gain `g`: the entry, times the inverse root of the mean square plus epsilon,
    times the gain. The two constants are the float words of 1024 and of 1e-6. -/
def rms (x g : Fin 1024 → EReal) (j : Fin 1024) : EReal :=
  x j * Ideal.rsqrt (Ideal.div (∑ k, x k * x k) (Ideal.ofBits FTy.f32 1149239296#32) + Ideal.ofBits FTy.f32 897988541#32) * g j

/-- Row after the mixer's output projection: `x + a · wa`. -/
def afterProj (x a : Fin 1024 → EReal) (wa : Fin 1024 → Fin 1024 → EReal) (j : Fin 1024) : EReal :=
  x j + ∑ k, a k * wa k j

/-- The cross-attention queries of a row. -/
def query (x g : Fin 1024 → EReal) (wq : Fin 1024 → Fin 512 → EReal) (n : Fin 512) : EReal :=
  ∑ k, rms x g k * wq k n

/-- Lane `d` of head `h` among 512 lanes. -/
abbrev lane (h : Fin 4) (d : Fin 128) : Fin 512 := ⟨h.val * 128 + d.val, by omega⟩

/-- Scaled score of memory slot `t` in head `h`: keys are the first 512 columns of the memory. -/
def score (q : Fin 512 → EReal) (mem : Fin 256 → Fin 1024 → EReal) (h : Fin 4) (t : Fin 256) : EReal :=
  (∑ d : Fin 128, q (lane h d) * mem t ⟨h.val * 128 + d.val, by omega⟩) * Ideal.ofBits FTy.f32 1035273459#32

/-- Softmax over the 256 memory slots, the maximum subtracted first. -/
def softmax (s : Fin 256 → EReal) (t : Fin 256) : EReal :=
  Ideal.div (Ideal.exp (s t - Finset.fold max (Ideal.ofBits FTy.f32 4286578688#32) s Finset.univ))
    (∑ t', Ideal.exp (s t' - Finset.fold max (Ideal.ofBits FTy.f32 4286578688#32) s Finset.univ))

/-- Attention output of head `h` at lane `d`: values are the last 512 columns of the memory. -/
def attend (q : Fin 512 → EReal) (mem : Fin 256 → Fin 1024 → EReal) (h : Fin 4) (d : Fin 128) : EReal :=
  ∑ t, softmax (score q mem h) t * mem t ⟨512 + (h.val * 128 + d.val), by omega⟩

/-- The head and lane of column `c` of 512. -/
abbrev headOf (c : Fin 512) : Fin 4 := ⟨c.val / 128, by omega⟩
abbrev laneOf (c : Fin 512) : Fin 128 := ⟨c.val % 128, by omega⟩

/-- Row after cross attention. -/
def afterCross (x g : Fin 1024 → EReal) (wq : Fin 1024 → Fin 512 → EReal) (mem : Fin 256 → Fin 1024 → EReal)
    (wo : Fin 512 → Fin 1024 → EReal) (j : Fin 1024) : EReal :=
  x j + ∑ c, attend (query x g wq) mem (headOf c) (laneOf c) * wo c j

/-- One hidden unit of the MLP: the squared positive part. -/
def hidden (x g : Fin 1024 → EReal) (wu : Fin 1024 → Fin 4096 → EReal) (f : Fin 4096) : EReal :=
  max (∑ k, rms x g k * wu k f) 0 * max (∑ k, rms x g k * wu k f) 0

/-- Row after the MLP. -/
def afterMlp (x g : Fin 1024 → EReal) (wu : Fin 1024 → Fin 4096 → EReal) (wd : Fin 4096 → Fin 1024 → EReal) (j : Fin 1024) : EReal :=
  x j + ∑ f, hidden x g wu f * wd f j

/-- The row the whole block returns before the final norm. -/
def body (x a : Fin 1024 → EReal) (wa : Fin 1024 → Fin 1024 → EReal) (gc : Fin 1024 → EReal) (wq : Fin 1024 → Fin 512 → EReal)
    (mem : Fin 256 → Fin 1024 → EReal) (wo : Fin 512 → Fin 1024 → EReal) (gm : Fin 1024 → EReal)
    (wu : Fin 1024 → Fin 4096 → EReal) (wd : Fin 4096 → Fin 1024 → EReal) : Fin 1024 → EReal :=
  afterMlp (afterCross (afterProj x a wa) gc wq mem wo) gm wu wd

/-- The row the whole block returns, final norm included. -/
def out (x a : Fin 1024 → EReal) (wa : Fin 1024 → Fin 1024 → EReal) (gc : Fin 1024 → EReal) (wq : Fin 1024 → Fin 512 → EReal)
    (mem : Fin 256 → Fin 1024 → EReal) (wo : Fin 512 → Fin 1024 → EReal) (gm : Fin 1024 → EReal)
    (wu : Fin 1024 → Fin 4096 → EReal) (wd : Fin 4096 → Fin 1024 → EReal) (gf : Fin 1024 → EReal) : Fin 1024 → EReal :=
  rms (body x a wa gc wq mem wo gm wu wd) gf

/-- A sum over 4096 hidden units, cut into the four tiles of 1024 the MLP is accumulated in. -/
theorem sum_tiles (f : Fin 4096 → EReal) :
    ∑ i, f i = ∑ i : Fin 1024, f ⟨i.val, by omega⟩ + ∑ i : Fin 1024, f ⟨1024 + i.val, by omega⟩
      + ∑ i : Fin 1024, f ⟨2048 + i.val, by omega⟩ + ∑ i : Fin 1024, f ⟨3072 + i.val, by omega⟩ := by
  have e := Fin.sum_univ_add (a := 1024 + 1024 + 1024) (b := 1024) f
  have e2 := Fin.sum_univ_add (a := 1024 + 1024) (b := 1024) fun i => f (Fin.castAdd 1024 i)
  have e3 := Fin.sum_univ_add (a := 1024) (b := 1024) fun i => f (Fin.castAdd 1024 (Fin.castAdd 1024 i))
  rw [e3] at e2
  rw [e2] at e
  exact e

end Cert.Post

end
-- ==== Proof.PostKernel.lean ====
/- What the kernel writes for one block of 512 rows, at an index: the residual block's row function of the block's row. -/
module

public import proofs.«01_k».proof.Proof.Gen.KernelPostIdeal.Frame
public import proofs.«01_k».proof.Proof.PostSpec
public import Idealize.ShloMosaic.Lib.Pipeline.Value
public import Idealize.ShloMosaic.Lib.ValueIdx
public import Idealize.ShloMosaic.Lib.Pointwise
public import Idealize.ShloMosaic.PureOps.Ideal.Laws

@[expose] public section

set_option maxRecDepth 16384

noncomputable section

namespace Cert.KernelPostIdeal.Post

open Cert.KernelPostIdeal Cert.KernelPostIdeal.Gen Idealize.ShloMosaic Idealize.ShloMosaic.TcCoe

/-- The output projection's row. -/
theorem pay2_row (x0 x1 : Vec Ideal S512x1024 .f32) (w : Vec Ideal S1x1024x1024 .bf16) (r : Fin 512) (j : Fin 1024) :
    k0_pay2 x0 x1 w (ix2 r j) = Post.afterProj (fun k => x0 (ix2 r k)) (fun k => x1 (ix2 r k)) (fun k n => w (ix3 0 k n)) j := by
  pointwise [k0_pay2, Post.afterProj]

/-- The query row. -/
theorem pay4_row (x0 x1 : Vec Ideal S512x1024 .f32) (w : Vec Ideal S1x1024x1024 .bf16) (g : Vec Ideal S1x1024 .f32) (wq : Vec Ideal S1x1024x512 .bf16) (r : Fin 512) (j : Fin 512) :
    k0_pay4 x0 x1 w g wq (ix2 r j) = Post.query (fun k => k0_pay2 x0 x1 w (ix2 r k)) (fun k => g (ix2 0 k)) (fun k n => wq (ix3 0 k n)) j := by
  pointwise [k0_pay4, Post.query, Post.rms]

/-- The first head's softmax row. -/
theorem pay7_row (s : FVec Ideal S512x256 .f32) (r : Fin 512) (t : Fin 256) :
    k0_pay7 s (ix2 r t) = Post.softmax (fun t => s (ix2 r t) * Ideal.ofBits FTy.f32 1035273459#32) t := by
  pointwise [k0_pay7, Post.softmax]

/-- The second head's softmax row. -/
theorem pay8_row (s : FVec Ideal S512x256 .f32) (r : Fin 512) (t : Fin 256) :
    k0_pay8 s (ix2 r t) = Post.softmax (fun t => s (ix2 r t) * Ideal.ofBits FTy.f32 1035273459#32) t := by
  pointwise [k0_pay8, Post.softmax]

/-- Head scores of heads 0, 1, 2 and 3. -/
theorem score0 (x0 x1 : Vec Ideal S512x1024 .f32) (w : Vec Ideal S1x1024x1024 .bf16) (g : Vec Ideal S1x1024 .f32) (mem : Vec Ideal S1x256x1024 .f32) (wq : Vec Ideal S1x1024x512 .bf16) (r : Fin 512) :
    (fun t => k0_pay5 x0 x1 w g mem wq (ix2 r t) * Ideal.ofBits FTy.f32 1035273459#32)
      = Post.score (fun n => k0_pay4 x0 x1 w g wq (ix2 r n)) (fun t k => mem (ix3 0 t k)) 0 := by
  funext t
  pointwise [k0_pay5, k0_pay3, Post.score, Post.lane]

theorem score1 (x0 x1 : Vec Ideal S512x1024 .f32) (w : Vec Ideal S1x1024x1024 .bf16) (g : Vec Ideal S1x1024 .f32) (mem : Vec Ideal S1x256x1024 .f32) (wq : Vec Ideal S1x1024x512 .bf16) (r : Fin 512) :
    (fun t => k0_pay6 x0 x1 w g mem wq (ix2 r t) * Ideal.ofBits FTy.f32 1035273459#32)
      = Post.score (fun n => k0_pay4 x0 x1 w g wq (ix2 r n)) (fun t k => mem (ix3 0 t k)) 1 := by
  funext t
  pointwise [k0_pay6, k0_pay3, Post.score, Post.lane]

theorem pay9_row (mem : FVec Ideal S256x1024 .f32) (q : FVec Ideal S512x512 .f32) (r : Fin 512) (t : Fin 256) :
    k0_pay9 mem q (ix2 r t) = Post.softmax (Post.score (fun n => q (ix2 r n)) (fun t k => mem (ix2 t k)) 2) t := by
  pointwise [k0_pay9, Post.softmax, Post.score, Post.lane]

theorem pay10_row (mem : FVec Ideal S256x1024 .f32) (q : FVec Ideal S512x512 .f32) (r : Fin 512) (t : Fin 256) :
    k0_pay10 mem q (ix2 r t) = Post.score (fun n => q (ix2 r n)) (fun t k => mem (ix2 t k)) 3 t := by
  pointwise [k0_pay10, Post.score, Post.lane]

theorem pay11_row (v6 : FVec Ideal S512x1024 .f32) (v10 : FVec Ideal S256x1024 .f32) (v58 : FVec Ideal S512x256 .bf16) (v70 : FVec Ideal S512x256 .bf16) (v82 : FVec Ideal S512x256 .bf16) (v84 : FVec Ideal S512x256 .f32) (v112 : Vec Ideal S1x512x1024 .bf16)
    (s : Fin 512 → Fin 4 → Fin 256 → EReal)
    (h0 : ∀ r t, v58 (ix2 r t) = Post.softmax (s r 0) t) (h1 : ∀ r t, v70 (ix2 r t) = Post.softmax (s r 1) t)
    (h2 : ∀ r t, v82 (ix2 r t) = Post.softmax (s r 2) t) (h3 : ∀ r t, v84 (ix2 r t) = s r 3 t)
    (r : Fin 512) (j : Fin 1024) :
    k0_pay11 v6 v10 v58 v70 v82 v84 v112 (ix2 r j)
      = v6 (ix2 r j) + ∑ c : Fin 512, (∑ t, Post.softmax (s r (Post.headOf c)) t
          * v10 (ix2 t ⟨512 + ((Post.headOf c).val * 128 + (Post.laneOf c).val), by dsimp only; omega⟩)) * v112 (ix3 0 c j) := by
  pointwise [k0_pay11]
  refine congrArg (_ + ·) (Finset.sum_congr rfl fun c _ => congrArg (· * _) ?_)
  have hc := c.isLt
  split
  · have e : Post.headOf c = 0 := Fin.ext (show c.val / 128 = 0 by omega)
    refine Finset.sum_congr rfl fun t _ => ?_
    rw [e]
    refine congrArg₂ (· * ·) (h0 r t) (congrArg (fun k => v10 (ix2 t k)) (Fin.ext ?_))
    show 512 + c.val = 512 + (c.val / 128 * 128 + c.val % 128); omega
  split
  · have e : Post.headOf c = 1 := Fin.ext (show c.val / 128 = 1 by omega)
    refine Finset.sum_congr rfl fun t _ => ?_
    rw [e]
    refine congrArg₂ (· * ·) (h1 r t) (congrArg (fun k => v10 (ix2 t k)) (Fin.ext ?_))
    show 640 + (c.val - 128) = 512 + (c.val / 128 * 128 + c.val % 128); omega
  split
  · have e : Post.headOf c = 2 := Fin.ext (show c.val / 128 = 2 by omega)
    refine Finset.sum_congr rfl fun t _ => ?_
    rw [e]
    refine congrArg₂ (· * ·) (h2 r t) (congrArg (fun k => v10 (ix2 t k)) (Fin.ext ?_))
    show 768 + (c.val - 128 - 128) = 512 + (c.val / 128 * 128 + c.val % 128); omega
  · have e : Post.headOf c = 3 := Fin.ext (show c.val / 128 = 3 by omega)
    refine Finset.sum_congr rfl fun t _ => ?_
    rw [e]
    refine congrArg₂ (· * ·) (by simp only [h3]; rfl) (congrArg (fun k => v10 (ix2 t k)) (Fin.ext ?_))
    show 896 + (c.val - 128 - 128 - 128) = 512 + (c.val / 128 * 128 + c.val % 128); omega

theorem pay12_row (v6 : FVec Ideal S512x1024 .f32) (v10 : FVec Ideal S256x1024 .f32) (v58 : FVec Ideal S512x256 .bf16) (v70 : FVec Ideal S512x256 .bf16) (v82 : FVec Ideal S512x256 .bf16) (v84 : FVec Ideal S512x256 .f32) (v112 : Vec Ideal S1x512x1024 .bf16) (g : Vec Ideal S1x1024 .f32)
    (r : Fin 512) (j : Fin 1024) :
    k0_pay12 v6 v10 v58 v70 v82 v84 v112 g (ix2 r j)
      = Post.rms (fun k => k0_pay11 v6 v10 v58 v70 v82 v84 v112 (ix2 r k)) (fun k => g (ix2 0 k)) j := by
  pointwise [k0_pay12, Post.rms]

/-- One tile of 1024 hidden units of the MLP. -/
theorem pay15_row (v129 : FVec Ideal S512x1024 .f32) (u : Vec Ideal S1x1024x1024 .bf16) (d : Vec Ideal S1x1024x1024 .bf16) (r : Fin 512) (j : Fin 1024) :
    k0_pay15 v129 u d (ix2 r j)
      = ∑ f : Fin 1024, max (∑ k, v129 (ix2 r k) * u (ix3 0 k f)) 0 * max (∑ k, v129 (ix2 r k) * u (ix3 0 k f)) 0 * d (ix3 0 f j) := by
  pointwise [k0_pay15, k0_pay13]

/-- The first two tiles of the MLP added to the row. -/
theorem pay14_row (x : FVec Ideal S512x1024 .f32) (v129 : FVec Ideal S512x1024 .f32) (u0 : Vec Ideal S1x1024x1024 .bf16) (d0 : Vec Ideal S1x1024x1024 .bf16) (u1 : Vec Ideal S1x1024x1024 .bf16) (d1 : Vec Ideal S1x1024x1024 .bf16) (r : Fin 512) (j : Fin 1024) :
    k0_pay14 x v129 u0 d0 u1 d1 (ix2 r j)
      = x (ix2 r j) + (∑ f : Fin 1024, max (∑ k, v129 (ix2 r k) * u0 (ix3 0 k f)) 0 * max (∑ k, v129 (ix2 r k) * u0 (ix3 0 k f)) 0 * d0 (ix3 0 f j))
        + ∑ f : Fin 1024, max (∑ k, v129 (ix2 r k) * u1 (ix3 0 k f)) 0 * max (∑ k, v129 (ix2 r k) * u1 (ix3 0 k f)) 0 * d1 (ix3 0 f j) := by
  pointwise [k0_pay14, k0_pay13]

/-- The last two tiles added, and the final norm of the row. -/
theorem pay1_row (h : FVec Ideal S512x1024 .f32) (y z : FVec Ideal S512x1024 .f32) (u : Vec Ideal S1x1024x1024 .bf16) (d : Vec Ideal S1x1024x1024 .bf16) (g : Vec Ideal S1x1024 .f32) (r : Fin 512) (j : Fin 1024) :
    k0_pay1 (k0_pay13 h) y z u d g (ix2 r j)
      = Post.rms (fun j => y (ix2 r j) + z (ix2 r j)
          + ∑ f : Fin 1024, max (∑ k, h (ix2 r k) * u (ix3 0 k f)) 0 * max (∑ k, h (ix2 r k) * u (ix3 0 k f)) 0 * d (ix3 0 f j)) (fun k => g (ix2 0 k)) j := by
  pointwise [k0_pay1, k0_pay13, Post.rms]

theorem hz : (![0, 0] : Fin 2 → Nat) = fun _ => 0 := funext fun a => by fin_cases a <;> rfl
theorem hz3 : (![0, 0, 0] : Fin 3 → Nat) = fun _ => 0 := funext fun a => by fin_cases a <;> rfl

/-- The row the four tiles of the MLP make, before the final norm: the residual block's row function of the block's row, when the
    tiles' weights are the columns and rows of the whole weights. -/
theorem body_row (x0 x1 : Vec Ideal S512x1024 .f32) (x2 : Vec Ideal S1x1024x1024 .bf16) (x3 : Vec Ideal S1x1024 .f32) (x4 : Vec Ideal S1x1024x512 .bf16) (x5 : Vec Ideal S1x256x1024 .f32) (x6 : Vec Ideal S1x512x1024 .bf16) (x7 : Vec Ideal S1x1024 .f32) (x8 : Vec Ideal S1x1024x4096 .bf16) (x9 : Vec Ideal S1x4096x1024 .bf16)
    (u0 u1 u2 u3 d0 d1 d2 d3 : Vec Ideal S1x1024x1024 .bf16)
    (hu0 : ∀ k f : Fin 1024, u0 (ix3 0 k f) = x8 (ix3 0 k ⟨f.val, by omega⟩)) (hu1 : ∀ k f : Fin 1024, u1 (ix3 0 k f) = x8 (ix3 0 k ⟨1024 + f.val, by omega⟩))
    (hu2 : ∀ k f : Fin 1024, u2 (ix3 0 k f) = x8 (ix3 0 k ⟨2048 + f.val, by omega⟩)) (hu3 : ∀ k f : Fin 1024, u3 (ix3 0 k f) = x8 (ix3 0 k ⟨3072 + f.val, by omega⟩))
    (hd0 : ∀ f j : Fin 1024, d0 (ix3 0 f j) = x9 (ix3 0 ⟨f.val, by omega⟩ j)) (hd1 : ∀ f j : Fin 1024, d1 (ix3 0 f j) = x9 (ix3 0 ⟨1024 + f.val, by omega⟩ j))
    (hd2 : ∀ f j : Fin 1024, d2 (ix3 0 f j) = x9 (ix3 0 ⟨2048 + f.val, by omega⟩ j)) (hd3 : ∀ f j : Fin 1024, d3 (ix3 0 f j) = x9 (ix3 0 ⟨3072 + f.val, by omega⟩ j))
    (X N : FVec Ideal S512x1024 .f32)
    (hX : X = k0_pay11 (k0_pay2 x0 x1 x2) (k0_pay3 x5) (k0_pay7 (k0_pay5 x0 x1 x2 x3 x5 x4)) (k0_pay8 (k0_pay6 x0 x1 x2 x3 x5 x4))
      (k0_pay9 (k0_pay3 x5) (k0_pay4 x0 x1 x2 x3 x4)) (k0_pay10 (k0_pay3 x5) (k0_pay4 x0 x1 x2 x3 x4)) x6)
    (hN : N = k0_pay12 (k0_pay2 x0 x1 x2) (k0_pay3 x5) (k0_pay7 (k0_pay5 x0 x1 x2 x3 x5 x4)) (k0_pay8 (k0_pay6 x0 x1 x2 x3 x5 x4))
      (k0_pay9 (k0_pay3 x5) (k0_pay4 x0 x1 x2 x3 x4)) (k0_pay10 (k0_pay3 x5) (k0_pay4 x0 x1 x2 x3 x4)) x6 x7) (r : Fin 512) (j : Fin 1024) :
    k0_pay14 X N u0 d0 u1 d1 (ix2 r j) + k0_pay15 N u2 d2 (ix2 r j)
        + ∑ f : Fin 1024, max (∑ k, N (ix2 r k) * u3 (ix3 0 k f)) 0 * max (∑ k, N (ix2 r k) * u3 (ix3 0 k f)) 0 * d3 (ix3 0 f j)
      = Post.body (fun k => x0 (ix2 r k)) (fun k => x1 (ix2 r k)) (fun k n => x2 (ix3 0 k n)) (fun k => x3 (ix2 0 k))
          (fun k n => x4 (ix3 0 k n)) (fun t k => x5 (ix3 0 t k)) (fun k n => x6 (ix3 0 k n)) (fun k => x7 (ix2 0 k))
          (fun k n => x8 (ix3 0 k n)) (fun k n => x9 (ix3 0 k n)) j := by
  subst hX hN
  have e3 : ∀ r j, k0_pay11 (k0_pay2 x0 x1 x2) (k0_pay3 x5) (k0_pay7 (k0_pay5 x0 x1 x2 x3 x5 x4)) (k0_pay8 (k0_pay6 x0 x1 x2 x3 x5 x4))
      (k0_pay9 (k0_pay3 x5) (k0_pay4 x0 x1 x2 x3 x4)) (k0_pay10 (k0_pay3 x5) (k0_pay4 x0 x1 x2 x3 x4)) x6 (ix2 r j)
      = Post.afterCross (Post.afterProj (fun k => x0 (ix2 r k)) (fun k => x1 (ix2 r k)) (fun k n => x2 (ix3 0 k n))) (fun k => x3 (ix2 0 k))
          (fun k n => x4 (ix3 0 k n)) (fun t k => x5 (ix3 0 t k)) (fun k n => x6 (ix3 0 k n)) j := by
    intro r j
    have hm : ∀ t k, k0_pay3 x5 (ix2 t k) = x5 (ix3 0 t k) := fun t k => by pointwise [k0_pay3]
    rw [pay11_row _ _ _ _ _ _ _ (fun r => Post.score (fun n => k0_pay4 x0 x1 x2 x3 x4 (ix2 r n)) (fun t k => x5 (ix3 0 t k)))
      (fun r t => by rw [pay7_row, score0]) (fun r t => by rw [pay8_row, score1])
      (fun r t => by rw [pay9_row]; simp only [hm]) (fun r t => by rw [pay10_row]; simp only [hm])]
    simp only [hm, pay4_row, pay2_row]
    rfl
  rw [pay14_row, pay15_row]
  simp only [pay12_row, e3, hu0, hu1, hu2, hu3, hd0, hd1, hd2, hd3]
  unfold Post.body Post.afterMlp
  rw [Post.sum_tiles]
  simp only [← add_assoc]
  rfl

/-- The block a grid point writes, at an index: the residual block's row function of the block's row. -/
theorem out_row (x0 x1 : Vec Ideal S512x1024 .f32) (x2 : Vec Ideal S1x1024x1024 .bf16) (x3 : Vec Ideal S1x1024 .f32) (x4 : Vec Ideal S1x1024x512 .bf16) (x5 : Vec Ideal S1x256x1024 .f32) (x6 : Vec Ideal S1x512x1024 .bf16) (x7 : Vec Ideal S1x1024 .f32) (x8 : Vec Ideal S1x1024x4096 .bf16) (x9 : Vec Ideal S1x4096x1024 .bf16) (x10 : Vec Ideal S1x1024 .f32) (r : Fin 512) (j : Fin 1024) :
    out0_11 x0 x1 x2 x3 x4 x5 x6 x7 x8 x9 x10 (ix2 r j)
      = Post.out (fun k => x0 (ix2 r k)) (fun k => x1 (ix2 r k)) (fun k n => x2 (ix3 0 k n)) (fun k => x3 (ix2 0 k))
          (fun k n => x4 (ix3 0 k n)) (fun t k => x5 (ix3 0 t k)) (fun k n => x6 (ix3 0 k n)) (fun k => x7 (ix2 0 k))
          (fun k n => x8 (ix3 0 k n)) (fun k n => x9 (ix3 0 k n)) (fun k => x10 (ix2 0 k)) j := by
  unfold_out out0_11
  rw [View.canon_unit_zero hz]
  rw [View.ld_unit_zero hz _ x0, View.ld_unit_zero hz _ x1, View.ld_unit_zero hz3 _ x2, View.ld_unit_zero hz _ x3, View.ld_unit_zero hz3 _ x4,
    View.ld_unit_zero hz3 _ x5, View.ld_unit_zero hz3 _ x6, View.ld_unit_zero hz _ x7, View.ld_unit_zero hz _ x10]
  rw [pay1_row]
  refine congrArg (fun x => Post.rms x _ j) (funext fun j => ?_)
  exact body_row x0 x1 x2 x3 x4 x5 x6 x7 x8 x9 _ _ _ _ _ _ _ _ (fun k f => by pointwise []) (fun k f => by pointwise []) (fun k f => by pointwise [])
    (fun k f => by pointwise []) (fun f j => by pointwise []) (fun f j => by pointwise []) (fun f j => by pointwise []) (fun f j => by pointwise []) _ _ rfl rfl r j

end Cert.KernelPostIdeal.Post
end
-- ==== Proof.PostReference.lean ====
/- What the reference of the residual block computes, at an index: the row function of the flattened row. -/
module

public import proofs.«01_k».proof.Proof.Gen.ReferencePostIdeal.Read
public import proofs.«01_k».proof.Proof.PostSpec
public import Idealize.ShloMosaic.Lib.Pipeline.Value
public import Idealize.ShloMosaic.Lib.Pointwise
public import Idealize.ShloMosaic.PureOps.Ideal.Laws

@[expose] public section

set_option maxRecDepth 16384

noncomputable section

namespace Cert.ReferencePostIdeal.Post

open Cert.ReferencePostIdeal Cert.ReferencePostIdeal.Gen Cert.ReferencePostIdeal.Read Idealize.ShloMosaic Idealize.ShloMosaic.TcCoe

variable (x0 x1 : FVec Ideal S16384x1024 .f32) (x2 : FVec Ideal S2x1024x1024 .f32) (x3 : FVec Ideal S1024 .f32)
  (x4 : FVec Ideal S4x1024x512 .f32) (x5 : FVec Ideal S4x256x1024 .f32) (x6 : FVec Ideal S4x512x1024 .f32) (x7 : FVec Ideal S1024 .f32)
  (x8 : FVec Ideal S4x1024x4096 .f32) (x9 : FVec Ideal S4x4096x1024 .f32) (x10 : FVec Ideal S1024 .f32)

/-- Row `l` of sequence `b` among all rows. -/
abbrev row (b : Fin 4) (l : Fin 4096) : Fin 16384 := ⟨b.val * 4096 + l.val, by omega⟩

/-- The row after the output projection. -/
theorem v5_row (b : Fin 4) (l : Fin 4096) (j : Fin 1024) :
    val_main_v5 (F := Ideal) x0 x1 x2 (ix3 b l j)
      = Post.afterProj (fun k => x0 (ix2 (row b l) k)) (fun k => x1 (ix2 (row b l) k)) (fun k n => x2 (ix3 1 k n)) j := by
  pointwise [val_main_v5, val_main_v4, val_main_v3, val_main_v2, val_main_v1, val_main_v0, Post.afterProj]

theorem v22_row (b : Fin 4) (l : Fin 4096) (j : Fin 1024) :
    val_main_v22 (F := Ideal) x0 x1 x2 x3 (ix3 b l j)
      = Post.rms (fun k => val_main_v5 (F := Ideal) x0 x1 x2 (ix3 b l k)) (fun k => x3 (ix1 k)) j := by
  pointwise [val_main_v22, val_main_v21, val_main_v20, val_main_v19, val_main_v18, val_main_v17, val_main_v16, val_main_v15, val_main_v14, val_main_v13, val_main_v12, val_main_v11, val_main_v10, val_main_cst, val_main_cst_0, val_main_cst_1, Post.rms]

theorem v25_row (b : Fin 4) (l : Fin 4096) (n : Fin 512) :
    val_main_v25 (F := Ideal) x0 x1 x2 x3 x4 (ix3 b l n)
      = Post.query (fun k => val_main_v5 (F := Ideal) x0 x1 x2 (ix3 b l k)) (fun k => x3 (ix1 k)) (fun k n => x4 (ix3 3 k n)) n := by
  pointwise [val_main_v25, val_main_v24, val_main_v23, Post.query, v22_row]

theorem v29_row (b h : Fin 4) (l : Fin 4096) (t : Fin 256) :
    val_main_v29 (F := Ideal) x0 x1 x2 x3 x4 x5 (ix4 b h l t)
      = Post.score (fun n => val_main_v25 (F := Ideal) x0 x1 x2 x3 x4 (ix3 b l n)) (fun t k => x5 (ix3 b t k)) h t := by
  pointwise [val_main_v29, val_main_v28, val_main_v27, val_main_v26, val_main_v8, val_main_v6, val_main_cst_2, Post.score, Post.lane]

/-- The maximum over the last axis, as a fold over its coordinates. -/
theorem max_row (y : FVec Ideal S4x4x4096x256 .f32) (c : FVec Ideal S_ .f32) (b h : Fin 4) (l : Fin 4096) :
    Host.reduce FloatOps.maximumf y c reducesTo_S4x4x4096x256_S4x4x4096_d3 h_S_ (ix3 b h l)
      = Finset.univ.fold max (c (Shape.Idx.first h_S_)) fun t : Fin 256 => y (ix4 b h l t) := by
  pointwise

/-- The exponential of a score less the maximum, the maximum named. -/
theorem v36_of (b h : Fin 4) (l : Fin 4096) (t : Fin 256) (M : FVec Ideal S4x4x4096 .f32) (hM : val_main_v30 (F := Ideal) x0 x1 x2 x3 x4 x5 = M) :
    val_main_v36 (F := Ideal) x0 x1 x2 x3 x4 x5 (ix4 b h l t)
      = Ideal.exp (val_main_v29 (F := Ideal) x0 x1 x2 x3 x4 x5 (ix4 b h l t) - max (Ideal.ofBits FTy.f32 4286578688#32) (M (ix3 b h l))) := by
  unfold val_main_v36 val_main_v35 val_main_v34 val_main_v33 val_main_v32 val_main_v31
  rw [hM]
  pointwise [val_main_cst_4]

theorem v30_row (b h : Fin 4) (l : Fin 4096) :
    val_main_v30 (F := Ideal) x0 x1 x2 x3 x4 x5 (ix3 b h l)
      = Finset.univ.fold max (Ideal.ofBits FTy.f32 4286578688#32) fun t : Fin 256 => val_main_v29 (F := Ideal) x0 x1 x2 x3 x4 x5 (ix4 b h l t) := by
  unfold val_main_v30
  generalize val_main_v29 (F := Ideal) x0 x1 x2 x3 x4 x5 = y
  rw [max_row]
  rfl

theorem v36_row (b h : Fin 4) (l : Fin 4096) (t : Fin 256) :
    val_main_v36 (F := Ideal) x0 x1 x2 x3 x4 x5 (ix4 b h l t)
      = Ideal.exp (val_main_v29 (F := Ideal) x0 x1 x2 x3 x4 x5 (ix4 b h l t)
          - Finset.univ.fold max (Ideal.ofBits FTy.f32 4286578688#32) fun t : Fin 256 => val_main_v29 (F := Ideal) x0 x1 x2 x3 x4 x5 (ix4 b h l t)) := by
  rw [v36_of x0 x1 x2 x3 x4 x5 b h l t _ rfl, v30_row, max_eq_right ((Finset.le_fold_max _).2 (Or.inl le_rfl))]

/-- The softmax over the memory slots. -/
theorem v40_row (b h : Fin 4) (l : Fin 4096) (t : Fin 256) :
    val_main_v40 (F := Ideal) x0 x1 x2 x3 x4 x5 (ix4 b h l t)
      = Post.softmax (fun t => val_main_v29 (F := Ideal) x0 x1 x2 x3 x4 x5 (ix4 b h l t)) t := by
  pointwise [val_main_v40, val_main_v39, val_main_v38, val_main_v37, val_main_cst_5]
  simp only [v36_row]
  rfl

/-- The attention output, heads side by side. -/
theorem v43_row (b : Fin 4) (l : Fin 4096) (c : Fin 512) :
    val_main_v43 (F := Ideal) x0 x1 x2 x3 x4 x5 (ix3 b l c)
      = ∑ t, val_main_v40 (F := Ideal) x0 x1 x2 x3 x4 x5 (ix4 b (Post.headOf c) l t) * x5 (ix3 b t ⟨512 + ((Post.headOf c).val * 128 + (Post.laneOf c).val), by dsimp only; omega⟩) := by
  pointwise [val_main_v43, val_main_v42, val_main_v41, val_main_v9, val_main_v7, Post.headOf, Post.laneOf]
  refine Finset.sum_congr rfl fun t _ => ?_
  rw [mul_comm]
  refine congrArg (_ * ·) (congrArg (fun k => x5 (ix3 b t k)) (Fin.ext ?_))
  show 512 + c.val = 512 + (c.val / 128 * 128 + c.val % 128)
  omega

theorem v47_row (b : Fin 4) (l : Fin 4096) (j : Fin 1024) :
    val_main_v47 (F := Ideal) x0 x1 x2 x3 x4 x5 x6 (ix3 b l j)
      = val_main_v5 (F := Ideal) x0 x1 x2 (ix3 b l j) + ∑ c, val_main_v43 (F := Ideal) x0 x1 x2 x3 x4 x5 (ix3 b l c) * x6 (ix3 3 c j) := by
  pointwise [val_main_v47, val_main_v46, val_main_v45, val_main_v44]

theorem v60_row (b : Fin 4) (l : Fin 4096) (j : Fin 1024) :
    val_main_v60 (F := Ideal) x0 x1 x2 x3 x4 x5 x6 x7 (ix3 b l j)
      = Post.rms (fun k => val_main_v47 (F := Ideal) x0 x1 x2 x3 x4 x5 x6 (ix3 b l k)) (fun k => x7 (ix1 k)) j := by
  pointwise [val_main_v60, val_main_v59, val_main_v58, val_main_v57, val_main_v56, val_main_v55, val_main_v54, val_main_v53, val_main_v52, val_main_v51, val_main_v50, val_main_v49, val_main_v48, val_main_cst_6, val_main_cst_7, val_main_cst_8, Post.rms]

theorem v65_row (b : Fin 4) (l : Fin 4096) (f : Fin 4096) :
    val_main_v65 (F := Ideal) x0 x1 x2 x3 x4 x5 x6 x7 x8 (ix3 b l f)
      = Post.hidden (fun k => val_main_v47 (F := Ideal) x0 x1 x2 x3 x4 x5 x6 (ix3 b l k)) (fun k => x7 (ix1 k)) (fun k n => x8 (ix3 3 k n)) f := by
  pointwise [val_main_v65, val_main_v64, val_main_v63, val_main_v62, val_main_v61, val_main_call0_v0, val_main_call0_cst, Post.hidden, v60_row]

theorem v69_row (b : Fin 4) (l : Fin 4096) (j : Fin 1024) :
    val_main_v69 (F := Ideal) x0 x1 x2 x3 x4 x5 x6 x7 x8 x9 (ix3 b l j)
      = Post.afterMlp (fun k => val_main_v47 (F := Ideal) x0 x1 x2 x3 x4 x5 x6 (ix3 b l k)) (fun k => x7 (ix1 k)) (fun k n => x8 (ix3 3 k n)) (fun k n => x9 (ix3 3 k n)) j := by
  pointwise [val_main_v69, val_main_v68, val_main_v67, val_main_v66, Post.afterMlp, v65_row]

theorem v83_row (r : Fin 16384) (j : Fin 1024) :
    val_main_v83 (F := Ideal) x0 x1 x2 x3 x4 x5 x6 x7 x8 x9 x10 (ix2 r j)
      = Post.rms (fun k => val_main_v69 (F := Ideal) x0 x1 x2 x3 x4 x5 x6 x7 x8 x9 (ix3 (⟨r.val / 4096, by omega⟩ : Fin 4) (⟨r.val % 4096, by omega⟩ : Fin 4096) k)) (fun k => x10 (ix1 k)) j := by
  pointwise [val_main_v83, val_main_v82, val_main_v81, val_main_v80, val_main_v79, val_main_v78, val_main_v77, val_main_v76, val_main_v75, val_main_v74, val_main_v73, val_main_v72, val_main_v71, val_main_v70, val_main_cst_9, val_main_cst_10, val_main_cst_11, Post.rms]

/-- The reference's result at an index: the residual block's row function of the flattened row, the row's sequence picking the
    memory and the last of the stacked weights taken. -/
theorem result_row (r : Fin 16384) (j : Fin 1024) :
    val_main_v83 (F := Ideal) x0 x1 x2 x3 x4 x5 x6 x7 x8 x9 x10 (ix2 r j)
      = Post.out (fun k => x0 (ix2 r k)) (fun k => x1 (ix2 r k)) (fun k n => x2 (ix3 1 k n)) (fun k => x3 (ix1 k))
          (fun k n => x4 (ix3 3 k n)) (fun t k => x5 (ix3 (⟨r.val / 4096, by omega⟩ : Fin 4) t k)) (fun k n => x6 (ix3 3 k n)) (fun k => x7 (ix1 k))
          (fun k n => x8 (ix3 3 k n)) (fun k n => x9 (ix3 3 k n)) (fun k => x10 (ix1 k)) j := by
  have er : row (⟨r.val / 4096, by omega⟩ : Fin 4) (⟨r.val % 4096, by omega⟩ : Fin 4096) = r :=
    Fin.ext (show r.val / 4096 * 4096 + r.val % 4096 = r.val by omega)
  rw [v83_row]
  simp only [v69_row, v47_row, v43_row, v40_row, v29_row, v25_row, v5_row, er]
  rfl

end Cert.ReferencePostIdeal.Post
end
-- ==== Proof.PostValue.lean ====
/- What the residual block's kernel leaves in its result: at every row the block's row function, which is the reference's value. -/
module

public import proofs.«01_k».proof.Proof.Gen.KernelPostIdeal.Value
public import proofs.«01_k».proof.Proof.PostKernel
public import proofs.«01_k».proof.Proof.PostReference
public import Idealize.ShloMosaic.Lib.Pipeline.ValueKit
public import Idealize.ShloMosaic.Lib.Claim

@[expose] public section

set_option maxRecDepth 16384

noncomputable section

namespace Cert.KernelPostIdeal.Post

open Cert.KernelPostIdeal Cert.KernelPostIdeal.Gen Idealize.ShloMosaic Idealize.ShloMosaic.TcCoe

/-- Which block each window holds at a grid point: the point's own row block, its batch's memory, and
    one fixed layer of each weight. -/
theorem idx : ∀ t : Fin cfg0.N, win0_0.index t = ![t.val, 0] ∧ win0_1.index t = ![t.val, 0] ∧ win0_2.index t = ![1, 0, 0] ∧
    win0_3.index t = ![0, 0] ∧ win0_4.index t = ![3, 0, 0] ∧ win0_5.index t = ![t.val / 8, 0, 0] ∧ win0_6.index t = ![3, 0, 0] ∧
    win0_7.index t = ![0, 0] ∧ win0_8.index t = ![3, 0, 0] ∧ win0_9.index t = ![3, 0, 0] ∧ win0_10.index t = ![0, 0] ∧
    win0_11.index t = ![t.val, 0] := by decide +kernel

variable (m : (ℓ : Loc nD τ sig) → Buf (Elt Ideal) ℓ) (c : Dev nD) (t : Fin cfg0.N)

/-- Each window's block at a point, as a part of its argument: the rows, -/
theorem read0 (r : Fin 512) (h : t.val * 512 + r.val < 16384) (k : Fin 1024) :
    iblk m c 0 t (ix2 r k) = m ((c.tc : Thread nD τ).loc main_arg0) (ix2 ⟨t.val * 512 + r.val, h⟩ k) := by blk_ext [iblk, V, idx t]
/-- the mixer's rows, -/
theorem read1 (r : Fin 512) (h : t.val * 512 + r.val < 16384) (k : Fin 1024) :
    iblk m c 1 t (ix2 r k) = m ((c.tc : Thread nD τ).loc main_arg1) (ix2 ⟨t.val * 512 + r.val, h⟩ k) := by blk_ext [iblk, V, idx t]
/-- the output projection, -/
theorem read2 (k : Fin 1024) (n : Fin 1024) :
    iblk m c 2 t (ix3 0 k n) = m ((c.tc : Thread nD τ).loc main_arg2) (ix3 1 k n) := by blk_ext! [iblk, V, idx t]
/-- the norm before the cross attention, -/
theorem read3 (k : Fin 1024) :
    iblk m c 3 t (ix2 0 k) = m ((c.tc : Thread nD τ).loc main_arg3) (ix1 k) := by blk_ext! [iblk, V, idx t]
/-- the query projection, -/
theorem read4 (k : Fin 1024) (n : Fin 512) :
    iblk m c 4 t (ix3 0 k n) = m ((c.tc : Thread nD τ).loc main_arg4) (ix3 3 k n) := by blk_ext! [iblk, V, idx t]
/-- the memory of the point's batch, -/
theorem read5 (r : Fin 512) (h : (t.val * 512 + r.val) / 4096 < 4) (k : Fin 256) (n : Fin 1024) :
    iblk m c 5 t (ix3 0 k n) = m ((c.tc : Thread nD τ).loc main_arg5) (ix3 ⟨(t.val * 512 + r.val) / 4096, h⟩ k n) := by
  have hr := r.isLt
  blk_ext [iblk, V, idx t]
/-- the cross attention's output projection, -/
theorem read6 (k : Fin 512) (n : Fin 1024) :
    iblk m c 6 t (ix3 0 k n) = m ((c.tc : Thread nD τ).loc main_arg6) (ix3 3 k n) := by blk_ext! [iblk, V, idx t]
/-- the norm before the multilayer perceptron, -/
theorem read7 (k : Fin 1024) :
    iblk m c 7 t (ix2 0 k) = m ((c.tc : Thread nD τ).loc main_arg7) (ix1 k) := by blk_ext! [iblk, V, idx t]
/-- its two weights, -/
theorem read8 (k : Fin 1024) (n : Fin 4096) :
    iblk m c 8 t (ix3 0 k n) = m ((c.tc : Thread nD τ).loc main_arg8) (ix3 3 k n) := by blk_ext! [iblk, V, idx t]
/-- the second of them, -/
theorem read9 (k : Fin 4096) (n : Fin 1024) :
    iblk m c 9 t (ix3 0 k n) = m ((c.tc : Thread nD τ).loc main_arg9) (ix3 3 k n) := by blk_ext! [iblk, V, idx t]
/-- and the final norm. -/
theorem read10 (k : Fin 1024) :
    iblk m c 10 t (ix2 0 k) = m ((c.tc : Thread nD τ).loc main_arg10) (ix1 k) := by blk_ext! [iblk, V, idx t]

/-- The result array, as the reference computes it from the arguments. -/
abbrev result (m : (ℓ : Loc nD τ sig) → Buf (Elt Ideal) ℓ) (c : Dev nD) : Vec Ideal S16384x1024 .f32 :=
  Cert.ReferencePostIdeal.Read.val_main_v83 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))

/-- The result array after the run is the reference's. -/
theorem final :
    (dats m 0 c).arrAt 11 cfg0.N = result m c := by
  refine (dats m 0 c).arrAt_eq_of_covers 11 _ (by decide +kernel) fun t hf y => ?_
  obtain ⟨r, j, rfl⟩ : ∃ (r : Fin 512) (j : Fin 1024), y = ix2 r j := ⟨y 0, y 1, by funext a; fin_cases a <;> rfl⟩
  blk_simp
  rw [after0_11]
  have ht : t.val < 32 := t.isLt
  have hr := r.isLt
  have hemb : ((cfg0.win 11).blk t).view.emb (ix2 r j) = ix2 (⟨t.val * 512 + r.val, by omega⟩ : Fin 16384) j := by
    blk_ext [idx t]
  rw [out_row, hemb, result, Cert.ReferencePostIdeal.Post.result_row]
  congr 1
  · funext k; exact read0 m c t r _ k
  · funext k; exact read1 m c t r _ k
  · funext k n; exact read2 m c t k n
  · funext k; exact read3 m c t k
  · funext k n; exact read4 m c t k n
  · funext k n; exact read5 m c t r _ k n
  · funext k n; exact read6 m c t k n
  · funext k; exact read7 m c t k
  · funext k n; exact read8 m c t k n
  · funext k n; exact read9 m c t k n
  · funext k; exact read10 m c t k

/-- The kernel's run leaves the reference's value in the result and keeps the arguments. -/
theorem run (ρ : Dev nD → PrngReg) :
    θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (final m c), (h c).2⟩) (Value.run_blocks m ρ)

end Cert.KernelPostIdeal.Post

end
-- ==== Proof.GlaSpec.lean ====
/- Gated linear attention on one head's chunk of rows, over the extended reals: the chunk's output from the state before it,
   the state after it, and the gated norm of an output row. -/
module

public import Idealize.ShloMosaic.Lib.ValueIdx
public import Idealize.ShloMosaic.PureOps.Ideal.Laws

@[expose] public section

noncomputable section

namespace Cert.Gla

open Idealize.ShloMosaic

section
variable {n : ℕ}

/-- The log gates summed down to row `i`. -/
def cum (lf : Fin n → Fin 128 → EReal) (i : Fin n) (d : Fin 128) : EReal := ∑ s : Fin n, if s ≤ i then lf s d else 0

/-- The queries, scaled and decayed from the chunk's start; the factor is the float word of the inverse root of 128. -/
def qdec (q lf : Fin n → Fin 128 → EReal) (i : Fin n) (d : Fin 128) : EReal :=
  q i d * Ideal.ofBits FTy.f32 1035273459#32 * Ideal.exp (cum lf i d)

/-- The keys with the decay from the chunk's start undone. -/
def kdec (k lf : Fin n → Fin 128 → EReal) (i : Fin n) (d : Fin 128) : EReal := k i d * Ideal.exp (-cum lf i d)

/-- The causal scores inside the chunk. -/
def score (q k lf : Fin n → Fin 128 → EReal) (i s : Fin n) : EReal :=
  if s ≤ i then ∑ d, qdec q lf i d * kdec k lf s d else 0

/-- The chunk's output: what the state before it gives, and what the chunk's own rows give. -/
def out (q k lf : Fin n → Fin 128 → EReal) (v : Fin n → Fin 256 → EReal) (S : Fin 128 → Fin 256 → EReal) (i : Fin n) (e : Fin 256) : EReal :=
  ∑ d, qdec q lf i d * S d e + ∑ s, score q k lf i s * v s e

end

/-- The keys decayed to the chunk's end. -/
def krem (k lf : Fin 64 → Fin 128 → EReal) (i : Fin 64) (d : Fin 128) : EReal := k i d * Ideal.exp (cum lf 63 d - cum lf i d)

/-- The state after the chunk. -/
def next (k lf : Fin 64 → Fin 128 → EReal) (v : Fin 64 → Fin 256 → EReal) (S : Fin 128 → Fin 256 → EReal) (d : Fin 128) (e : Fin 256) : EReal :=
  Ideal.exp (cum lf 63 d) * S d e + ∑ s, krem k lf s d * v s e

/-- An output row's norm over the head's 256 lanes, with gain `g`, times the row `r` passed through `x · sigmoid x`. The constants
    are the float words of 256 and of 1e-6. -/
def gated (o g r : Fin 256 → EReal) (e : Fin 256) : EReal :=
  o e * Ideal.rsqrt (Ideal.div (∑ e', o e' * o e') (Ideal.ofBits FTy.f32 1132462080#32) + Ideal.ofBits FTy.f32 897988541#32) * g e
    * (r e * Ideal.div 1 (1 + Ideal.exp (-r e)))

/-- A sum with a term at minus infinity is minus infinity. -/
theorem sum_eq_bot {n : ℕ} {f : Fin n → EReal} {s : Fin n} (h : f s = ⊥) : ∑ i, f i = ⊥ := by
  rw [← Finset.add_sum_erase _ f (Finset.mem_univ s), h, EReal.bot_add]

/-- A running sum computed from a value's rounding and the two remainders is the running sum, where no gate is plus infinity:
    the remainders are nil, or minus infinity where the gate is. -/
theorem cum_split {n : ℕ} (f : Fin n → EReal) (t : Fin n → EReal) (p : Fin n → Prop) [DecidablePred p]
    (ht : ∀ s, t s = if p s then 1 else 0) (hf : ∀ s, f s ≠ ⊤) :
    ∑ s, t s * f s + (∑ s, t s * (f s - f s) + ∑ s, t s * (f s - f s - (f s - f s))) = ∑ s, if p s then f s else 0 := by
  have e : ∀ s, t s * f s = if p s then f s else 0 := fun s => by rw [ht]; split <;> simp
  simp only [e]
  by_cases h : ∃ s, p s ∧ f s = ⊥
  · obtain ⟨s, hp, hs⟩ := h
    rw [sum_eq_bot (s := s) (by rw [if_pos hp, hs]), EReal.bot_add]
  · have hz : ∀ s, p s → f s - f s = 0 := fun s hp => EReal.sub_self (hf s) fun hb => h ⟨s, hp, hb⟩
    have e1 : ∀ s, t s * (f s - f s) = 0 := fun s => by
      rw [ht]; split
      · rename_i hp; rw [hz s hp, mul_zero]
      · rw [zero_mul]
    have e2 : ∀ s, t s * (f s - f s - (f s - f s)) = 0 := fun s => by
      rw [ht]; split
      · rename_i hp; rw [hz s hp, sub_zero, mul_zero]
      · rw [zero_mul]
    simp only [e1, e2, Finset.sum_const_zero, add_zero]

end Cert.Gla

end
-- ==== Proof.GlaUnit.lean ====
/- One head's chunk as the kernel computes it: the words it stores for a head are the chunk functions of the head's rows. -/
module

public import proofs.«01_k».proof.Proof.Gen.KernelIdeal.Skeleton
public import proofs.«01_k».proof.Proof.GlaSpec
public import Idealize.ShloMosaic.Lib.Pipeline.Value
public import Idealize.ShloMosaic.Lib.Pointwise

@[expose] public section

set_option maxRecDepth 16384

noncomputable section

namespace Cert.KernelIdeal.Gla

open Cert.KernelIdeal Cert.KernelIdeal.Gen Idealize.ShloMosaic Idealize.ShloMosaic.TcCoe

/-- The running sums of one head's 128 lanes, cut from the running sums of all 512. -/
abbrev head (o : ℕ) (h : S64x512.Slices ![0, o] S64x128) (lf : Vec Ideal S1x64x512 .f32) : FVec Ideal S64x128 .f32 :=
  extractStridedSlice S64x128 ![0, o] (k0_pay14 k0_pay4 lf) h

/-- The state the kernel stores for a head after a chunk. -/
abbrev nextV (o : ℕ) (h : S64x512.Slices ![0, o] S64x128) (lf : Vec Ideal S1x64x512 .f32) (k : Vec Ideal S1x64x128 .f32) (v : Vec Ideal S1x64x256 .f32)
    (S : Vec Ideal S1x1x1x128x256 .f32) : FVec Ideal S1x1x1x128x256 .f32 :=
  k0_pay195 (k0_pay194 k0_pay5 (k0_pay18 (head o h lf)) (k0_pay146 (k0_pay21 (head o h lf) k) (k0_pay22 v)) S)

/-- The output rows the kernel stores for a head's chunk. -/
abbrev outV (o : ℕ) (h : S64x512.Slices ![0, o] S64x128) (lf : Vec Ideal S1x64x512 .f32) (q k : Vec Ideal S1x64x128 .f32) (v : Vec Ideal S1x64x256 .f32)
    (S : Vec Ideal S1x1x1x128x256 .f32) (g : Vec Ideal S1x256 .f32) (r : Vec Ideal S1x64x256 .f32) : FVec Ideal S1x64x256 .f32 :=
  k0_pay196 (k0_pay162 (k0_pay19 (head o h lf) q) S) (k0_pay178 k0_pay3 (k0_pay22 v) (k0_pay130 (k0_pay19 (head o h lf) q) (k0_pay20 (head o h lf) k))) g r

/-- A choice by the lower triangle's mask is a choice by the rows' order. -/
theorem sel_le (i s : Fin 64) (a b : EReal) :
    Scalar.select (IntOp.cmpi CmpIPredicate.sge (BitVec.ofNat 32 ↑i) (BitVec.ofNat 32 ↑s)) a b = if s ≤ i then a else b := by
  have h : ∀ i s : Fin 64, IntOp.cmpi CmpIPredicate.sge (BitVec.ofNat 32 ↑i) (BitVec.ofNat 32 ↑s) = if s ≤ i then 1#1 else 0#1 := by decide +kernel
  rw [h]; split <;> rfl

/-- A choice by the diagonal's mask is a choice by equality. -/
theorem sel_eq (d x : Fin 128) (a b : EReal) :
    Scalar.select (IntOp.cmpi CmpIPredicate.eq (BitVec.ofNat 32 ↑d) (BitVec.ofNat 32 ↑x)) a b = if d = x then a else b := by
  have h : ∀ d x : Fin 128, IntOp.cmpi CmpIPredicate.eq (BitVec.ofNat 32 ↑d) (BitVec.ofNat 32 ↑x) = if d = x then 1#1 else 0#1 := by decide +kernel
  rw [h]; split <;> rfl

/-- The running sums of all lanes, where no gate is plus infinity. -/
theorem pay14_row (lf : Vec Ideal S1x64x512 .f32) (i : Fin 64) (n : Fin 512) (hf : ∀ s, lf (ix3 0 s n) ≠ ⊤) :
    k0_pay14 k0_pay4 lf (ix2 i n) = ∑ s : Fin 64, if s ≤ i then lf (ix3 0 s n) else 0 := by
  refine Eq.trans ?_ (Gla.cum_split (fun s => lf (ix3 0 s n)) (fun s => if s ≤ i then 1 else 0) (· ≤ i) (fun _ => rfl) hf)
  pointwise [k0_pay14, k0_pay4, k0_pay3]
  simp only [sel_le, ite_mul, one_mul, zero_mul]

/-- A head's running sums. -/
theorem head_row (o : ℕ) (h : S64x512.Slices ![0, o] S64x128) (lf : Vec Ideal S1x64x512 .f32) (ho : o + 128 ≤ 512) (hf : ∀ i, lf i ≠ ⊤) (i : Fin 64) (d : Fin 128) :
    head o h lf (ix2 i d) = Gla.cum (fun s d => lf (ix3 0 s ⟨o + d.val, by omega⟩)) i d := by
  unfold head
  pointwise []
  exact pay14_row lf i _ fun s => hf _

/-- The last row of the running sums. -/
theorem pay18_row (C : FVec Ideal S64x128 .f32) (d : Fin 128) : k0_pay18 C (ix2 0 d) = C (ix2 63 d) := by
  pointwise [k0_pay18]

/-- The scaled and decayed queries. -/
theorem pay19_row (C : FVec Ideal S64x128 .f32) (q : Vec Ideal S1x64x128 .f32) (i : Fin 64) (d : Fin 128) :
    k0_pay19 C q (ix2 i d) = q (ix3 0 i d) * Ideal.ofBits FTy.f32 1035273459#32 * Ideal.exp (C (ix2 i d)) := by
  pointwise [k0_pay19]

/-- The keys with the decay undone. -/
theorem pay20_row (C : FVec Ideal S64x128 .f32) (k : Vec Ideal S1x64x128 .f32) (i : Fin 64) (d : Fin 128) :
    k0_pay20 C k (ix2 i d) = k (ix3 0 i d) * Ideal.exp (-C (ix2 i d)) := by
  pointwise [k0_pay20, k0_pay17]
  rw [zero_sub]

/-- The keys decayed to the chunk's end. -/
theorem pay21_row (C : FVec Ideal S64x128 .f32) (k : Vec Ideal S1x64x128 .f32) (i : Fin 64) (d : Fin 128) :
    k0_pay21 C k (ix2 i d) = k (ix3 0 i d) * Ideal.exp (C (ix2 63 d) - C (ix2 i d)) := by
  pointwise [k0_pay21, k0_pay17, k0_pay18]

/-- The state after the chunk: the state before it scaled row by row, and what the chunk adds. -/
theorem pay194_row (l : FVec Ideal S1x128 .f32) (A : FVec Ideal S128x256 .f32) (S : Vec Ideal S1x1x1x128x256 .f32) (d : Fin 128) (e : Fin 256) :
    k0_pay195 (k0_pay194 k0_pay5 l A S) (ix5 0 0 0 d e) = Ideal.exp (l (ix2 0 d)) * S (ix5 0 0 0 d e) + A (ix2 d e) := by
  pointwise [k0_pay195, k0_pay194, k0_pay5]
  simp only [sel_eq, Finset.sum_ite_eq, Finset.mem_univ, if_true]

/-- What the chunk adds to the state. -/
theorem pay146_row (a : FVec Ideal S64x128 .bf16) (v : Vec Ideal S1x64x256 .f32) (d : Fin 128) (e : Fin 256) :
    k0_pay146 a (k0_pay22 v) (ix2 d e) = ∑ s, a (ix2 s d) * v (ix3 0 s e) := by
  pointwise [k0_pay146, k0_pay22]

/-- The outputs from the state. -/
theorem pay162_row (a : FVec Ideal S64x128 .bf16) (S : Vec Ideal S1x1x1x128x256 .f32) (i : Fin 64) (e : Fin 256) :
    k0_pay162 a S (ix2 i e) = ∑ d, a (ix2 i d) * S (ix5 0 0 0 d e) := by
  pointwise [k0_pay162]

/-- The scores before the mask. -/
theorem pay130_row (a b : FVec Ideal S64x128 .bf16) (i s : Fin 64) :
    k0_pay130 a b (ix2 i s) = ∑ d, a (ix2 i d) * b (ix2 s d) := by
  pointwise [k0_pay130]

/-- The outputs from the chunk's own rows. -/
theorem pay178_row (A : FVec Ideal S64x64 .f32) (v : Vec Ideal S1x64x256 .f32) (i : Fin 64) (e : Fin 256) :
    k0_pay178 k0_pay3 (k0_pay22 v) A (ix2 i e) = ∑ s : Fin 64, (if s ≤ i then A (ix2 i s) else 0) * v (ix3 0 s e) := by
  pointwise [k0_pay178, k0_pay22, k0_pay3]
  simp only [sel_le, ite_mul, zero_mul]

/-- The gated norm of the outputs. -/
theorem pay196_row (a b : FVec Ideal S64x256 .f32) (g : Vec Ideal S1x256 .f32) (r : Vec Ideal S1x64x256 .f32) (i : Fin 64) (e : Fin 256) :
    k0_pay196 a b g r (ix3 0 i e) = Gla.gated (fun e => a (ix2 i e) + b (ix2 i e)) (fun e => g (ix2 0 e)) (fun e => r (ix3 0 i e)) e := by
  pointwise [k0_pay196, Gla.gated]
  rfl

/-- The state stored for a head is the state after the chunk. -/
theorem nextV_row (o : ℕ) (h : S64x512.Slices ![0, o] S64x128) (ho : o + 128 ≤ 512) (lf : Vec Ideal S1x64x512 .f32) (k : Vec Ideal S1x64x128 .f32)
    (v : Vec Ideal S1x64x256 .f32) (S : Vec Ideal S1x1x1x128x256 .f32) (hf : ∀ i, lf i ≠ ⊤) (d : Fin 128) (e : Fin 256) :
    nextV o h lf k v S (ix5 0 0 0 d e)
      = Gla.next (fun i d => k (ix3 0 i d)) (fun i d => lf (ix3 0 i ⟨o + d.val, by omega⟩)) (fun i e => v (ix3 0 i e)) (fun d e => S (ix5 0 0 0 d e)) d e := by
  unfold nextV Gla.next Gla.krem
  simp only [pay194_row, pay146_row, pay18_row, pay21_row, head_row o h lf ho hf]

/-- The output rows stored for a head are the gated norms of the chunk's outputs. -/
theorem outV_row (o : ℕ) (h : S64x512.Slices ![0, o] S64x128) (ho : o + 128 ≤ 512) (lf : Vec Ideal S1x64x512 .f32) (q k : Vec Ideal S1x64x128 .f32)
    (v : Vec Ideal S1x64x256 .f32) (S : Vec Ideal S1x1x1x128x256 .f32) (g : Vec Ideal S1x256 .f32) (r : Vec Ideal S1x64x256 .f32) (hf : ∀ i, lf i ≠ ⊤)
    (i : Fin 64) (e : Fin 256) :
    outV o h lf q k v S g r (ix3 0 i e)
      = Gla.gated (Gla.out (fun i d => q (ix3 0 i d)) (fun i d => k (ix3 0 i d)) (fun i d => lf (ix3 0 i ⟨o + d.val, by omega⟩)) (fun i e => v (ix3 0 i e))
          (fun d e => S (ix5 0 0 0 d e)) i) (fun e => g (ix2 0 e)) (fun e => r (ix3 0 i e)) e := by
  unfold outV Gla.out Gla.score Gla.qdec Gla.kdec
  simp only [pay196_row, pay162_row, pay178_row, pay130_row, pay19_row, pay20_row, head_row o h lf ho hf]

end Cert.KernelIdeal.Gla

end
-- ==== Proof.GlaBlock.lean ====
/- A grid point of the recurrence: from the blocks it reads, what it leaves in the state block and in the output block. A point takes
   two chunks of 64 rows of all four batches and all four heads. -/
module

public import proofs.«01_k».proof.Proof.Gen.KernelIdeal.Value
public import proofs.«01_k».proof.Proof.GlaUnit
public import Idealize.ShloMosaic.Lib.Pipeline.ValueKit
public import Idealize.ShloMosaic.Lib.Pipeline.ReadBack

@[expose] public section

set_option maxRecDepth 16384

noncomputable section

namespace Cert.KernelIdeal.Gla

open Cert.KernelIdeal Cert.KernelIdeal.Gen Idealize.ShloMosaic Idealize.ShloMosaic.TcCoe

/-- The 64 rows from row `r` and the `w` lanes from lane `o` of batch `b` of a block lie inside it. -/
theorem inb_cut {C w b r o : ℕ} (h : b < 4 ∧ r + 64 ≤ 128 ∧ o + w ≤ C) (a : Fin 3) :
    (![b, r, o] : Fin 3 → ℕ) a + (![1, 64, w] : Fin 3 → ℕ) a ≤ (⟨3, ![4, 128, C]⟩ : Shape).size a := by
  fin_cases a <;> simp <;> omega

/-- Those rows and lanes. -/
def cut {C : ℕ} (w : ℕ) (x : Vec Ideal ⟨3, ![4, 128, C]⟩ .f32) (b r o : ℕ) (h : b < 4 ∧ r + 64 ≤ 128 ∧ o + w ≤ C) : Vec Ideal ⟨3, ![1, 64, w]⟩ .f32 :=
  View.ld x (Rect.unit ![b, r, o] ![1, 64, w] (inb_cut h))

/-- They are read where they lie. -/
theorem cut_row {C w : ℕ} (x : Vec Ideal ⟨3, ![4, 128, C]⟩ .f32) {b r o : ℕ} (h : b < 4 ∧ r + 64 ≤ 128 ∧ o + w ≤ C) (i : Fin 64) (j : Fin w) :
    cut w x b r o h (ix3 0 i j) = x (ix3 ⟨b, h.1⟩ ⟨r + i.val, by omega⟩ ⟨o + j.val, by omega⟩) := by
  refine View.ld_unit_apply_of _ _ _ _ _ _ fun a => ?_
  fin_cases a <;> simp

theorem cut_ne_top {C w b r o : ℕ} (x : Vec Ideal ⟨3, ![4, 128, C]⟩ .f32) (hx : ∀ i, x i ≠ ⊤) (h : b < 4 ∧ r + 64 ≤ 128 ∧ o + w ≤ C) :
    ∀ i, cut w x b r o h i ≠ ⊤ := fun _ => hx _

/-- A head's state in the state block. -/
theorem inb_state {b h : ℕ} (hb : b < 4) (hh : h < 4) (a : Fin 5) :
    (![0, b, h, 0, 0] : Fin 5 → ℕ) a + (![1, 1, 1, 128, 256] : Fin 5 → ℕ) a ≤ S1x4x4x128x256.size a := by
  fin_cases a <;> simp <;> omega

def cutS (S : Vec Ideal S1x4x4x128x256 .f32) (b h : ℕ) (hb : b < 4) (hh : h < 4) : Vec Ideal S1x1x1x128x256 .f32 :=
  View.ld S (Rect.unit ![0, b, h, 0, 0] ![1, 1, 1, 128, 256] (inb_state hb hh))

theorem cutS_row (S : Vec Ideal S1x4x4x128x256 .f32) {b h : ℕ} (hb : b < 4) (hh : h < 4) (d : Fin 128) (e : Fin 256) :
    cutS S b h hb hh (ix5 0 0 0 d e) = S (ix5 0 ⟨b, hb⟩ ⟨h, hh⟩ d e) := by
  refine View.ld_unit_apply_of _ _ _ _ _ _ fun a => ?_
  fin_cases a <;> simp

/-- A head's lanes of the gain. -/
theorem inb_gain {o : ℕ} (h : o + 256 ≤ 1024) (a : Fin 2) : (![0, o] : Fin 2 → ℕ) a + (![1, 256] : Fin 2 → ℕ) a ≤ S1x1024.size a := by
  fin_cases a <;> simp <;> omega

def cutG (g : Vec Ideal S1x1024 .f32) (o : ℕ) (h : o + 256 ≤ 1024) : Vec Ideal S1x256 .f32 :=
  View.ld g (Rect.unit ![0, o] ![1, 256] (inb_gain h))

theorem cutG_row (g : Vec Ideal S1x1024 .f32) {o : ℕ} (h : o + 256 ≤ 1024) (e : Fin 256) : cutG g o h (ix2 0 e) = g (ix2 0 ⟨o + e.val, by omega⟩) := by
  refine View.ld_unit_apply_of _ _ _ _ _ _ fun a => ?_
  fin_cases a <;> simp

/-- A head's lanes cut from the running sums. -/
theorem slices {h : ℕ} (hh : h < 4) : S64x512.Slices ![0, 128 * h] S64x128 := by
  refine ⟨rfl, fun a => ?_⟩
  fin_cases a <;> simp <;> omega

/-- A head's rows of chunk `u` of a block whose heads are `n` lanes wide. -/
def rows {n : ℕ} (x : Vec Ideal ⟨3, ![4, 128, 4 * n]⟩ .f32) (u : Fin 2) (b h : Fin 4) (i : Fin 64) (d : Fin n) : EReal :=
  x (ix3 b ⟨64 * u.val + i.val, by omega⟩ ⟨n * h.val + d.val, by
    have := d.isLt; have := Nat.mul_le_mul_left n (show h.val ≤ 3 by omega); omega⟩)

section
variable (x0 x1 : Vec Ideal S4x128x512 .f32) (x2 x3 : Vec Ideal S4x128x1024 .f32) (x4 : Vec Ideal S4x128x512 .f32) (x5 : Vec Ideal S1x1024 .f32)
  (S : Vec Ideal S1x4x4x128x256 .f32)

/-- A head's state after the point's first chunk. -/
def mid (b h : Fin 4) : Fin 128 → Fin 256 → EReal :=
  Gla.next (rows (n := 128) x1 0 b h) (rows (n := 128) x4 0 b h) (rows (n := 256) x2 0 b h) fun d e => S (ix5 0 b h d e)

/-- The state block after the point. -/
def stateB : Vec Ideal S1x4x4x128x256 .f32 := fun y =>
  Gla.next (rows (n := 128) x1 1 (y 1) (y 2)) (rows (n := 128) x4 1 (y 1) (y 2)) (rows (n := 256) x2 1 (y 1) (y 2)) (mid x1 x2 x4 S (y 1) (y 2)) (y 3) (y 4)

/-- One row of a head's output in one of the point's chunks. -/
def outRow (u : Fin 2) (b h : Fin 4) (i : Fin 64) (e : Fin 256) : EReal :=
  Gla.gated (Gla.out (rows (n := 128) x0 u b h) (rows (n := 128) x1 u b h) (rows (n := 128) x4 u b h) (rows (n := 256) x2 u b h)
    (if u = 0 then fun d e => S (ix5 0 b h d e) else mid x1 x2 x4 S b h) i) (fun e => x5 (ix2 0 ⟨256 * h.val + e.val, by omega⟩)) (rows (n := 256) x3 u b h i) e

/-- The output block after the point. -/
def outB : Vec Ideal S4x128x1024 .f32 := fun y =>
  outRow x0 x1 x2 x3 x4 x5 S ⟨(y 1).val / 64, by have : (y 1).val < 128 := (y 1).isLt; omega⟩ (y 0) ⟨(y 2).val / 256, by have : (y 2).val < 1024 := (y 2).isLt; omega⟩
    ⟨(y 1).val % 64, by omega⟩ ⟨(y 2).val % 256, by omega⟩

/-- The output block at a head's row. -/
theorem outB_at (u : Fin 2) (b h : Fin 4) (i : Fin 64) (e : Fin 256) (h1 : 64 * u.val + i.val < 128) (h2 : 256 * h.val + e.val < 1024) :
    outB x0 x1 x2 x3 x4 x5 S (ix3 b ⟨64 * u.val + i.val, h1⟩ ⟨256 * h.val + e.val, h2⟩) = outRow x0 x1 x2 x3 x4 x5 S u b h i e := by
  have e1 : (⟨(64 * u.val + i.val) / 64, by omega⟩ : Fin 2) = u := Fin.ext (by show (64 * u.val + i.val) / 64 = u.val; omega)
  have e2 : (⟨(64 * u.val + i.val) % 64, by omega⟩ : Fin 64) = i := Fin.ext (by show (64 * u.val + i.val) % 64 = i.val; omega)
  have e3 : (⟨(256 * h.val + e.val) / 256, by omega⟩ : Fin 4) = h := Fin.ext (by show (256 * h.val + e.val) / 256 = h.val; omega)
  have e4 : (⟨(256 * h.val + e.val) % 256, by omega⟩ : Fin 256) = e := Fin.ext (by show (256 * h.val + e.val) % 256 = e.val; omega)
  show outRow x0 x1 x2 x3 x4 x5 S ⟨(64 * u.val + i.val) / 64, _⟩ b ⟨(256 * h.val + e.val) / 256, _⟩ ⟨(64 * u.val + i.val) % 64, _⟩ ⟨(256 * h.val + e.val) % 256, _⟩ = _
  rw [e1, e2, e3, e4]

variable (hf : ∀ i, x4 i ≠ ⊤)
include hf

/-- The first chunk's new state, as the kernel computes it for one head. -/
theorem mid_row {b h : ℕ} (hb : b < 4) (hh : h < 4) (d : Fin 128) (e : Fin 256) :
    nextV (128 * h) (slices hh) (cut 512 x4 b 0 0 (by omega)) (cut 128 x1 b 0 (128 * h) (by omega)) (cut 256 x2 b 0 (256 * h) (by omega)) (cutS S b h hb hh)
      (ix5 0 0 0 d e) = mid x1 x2 x4 S ⟨b, hb⟩ ⟨h, hh⟩ d e := by
  rw [nextV_row _ _ (by omega) _ _ _ _ (cut_ne_top _ hf _)]
  unfold mid rows
  simp only [cut_row, cutS_row, Nat.zero_add, Fin.val_zero, Nat.mul_zero]

/-- The state the point leaves for a head: the second chunk's, from the first chunk's. -/
theorem state_piece {b h : ℕ}
    (hb : b < 4) (hh : h < 4) (p : FVec Ideal S1x1x1x128x256 .f32)
    (hp : p = nextV (128 * h) (slices hh) (cut 512 x4 b 64 0 (by omega)) (cut 128 x1 b 64 (128 * h) (by omega)) (cut 256 x2 b 64 (256 * h) (by omega))
      (nextV (128 * h) (slices hh) (cut 512 x4 b 0 0 (by omega)) (cut 128 x1 b 0 (128 * h) (by omega)) (cut 256 x2 b 0 (256 * h) (by omega)) (cutS S b h hb hh)))
    (x : S1x1x1x128x256.Idx) : p x = stateB x1 x2 x4 S ((Rect.unit (s := S1x4x4x128x256) ![0, b, h, 0, 0] ![1, 1, 1, 128, 256] (inb_state hb hh)).emb x) := by
  subst hp
  obtain ⟨d, e, rfl⟩ : ∃ (d : Fin 128) (e : Fin 256), x = ix5 0 0 0 d e :=
    ⟨x 3, x 4, by funext a; fin_cases a <;> first | rfl | exact Subsingleton.elim (α := Fin 1) _ _⟩
  have he : (Rect.unit (s := S1x4x4x128x256) ![0, b, h, 0, 0] ![1, 1, 1, 128, 256] (inb_state hb hh)).emb (ix5 0 0 0 d e) = ix5 0 ⟨b, hb⟩ ⟨h, hh⟩ d e := by
    funext a; refine Fin.ext ((Rect.idx_unit_val _ _ _ _ a).trans ?_); fin_cases a <;> simp
  rw [he, nextV_row _ _ (by omega) _ _ _ _ (cut_ne_top _ hf _)]
  simp only [mid_row x1 x2 x4 S hf]
  unfold stateB rows
  simp only [cut_row, Nat.zero_add, Fin.val_one, Nat.mul_one]
  rfl

/-- The output the point leaves for a head's first chunk, -/
theorem out_piece0 {b o : ℕ}
    (hi : b < 4 ∧ 0 + 64 ≤ 128 ∧ o + 256 ≤ 1024) (hb : b < 4) (hh : o / 256 < 4) (ho : o = 256 * (o / 256)) (p : FVec Ideal S1x64x256 .f32)
    (hp : p = outV (128 * (o / 256)) (slices hh) (cut 512 x4 b 0 0 (by omega)) (cut 128 x0 b 0 (128 * (o / 256)) (by omega)) (cut 128 x1 b 0 (128 * (o / 256)) (by omega))
      (cut 256 x2 b 0 (256 * (o / 256)) (by omega)) (cutS S b (o / 256) hb hh) (cutG x5 (256 * (o / 256)) (by omega)) (cut 256 x3 b 0 (256 * (o / 256)) (by omega)))
    (x : S1x64x256.Idx) : p x = outB x0 x1 x2 x3 x4 x5 S ((Rect.unit (s := S4x128x1024) ![b, 0, o] ![1, 64, 256] (inb_cut hi)).emb x) := by
  subst hp
  obtain ⟨i, e, rfl⟩ : ∃ (i : Fin 64) (e : Fin 256), x = ix3 0 i e :=
    ⟨x 1, x 2, by funext a; fin_cases a <;> first | rfl | exact Subsingleton.elim (α := Fin 1) _ _⟩
  have he : (Rect.unit (s := S4x128x1024) ![b, 0, o] ![1, 64, 256] (inb_cut hi)).emb (ix3 0 i e)
      = ix3 ⟨b, hb⟩ ⟨64 * (0 : Fin 2).val + i.val, by simp; omega⟩ ⟨256 * (⟨o / 256, hh⟩ : Fin 4).val + e.val, by simp; omega⟩ := by
    funext a; refine Fin.ext ((Rect.idx_unit_val _ _ _ _ a).trans ?_); fin_cases a <;> simp <;> omega
  rw [he, outB_at, outV_row _ _ (by omega) _ _ _ _ _ _ _ (cut_ne_top _ hf _)]
  unfold outRow rows
  simp only [cut_row, cutS_row, cutG_row, Nat.zero_add, Fin.val_zero, Nat.mul_zero, if_true]

/-- and for its second. -/
theorem out_piece1 {b o : ℕ}
    (hi : b < 4 ∧ 64 + 64 ≤ 128 ∧ o + 256 ≤ 1024) (hb : b < 4) (hh : o / 256 < 4) (ho : o = 256 * (o / 256)) (p : FVec Ideal S1x64x256 .f32)
    (hp : p = outV (128 * (o / 256)) (slices hh) (cut 512 x4 b 64 0 (by omega)) (cut 128 x0 b 64 (128 * (o / 256)) (by omega)) (cut 128 x1 b 64 (128 * (o / 256)) (by omega))
      (cut 256 x2 b 64 (256 * (o / 256)) (by omega))
      (nextV (128 * (o / 256)) (slices hh) (cut 512 x4 b 0 0 (by omega)) (cut 128 x1 b 0 (128 * (o / 256)) (by omega)) (cut 256 x2 b 0 (256 * (o / 256)) (by omega)) (cutS S b (o / 256) hb hh))
      (cutG x5 (256 * (o / 256)) (by omega)) (cut 256 x3 b 64 (256 * (o / 256)) (by omega)))
    (x : S1x64x256.Idx) : p x = outB x0 x1 x2 x3 x4 x5 S ((Rect.unit (s := S4x128x1024) ![b, 64, o] ![1, 64, 256] (inb_cut hi)).emb x) := by
  subst hp
  obtain ⟨i, e, rfl⟩ : ∃ (i : Fin 64) (e : Fin 256), x = ix3 0 i e :=
    ⟨x 1, x 2, by funext a; fin_cases a <;> first | rfl | exact Subsingleton.elim (α := Fin 1) _ _⟩
  have he : (Rect.unit (s := S4x128x1024) ![b, 64, o] ![1, 64, 256] (inb_cut hi)).emb (ix3 0 i e)
      = ix3 ⟨b, hb⟩ ⟨64 * (1 : Fin 2).val + i.val, by simp; omega⟩ ⟨256 * (⟨o / 256, hh⟩ : Fin 4).val + e.val, by simp; omega⟩ := by
    funext a; refine Fin.ext ((Rect.idx_unit_val _ _ _ _ a).trans ?_); fin_cases a <;> simp <;> omega
  rw [he, outB_at, outV_row _ _ (by omega) _ _ _ _ _ _ _ (cut_ne_top _ hf _)]
  simp only [mid_row x1 x2 x4 S hf]
  unfold outRow rows
  simp only [cut_row, cutG_row, Nat.zero_add, Fin.val_one, Nat.mul_one, one_ne_zero, if_false]

end

end Cert.KernelIdeal.Gla

end
-- ==== Proof.GlaPoint.lean ====
/- What each grid point leaves in its state block and its output block, from the blocks it reads and the state block before it. -/
module

public import proofs.«01_k».proof.Proof.GlaBlock

@[expose] public section

set_option maxRecDepth 16384

noncomputable section

namespace Cert.KernelIdeal.Gla

open Cert.KernelIdeal Cert.KernelIdeal.Gen Idealize.ShloMosaic Idealize.ShloMosaic.TcCoe

section
variable (c : Dev nD) (i : grid0.Coords) (arg2 : Memref sig .tc .vmem S4x128x512 .f32) (harg2 : arg2.IsWhole) (arg3 : Memref sig .tc .vmem S4x128x512 .f32) (harg3 : arg3.IsWhole) (arg4 : Memref sig .tc .vmem S4x128x1024 .f32) (harg4 : arg4.IsWhole) (arg5 : Memref sig .tc .vmem S4x128x1024 .f32) (harg5 : arg5.IsWhole) (arg6 : Memref sig .tc .vmem S4x128x512 .f32) (harg6 : arg6.IsWhole) (arg7 : Memref sig .tc .vmem S1x1024 .f32) (harg7 : arg7.IsWhole) (arg9 : Memref sig .tc .vmem S4x128x1024 .f32) (harg9 : arg9.IsWhole) (arg10 : Memref sig .tc .vmem S1x4x4x128x256 .f32) (harg10 : arg10.IsWhole)
  (x0 x1 : Vec Ideal S4x128x512 .f32) (x2 x3 : Vec Ideal S4x128x1024 .f32) (x4 : Vec Ideal S4x128x512 .f32) (x5 : Vec Ideal S1x1024 .f32)
  (S : Vec Ideal S1x4x4x128x256 .f32) (hf : ∀ i, x4 i ≠ ⊤)
include hf

set_option maxHeartbeats 4000000 in
/-- A point after the first leaves its state block, from the state block the point before left, -/
theorem left7_B (hc0 : ¬cond0_0 i) :
    out0_B_7 c i arg2 harg2 arg3 harg3 arg4 harg4 arg5 harg5 arg6 harg6 arg7 harg7 arg9 harg9 arg10 harg10 hc0 x0 x1 x2 x3 x4 x5 S = stateB x1 x2 x4 S := by
  funext y
  frame_open
  simp (disch := decide) only [↓ View.readCov_skip, ↓ View.readCov_cons_toLoadRect, ↓ View.readCov_fill]
  frame_out
  refine View.canon_append_of_piecesOf (stateB x1 x2 x4 S) _ [_, _, _, _, _, _, _, _, _, _, _, _, _, _, _, _] ?_ y
    (View.cover_of_tiledL _ ![1, 1, 1, 128, 256] (by sl_kernel_rfl) y)
  refine ⟨?_, ?_, ?_, ?_, ?_, ?_, ?_, ?_, ?_, ?_, ?_, ?_, ?_, ?_, ?_, ?_, trivial⟩
  all_goals exact state_piece x1 x2 x4 S hf (by decide) (by decide) _ rfl

set_option maxHeartbeats 4000000 in
/-- and its output block; -/
theorem left6_B (hc0 : ¬cond0_0 i) :
    out0_B_6 c i arg2 harg2 arg3 harg3 arg4 harg4 arg5 harg5 arg6 harg6 arg7 harg7 arg9 harg9 arg10 harg10 hc0 x0 x1 x2 x3 x4 x5 S = outB x0 x1 x2 x3 x4 x5 S := by
  funext y
  frame_open
  simp (disch := decide) only [↓ View.readCov_skip, ↓ View.readCov_cons_toLoadRect, ↓ View.readCov_fill]
  frame_out
  refine View.canon_append_of_piecesOf (outB x0 x1 x2 x3 x4 x5 S) [] [_, _, _, _, _, _, _, _, _, _, _, _, _, _, _, _, _, _, _, _, _, _, _, _, _, _, _, _, _, _, _, _] ?_ y
    (View.cover_of_tiledL _ ![1, 64, 256] (by sl_kernel_rfl) y)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  iterate 16 exact out_piece1 x0 x1 x2 x3 x4 x5 S hf (by decide) (by decide) (by decide) rfl _ rfl
  iterate 16 exact out_piece0 x0 x1 x2 x3 x4 x5 S hf (by decide) (by decide) (by decide) rfl _ rfl
end

section
variable (c : Dev nD) (i : grid0.Coords) (arg2 : Memref sig .tc .vmem S4x128x512 .f32) (harg2 : arg2.IsWhole) (arg3 : Memref sig .tc .vmem S4x128x512 .f32) (harg3 : arg3.IsWhole) (arg4 : Memref sig .tc .vmem S4x128x1024 .f32) (harg4 : arg4.IsWhole) (arg5 : Memref sig .tc .vmem S4x128x1024 .f32) (harg5 : arg5.IsWhole) (arg6 : Memref sig .tc .vmem S4x128x512 .f32) (harg6 : arg6.IsWhole) (arg7 : Memref sig .tc .vmem S1x1024 .f32) (harg7 : arg7.IsWhole) (arg9 : Memref sig .tc .vmem S4x128x1024 .f32) (harg9 : arg9.IsWhole) (arg10 : Memref sig .tc .vmem S1x4x4x128x256 .f32) (harg10 : arg10.IsWhole)
  (x0 x1 : Vec Ideal S4x128x512 .f32) (x2 x3 : Vec Ideal S4x128x1024 .f32) (x4 : Vec Ideal S4x128x512 .f32) (x5 : Vec Ideal S1x1024 .f32)
  (hf : ∀ i, x4 i ≠ ⊤)
include hf

set_option maxHeartbeats 4000000 in
/-- the first point leaves them from a state of zeros: -/
theorem left7_A (hc0 : cond0_0 i) :
    out0_A_7 c i arg2 harg2 arg3 harg3 arg4 harg4 arg5 harg5 arg6 harg6 arg7 harg7 arg9 harg9 arg10 harg10 hc0 x0 x1 x2 x3 x4 x5 = stateB x1 x2 x4 (k0_pay2 (F := Ideal)) := by
  funext y
  frame_open
  simp (disch := decide) only [↓ View.readCov_skip, ↓ View.readCov_cons_toLoadRect, ↓ View.readCov_fill]
  frame_out
  refine View.canon_append_of_piecesOf (stateB x1 x2 x4 (k0_pay2 (F := Ideal))) _ [_, _, _, _, _, _, _, _, _, _, _, _, _, _, _, _] ?_ y
    (View.cover_of_tiledL _ ![1, 1, 1, 128, 256] (by sl_kernel_rfl) y)
  refine ⟨?_, ?_, ?_, ?_, ?_, ?_, ?_, ?_, ?_, ?_, ?_, ?_, ?_, ?_, ?_, ?_, trivial⟩
  all_goals exact state_piece x1 x2 x4 (k0_pay2 (F := Ideal)) hf (by decide) (by decide) _ rfl

set_option maxHeartbeats 4000000 in
/-- its output block. -/
theorem left6_A (hc0 : cond0_0 i) :
    out0_A_6 c i arg2 harg2 arg3 harg3 arg4 harg4 arg5 harg5 arg6 harg6 arg7 harg7 arg9 harg9 arg10 harg10 hc0 x0 x1 x2 x3 x4 x5 = outB x0 x1 x2 x3 x4 x5 (k0_pay2 (F := Ideal)) := by
  funext y
  frame_open
  simp (disch := decide) only [↓ View.readCov_skip, ↓ View.readCov_cons_toLoadRect, ↓ View.readCov_fill]
  frame_out
  refine View.canon_append_of_piecesOf (outB x0 x1 x2 x3 x4 x5 (k0_pay2 (F := Ideal))) [] [_, _, _, _, _, _, _, _, _, _, _, _, _, _, _, _, _, _, _, _, _, _, _, _, _, _, _, _, _, _, _, _] ?_ y
    (View.cover_of_tiledL _ ![1, 64, 256] (by sl_kernel_rfl) y)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  iterate 16 exact out_piece1 x0 x1 x2 x3 x4 x5 (k0_pay2 (F := Ideal)) hf (by decide) (by decide) (by decide) rfl _ rfl
  iterate 16 exact out_piece0 x0 x1 x2 x3 x4 x5 (k0_pay2 (F := Ideal)) hf (by decide) (by decide) (by decide) rfl _ rfl
end

end Cert.KernelIdeal.Gla

end
-- ==== Proof.GlaSeq.lean ====
/- The scan over a sequence of 64 chunks: the chunks a head reads from the projected rows, its state before each chunk, its outputs, and
   the two arrays the call returns. -/
module

public import proofs.«01_k».proof.Proof.GlaSpec
public import Idealize.ShloMosaic.Lib.Pointwise

@[expose] public section

set_option maxRecDepth 16384

noncomputable section

namespace Cert.Gla

open Idealize.ShloMosaic

/-- The row of batch `b` at position `i` of chunk `c`, in the array of all batches' rows. -/
def row (b : Fin 4) (c : ℕ) (i : Fin 64) : Fin 16384 := ⟨(b.val * 4096 + c * 64 + i.val) % 16384, Nat.mod_lt _ (by decide)⟩

section
variable (Y : (⟨2, ![16384, 3072]⟩ : Shape).Idx → EReal) (L : (⟨2, ![16384, 512]⟩ : Shape).Idx → EReal) (G : (⟨1, ![1024]⟩ : Shape).Idx → EReal)

/-- A head's queries in a chunk, which lie in the first 512 columns, -/
def qC (b h : Fin 4) (c : ℕ) (i : Fin 64) (d : Fin 128) : EReal := Y (ix2 (row b c i) ⟨128 * h.val + d.val, by omega⟩)
/-- its keys in the next 512, -/
def kC (b h : Fin 4) (c : ℕ) (i : Fin 64) (d : Fin 128) : EReal := Y (ix2 (row b c i) ⟨512 + 128 * h.val + d.val, by omega⟩)
/-- its values in the next 1024, -/
def vC (b h : Fin 4) (c : ℕ) (i : Fin 64) (e : Fin 256) : EReal := Y (ix2 (row b c i) ⟨1024 + 256 * h.val + e.val, by omega⟩)
/-- its output gates in the last 1024, -/
def rC (b h : Fin 4) (c : ℕ) (i : Fin 64) (e : Fin 256) : EReal := Y (ix2 (row b c i) ⟨2048 + 256 * h.val + e.val, by omega⟩)
/-- and its log gates. -/
def lC (b h : Fin 4) (c : ℕ) (i : Fin 64) (d : Fin 128) : EReal := L (ix2 (row b c i) ⟨128 * h.val + d.val, by omega⟩)

/-- A head's state before chunk `c`. -/
def stateAt (b h : Fin 4) : ℕ → Fin 128 → Fin 256 → EReal
  | 0 => fun _ _ => 0
  | c + 1 => next (kC Y b h c) (lC L b h c) (vC Y b h c) (stateAt b h c)

/-- A head's output in chunk `c`. -/
def outAt (b h : Fin 4) (c : ℕ) : Fin 64 → Fin 256 → EReal :=
  out (qC Y b h c) (kC Y b h c) (lC L b h c) (vC Y b h c) (stateAt Y L b h c)

/-- The gated output row. -/
def gatedAt (b h : Fin 4) (c : ℕ) (i : Fin 64) : Fin 256 → EReal :=
  gated (outAt Y L b h c i) (fun e => G (ix1 ⟨256 * h.val + e.val, by omega⟩)) (rC Y b h c i)

/-- All gated outputs: batch, row, lane. -/
def outArr : (⟨3, ![4, 4096, 1024]⟩ : Shape).Idx → EReal := fun y =>
  gatedAt Y L G (y 0) ⟨(y 2).val / 256, by have : (y 2).val < 1024 := (y 2).isLt; omega⟩ ((y 1).val / 64) ⟨(y 1).val % 64, by omega⟩ ⟨(y 2).val % 256, by omega⟩

/-- At a head's row. -/
theorem outArr_at (b h : Fin 4) (c : ℕ) (i : Fin 64) (e : Fin 256) (h1 : c * 64 + i.val < 4096) (h2 : 256 * h.val + e.val < 1024) :
    outArr Y L G (ix3 b ⟨c * 64 + i.val, h1⟩ ⟨256 * h.val + e.val, h2⟩) = gatedAt Y L G b h c i e := by
  have e1 : (c * 64 + i.val) / 64 = c := by omega
  have e2 : (⟨(c * 64 + i.val) % 64, by omega⟩ : Fin 64) = i := Fin.ext (by show (c * 64 + i.val) % 64 = i.val; omega)
  have e3 : (⟨(256 * h.val + e.val) / 256, by omega⟩ : Fin 4) = h := Fin.ext (by show (256 * h.val + e.val) / 256 = h.val; omega)
  have e4 : (⟨(256 * h.val + e.val) % 256, by omega⟩ : Fin 256) = e := Fin.ext (by show (256 * h.val + e.val) % 256 = e.val; omega)
  show gatedAt Y L G b ⟨(256 * h.val + e.val) / 256, _⟩ ((c * 64 + i.val) / 64) ⟨(c * 64 + i.val) % 64, _⟩ ⟨(256 * h.val + e.val) % 256, _⟩ = _
  rw [e1, e2, e3, e4]

/-- The state array: the given states, with the second layer's replaced by the states after all 64 chunks. -/
def stateArr (S : (⟨5, ![2, 4, 4, 128, 256]⟩ : Shape).Idx → EReal) : (⟨5, ![2, 4, 4, 128, 256]⟩ : Shape).Idx → EReal := fun y =>
  if (y 0).val = 1 then stateAt Y L (y 1) (y 2) 64 (y 3) (y 4) else S y

end

end Cert.Gla

end
-- ==== Proof.GlaValue.lean ====
/- What the scan's kernel leaves in its two results: every chunk's gated outputs, and the states after the last chunk in the state
   array's second layer. -/
module

public import proofs.«01_k».proof.Proof.Gen.KernelIdeal.Value
public import proofs.«01_k».proof.Proof.GlaPoint
public import proofs.«01_k».proof.Proof.GlaSeq
public import Idealize.ShloMosaic.Lib.Pipeline.ValueKit
public import Idealize.ShloMosaic.Lib.Claim

@[expose] public section

set_option maxRecDepth 16384

noncomputable section

namespace Cert.KernelIdeal.Gla

open Cert.KernelIdeal Cert.KernelIdeal.Gen Idealize.ShloMosaic Idealize.ShloMosaic.TcCoe

/-- Which block each window holds at a grid point: the point's two chunks of every batch, and the second layer's states. -/
theorem idx : ∀ t : Fin cfg0.N, win0_0.index t = ![0, t.val, 0] ∧ win0_1.index t = ![0, t.val, 1] ∧ win0_2.index t = ![0, t.val, 1] ∧
    win0_3.index t = ![0, t.val, 2] ∧ win0_4.index t = ![0, t.val, 0] ∧ win0_5.index t = ![0, 0] ∧ win0_6.index t = ![0, t.val, 0] ∧
    win0_7.index t = ![1, 0, 0, 0, 0] := by decide +kernel

variable (m : (ℓ : Loc nD τ sig) → Buf (Elt Ideal) ℓ) (c : Dev nD) (t : Fin cfg0.N)

/-- The rows' array and the gates' array. -/
abbrev argY : FVec Ideal S16384x3072 .f32 := m ((c.tc : Thread nD τ).loc main_arg0)
/-- The log gates. -/
abbrev argL : FVec Ideal S16384x512 .f32 := m ((c.tc : Thread nD τ).loc main_arg1)
/-- The norm's gain. -/
abbrev argG : FVec Ideal S1024 .f32 := m ((c.tc : Thread nD τ).loc main_arg2)
/-- The states given. -/
abbrev argS : FVec Ideal S2x4x4x128x256 .f32 := m ((c.tc : Thread nD τ).loc main_arg3)

/-- Each window's block at a point, as a part of its argument: the queries, -/
theorem read0 (b : Fin 4) (r : Fin 128) (k : Fin 512) (h : b.val * 4096 + t.val * 128 + r.val < 16384) :
    iblk m c 0 t (ix3 b r k) = argY m c (ix2 ⟨b.val * 4096 + t.val * 128 + r.val, h⟩ ⟨k.val, by omega⟩) := by blk_ext! [iblk, V, idx t]
/-- the keys, -/
theorem read1 (b : Fin 4) (r : Fin 128) (k : Fin 512) (h : b.val * 4096 + t.val * 128 + r.val < 16384) :
    iblk m c 1 t (ix3 b r k) = argY m c (ix2 ⟨b.val * 4096 + t.val * 128 + r.val, h⟩ ⟨512 + k.val, by omega⟩) := by blk_ext! [iblk, V, idx t]
/-- the values, -/
theorem read2 (b : Fin 4) (r : Fin 128) (k : Fin 1024) (h : b.val * 4096 + t.val * 128 + r.val < 16384) :
    iblk m c 2 t (ix3 b r k) = argY m c (ix2 ⟨b.val * 4096 + t.val * 128 + r.val, h⟩ ⟨1024 + k.val, by omega⟩) := by blk_ext! [iblk, V, idx t]
/-- the output gates, -/
theorem read3 (b : Fin 4) (r : Fin 128) (k : Fin 1024) (h : b.val * 4096 + t.val * 128 + r.val < 16384) :
    iblk m c 3 t (ix3 b r k) = argY m c (ix2 ⟨b.val * 4096 + t.val * 128 + r.val, h⟩ ⟨2048 + k.val, by omega⟩) := by blk_ext! [iblk, V, idx t]
/-- the log gates, -/
theorem read4 (b : Fin 4) (r : Fin 128) (k : Fin 512) (h : b.val * 4096 + t.val * 128 + r.val < 16384) :
    iblk m c 4 t (ix3 b r k) = argL m c (ix2 ⟨b.val * 4096 + t.val * 128 + r.val, h⟩ k) := by blk_ext! [iblk, V, idx t]
/-- and the gain. -/
theorem read5 (k : Fin 1024) :
    iblk m c 5 t (ix2 0 k) = argG m c (ix1 k) := by blk_ext! [iblk, V, idx t]

/-- The point's rows, numbered by chunk. -/
theorem row_eq {b : Fin 4} {u : Fin 2} {i : Fin 64} (ht : t.val < 32) (h : b.val * 4096 + t.val * 128 + (64 * u.val + i.val) < 16384) :
    (⟨b.val * 4096 + t.val * 128 + (64 * u.val + i.val), h⟩ : Fin 16384) = Gla.row b (2 * t.val + u.val) i :=
  Fin.ext (by show b.val * 4096 + t.val * 128 + (64 * u.val + i.val) = (b.val * 4096 + (2 * t.val + u.val) * 64 + i.val) % 16384; omega)

/-- Each window's rows of a head are the head's rows of the chunk: the queries, -/
theorem rows0 (u : Fin 2) (b h : Fin 4) : rows (n := 128) (iblk m c 0 t) u b h = Gla.qC (argY m c) b h (2 * t.val + u.val) := by
  have ht : t.val < 32 := t.isLt
  funext i d
  refine (read0 m c t b ⟨64 * u.val + i.val, by omega⟩ ⟨128 * h.val + d.val, by omega⟩ (by show b.val * 4096 + t.val * 128 + (64 * u.val + i.val) < 16384; omega)).trans ?_
  exact congrArg (fun r => argY m c (ix2 r ⟨128 * h.val + d.val, by omega⟩)) (row_eq t ht _)
/-- the keys, -/
theorem rows1 (u : Fin 2) (b h : Fin 4) : rows (n := 128) (iblk m c 1 t) u b h = Gla.kC (argY m c) b h (2 * t.val + u.val) := by
  have ht : t.val < 32 := t.isLt
  funext i d
  refine (read1 m c t b ⟨64 * u.val + i.val, by omega⟩ ⟨128 * h.val + d.val, by omega⟩ (by show b.val * 4096 + t.val * 128 + (64 * u.val + i.val) < 16384; omega)).trans ?_
  rw [row_eq t ht]
  exact congrArg (fun k => argY m c (ix2 (Gla.row b (2 * t.val + u.val) i) k)) (Fin.ext (by show 512 + (128 * h.val + d.val) = 512 + 128 * h.val + d.val; omega))
/-- the values, -/
theorem rows2 (u : Fin 2) (b h : Fin 4) : rows (n := 256) (iblk m c 2 t) u b h = Gla.vC (argY m c) b h (2 * t.val + u.val) := by
  have ht : t.val < 32 := t.isLt
  funext i d
  refine (read2 m c t b ⟨64 * u.val + i.val, by omega⟩ ⟨256 * h.val + d.val, by omega⟩ (by show b.val * 4096 + t.val * 128 + (64 * u.val + i.val) < 16384; omega)).trans ?_
  rw [row_eq t ht]
  exact congrArg (fun k => argY m c (ix2 (Gla.row b (2 * t.val + u.val) i) k)) (Fin.ext (by show 1024 + (256 * h.val + d.val) = 1024 + 256 * h.val + d.val; omega))
/-- the output gates -/
theorem rows3 (u : Fin 2) (b h : Fin 4) : rows (n := 256) (iblk m c 3 t) u b h = Gla.rC (argY m c) b h (2 * t.val + u.val) := by
  have ht : t.val < 32 := t.isLt
  funext i d
  refine (read3 m c t b ⟨64 * u.val + i.val, by omega⟩ ⟨256 * h.val + d.val, by omega⟩ (by show b.val * 4096 + t.val * 128 + (64 * u.val + i.val) < 16384; omega)).trans ?_
  rw [row_eq t ht]
  exact congrArg (fun k => argY m c (ix2 (Gla.row b (2 * t.val + u.val) i) k)) (Fin.ext (by show 2048 + (256 * h.val + d.val) = 2048 + 256 * h.val + d.val; omega))
/-- and the log gates. -/
theorem rows4 (u : Fin 2) (b h : Fin 4) : rows (n := 128) (iblk m c 4 t) u b h = Gla.lC (argL m c) b h (2 * t.val + u.val) := by
  have ht : t.val < 32 := t.isLt
  funext i d
  refine (read4 m c t b ⟨64 * u.val + i.val, by omega⟩ ⟨128 * h.val + d.val, by omega⟩ (by show b.val * 4096 + t.val * 128 + (64 * u.val + i.val) < 16384; omega)).trans ?_
  rw [row_eq t ht]
  rfl

/-- No gate of the point's is above every number if none of the call's is. -/
theorem gates (hL : ∀ j, argL m c j ≠ ⊤) : ∀ i : S4x128x512.Idx, @Ne EReal (iblk m c 4 t i) ⊤ := by
  intro i
  have ht : t.val < 32 := t.isLt
  obtain ⟨b, r, k, rfl⟩ : ∃ (b : Fin 4) (r : Fin 128) (k : Fin 512), i = ix3 b r k := ⟨i 0, i 1, i 2, by funext a; fin_cases a <;> rfl⟩
  exact fun he => hL _ ((read4 m c t b r k (by omega)).symm.trans he)

section
variable (S : Vec Ideal S1x4x4x128x256 .f32)
  (hS : ∀ (b h : Fin 4) (d : Fin 128) (e : Fin 256), S (ix5 0 b h d e) = Gla.stateAt (argY m c) (argL m c) b h (2 * t.val) d e)
include hS

/-- From the states before the point's first chunk, the states after it, -/
theorem mid_at (b h : Fin 4) : mid (iblk m c 1 t) (iblk m c 2 t) (iblk m c 4 t) S b h = Gla.stateAt (argY m c) (argL m c) b h (2 * t.val + 1) := by
  have h1 := rows1 m c t 0 b h
  have h2 := rows2 m c t 0 b h
  have h4 := rows4 m c t 0 b h
  unfold mid
  rw [h1, h2, h4]
  show Gla.next _ _ _ _ = Gla.next _ _ _ _
  exact congrArg _ (funext fun d => funext fun e => hS b h d e)

/-- the states after its second, -/
theorem stateB_at (b h : Fin 4) (d : Fin 128) (e : Fin 256) : stateB (iblk m c 1 t) (iblk m c 2 t) (iblk m c 4 t) S (ix5 0 b h d e)
    = Gla.stateAt (argY m c) (argL m c) b h (2 * t.val + 2) d e := by
  show Gla.next (rows (n := 128) (iblk m c 1 t) 1 b h) (rows (n := 128) (iblk m c 4 t) 1 b h) (rows (n := 256) (iblk m c 2 t) 1 b h)
    (mid (iblk m c 1 t) (iblk m c 2 t) (iblk m c 4 t) S b h) d e = _
  rw [mid_at m c t S hS, rows1 m c t 1, rows2 m c t 1, rows4 m c t 1]
  rfl

/-- and the gated outputs of both. -/
theorem outRow_at (u : Fin 2) (b h : Fin 4) (i : Fin 64) (e : Fin 256) :
    outRow (iblk m c 0 t) (iblk m c 1 t) (iblk m c 2 t) (iblk m c 3 t) (iblk m c 4 t) (iblk m c 5 t) S u b h i e
      = Gla.gatedAt (argY m c) (argL m c) (argG m c) b h (2 * t.val + u.val) i e := by
  have hu : (if u = 0 then fun d e => S (ix5 0 b h d e) else mid (iblk m c 1 t) (iblk m c 2 t) (iblk m c 4 t) S b h)
      = Gla.stateAt (argY m c) (argL m c) b h (2 * t.val + u.val) := by
    fin_cases u
    · exact funext fun d => funext fun e => hS b h d e
    · exact mid_at m c t S hS b h
  unfold outRow
  rw [hu, rows0, rows1, rows2, rows3, rows4]
  refine congrArg (fun g => Gla.gated _ g _ e) (funext fun e => read5 m c t _)

end

/-- Every point starts from the states before its first chunk, and leaves the blocks stated above. -/
theorem point (hL : ∀ j, argL m c j ≠ ⊤) : ∀ (n : ℕ) (hn : n < cfg0.N), ∃ S : Vec Ideal S1x4x4x128x256 .f32,
    (∀ (b h : Fin 4) (d : Fin 128) (e : Fin 256), S (ix5 0 b h d e) = Gla.stateAt (argY m c) (argL m c) b h (2 * n) d e) ∧
    outsAt0 m c n hn = (outB (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) S,
      stateB (iblk m c 1 ⟨n, hn⟩) (iblk m c 2 ⟨n, hn⟩) (iblk m c 4 ⟨n, hn⟩) S)
  | 0, hn => by
    refine ⟨k0_pay2 (F := Ideal), fun b h d e => ?_, ?_⟩
    · show Ideal.ofBits .f32 (0x00000000#32 : BitVec 32) = 0
      pointwise []
    · rw [outsAt0_A m c ⟨0, hn⟩ (Nat.zero_mod _), left6_A, left7_A]
      all_goals exact gates m c _ hL
  | n + 1, hn => by
    obtain ⟨S, hS, hp⟩ := point hL n (Nat.lt_of_succ_lt hn)
    have hlt : n + 1 < 32 := hn
    refine ⟨stateB (iblk m c 1 ⟨n, Nat.lt_of_succ_lt hn⟩) (iblk m c 2 ⟨n, Nat.lt_of_succ_lt hn⟩) (iblk m c 4 ⟨n, Nat.lt_of_succ_lt hn⟩) S, fun b h d e => ?_, ?_⟩
    · exact stateB_at m c ⟨n, Nat.lt_of_succ_lt hn⟩ S hS b h d e
    · have hB := outsAt0_B m c ⟨n + 1, hn⟩ (show ¬(n + 1) % 32 = 0 by omega)
      rw [left6_B (hf := gates m c ⟨n + 1, hn⟩ hL), left7_B (hf := gates m c ⟨n + 1, hn⟩ hL)] at hB
      refine hB.trans ?_
      have h2 := congrArg Prod.snd hp
      show (outB _ _ _ _ _ _ (outsAt0 m c n _).2, stateB _ _ _ (outsAt0 m c n _).2) = _
      rw [h2]

/-- The gated outputs after the run. -/
theorem final6 (hL : ∀ j, argL m c j ≠ ⊤) : (dats m 0 c).arrAt 6 cfg0.N = Gla.outArr (argY m c) (argL m c) (argG m c) := by
  refine (dats m 0 c).arrAt_eq_of_covers 6 _ (by decide +kernel) fun t hf y => ?_
  have ht : t.val < 32 := t.isLt
  obtain ⟨b, u, i, h, e, h1, h2, rfl⟩ : ∃ (b : Fin 4) (u : Fin 2) (i : Fin 64) (h : Fin 4) (e : Fin 256) (h1 : 64 * u.val + i.val < 128) (h2 : 256 * h.val + e.val < 1024),
      y = ix3 b ⟨64 * u.val + i.val, h1⟩ ⟨256 * h.val + e.val, h2⟩ := by
    have hy1 : (y 1).val < 128 := (y 1).isLt
    have hy2 : (y 2).val < 1024 := (y 2).isLt
    refine ⟨y 0, ⟨(y 1).val / 64, by omega⟩, ⟨(y 1).val % 64, by omega⟩, ⟨(y 2).val / 256, by omega⟩, ⟨(y 2).val % 256, by omega⟩, ?_, ?_, ?_⟩
    · show 64 * ((y 1).val / 64) + (y 1).val % 64 < 128; omega
    · show 256 * ((y 2).val / 256) + (y 2).val % 256 < 1024; omega
    · funext a
      fin_cases a
      · rfl
      · exact Fin.ext (by show (y 1).val = 64 * ((y 1).val / 64) + (y 1).val % 64; omega)
      · exact Fin.ext (by show (y 2).val = 256 * ((y 2).val / 256) + (y 2).val % 256; omega)
  have hemb : ((cfg0.win 6).blk t).view.emb (ix3 b ⟨64 * u.val + i.val, h1⟩ ⟨256 * h.val + e.val, h2⟩)
      = ix3 b (⟨(2 * t.val + u.val) * 64 + i.val, by omega⟩ : Fin 4096) (⟨256 * h.val + e.val, h2⟩ : Fin 1024) := by
    blk_ext [idx t]
  blk_simp
  rw [after0_6, hemb, Gla.outArr_at]
  obtain ⟨S, hS, hp⟩ := point m c hL t.val t.isLt
  rw [hp]
  exact (outB_at _ _ _ _ _ _ _ u b h i e h1 h2).trans (outRow_at m c t S hS u b h i e)

/-- The state block is written back once, after the last point. -/
theorem last : ∀ t : Fin cfg0.N, (cfg0.win 7).flush t = true → t.val = 31 := by decide +kernel

/-- The states after the run: the last point's state block is the second layer, and the first is as given. -/
theorem final7 (hL : ∀ j, argL m c j ≠ ⊤) : (dats m 0 c).arrAt 7 cfg0.N = Gla.stateArr (argY m c) (argL m c) (argS m c) := by
  have hA : (dats m 0 c).A 7 = argS m c := by blk_ext! [V]
  refine ((dats m 0 c).arrAt_eq_of_coversWhere 7 (fun y => Gla.stateAt (argY m c) (argL m c) (y 1) (y 2) 64 (y 3) (y 4))
    (P := fun y => (y 0).val = 1) (fun β => β 0 = 1) (by decide +kernel) (fun t hf y => ?_) (fun j => by blk_simp [Pipeline.Window.cell_apply]; omega)).trans ?_
  · have ht : t.val < 32 := t.isLt
    obtain ⟨b, h, d, e, rfl⟩ : ∃ (b h : Fin 4) (d : Fin 128) (e : Fin 256), y = ix5 0 b h d e := ⟨y 1, y 2, y 3, y 4, by
      funext a
      fin_cases a
      · exact Subsingleton.elim (α := Fin 1) _ _
      all_goals rfl⟩
    have ht' : t.val = 31 := last t hf
    have hemb : ((cfg0.win 7).blk t).view.emb (ix5 0 b h d e) = ix5 (1 : Fin 2) b h d e := by
      blk_ext [idx t]
    blk_simp
    rw [after0_7, hemb]
    obtain ⟨S, hS, hp⟩ := point m c hL t.val t.isLt
    rw [hp]
    refine (stateB_at m c t S hS b h d e).trans ?_
    rw [ht']
    rfl
  · rw [hA]
    rfl

end Cert.KernelIdeal.Gla

end
-- ==== Proof.GlaReference.lean ====
/- The reference's scan over the chunks: at every trip the carried state is the state before that chunk, and the outputs of the earlier
   chunks are in place. -/
module

public import proofs.«01_k».proof.Proof.Gen.ReferenceIdeal.Run
public import proofs.«01_k».proof.Proof.GlaSeq
public import Idealize.ShloMosaic.Lib.DynamicIndex
public import Idealize.ShloMosaic.Lib.Tactic.CleanTypes

@[expose] public section

set_option maxRecDepth 16384

noncomputable section

namespace Cert.ReferenceIdeal.Gla

open Cert.ReferenceIdeal Cert.ReferenceIdeal.Gen Cert.ReferenceIdeal.Value Idealize.ShloMosaic Idealize.ShloMosaic.TcCoe Idealize.ShloMosaic.Tactic Idealize.ShloMosaic.StableHlo

/-- Adding up a list from a start value. -/
theorem foldl_add {α : Type} (f : α → EReal) : ∀ (l : List α) (v : EReal), l.foldl (fun r n => r + f n) v = v + (l.map f).sum
  | [], v => by simp
  | a :: l, v => by rw [List.foldl_cons, foldl_add f l, List.map_cons, List.sum_cons, add_assoc]

/-- Positions of the sum's window, which spans the 64 rows. -/
def window : Fin 64 ≃ (⟨4, ![1, 64, 1, 1]⟩ : Shape).Idx where
  toFun a := ix4 0 a 0 0
  invFun w := w 1
  left_inv _ := rfl
  right_inv w := by
    funext a
    fin_cases a
    · exact Subsingleton.elim (α := Fin 1) _ _
    · rfl
    · exact Subsingleton.elim (α := Fin 1) _ _
    · exact Subsingleton.elim (α := Fin 1) _ _

/-- The running sum over the rows of a chunk. -/
theorem cumsum (x : FVec Ideal S4x64x4x128 .f32) (b : Fin 4) (i : Fin 64) (h : Fin 4) (d : Fin 128) :
    Host.reduceWindowAdd ![1, 64, 1, 1] ![1, 1, 1, 1] ![0, 63, 0, 0] ![0, 0, 0, 0] x (broadcastInDim S_ ![] bcast_S_S_ (constant S_ .f32 0x00000000#32)) reduceWindows_S4x64x4x128_S4x64x4x128_w1s1p0_0_w64s1p63_0_w1s1p0_0_w1s1p0_0 h_S_
     (ix4 b i h d) = ∑ s : Fin 64, if s ≤ i then x (ix4 b s h d) else 0 := by
  have hz : Ideal.ofBits .f32 (0x00000000#32 : BitVec 32) = 0 := by pointwise []
  show List.foldl (fun r n => r + _) (Ideal.ofBits .f32 (0x00000000#32 : BitVec 32)) _ = _
  rw [foldl_add, hz, zero_add, ← Fin.sum_univ_def,
    ← Equiv.sum_comp (⟨4, ![1, 64, 1, 1]⟩ : Shape).rowMajor]
  rw [← Equiv.sum_comp window]
  refine Fintype.sum_equiv (Equiv.addLeft (i + 1)) _ _ fun a => ?_
  have hs : ((Equiv.addLeft (i + 1)) a).val = (i.val + 1 + a.val) % 64 := by
    show ((i + 1) + a).val = _
    rw [Fin.val_add, Fin.val_add]; show ((i.val + 1) % 64 + a.val) % 64 = _; omega
  generalize (Equiv.addLeft (i + 1)) a = s at hs
  simp only [Equiv.symm_apply_apply]
  by_cases hc : 63 ≤ i.val + a.val
  · have hle : s ≤ i := by rw [Fin.le_def]; omega
    rw [if_pos hle, dif_pos]
    · refine congrArg x (funext fun c => ?_)
      fin_cases c
      · exact Fin.ext (by show b.val * 1 + 0 - 0 = b.val; omega)
      · exact Fin.ext (by show i.val * 1 + a.val - 63 = s.val; omega)
      · exact Fin.ext (by show h.val * 1 + 0 - 0 = h.val; omega)
      · exact Fin.ext (by show d.val * 1 + 0 - 0 = d.val; omega)
    · intro c
      fin_cases c
      · show 0 ≤ b.val * 1 + 0 ∧ b.val * 1 + 0 - 0 < 4; omega
      · show 63 ≤ i.val * 1 + a.val ∧ i.val * 1 + a.val - 63 < 64; omega
      · show 0 ≤ h.val * 1 + 0 ∧ h.val * 1 + 0 - 0 < 4; omega
      · show 0 ≤ d.val * 1 + 0 ∧ d.val * 1 + 0 - 0 < 128; omega
  · have hle : ¬s ≤ i := by rw [Fin.le_def]; omega
    rw [if_neg hle, dif_neg]
    · exact hz
    · intro hall
      have h1 : 63 ≤ i.val * 1 + a.val := (hall 1).1
      omega

/-- The loop's counter, read as a start index. -/
theorem start (n : IVec S_ 32) (k : ℕ) (hk : k < 64) (hn : ∀ j, n j = BitVec.ofNat 32 k) (a : Fin 5) :
    ((![n, constantI S_ 32 0#32, constantI S_ 32 0#32, constantI S_ 32 0#32, constantI S_ 32 0#32] : Fin 5 → IVec S_ 32) a (Shape.Idx.first h_S_)).toInt
      = ((![k, 0, 0, 0, 0] : Fin 5 → ℕ) a : Int) := by
  fin_cases a
  · show (n _).toInt = (k : Int)
    rw [hn]; exact toInt_ofNat_of_lt (by omega)
  all_goals rfl

/-- A chunk of 128 columns a head, cut at the loop's counter. -/
theorem chunk128 (X : FVec Ideal S64x4x64x4x128 .f32) (n : IVec S_ 32) (k : ℕ) (hk : k < 64) (hn : ∀ j, n j = BitVec.ofNat 32 k) (b : Fin 4) (i : Fin 64)
    (h : Fin 4) (d : Fin 128) :
    (shapeCast S4x64x4x128 (Host.dynamicSlice S1x4x64x4x128 X (fun k => ((![n, constantI S_ 32 0#32, constantI S_ 32 0#32, constantI S_ 32 0#32, constantI S_ 32 0#32] : Fin 5 → IVec S_ 32) k (Shape.Idx.first h_S_)).toInt) sliceFits_S64x4x64x4x128_S1x4x64x4x128) shapeCasts_S1x4x64x4x128_S4x64x4x128 : FVec Ideal S4x64x4x128 .f32)
      (ix4 b i h d) = X (ix5 ⟨k, hk⟩ b i h d) := by
  rw [Host.dynamicSlice_eq_extractStridedSlice S1x4x64x4x128 X _ ![k, 0, 0, 0, 0] _
    ⟨rfl, fun a => by fin_cases a; exacts [(show k + 1 ≤ 64 by omega), le_refl 4, le_refl 64, le_refl 4, le_refl 128]⟩ (start n k hk hn)]
  pointwise []

/-- A chunk of 256 columns a head, cut at the loop's counter. -/
theorem chunk256 (X : FVec Ideal S64x4x64x4x256 .f32) (n : IVec S_ 32) (k : ℕ) (hk : k < 64) (hn : ∀ j, n j = BitVec.ofNat 32 k) (b : Fin 4) (i : Fin 64)
    (h : Fin 4) (e : Fin 256) :
    (shapeCast S4x64x4x256 (Host.dynamicSlice S1x4x64x4x256 X (fun k => ((![n, constantI S_ 32 0#32, constantI S_ 32 0#32, constantI S_ 32 0#32, constantI S_ 32 0#32] : Fin 5 → IVec S_ 32) k (Shape.Idx.first h_S_)).toInt) sliceFits_S64x4x64x4x256_S1x4x64x4x256) shapeCasts_S1x4x64x4x256_S4x64x4x256 : FVec Ideal S4x64x4x256 .f32)
      (ix4 b i h e) = X (ix5 ⟨k, hk⟩ b i h e) := by
  rw [Host.dynamicSlice_eq_extractStridedSlice S1x4x64x4x256 X _ ![k, 0, 0, 0, 0] _
    ⟨rfl, fun a => by fin_cases a; exacts [(show k + 1 ≤ 64 by omega), le_refl 4, le_refl 64, le_refl 4, le_refl 256]⟩ (start n k hk hn)]
  pointwise []

/-- A chunk of outputs put in place at the loop's counter. -/
theorem update256 (X : FVec Ideal S64x4x64x4x256 .f32) (u : FVec Ideal S1x4x64x4x256 .f32) (n : IVec S_ 32) (k : ℕ) (hk : k < 64) (hn : ∀ j, n j = BitVec.ofNat 32 k)
    (c : Fin 64) (b : Fin 4) (i : Fin 64) (h : Fin 4) (e : Fin 256) :
    (Host.dynamicUpdateSlice X u (fun k => ((![n, constantI S_ 32 0#32, constantI S_ 32 0#32, constantI S_ 32 0#32, constantI S_ 32 0#32] : Fin 5 → IVec S_ 32) k (Shape.Idx.first h_S_)).toInt) updateFits_S64x4x64x4x256_S1x4x64x4x256 : FVec Ideal S64x4x64x4x256 .f32)
      (ix5 c b i h e) = if c.val = k then u (ix5 0 b i h e) else X (ix5 c b i h e) := by
  have hf : S64x4x64x4x256.Slices ![k, 0, 0, 0, 0] S1x4x64x4x256 :=
    ⟨rfl, fun a => by fin_cases a; exacts [(show k + 1 ≤ 64 by omega), le_refl 4, le_refl 64, le_refl 4, le_refl 256]⟩
  rw [Host.dynamicUpdateSlice_eq_updateSlice X u _ _ ![k, 0, 0, 0, 0]
    (fun a => by have := hf.2 a; rw [start n k hk hn a]; omega) hf]
  pointwise []
  by_cases hc : c.val = k
  · subst hc; simp
  · have h' : ¬(k ≤ c.val ∧ c.val < k + 1) := by omega
    simp only [hc, if_false]
    split
    · omega
    · rfl

section
variable (Y : FVec Ideal S16384x3072 .f32) (L : FVec Ideal S16384x512 .f32)

/-- What the loop carries before trip `k`: the chunks, the mask, the counter, the states before chunk `k` and the outputs of the chunks
    before it. -/
structure At (V : Valuation τ sig (Elt Ideal)) (k : ℕ) : Prop where
  atQ : ∀ (c : Fin 64) (b : Fin 4) (i : Fin 64) (h : Fin 4) (d : Fin 128), (V (Proc.devRef .tc main_v23_0) : FVec Ideal S64x4x64x4x128 .f32) (ix5 c b i h d)
    = Cert.Gla.qC Y b h c.val i d * Ideal.ofBits .f32 (1035273459#32 : BitVec 32)
  atK : ∀ (c : Fin 64) (b : Fin 4) (i : Fin 64) (h : Fin 4) (d : Fin 128), (V (Proc.devRef .tc main_v23_1) : FVec Ideal S64x4x64x4x128 .f32) (ix5 c b i h d) = Cert.Gla.kC Y b h c.val i d
  atV : ∀ (c : Fin 64) (b : Fin 4) (i : Fin 64) (h : Fin 4) (e : Fin 256), (V (Proc.devRef .tc main_v23_2) : FVec Ideal S64x4x64x4x256 .f32) (ix5 c b i h e) = Cert.Gla.vC Y b h c.val i e
  atL : ∀ (c : Fin 64) (b : Fin 4) (i : Fin 64) (h : Fin 4) (d : Fin 128), (V (Proc.devRef .tc main_v23_3) : FVec Ideal S64x4x64x4x128 .f32) (ix5 c b i h d) = Cert.Gla.lC L b h c.val i d
  mask : ∀ i s : Fin 64, (V (Proc.devRef .tc main_v23_4) : IVec S64x64 1) (ix2 i s) = if s ≤ i then 1#1 else 0#1
  count : ∀ j, (V (Proc.devRef .tc main_v23_5) : IVec S_ 32) j = BitVec.ofNat 32 k
  state : ∀ (b h : Fin 4) (d : Fin 128) (e : Fin 256), (V (Proc.devRef .tc main_v23_6) : FVec Ideal S4x4x128x256 .f32) (ix4 b h d e) = Cert.Gla.stateAt Y L b h k d e
  outs : ∀ (c : Fin 64), c.val < k → ∀ (b : Fin 4) (i : Fin 64) (h : Fin 4) (e : Fin 256),
    (V (Proc.devRef .tc main_v23_7) : FVec Ideal S64x4x64x4x256 .f32) (ix5 c b i h e) = Cert.Gla.outAt Y L b h c.val i e

variable {Y L} {V : Valuation τ sig (Elt Ideal)} {n : ℕ}

/-- The trip's keys, -/
theorem At.v54 (H : At Y L V n) (hn : n < 64) (b : Fin 4) (i : Fin 64) (h : Fin 4) (d : Fin 128) :
    (res_main_while0b_v54 V : FVec Ideal S4x64x4x128 .f32) (ix4 b i h d) = Cert.Gla.kC Y b h n i d :=
  (chunk128 _ _ n hn H.count b i h d).trans (H.atK ⟨n, hn⟩ b i h d)

/-- its values, -/
theorem At.v55 (H : At Y L V n) (hn : n < 64) (b : Fin 4) (i : Fin 64) (h : Fin 4) (e : Fin 256) :
    (res_main_while0b_v55 V : FVec Ideal S4x64x4x256 .f32) (ix4 b i h e) = Cert.Gla.vC Y b h n i e :=
  (chunk256 _ _ n hn H.count b i h e).trans (H.atV ⟨n, hn⟩ b i h e)

/-- its running log gates, -/
theorem At.v57 (H : At Y L V n) (hn : n < 64) (b : Fin 4) (i : Fin 64) (h : Fin 4) (d : Fin 128) :
    (res_main_while0b_v57 V : FVec Ideal S4x64x4x128 .f32) (ix4 b i h d) = Cert.Gla.cum (Cert.Gla.lC L b h n) i d := by
  refine (cumsum _ b i h d).trans (Finset.sum_congr rfl fun s _ => ?_)
  exact congrArg (fun z : EReal => if s ≤ i then z else 0) ((chunk128 _ _ n hn H.count b s h d).trans (H.atL ⟨n, hn⟩ b s h d))

/-- the whole chunk's log gates, -/
theorem At.v59 (H : At Y L V n) (hn : n < 64) (b : Fin 4) (h : Fin 4) (d : Fin 128) :
    (res_main_while0b_v59 V : FVec Ideal S4x4x128 .f32) (ix3 b h d) = Cert.Gla.cum (Cert.Gla.lC L b h n) 63 d := by
  refine Eq.trans ?_ (H.v57 hn b 63 h d)
  unfold res_main_while0b_v59
  clean_types
  pointwise []

/-- and its decayed queries. -/
theorem At.v61 (H : At Y L V n) (hn : n < 64) (b : Fin 4) (i : Fin 64) (h : Fin 4) (d : Fin 128) :
    (res_main_while0b_v61 V : FVec Ideal S4x64x4x128 .f32) (ix4 b i h d) = Cert.Gla.qdec (Cert.Gla.qC Y b h n) (Cert.Gla.lC L b h n) i d :=
  (congrArg (· * Ideal.exp ((res_main_while0b_v57 V : FVec Ideal S4x64x4x128 .f32) (ix4 b i h d))) ((chunk128 _ _ n hn H.count b i h d).trans (H.atQ ⟨n, hn⟩ b i h d))).trans
    (congrArg (fun z => Cert.Gla.qC Y b h n i d * Ideal.ofBits .f32 (1035273459#32 : BitVec 32) * Ideal.exp z) (H.v57 hn b i h d))

/-- A trip takes the states before the chunk to the states after it. -/
theorem At.next (H : At Y L V n) (hn : n < 64) (b h : Fin 4) (d : Fin 128) (e : Fin 256) :
    (step_main_v23_6 V : FVec Ideal S4x4x128x256 .f32) (ix4 b h d e) = Cert.Gla.stateAt Y L b h (n + 1) d e := by
  unfold step_main_v23_6
  rw [id_eq]
  clean_types
  pointwise [H.v54 hn, H.v55 hn, H.v57 hn, H.v59 hn, H.state]
  rfl

set_option maxHeartbeats 1000000 in
/-- A trip puts the chunk's outputs in place. -/
theorem At.put (H : At Y L V n) (hn : n < 64) (c : Fin 64) (hc : c.val < n + 1) (b : Fin 4) (i : Fin 64) (h : Fin 4) (e : Fin 256) :
    (step_main_v23_7 V : FVec Ideal S64x4x64x4x256 .f32) (ix5 c b i h e) = Cert.Gla.outAt Y L b h c.val i e := by
  refine (update256 _ _ _ n hn H.count c b i h e).trans ?_
  split
  · next hcn =>
    subst hcn
    pointwise [id_eq, H.v54 hn, H.v55 hn, H.v57 hn, H.v59 hn, H.v61 hn, H.state, H.mask]
    refine congrArg₂ (· + ·) (Finset.sum_congr rfl fun _ _ => mul_comm _ _) (Finset.sum_congr rfl fun s _ => ?_)
    unfold Cert.Gla.score
    split
    · exact mul_comm _ _
    · exact (zero_mul _).symm
  · exact H.outs c (by omega) b i h e

/-- So the loop's invariant holds one trip later. -/
theorem At.step (H : At Y L V n) (hn : n < 64) : At Y L (STEP V) (n + 1) where
  atQ := by rw [STEP_main_v23_0]; exact H.atQ
  atK := by rw [STEP_main_v23_1]; exact H.atK
  atV := by rw [STEP_main_v23_2]; exact H.atV
  atL := by rw [STEP_main_v23_3]; exact H.atL
  mask := by rw [STEP_main_v23_4]; exact H.mask
  count := by
    rw [STEP_main_v23_5]
    intro j
    exact (congrArg (fun z : BitVec 32 => z + 1#32) (H.count j)).trans (BitVec.ofNat_add n 1).symm
  state := by rw [STEP_main_v23_6]; exact H.next hn
  outs := by rw [STEP_main_v23_7]; exact H.put hn

/-- and holds after every number of trips up to 64. -/
theorem At.iter (H : At Y L V 0) : ∀ n ≤ 64, At Y L (STEP^[n] V) n
  | 0, _ => H
  | n + 1, h => by rw [Function.iterate_succ_apply']; exact (At.iter H n (by omega)).step (by omega)

end

section
variable (m : (ℓ : Loc nD τ sig) → Buf (Elt Ideal) ℓ) (c : Dev nD)

/-- The rows' array, -/
abbrev argY : FVec Ideal S16384x3072 .f32 := m ((c.tc : Thread nD τ).loc main_arg0)
/-- the log gates, -/
abbrev argL : FVec Ideal S16384x512 .f32 := m ((c.tc : Thread nD τ).loc main_arg1)
/-- the norm's gain -/
abbrev argG : FVec Ideal S1024 .f32 := m ((c.tc : Thread nD τ).loc main_arg2)
/-- and the states given. -/
abbrev argS : FVec Ideal S2x4x4x128x256 .f32 := m ((c.tc : Thread nD τ).loc main_arg3)

/-- The rows cut into chunks, chunk first, at a chunk's row: 128 lanes a head, -/
theorem chunks128 (x : FVec Ideal S4x4096x4x128 .f32) (n : Fin 64) (b : Fin 4) (i : Fin 64) (h : Fin 4) (d : Fin 128) :
    transpose S64x4x64x4x128 [1, 0, 2, 3, 4] (shapeCast S4x64x64x4x128 x shapeCasts_S4x4096x4x128_S4x64x64x4x128) transposes_S4x64x64x4x128_S64x4x64x4x128_1_0_2_3_4 (ix5 n b i h d)
      = x (ix4 b ⟨n.val * 64 + i.val, by omega⟩ h d) := by
  pointwise []

/-- and 256. -/
theorem chunks256 (x : FVec Ideal S4x4096x4x256 .f32) (n : Fin 64) (b : Fin 4) (i : Fin 64) (h : Fin 4) (e : Fin 256) :
    transpose S64x4x64x4x256 [1, 0, 2, 3, 4] (shapeCast S4x64x64x4x256 x shapeCasts_S4x4096x4x256_S4x64x64x4x256) transposes_S4x64x64x4x256_S64x4x64x4x256_1_0_2_3_4 (ix5 n b i h e)
      = x (ix4 b ⟨n.val * 64 + i.val, by omega⟩ h e) := by
  pointwise []

/-- The lanes cut into heads: 128 lanes a head, -/
theorem heads128 (x : FVec Ideal S4x4096x512 .f32) (b : Fin 4) (l : Fin 4096) (h : Fin 4) (d : Fin 128) :
    shapeCast S4x4096x4x128 x shapeCasts_S4x4096x512_S4x4096x4x128 (ix4 b l h d) = x (ix3 b l ⟨128 * h.val + d.val, by omega⟩) := by
  pointwise []
  exact congrArg (fun k => x (ix3 b l k)) (Fin.ext (by show h.val * 128 + d.val = 128 * h.val + d.val; omega))

/-- and 256. -/
theorem heads256 (x : FVec Ideal S4x4096x1024 .f32) (b : Fin 4) (l : Fin 4096) (h : Fin 4) (e : Fin 256) :
    shapeCast S4x4096x4x256 x shapeCasts_S4x4096x1024_S4x4096x4x256 (ix4 b l h e) = x (ix3 b l ⟨256 * h.val + e.val, by omega⟩) := by
  pointwise []
  exact congrArg (fun k => x (ix3 b l k)) (Fin.ext (by show h.val * 256 + e.val = 256 * h.val + e.val; omega))

/-- The rows cut into batches. -/
theorem batches (x : FVec Ideal S16384x3072 .f32) (b : Fin 4) (l : Fin 4096) (k : Fin 3072) :
    shapeCast S4x4096x3072 x shapeCasts_S16384x3072_S4x4096x3072 (ix3 b l k) = x (ix2 ⟨b.val * 4096 + l.val, by omega⟩ k) := by
  pointwise []

/-- The gates cut into batches and heads. -/
theorem batchHeads (x : FVec Ideal S16384x512 .f32) (b : Fin 4) (l : Fin 4096) (h : Fin 4) (d : Fin 128) :
    shapeCast S4x4096x4x128 x shapeCasts_S16384x512_S4x4096x4x128 (ix4 b l h d) = x (ix2 ⟨b.val * 4096 + l.val, by omega⟩ ⟨128 * h.val + d.val, by omega⟩) := by
  pointwise []
  exact congrArg (fun k => x (ix2 _ k)) (Fin.ext (by show h.val * 128 + d.val = 128 * h.val + d.val; omega))

/-- The row of a batch's chunk. -/
theorem row_eq (b : Fin 4) (n i : Fin 64) : (⟨b.val * 4096 + (n.val * 64 + i.val), by omega⟩ : Fin 16384) = Cert.Gla.row b n.val i :=
  Fin.ext (by show b.val * 4096 + (n.val * 64 + i.val) = (b.val * 4096 + n.val * 64 + i.val) % 16384; omega)

/-- What the loop starts from: the scaled queries, -/
theorem entry0 : (entryContents preI m c (Proc.devRef .tc main_v23_0) : FVec Ideal S64x4x64x4x128 .f32)
    = transpose S64x4x64x4x128 [1, 0, 2, 3, 4] (shapeCast S4x64x64x4x128 (mulf (shapeCast S4x4096x4x128 (extractStridedSlice S4x4096x512 ![0, 0, 0] (shapeCast S4x4096x3072 (argY m c) shapeCasts_S16384x3072_S4x4096x3072) slices_S4x4096x3072_S4x4096x512_0_0_0) shapeCasts_S4x4096x512_S4x4096x4x128) (broadcastInDim S4x4096x4x128 ![] bcast_S_S4x4096x4x128 (constant S_ .f32 0x3DB504F3#32))) shapeCasts_S4x4096x4x128_S4x64x64x4x128) transposes_S4x64x64x4x128_S64x4x64x4x128_1_0_2_3_4 := by
  simp only [entryContents, afterL_cons, afterL_nil]
  after_reads_simp
  rfl

/-- the keys, -/
theorem entry1 : (entryContents preI m c (Proc.devRef .tc main_v23_1) : FVec Ideal S64x4x64x4x128 .f32)
    = transpose S64x4x64x4x128 [1, 0, 2, 3, 4] (shapeCast S4x64x64x4x128 (shapeCast S4x4096x4x128 (extractStridedSlice S4x4096x512 ![0, 0, 512] (shapeCast S4x4096x3072 (argY m c) shapeCasts_S16384x3072_S4x4096x3072) slices_S4x4096x3072_S4x4096x512_0_0_512) shapeCasts_S4x4096x512_S4x4096x4x128) shapeCasts_S4x4096x4x128_S4x64x64x4x128) transposes_S4x64x64x4x128_S64x4x64x4x128_1_0_2_3_4 := by
  simp only [entryContents, afterL_cons, afterL_nil]
  after_reads_simp
  rfl

/-- the values, -/
theorem entry2 : (entryContents preI m c (Proc.devRef .tc main_v23_2) : FVec Ideal S64x4x64x4x256 .f32)
    = transpose S64x4x64x4x256 [1, 0, 2, 3, 4] (shapeCast S4x64x64x4x256 (shapeCast S4x4096x4x256 (extractStridedSlice S4x4096x1024 ![0, 0, 1024] (shapeCast S4x4096x3072 (argY m c) shapeCasts_S16384x3072_S4x4096x3072) slices_S4x4096x3072_S4x4096x1024_0_0_1024) shapeCasts_S4x4096x1024_S4x4096x4x256) shapeCasts_S4x4096x4x256_S4x64x64x4x256) transposes_S4x64x64x4x256_S64x4x64x4x256_1_0_2_3_4 := by
  simp only [entryContents, afterL_cons, afterL_nil]
  after_reads_simp
  rfl

/-- the log gates, -/
theorem entry3 : (entryContents preI m c (Proc.devRef .tc main_v23_3) : FVec Ideal S64x4x64x4x128 .f32)
    = transpose S64x4x64x4x128 [1, 0, 2, 3, 4] (shapeCast S4x64x64x4x128 (shapeCast S4x4096x4x128 (argL m c) shapeCasts_S16384x512_S4x4096x4x128) shapeCasts_S4x4096x4x128_S4x64x64x4x128) transposes_S4x64x64x4x128_S64x4x64x4x128_1_0_2_3_4 := by
  simp only [entryContents, afterL_cons, afterL_nil]
  after_reads_simp
  rfl

/-- the causal mask -/
theorem entry4 : (entryContents preI m c (Proc.devRef .tc main_v23_4) : IVec S64x64 1)
    = select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 1#1)) (broadcastInDim S64x64 ![] bcast_S_S64x64 (constantI S_ 1 0#1)) := by
  simp only [entryContents, afterL_cons, afterL_nil]
  after_reads_simp
  rfl

/-- and the empty state. -/
theorem entry6 : (entryContents preI m c (Proc.devRef .tc main_v23_6) : FVec Ideal S4x4x128x256 .f32) = fun _ => Ideal.ofBits .f32 (0x00000000#32 : BitVec 32) := by
  simp only [entryContents, afterL_cons, afterL_nil]
  after_reads_simp
  rfl

/-- The mask lets a row see itself and the rows before it. -/
theorem mask (i s : Fin 64) : (select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 1#1)) (broadcastInDim S64x64 ![] bcast_S_S64x64 (constantI S_ 1 0#1)) : IVec S64x64 1) (ix2 i s)
    = if s ≤ i then 1#1 else 0#1 := by
  have h : ∀ i s : Fin 64, Scalar.select (IntOp.cmpi CmpIPredicate.sge (IntOp.addi (BitVec.ofNat 32 i.val) 0#32) (BitVec.ofNat 32 s.val)) 1#1 0#1
      = if s ≤ i then 1#1 else 0#1 := by decide +kernel
  pointwise []
  exact h i s

/-- The invariant holds at the loop's entry. -/
theorem entry : At (argY m c) (argL m c) (entryContents preI m c) 0 where
  atQ n b i h d := by
    rw [entry0 m c]
    refine (chunks128 _ n b i h d).trans ?_
    pointwise [heads128, batches]
    rw [row_eq]
    rfl
  atK n b i h d := by
    rw [entry1 m c]
    refine (chunks128 _ n b i h d).trans ?_
    pointwise [heads128, batches]
    rw [row_eq]
    exact congrArg (fun k => argY m c (ix2 _ k)) (Fin.ext (by show 512 + (128 * h.val + d.val) = 512 + 128 * h.val + d.val; omega))
  atV n b i h e := by
    rw [entry2 m c]
    refine (chunks256 _ n b i h e).trans ?_
    pointwise [heads256, batches]
    rw [row_eq]
    exact congrArg (fun k => argY m c (ix2 _ k)) (Fin.ext (by show 1024 + (256 * h.val + e.val) = 1024 + 256 * h.val + e.val; omega))
  atL n b i h d := by
    rw [entry3 m c]
    refine (chunks128 _ n b i h d).trans ?_
    rw [batchHeads, row_eq]
    rfl
  mask i s := by
    rw [entry4 m c]
    exact mask i s
  count j := by
    rw [ctr_entry]
  state b h d e := by
    rw [entry6 m c]
    show Ideal.ofBits .f32 (0x00000000#32 : BitVec 32) = 0
    pointwise []
  outs n hn := absurd hn (Nat.not_lt_zero _)

/-- The chunks put back in a row. -/
theorem unchunk (x : FVec Ideal S64x4x64x4x256 .f32) (n : Fin 64) (b : Fin 4) (i : Fin 64) (h : Fin 4) (e : Fin 256) (hl : n.val * 64 + i.val < 4096) :
    shapeCast S4x4096x4x256 (transpose S4x64x64x4x256 [1, 0, 2, 3, 4] x transposes_S64x4x64x4x256_S4x64x64x4x256_1_0_2_3_4) shapeCasts_S4x64x64x4x256_S4x4096x4x256
      (ix4 b ⟨n.val * 64 + i.val, hl⟩ h e) = x (ix5 n b i h e) := by
  pointwise []

/-- The heads' lanes put back in a row. -/
theorem unheads (x : FVec Ideal S4x4096x4x256 .f32) (b : Fin 4) (l : Fin 4096) (h : Fin 4) (e : Fin 256) (hk : 256 * h.val + e.val < 1024) :
    shapeCast S4x4096x1024 x shapeCasts_S4x4096x4x256_S4x4096x1024 (ix3 b l ⟨256 * h.val + e.val, hk⟩) = x (ix4 b l h e) := by
  pointwise []

end

end Cert.ReferenceIdeal.Gla

end
-- ==== Proof.GlaResult.lean ====
/- The reference's two results, read from what its loop leaves. -/
module

public import proofs.«01_k».proof.Proof.GlaReference

@[expose] public section

set_option maxRecDepth 16384

noncomputable section

namespace Cert.ReferenceIdeal.Gla

open Cert.ReferenceIdeal Cert.ReferenceIdeal.Gen Cert.ReferenceIdeal.Value Idealize.ShloMosaic Idealize.ShloMosaic.TcCoe Idealize.ShloMosaic.Tactic Idealize.ShloMosaic.StableHlo

/-- The norm over a head's lanes with its gain. -/
theorem norm_at (o : FVec Ideal S4x4096x4x256 .f32) (g : FVec Ideal S1024 .f32) (b : Fin 4) (l : Fin 4096) (h : Fin 4) (e : Fin 256) :
    (mulf (mulf o (broadcastInDim S4x4096x4x256 ![0, 1, 2, 3] bcast_S4x4096x4x1_S4x4096x4x256_0_1_2_3 (Host.rsqrt (addf (Host.divf (broadcastInDim S4x4096x4x1 ![0, 1, 2] bcast_S4x4096x4_S4x4096x4x1_0_1_2 (Host.reduceAdd (mulf o o) (constant S_ .f32 0x00000000#32) reducesTo_S4x4096x4x256_S4x4096x4_d3 h_S_)) (broadcastInDim S4x4096x4x1 ![] bcast_S_S4x4096x4x1 (constant S_ .f32 0x43800000#32))) (broadcastInDim S4x4096x4x1 ![] bcast_S_S4x4096x4x1 (constant S_ .f32 0x358637BD#32)))))) (broadcastInDim S4x4096x4x256 ![0, 1, 2, 3] bcast_S1x1x4x256_S4x4096x4x256_0_1_2_3 (broadcastInDim S1x1x4x256 ![2, 3] bcast_S4x256_S1x1x4x256_2_3 (shapeCast S4x256 g shapeCasts_S1024_S4x256))) : FVec Ideal S4x4096x4x256 .f32)
      (ix4 b l h e) = o (ix4 b l h e) * Ideal.rsqrt (Ideal.div (∑ e' : Fin 256, o (ix4 b l h e') * o (ix4 b l h e')) (Ideal.ofBits FTy.f32 1132462080#32) + Ideal.ofBits FTy.f32 897988541#32) * g (ix1 ⟨256 * h.val + e.val, by omega⟩) := by
  pointwise []
  exact congrArg (fun k => _ * g (ix1 k)) (Fin.ext (by show h.val * 256 + e.val = 256 * h.val + e.val; omega))

/-- The lanes of the output gate. -/
theorem gate_lanes (x : FVec Ideal S16384x3072 .f32) (b : Fin 4) (l : Fin 4096) (k : Fin 1024) :
    extractStridedSlice S4x4096x1024 ![0, 0, 2048] (shapeCast S4x4096x3072 x shapeCasts_S16384x3072_S4x4096x3072) slices_S4x4096x3072_S4x4096x1024_0_0_2048 (ix3 b l k)
      = x (ix2 ⟨b.val * 4096 + l.val, by omega⟩ ⟨2048 + k.val, by omega⟩) := by
  pointwise [batches]

/-- The output gate. -/
theorem gate_at (r : FVec Ideal S4x4096x1024 .f32) (y : S4x4096x1024.Idx) :
    (mulf r (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf r)))) : FVec Ideal S4x4096x1024 .f32) y
      = r y * Ideal.div 1 (1 + Ideal.exp (-r y)) := by
  pointwise []

/-- The first layer's states stay, -/
theorem layer0 (S : FVec Ideal S2x4x4x128x256 .f32) (x : FVec Ideal S4x4x128x256 .f32) (b h : Fin 4) (d : Fin 128) (e : Fin 256) :
    concatenate S2x4x4x128x256 0 [⟨S1x4x4x128x256, (broadcastInDim S1x4x4x128x256 ![1, 2, 3, 4] bcast_S4x4x128x256_S1x4x4x128x256_1_2_3_4 (shapeCast S4x4x128x256 (extractStridedSlice S1x4x4x128x256 ![0, 0, 0, 0, 0] S slices_S2x4x4x128x256_S1x4x4x128x256_0_0_0_0_0) shapeCasts_S1x4x4x128x256_S4x4x128x256))⟩, ⟨S1x4x4x128x256, (broadcastInDim S1x4x4x128x256 ![1, 2, 3, 4] bcast_S4x4x128x256_S1x4x4x128x256_1_2_3_4 x)⟩] concatenates_S1x4x4x128x256_S1x4x4x128x256_S2x4x4x128x256_d0
      (ix5 (0 : Fin 2) b h d e) = S (ix5 (0 : Fin 2) b h d e) := by
  pointwise []

/-- the second layer's are the loop's. -/
theorem layer1 (S : FVec Ideal S2x4x4x128x256 .f32) (x : FVec Ideal S4x4x128x256 .f32) (b h : Fin 4) (d : Fin 128) (e : Fin 256) :
    concatenate S2x4x4x128x256 0 [⟨S1x4x4x128x256, (broadcastInDim S1x4x4x128x256 ![1, 2, 3, 4] bcast_S4x4x128x256_S1x4x4x128x256_1_2_3_4 (shapeCast S4x4x128x256 (extractStridedSlice S1x4x4x128x256 ![0, 0, 0, 0, 0] S slices_S2x4x4x128x256_S1x4x4x128x256_0_0_0_0_0) shapeCasts_S1x4x4x128x256_S4x4x128x256))⟩, ⟨S1x4x4x128x256, (broadcastInDim S1x4x4x128x256 ![1, 2, 3, 4] bcast_S4x4x128x256_S1x4x4x128x256_1_2_3_4 x)⟩] concatenates_S1x4x4x128x256_S1x4x4x128x256_S2x4x4x128x256_d0
      (ix5 (1 : Fin 2) b h d e) = x (ix4 b h d e) := by
  pointwise []

variable {Y : FVec Ideal S16384x3072 .f32} {L : FVec Ideal S16384x512 .f32} {G : FVec Ideal S1024 .f32} {S : FVec Ideal S2x4x4x128x256 .f32} {V : Valuation τ sig (Elt Ideal)}

/-- All outputs, in rows. -/
theorem rows_at (hV : At Y L V 64) (b : Fin 4) (n i : Fin 64) (h : Fin 4) (e : Fin 256) (hl : n.val * 64 + i.val < 4096) :
    shapeCast S4x4096x4x256 (transpose S4x64x64x4x256 [1, 0, 2, 3, 4] (V (Proc.devRef .tc main_v23_7) : FVec Ideal S64x4x64x4x256 .f32) transposes_S64x4x64x4x256_S4x64x64x4x256_1_0_2_3_4) shapeCasts_S4x64x64x4x256_S4x4096x4x256
      (ix4 b ⟨n.val * 64 + i.val, hl⟩ h e) = Cert.Gla.outAt Y L b h n.val i e :=
  (unchunk _ n b i h e hl).trans (hV.outs n n.isLt b i h e)

/-- The gated outputs, as the reference returns them. -/
theorem out_at (hV : At Y L V 64) (hY : (V (Proc.devRef .tc main_arg0) : FVec Ideal S16384x3072 .f32) = Y) (hG : (V (Proc.devRef .tc main_arg2) : FVec Ideal S1024 .f32) = G)
    (b : Fin 4) (n i : Fin 64) (h : Fin 4) (e : Fin 256) (hl : n.val * 64 + i.val < 4096) (hk : 256 * h.val + e.val < 1024) :
    (out_main_v47 (V) : FVec Ideal S4x4096x1024 .f32) (ix3 b ⟨n.val * 64 + i.val, hl⟩ ⟨256 * h.val + e.val, hk⟩)
      = Cert.Gla.gatedAt Y L G b h n.val i e := by
  unfold out_main_v47
  refine congrArg₂ (fun a b : EReal => a * b) ((unheads _ b ⟨n.val * 64 + i.val, hl⟩ h e hk).trans ((norm_at _ _ b _ h e).trans ?_)) ((gate_at _ _).trans ?_)
  · simp only [rows_at hV b n i h _ hl]
    rw [hG]
  · have hr := gate_lanes (V (Proc.devRef .tc main_arg0)) b ⟨n.val * 64 + i.val, hl⟩ ⟨256 * h.val + e.val, hk⟩
    have he : Y (ix2 ⟨b.val * 4096 + (n.val * 64 + i.val), by omega⟩ ⟨2048 + (256 * h.val + e.val), by omega⟩) = Cert.Gla.rC Y b h n.val i e := by
      rw [row_eq]
      exact congrArg (fun k => Y (ix2 _ k)) (Fin.ext (by show 2048 + (256 * h.val + e.val) = 2048 + 256 * h.val + e.val; omega))
    exact congrArg (fun r => r * Ideal.div 1 (1 + Ideal.exp (-r))) ((hr.trans (congrFun hY _)).trans he)

/-- The states, as the reference returns them. -/
theorem states_at (hV : At Y L V 64) (hS : (V (Proc.devRef .tc main_arg3) : FVec Ideal S2x4x4x128x256 .f32) = S)
    (a : Fin 2) (b h : Fin 4) (d : Fin 128) (e : Fin 256) :
    (out_main_v52 (V) : FVec Ideal S2x4x4x128x256 .f32) (ix5 a b h d e) = Cert.Gla.stateArr Y L S (ix5 a b h d e) := by
  have h6 := hV.state b h d e
  obtain rfl | rfl : a = 0 ∨ a = 1 := by omega
  · exact (layer0 _ _ b h d e).trans (congrFun hS _)
  · exact (layer1 _ _ b h d e).trans h6

/-- The first result, whole. -/
theorem out_eq (hV : At Y L V 64) (hY : (V (Proc.devRef .tc main_arg0) : FVec Ideal S16384x3072 .f32) = Y) (hG : (V (Proc.devRef .tc main_arg2) : FVec Ideal S1024 .f32) = G) :
    (out_main_v47 (V) : FVec Ideal S4x4096x1024 .f32) = Cert.Gla.outArr Y L G := by
  funext y
  obtain ⟨b, n, i, h, e, hl, hk, rfl⟩ : ∃ (b : Fin 4) (n i : Fin 64) (h : Fin 4) (e : Fin 256) (hl : n.val * 64 + i.val < 4096) (hk : 256 * h.val + e.val < 1024),
      y = ix3 b ⟨n.val * 64 + i.val, hl⟩ ⟨256 * h.val + e.val, hk⟩ := by
    have hy1 : (y 1).val < 4096 := (y 1).isLt
    have hy2 : (y 2).val < 1024 := (y 2).isLt
    refine ⟨y 0, ⟨(y 1).val / 64, by omega⟩, ⟨(y 1).val % 64, by omega⟩, ⟨(y 2).val / 256, by omega⟩, ⟨(y 2).val % 256, by omega⟩, ?_, ?_, ?_⟩
    · show (y 1).val / 64 * 64 + (y 1).val % 64 < 4096; omega
    · show 256 * ((y 2).val / 256) + (y 2).val % 256 < 1024; omega
    · funext a
      fin_cases a
      · rfl
      · exact Fin.ext (by show (y 1).val = (y 1).val / 64 * 64 + (y 1).val % 64; omega)
      · exact Fin.ext (by show (y 2).val = 256 * ((y 2).val / 256) + (y 2).val % 256; omega)
  rw [Cert.Gla.outArr_at]
  exact out_at hV hY hG b n i h e hl hk

/-- The second. -/
theorem states_eq (hV : At Y L V 64) (hS : (V (Proc.devRef .tc main_arg3) : FVec Ideal S2x4x4x128x256 .f32) = S) :
    (out_main_v52 (V) : FVec Ideal S2x4x4x128x256 .f32) = Cert.Gla.stateArr Y L S := by
  funext y
  obtain ⟨a, b, h, d, e, rfl⟩ : ∃ (a : Fin 2) (b h : Fin 4) (d : Fin 128) (e : Fin 256), y = ix5 a b h d e := ⟨y 0, y 1, y 2, y 3, y 4, by
    funext a
    fin_cases a <;> rfl⟩
  exact states_at hV hS a b h d e

/-- The reference's run leaves the scan's two arrays and keeps the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = Cert.Gla.outArr (argY m c) (argL m c) (argG m c)
      ∧ r.2.mem ((c.tc : Thread nD τ).loc main_v52) = Cert.Gla.stateArr (argY m c) (argL m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out_eq ((entry m c).iter 64 le_rfl) (iter_main_arg0 m c 64) (iter_main_arg2 m c 64)),
    (h c).2.1.trans (states_eq ((entry m c).iter 64 le_rfl) (iter_main_arg3 m c 64)), (h c).2.2⟩) (Value.run (F := Ideal) m ρ)

end Cert.ReferenceIdeal.Gla

end
-- ==== Proof.ProjSpec.lean ====
/- A normed row times a weight, over the extended reals: what each projection of the layer computes. -/
module

public import proofs.«01_k».proof.Proof.PostSpec

@[expose] public section

noncomputable section

namespace Cert.Proj

open Idealize.ShloMosaic

/-- Entry `j` of a row of 1024 entries, normed with gain `g`, times the weight `w`. -/
def project {n : ℕ} (x g : Fin 1024 → EReal) (w : Fin 1024 → Fin n → EReal) (j : Fin n) : EReal :=
  ∑ k, Post.rms x g k * w k j

/-- The logarithm of the logistic function, in the form whose exponentials stay below one. -/
def logSigmoid (z : EReal) : EReal := -(max (-z) 0 + Ideal.log1p (Ideal.exp (-max z (-z))))

/-- Log gate `j` of a row: the row's projection to 16 entries, times the second weight, plus the bias, through the logarithm of the
    logistic function, over the float word of 16. -/
def gate (x g : Fin 1024 → EReal) (w1 : Fin 1024 → Fin 16 → EReal) (w2 : Fin 16 → Fin 512 → EReal) (b : Fin 512 → EReal) (j : Fin 512) : EReal :=
  Ideal.div (logSigmoid ((∑ i, project x g w1 i * w2 i j) + b j)) (Ideal.ofBits FTy.f32 1098907648#32)

end Cert.Proj

end
-- ==== Proof.MemValue.lean ====
/- The memory's keys and values: what the kernel leaves in its result at every row is the normed row times the weight, which is the
   reference's value. -/
module

public import proofs.«01_k».proof.Proof.Gen.KernelMemIdeal.Value
public import proofs.«01_k».proof.Proof.Gen.ReferenceMemIdeal.Read
public import proofs.«01_k».proof.Proof.ProjSpec
public import Idealize.ShloMosaic.Lib.Pipeline.Value
public import Idealize.ShloMosaic.Lib.ValueIdx
public import Idealize.ShloMosaic.Lib.Pointwise
public import Idealize.ShloMosaic.Lib.Pipeline.ValueKit
public import Idealize.ShloMosaic.Lib.Claim
public import Idealize.ShloMosaic.PureOps.Ideal.Laws

@[expose] public section

set_option maxRecDepth 16384

noncomputable section

namespace Cert.ReferenceMemIdeal.Mem

open Cert.ReferenceMemIdeal Cert.ReferenceMemIdeal.Gen Cert.ReferenceMemIdeal.Read Idealize.ShloMosaic Idealize.ShloMosaic.TcCoe

variable (x0 : FVec Ideal S4x256x1024 .f32) (x1 : FVec Ideal S1024 .f32) (x2 : FVec Ideal S4x1024x1024 .f32)

/-- The normed memory row. -/
theorem normed (b : Fin 4) (t : Fin 256) (k : Fin 1024) :
    val_main_v12 (F := Ideal) x0 x1 (ix3 b t k) = Post.rms (fun k => x0 (ix3 b t k)) (fun k => x1 (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, Post.rms]

/-- The reference's result at an index. -/
theorem result_row (r : Fin 1024) (j : Fin 1024) :
    val_main_v16 (F := Ideal) x0 x1 x2 (ix2 r j)
      = Proj.project (fun k => x0 (ix3 (⟨r.val / 256, by omega⟩ : Fin 4) (⟨r.val % 256, by omega⟩ : Fin 256) k)) (fun k => x1 (ix1 k)) (fun k n => x2 (ix3 3 k n)) j := by
  pointwise [Proj.project, val_main_v16, val_main_v15, val_main_v14, val_main_v13, normed]

end Cert.ReferenceMemIdeal.Mem

namespace Cert.KernelMemIdeal.Mem

open Cert.KernelMemIdeal Cert.KernelMemIdeal.Gen Idealize.ShloMosaic Idealize.ShloMosaic.TcCoe

/-- The block a grid point writes, at an index. -/
theorem out_row (x0 : Vec Ideal S512x1024 .f32) (x1 : Vec Ideal S1x1024 .f32) (x2 : Vec Ideal S1x1024x1024 .bf16) (r : Fin 512) (j : Fin 1024) :
    out0_3 x0 x1 x2 (ix2 r j) = Proj.project (fun k => x0 (ix2 r k)) (fun k => x1 (ix2 0 k)) (fun k n => x2 (ix3 0 k n)) j := by
  have hz : (![0, 0] : Fin 2 → Nat) = fun _ => 0 := funext fun a => by fin_cases a <;> rfl
  have hz3 : (![0, 0, 0] : Fin 3 → Nat) = fun _ => 0 := funext fun a => by fin_cases a <;> rfl
  unfold out0_3
  rw [View.canon_unit_zero hz]
  rw [View.ld_unit_zero hz _ x0, View.ld_unit_zero hz _ x1, View.ld_unit_zero hz3 _ x2]
  pointwise [k0_pay1, Proj.project, Post.rms]

/-- Which block each window holds at a grid point. -/
theorem idx : ∀ t : Fin cfg0.N, win0_0.index t = ![t.val, 0] ∧ win0_1.index t = ![0, 0] ∧ win0_2.index t = ![3, 0, 0] ∧
    win0_3.index t = ![t.val, 0] := by decide +kernel

variable (m : (ℓ : Loc nD τ sig) → Buf (Elt Ideal) ℓ) (c : Dev nD) (t : Fin cfg0.N)

/-- The memory rows as the kernel takes them, at an index. -/
theorem rows (x : FVec Ideal S4x256x1024 .f32) (r : Fin 1024) (k : Fin 1024) :
    shapeCast S1024x1024 x shapeCasts_S4x256x1024_S1024x1024 (ix2 r k) = x (ix3 (⟨r.val / 256, by omega⟩ : Fin 4) (⟨r.val % 256, by omega⟩ : Fin 256) k) := by
  pointwise []

/-- Each window's block at a point, as a part of its argument: the rows, -/
theorem read0 (r : Fin 512) (h : t.val * 512 + r.val < 1024) (k : Fin 1024) :
    iblk m c 0 t (ix2 r k) = shapeCast S1024x1024 (m ((c.tc : Thread nD τ).loc main_arg0) : FVec Ideal S4x256x1024 .f32) shapeCasts_S4x256x1024_S1024x1024 (ix2 ⟨t.val * 512 + r.val, h⟩ k) := by blk_ext [iblk, V, idx t]
/-- the gains, -/
theorem read1 (k : Fin 1024) :
    iblk m c 1 t (ix2 0 k) = m ((c.tc : Thread nD τ).loc main_arg1) (ix1 k) := by blk_ext! [iblk, V, idx t]
/-- and the weight. -/
theorem read2 (k : Fin 1024) (n : Fin 1024) :
    iblk m c 2 t (ix3 0 k n) = m ((c.tc : Thread nD τ).loc main_arg2) (ix3 3 k n) := by blk_ext! [iblk, V, idx t]

/-- The result array, as the reference computes it from the arguments. -/
abbrev result (m : (ℓ : Loc nD τ sig) → Buf (Elt Ideal) ℓ) (c : Dev nD) : Vec Ideal S1024x1024 .f32 :=
  Cert.ReferenceMemIdeal.Read.val_main_v16 (F := Ideal) (m ((c.tc : Thread nD τ).loc main_arg0)) (m ((c.tc : Thread nD τ).loc main_arg1))
    (m ((c.tc : Thread nD τ).loc main_arg2))

/-- The result array after the run is the reference's. -/
theorem final : (dats m 0 c).arrAt 3 cfg0.N = result m c := by
  refine (dats m 0 c).arrAt_eq_of_covers 3 _ (by decide +kernel) fun t hf y => ?_
  obtain ⟨r, j, rfl⟩ : ∃ (r : Fin 512) (j : Fin 1024), y = ix2 r j := ⟨y 0, y 1, by funext a; fin_cases a <;> rfl⟩
  blk_simp
  rw [after0_3]
  have ht : t.val < 2 := t.isLt
  have hr := r.isLt
  have hemb : ((cfg0.win 3).blk t).view.emb (ix2 r j) = ix2 (⟨t.val * 512 + r.val, by omega⟩ : Fin 1024) j := by
    blk_ext [idx t]
  rw [out_row, hemb, result, Cert.ReferenceMemIdeal.Mem.result_row]
  congr 1
  · funext k; exact (read0 m c t r (by omega) k).trans (rows _ _ _)
  · funext k; exact read1 m c t k
  · funext k n; exact read2 m c t k n

/-- The kernel's run leaves the reference's value in the result and keeps the arguments. -/
theorem run (ρ : Dev nD → PrngReg) :
    θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

end Cert.KernelMemIdeal.Mem

end
-- ==== Proof.PostSampleValue.lean ====
/- The residual block after the sample's cross attention: the kernel's result is at every row the reference's value. -/
module

public import proofs.«01_k».proof.Proof.Gen.KernelPostSampleIdeal.Value
public import proofs.«01_k».proof.Proof.Gen.ReferencePostSampleIdeal.Read
public import proofs.«01_k».proof.Proof.PostSpec
public import Idealize.ShloMosaic.Lib.Pipeline.Value
public import Idealize.ShloMosaic.Lib.ValueIdx
public import Idealize.ShloMosaic.Lib.Pointwise
public import Idealize.ShloMosaic.Lib.Pipeline.ValueKit
public import Idealize.ShloMosaic.Lib.Claim
public import Idealize.ShloMosaic.PureOps.Ideal.Laws

@[expose] public section

set_option maxRecDepth 16384

noncomputable section

namespace Cert.Post

open Idealize.ShloMosaic

/-- The row after the cross attention's output projection: `x + a · w`, over 512 lanes. -/
def afterHeads (x : Fin 1024 → EReal) (a : Fin 512 → EReal) (w : Fin 512 → Fin 1024 → EReal) (j : Fin 1024) : EReal :=
  x j + ∑ k, a k * w k j

/-- The row the sample's block returns: output projection, multilayer perceptron, final norm. -/
def outSample (x : Fin 1024 → EReal) (a : Fin 512 → EReal) (w : Fin 512 → Fin 1024 → EReal) (gm : Fin 1024 → EReal)
    (wu : Fin 1024 → Fin 4096 → EReal) (wd : Fin 4096 → Fin 1024 → EReal) (gf : Fin 1024 → EReal) : Fin 1024 → EReal :=
  rms (afterMlp (afterHeads x a w) gm wu wd) gf

end Cert.Post

namespace Cert.ReferencePostSampleIdeal.Post

open Cert.ReferencePostSampleIdeal Cert.ReferencePostSampleIdeal.Gen Cert.ReferencePostSampleIdeal.Read Idealize.ShloMosaic Idealize.ShloMosaic.TcCoe

variable (x0 : FVec Ideal S1024x1024 .f32) (x1 : FVec Ideal S1024x512 .f32) (x2 : FVec Ideal S4x512x1024 .f32)
  (x3 : FVec Ideal S1024 .f32) (x4 : FVec Ideal S4x1024x4096 .f32) (x5 : FVec Ideal S4x4096x1024 .f32) (x6 : FVec Ideal S1024 .f32)

/-- Token `l` of sequence `b` among all rows. -/
abbrev row (b : Fin 128) (l : Fin 8) : Fin 1024 := ⟨b.val * 8 + l.val, by omega⟩

/-- The row after the output projection. -/
theorem projected (b : Fin 128) (l : Fin 8) (j : Fin 1024) :
    val_main_v5 (F := Ideal) x0 x1 x2 (ix3 b l j)
      = Post.afterHeads (fun k => x0 (ix2 (row b l) k)) (fun k => x1 (ix2 (row b l) k)) (fun k n => x2 (ix3 3 k n)) j := by
  pointwise [val_main_v5, val_main_v4, val_main_v3, val_main_v2, val_main_v1, val_main_v0, Post.afterHeads]

/-- That row normed. -/
theorem normed (b : Fin 128) (l : Fin 8) (j : Fin 1024) :
    val_main_v18 (F := Ideal) x0 x1 x2 x3 (ix3 b l j)
      = Post.rms (fun k => val_main_v5 (F := Ideal) x0 x1 x2 (ix3 b l k)) (fun k => x3 (ix1 k)) j := by
  pointwise [val_main_v18, val_main_v17, val_main_v16, val_main_v15, val_main_v14, val_main_v13, val_main_v12, val_main_v11, val_main_v10, val_main_v9, val_main_v8, val_main_v7, val_main_v6, val_main_cst, val_main_cst_0, val_main_cst_1, Post.rms]

/-- One hidden unit. -/
theorem units (b : Fin 128) (l : Fin 8) (f : Fin 4096) :
    val_main_v23 (F := Ideal) x0 x1 x2 x3 x4 (ix3 b l f)
      = Post.hidden (fun k => val_main_v5 (F := Ideal) x0 x1 x2 (ix3 b l k)) (fun k => x3 (ix1 k)) (fun k n => x4 (ix3 3 k n)) f := by
  pointwise [val_main_v23, val_main_v22, val_main_v21, val_main_v20, val_main_v19, val_main_call0_v0, val_main_call0_cst, Post.hidden, normed]

/-- The row after the multilayer perceptron. -/
theorem mixed (b : Fin 128) (l : Fin 8) (j : Fin 1024) :
    val_main_v27 (F := Ideal) x0 x1 x2 x3 x4 x5 (ix3 b l j)
      = Post.afterMlp (fun k => val_main_v5 (F := Ideal) x0 x1 x2 (ix3 b l k)) (fun k => x3 (ix1 k)) (fun k n => x4 (ix3 3 k n)) (fun k n => x5 (ix3 3 k n)) j := by
  pointwise [val_main_v27, val_main_v26, val_main_v25, val_main_v24, Post.afterMlp, units]

/-- The last norm, the rows laid out flat. -/
theorem last (r : Fin 1024) (j : Fin 1024) :
    val_main_v41 (F := Ideal) x0 x1 x2 x3 x4 x5 x6 (ix2 r j)
      = Post.rms (fun k => val_main_v27 (F := Ideal) x0 x1 x2 x3 x4 x5 (ix3 (⟨r.val / 8, by omega⟩ : Fin 128) (⟨r.val % 8, by omega⟩ : Fin 8) k)) (fun k => x6 (ix1 k)) j := by
  pointwise [val_main_v41, val_main_v40, val_main_v39, val_main_v38, val_main_v37, val_main_v36, val_main_v35, val_main_v34, val_main_v33, val_main_v32, val_main_v31, val_main_v30, val_main_v29, val_main_v28, val_main_cst_2, val_main_cst_3, val_main_cst_4, Post.rms]

/-- The reference's result at an index. -/
theorem result_row (r : Fin 1024) (j : Fin 1024) :
    val_main_v41 (F := Ideal) x0 x1 x2 x3 x4 x5 x6 (ix2 r j)
      = Post.outSample (fun k => x0 (ix2 r k)) (fun k => x1 (ix2 r k)) (fun k n => x2 (ix3 3 k n)) (fun k => x3 (ix1 k))
          (fun k n => x4 (ix3 3 k n)) (fun k n => x5 (ix3 3 k n)) (fun k => x6 (ix1 k)) j := by
  have er : row (⟨r.val / 8, by omega⟩ : Fin 128) (⟨r.val % 8, by omega⟩ : Fin 8) = r :=
    Fin.ext (show r.val / 8 * 8 + r.val % 8 = r.val by omega)
  rw [last]
  simp only [mixed, projected, er]
  rfl

end Cert.ReferencePostSampleIdeal.Post

namespace Cert.KernelPostSampleIdeal.Post

open Cert.KernelPostSampleIdeal Cert.KernelPostSampleIdeal.Gen Idealize.ShloMosaic Idealize.ShloMosaic.TcCoe

/-- The output projection's row. -/
theorem pay2_row (x0 : Vec Ideal S512x1024 .f32) (x1 : Vec Ideal S512x512 .f32) (w : Vec Ideal S1x512x1024 .bf16) (r : Fin 512) (j : Fin 1024) :
    k0_pay2 x0 x1 w (ix2 r j) = Post.afterHeads (fun k => x0 (ix2 r k)) (fun k => x1 (ix2 r k)) (fun k n => w (ix3 0 k n)) j := by
  pointwise [k0_pay2, Post.afterHeads]

/-- That row normed. -/
theorem pay3_row (x0 : Vec Ideal S512x1024 .f32) (x1 : Vec Ideal S512x512 .f32) (w : Vec Ideal S1x512x1024 .bf16) (g : Vec Ideal S1x1024 .f32) (r : Fin 512) (j : Fin 1024) :
    k0_pay3 x0 x1 w g (ix2 r j) = Post.rms (fun k => k0_pay2 x0 x1 w (ix2 r k)) (fun k => g (ix2 0 k)) j := by
  pointwise [k0_pay3, Post.rms]

/-- The first tile of hidden units added to the row. -/
theorem pay4_row (x0 : Vec Ideal S512x1024 .f32) (x1 : Vec Ideal S512x512 .f32) (w : Vec Ideal S1x512x1024 .bf16) (g : Vec Ideal S1x1024 .f32) (u d : Vec Ideal S1x1024x1024 .bf16) (r : Fin 512) (j : Fin 1024) :
    k0_pay4 x0 x1 w g u d (ix2 r j) = k0_pay2 x0 x1 w (ix2 r j)
      + ∑ f : Fin 1024, max (∑ k, k0_pay3 x0 x1 w g (ix2 r k) * u (ix3 0 k f)) 0 * max (∑ k, k0_pay3 x0 x1 w g (ix2 r k) * u (ix3 0 k f)) 0 * d (ix3 0 f j) := by
  pointwise [k0_pay4]

/-- The other three tiles. -/
theorem pay5_row (h : FVec Ideal S512x1024 .bf16) (x : FVec Ideal S512x1024 .f32) (u1 d1 u2 d2 u3 d3 : Vec Ideal S1x1024x1024 .bf16) (r : Fin 512) (j : Fin 1024) :
    k0_pay5 h x u1 d1 u2 d2 u3 d3 (ix2 r j) = x (ix2 r j)
      + (∑ f : Fin 1024, max (∑ k, h (ix2 r k) * u1 (ix3 0 k f)) 0 * max (∑ k, h (ix2 r k) * u1 (ix3 0 k f)) 0 * d1 (ix3 0 f j))
      + (∑ f : Fin 1024, max (∑ k, h (ix2 r k) * u2 (ix3 0 k f)) 0 * max (∑ k, h (ix2 r k) * u2 (ix3 0 k f)) 0 * d2 (ix3 0 f j))
      + ∑ f : Fin 1024, max (∑ k, h (ix2 r k) * u3 (ix3 0 k f)) 0 * max (∑ k, h (ix2 r k) * u3 (ix3 0 k f)) 0 * d3 (ix3 0 f j) := by
  pointwise [k0_pay5]

/-- The final norm. -/
theorem pay1_row (x : FVec Ideal S512x1024 .f32) (g : Vec Ideal S1x1024 .f32) (r : Fin 512) (j : Fin 1024) :
    k0_pay1 x (k0_pay6 g) (ix2 r j) = Post.rms (fun j => x (ix2 r j)) (fun k => g (ix2 0 k)) j := by
  pointwise [k0_pay1, k0_pay6, Post.rms]

/-- The block a grid point writes, at an index: the block's row function of the block's row. -/
theorem out_row (x0 : Vec Ideal S512x1024 .f32) (x1 : Vec Ideal S512x512 .f32) (x2 : Vec Ideal S1x512x1024 .bf16) (x3 : Vec Ideal S1x1024 .f32) (x4 : Vec Ideal S1x1024x4096 .bf16) (x5 : Vec Ideal S1x4096x1024 .bf16) (x6 : Vec Ideal S1x1024 .f32) (r : Fin 512) (j : Fin 1024) :
    out0_7 x0 x1 x2 x3 x4 x5 x6 (ix2 r j)
      = Post.outSample (fun k => x0 (ix2 r k)) (fun k => x1 (ix2 r k)) (fun k n => x2 (ix3 0 k n)) (fun k => x3 (ix2 0 k))
          (fun k n => x4 (ix3 0 k n)) (fun k n => x5 (ix3 0 k n)) (fun k => x6 (ix2 0 k)) j := by
  have hz : (![0, 0] : Fin 2 → Nat) = fun _ => 0 := funext fun a => by fin_cases a <;> rfl
  have hz3 : (![0, 0, 0] : Fin 3 → Nat) = fun _ => 0 := funext fun a => by fin_cases a <;> rfl
  unfold out0_7
  rw [View.canon_unit_zero hz]
  rw [View.ld_unit_zero hz _ x0, View.ld_unit_zero hz _ x1, View.ld_unit_zero hz3 _ x2, View.ld_unit_zero hz _ x3, View.ld_unit_zero hz _ x6]
  rw [pay1_row]
  refine congrArg (fun x => Post.rms x _ j) (funext fun j => ?_)
  rw [pay5_row, pay4_row]
  simp only [pay3_row, pay2_row]
  unfold Post.afterMlp
  rw [Post.sum_tiles]
  simp only [← add_assoc]
  pointwise [Post.hidden]

/-- Which block each window holds at a grid point: the point's own row block and one fixed layer of each weight. -/
theorem idx : ∀ t : Fin cfg0.N, win0_0.index t = ![t.val, 0] ∧ win0_1.index t = ![t.val, 0] ∧ win0_2.index t = ![3, 0, 0] ∧
    win0_3.index t = ![0, 0] ∧ win0_4.index t = ![3, 0, 0] ∧ win0_5.index t = ![3, 0, 0] ∧ win0_6.index t = ![0, 0] ∧
    win0_7.index t = ![t.val, 0] := by decide +kernel

variable (m : (ℓ : Loc nD τ sig) → Buf (Elt Ideal) ℓ) (c : Dev nD) (t : Fin cfg0.N)

/-- Each window's block at a point, as a part of its argument: the rows, -/
theorem read0 (r : Fin 512) (h : t.val * 512 + r.val < 1024) (k : Fin 1024) :
    iblk m c 0 t (ix2 r k) = m ((c.tc : Thread nD τ).loc main_arg0) (ix2 ⟨t.val * 512 + r.val, h⟩ k) := by blk_ext [iblk, V, idx t]
/-- the attention's rows, -/
theorem read1 (r : Fin 512) (h : t.val * 512 + r.val < 1024) (k : Fin 512) :
    iblk m c 1 t (ix2 r k) = m ((c.tc : Thread nD τ).loc main_arg1) (ix2 ⟨t.val * 512 + r.val, h⟩ k) := by blk_ext [iblk, V, idx t]
/-- the output projection, -/
theorem read2 (k : Fin 512) (n : Fin 1024) :
    iblk m c 2 t (ix3 0 k n) = m ((c.tc : Thread nD τ).loc main_arg2) (ix3 3 k n) := by blk_ext! [iblk, V, idx t]
/-- the norm before the multilayer perceptron, -/
theorem read3 (k : Fin 1024) :
    iblk m c 3 t (ix2 0 k) = m ((c.tc : Thread nD τ).loc main_arg3) (ix1 k) := by blk_ext! [iblk, V, idx t]
/-- its two weights, -/
theorem read4 (k : Fin 1024) (n : Fin 4096) :
    iblk m c 4 t (ix3 0 k n) = m ((c.tc : Thread nD τ).loc main_arg4) (ix3 3 k n) := by blk_ext! [iblk, V, idx t]
/-- the second of them, -/
theorem read5 (k : Fin 4096) (n : Fin 1024) :
    iblk m c 5 t (ix3 0 k n) = m ((c.tc : Thread nD τ).loc main_arg5) (ix3 3 k n) := by blk_ext! [iblk, V, idx t]
/-- and the final norm. -/
theorem read6 (k : Fin 1024) :
    iblk m c 6 t (ix2 0 k) = m ((c.tc : Thread nD τ).loc main_arg6) (ix1 k) := by blk_ext! [iblk, V, idx t]

/-- The result array, as the reference computes it from the arguments. -/
abbrev result (m : (ℓ : Loc nD τ sig) → Buf (Elt Ideal) ℓ) (c : Dev nD) : Vec Ideal S1024x1024 .f32 :=
  Cert.ReferencePostSampleIdeal.Read.val_main_v41 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

/-- The result array after the run is the reference's. -/
theorem final : (dats m 0 c).arrAt 7 cfg0.N = result m c := by
  refine (dats m 0 c).arrAt_eq_of_covers 7 _ (by decide +kernel) fun t hf y => ?_
  obtain ⟨r, j, rfl⟩ : ∃ (r : Fin 512) (j : Fin 1024), y = ix2 r j := ⟨y 0, y 1, by funext a; fin_cases a <;> rfl⟩
  blk_simp
  rw [after0_7]
  have ht : t.val < 2 := t.isLt
  have hr := r.isLt
  have hemb : ((cfg0.win 7).blk t).view.emb (ix2 r j) = ix2 (⟨t.val * 512 + r.val, by omega⟩ : Fin 1024) j := by
    blk_ext [idx t]
  rw [out_row, hemb, result, Cert.ReferencePostSampleIdeal.Post.result_row]
  congr 1
  · funext k; exact read0 m c t r _ k
  · funext k; exact read1 m c t r _ k
  · funext k n; exact read2 m c t k n
  · funext k; exact read3 m c t k
  · funext k n; exact read4 m c t k n
  · funext k n; exact read5 m c t k n
  · funext k; exact read6 m c t k

/-- The kernel's run leaves the reference's value in the result and keeps the arguments. -/
theorem run (ρ : Dev nD → PrngReg) :
    θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (final m c), (h c).2⟩) (Value.run_blocks m ρ)

end Cert.KernelPostSampleIdeal.Post

end
-- ==== Proof.InValue.lean ====
/- The projections into the recurrence: the kernel's two results are at every row the reference's values. -/
module

public import proofs.«01_k».proof.Proof.Gen.KernelInIdeal.Value
public import proofs.«01_k».proof.Proof.Gen.ReferenceInIdeal.Read
public import proofs.«01_k».proof.Proof.ProjSpec
public import Idealize.ShloMosaic.Lib.Pipeline.Value
public import Idealize.ShloMosaic.Lib.ValueIdx
public import Idealize.ShloMosaic.Lib.Pointwise
public import Idealize.ShloMosaic.Lib.Pipeline.ValueKit
public import Idealize.ShloMosaic.Lib.Claim
public import Idealize.ShloMosaic.PureOps.Ideal.Laws

@[expose] public section

set_option maxRecDepth 16384

noncomputable section

namespace Cert.ReferenceInIdeal.In

open Cert.ReferenceInIdeal Cert.ReferenceInIdeal.Gen Cert.ReferenceInIdeal.Read Idealize.ShloMosaic Idealize.ShloMosaic.TcCoe

variable (x0 : FVec Ideal S16384x1024 .f32) (x1 : FVec Ideal S1024 .f32) (x2 : FVec Ideal S1024x3072 .f32)
  (x3 : FVec Ideal S1024x16 .f32) (x4 : FVec Ideal S16x512 .f32) (x5 : FVec Ideal S512 .f32)

/-- Row `l` of sequence `b` among all rows. -/
abbrev row (b : Fin 4) (l : Fin 4096) : Fin 16384 := ⟨b.val * 4096 + l.val, by omega⟩

/-- The normed row. -/
theorem normed (b : Fin 4) (l : Fin 4096) (k : Fin 1024) :
    val_main_v13 (F := Ideal) x0 x1 (ix3 b l k) = Post.rms (fun k => x0 (ix2 (row b l) k)) (fun k => x1 (ix1 k)) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, Post.rms]

/-- The projection's result at an index. -/
theorem y_row (r : Fin 16384) (j : Fin 3072) :
    val_main_v23 (F := Ideal) x0 x1 x2 (ix2 r j)
      = Proj.project (fun k => x0 (ix2 r k)) (fun k => x1 (ix1 k)) (fun k n => x2 (ix2 k n)) j := by
  have er : row (⟨r.val / 4096, by omega⟩ : Fin 4) (⟨r.val % 4096, by omega⟩ : Fin 4096) = r :=
    Fin.ext (show r.val / 4096 * 4096 + r.val % 4096 = r.val by omega)
  have h : val_main_v23 (F := Ideal) x0 x1 x2 (ix2 r j)
      = ∑ k, val_main_v13 (F := Ideal) x0 x1 (ix3 (⟨r.val / 4096, by omega⟩ : Fin 4) (⟨r.val % 4096, by omega⟩ : Fin 4096) k) * x2 (ix2 k j) := by
    pointwise [val_main_v23, val_main_v14]
  rw [h]
  simp only [normed, er]
  rfl

/-- What goes into the logarithm of the logistic function. -/
theorem pre_row (b : Fin 4) (l : Fin 4096) (j : Fin 512) :
    val_main_v19 (F := Ideal) x0 x1 x3 x4 x5 (ix3 b l j)
      = (∑ i, Proj.project (fun k => x0 (ix2 (row b l) k)) (fun k => x1 (ix1 k)) (fun k n => x3 (ix2 k n)) i * x4 (ix2 i j)) + x5 (ix1 j) := by
  pointwise [val_main_v19, val_main_v18, val_main_v17, val_main_v16, val_main_v15, normed, Proj.project]

/-- The gate's result at an index. -/
theorem gate_row (r : Fin 16384) (j : Fin 512) :
    val_main_v24 (F := Ideal) x0 x1 x3 x4 x5 (ix2 r j)
      = Proj.gate (fun k => x0 (ix2 r k)) (fun k => x1 (ix1 k)) (fun k n => x3 (ix2 k n)) (fun k n => x4 (ix2 k n)) (fun k => x5 (ix1 k)) j := by
  have er : row (⟨r.val / 4096, by omega⟩ : Fin 4) (⟨r.val % 4096, by omega⟩ : Fin 4096) = r :=
    Fin.ext (show r.val / 4096 * 4096 + r.val % 4096 = r.val by omega)
  have h : val_main_v24 (F := Ideal) x0 x1 x3 x4 x5 (ix2 r j)
      = Ideal.div (Proj.logSigmoid (val_main_v19 (F := Ideal) x0 x1 x3 x4 x5 (ix3 (⟨r.val / 4096, by omega⟩ : Fin 4) (⟨r.val % 4096, by omega⟩ : Fin 4096) j)))
          (Ideal.ofBits FTy.f32 1098907648#32) := by
    pointwise [val_main_v24, val_main_v22, val_main_v21, val_main_cst_2, val_main_v20, val_main_call0_v1, val_main_call0_v0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, Proj.logSigmoid]
    simp only [sub_zero, ne_eq, not_true_eq_false, if_false]
    rw [show ∀ z : EReal, FloatOps.absf (F := Ideal) (φ := .f32) (-z) = max z (-z) from fun z => by
      show max (-z) (- -z) = _
      rw [neg_neg, max_comm]]
  rw [h, pre_row]
  simp only [er]
  rfl

end Cert.ReferenceInIdeal.In

namespace Cert.KernelInIdeal.In

open Cert.KernelInIdeal Cert.KernelInIdeal.Gen Idealize.ShloMosaic Idealize.ShloMosaic.TcCoe

/-- The normed row. -/
theorem pay2_row (x : Vec Ideal S512x1024 .f32) (g : Vec Ideal S1x1024 .f32) (r : Fin 512) (k : Fin 1024) :
    k0_pay2 x g (ix2 r k) = Post.rms (fun k => x (ix2 r k)) (fun k => g (ix2 0 k)) k := by
  pointwise [k0_pay2, Post.rms]

/-- One tile of 1024 columns. -/
theorem pay3_row (x : Vec Ideal S512x1024 .f32) (g : Vec Ideal S1x1024 .f32) (w : Vec Ideal S1024x1024 .bf16) (r : Fin 512) (j : Fin 1024) :
    k0_pay3 x g w (ix2 r j) = Proj.project (fun k => x (ix2 r k)) (fun k => g (ix2 0 k)) (fun k n => w (ix2 k n)) j := by
  pointwise [k0_pay3, pay2_row, Proj.project]

theorem pay4_row (x : Vec Ideal S512x1024 .f32) (g : Vec Ideal S1x1024 .f32) (w : Vec Ideal S1024x1024 .bf16) (r : Fin 512) (j : Fin 1024) :
    k0_pay4 x g w (ix2 r j) = Proj.project (fun k => x (ix2 r k)) (fun k => g (ix2 0 k)) (fun k n => w (ix2 k n)) j := pay3_row x g w r j

theorem pay5_row (x : Vec Ideal S512x1024 .f32) (g : Vec Ideal S1x1024 .f32) (w : Vec Ideal S1024x1024 .bf16) (r : Fin 512) (j : Fin 1024) :
    k0_pay5 x g w (ix2 r j) = Proj.project (fun k => x (ix2 r k)) (fun k => g (ix2 0 k)) (fun k n => w (ix2 k n)) j := pay3_row x g w r j

/-- The projection to the gate's lanes. -/
theorem pay6_row (x : Vec Ideal S512x1024 .f32) (g : Vec Ideal S1x1024 .f32) (w : Vec Ideal S1024x128 .bf16) (r : Fin 512) (j : Fin 128) :
    k0_pay6 x g w (ix2 r j) = Proj.project (fun k => x (ix2 r k)) (fun k => g (ix2 0 k)) (fun k n => w (ix2 k n)) j := by
  pointwise [k0_pay6, pay2_row, Proj.project]

/-- The gate from those lanes. -/
theorem pay1_row (h : FVec Ideal S512x128 .f32) (w : Vec Ideal S128x512 .bf16) (b : Vec Ideal S1x512 .f32) (r : Fin 512) (j : Fin 512) :
    k0_pay1 h w b (ix2 r j) = Ideal.div (Proj.logSigmoid ((∑ i, h (ix2 r i) * w (ix2 i j)) + b (ix2 0 j))) (Ideal.ofBits FTy.f32 1098907648#32) := by
  pointwise [k0_pay1, Proj.logSigmoid]
  simp only [zero_sub]
  rfl

/-- A tile's columns are the weight's columns from the tile's offset on. -/
theorem tile (x : Vec Ideal S512x1024 .f32) (g : Vec Ideal S1x1024 .f32) (w : Vec Ideal S1024x3200 .bf16) (o : ℕ)
    (inb : ∀ a, (![0, o] : Fin 2 → ℕ) a + S1024x1024.size a ≤ S1024x3200.size a) (r : Fin 512) (n : Fin 1024) (j : Fin 3072) (h : j.val = o + n.val) :
    Proj.project (fun k => x (ix2 r k)) (fun k => g (ix2 0 k)) (fun k n => View.ld w (Rect.unit (s := S1024x3200) ![0, o] S1024x1024.size inb) (ix2 k n)) n
      = Proj.project (fun k => x (ix2 r k)) (fun k => g (ix2 0 k)) (fun k (n : Fin 3072) => w (ix2 k ⟨n.val, by omega⟩)) j := by
  refine Finset.sum_congr rfl fun k _ => congrArg (_ * ·) (congrArg w (funext fun a => ?_))
  fin_cases a
  · exact Fin.ext (by show 0 + 1 * k.val = k.val; omega)
  · exact Fin.ext (by show o + 1 * n.val = j.val; omega)

/-- The projected block, at an index. -/
theorem out5_row (x0 : Vec Ideal S512x1024 .f32) (x1 : Vec Ideal S1x1024 .f32) (x2 : Vec Ideal S1024x3200 .bf16) (x3 : Vec Ideal S128x512 .bf16) (x4 : Vec Ideal S1x512 .f32) (r : Fin 512) (j : Fin 3072) :
    out0_5 x0 x1 x2 x3 x4 (ix2 r j)
      = Proj.project (fun k => x0 (ix2 r k)) (fun k => x1 (ix2 0 k)) (fun k (n : Fin 3072) => x2 (ix2 k ⟨n.val, by omega⟩)) j := by
  have hz : (![0, 0] : Fin 2 → Nat) = fun _ => 0 := funext fun a => by fin_cases a <;> rfl
  unfold out0_5
  rw [View.ld_unit_zero hz _ x0, View.ld_unit_zero hz _ x1]
  canon_tiles x h using cover0_5 ..
  · obtain ⟨r', n, rfl⟩ : ∃ (r' : Fin 512) (n : Fin 1024), x = ix2 r' n := ⟨x 0, x 1, by funext a; fin_cases a <;> rfl⟩
    obtain rfl : r = r' := Fin.ext h0
    rw [pay5_row]
    exact tile x0 x1 x2 2048 _ r n j h1
  · obtain ⟨r', n, rfl⟩ : ∃ (r' : Fin 512) (n : Fin 1024), x = ix2 r' n := ⟨x 0, x 1, by funext a; fin_cases a <;> rfl⟩
    obtain rfl : r = r' := Fin.ext h0
    rw [pay4_row]
    exact tile x0 x1 x2 1024 _ r n j h1
  · obtain ⟨r', n, rfl⟩ : ∃ (r' : Fin 512) (n : Fin 1024), x = ix2 r' n := ⟨x 0, x 1, by funext a; fin_cases a <;> rfl⟩
    obtain rfl : r = r' := Fin.ext h0
    rw [pay3_row]
    exact tile x0 x1 x2 0 _ r n j (h1.trans (Nat.zero_add _).symm)

/-- The gates' block, at an index. -/
theorem out6_row (x0 : Vec Ideal S512x1024 .f32) (x1 : Vec Ideal S1x1024 .f32) (x2 : Vec Ideal S1024x3200 .bf16) (x3 : Vec Ideal S128x512 .bf16) (x4 : Vec Ideal S1x512 .f32) (r : Fin 512) (j : Fin 512) :
    out0_6 x0 x1 x2 x3 x4 (ix2 r j)
      = Ideal.div (Proj.logSigmoid ((∑ i : Fin 128, Proj.project (fun k => x0 (ix2 r k)) (fun k => x1 (ix2 0 k))
          (fun k (n : Fin 128) => x2 (ix2 k ⟨3072 + n.val, by omega⟩)) i * x3 (ix2 i j)) + x4 (ix2 0 j))) (Ideal.ofBits FTy.f32 1098907648#32) := by
  have hz : (![0, 0] : Fin 2 → Nat) = fun _ => 0 := funext fun a => by fin_cases a <;> rfl
  unfold out0_6
  rw [View.canon_unit_zero hz]
  rw [View.ld_unit_zero hz _ x0, View.ld_unit_zero hz _ x1, View.ld_unit_zero hz _ x3, View.ld_unit_zero hz _ x4]
  rw [pay1_row]
  simp only [pay6_row]
  pointwise [Proj.project]

/-- Which block each window holds at a grid point. -/
theorem idx : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![t.val, 0] ∧ win0_6.index t = ![t.val, 0] := by decide +kernel

variable (m : (ℓ : Loc nD τ sig) → Buf (Elt Ideal) ℓ) (c : Dev nD) (t : Fin cfg0.N)

/-- The arrays the host code makes of the arguments: the weight with the gate's first weight beside it, -/
theorem wide : @Eq (FVec Ideal S1024x3200 .bf16) (V m c main_v2) <| truncf .bf16 (concatenate S1024x3200 1
    [⟨S1024x3072, (m ((c.tc : Thread nD τ).loc main_arg2) : FVec Ideal S1024x3072 .f32)⟩,
      ⟨S1024x128, pad S1024x128 ![0, 0] ![0, 112] ![0, 0] (m ((c.tc : Thread nD τ).loc main_arg3) : FVec Ideal S1024x16 .f32)
        (sitofp .f32 (constantI S_ 32 0#32)) pads_S1024x16_S1024x128_000_01120 h_S_⟩] concatenates_S1024x3072_S1024x128_S1024x3200_d1) bitsLt_bf16_f32 := by
  unfold V
  simp only [List.flatten_cons, List.flatten_nil, List.append_nil, List.cons_append, List.nil_append]
  after_results
  rfl
/-- the gate's second weight padded, -/
theorem second : @Eq (FVec Ideal S128x512 .bf16) (V m c main_v4) <| truncf .bf16 (pad S128x512 ![0, 0] ![112, 0] ![0, 0] (m ((c.tc : Thread nD τ).loc main_arg4) : FVec Ideal S16x512 .f32)
        (sitofp .f32 (constantI S_ 32 0#32)) pads_S16x512_S128x512_01120_000 h_S_) bitsLt_bf16_f32 := by
  unfold V
  simp only [List.flatten_cons, List.flatten_nil, List.append_nil, List.cons_append, List.nil_append]
  after_results
  rfl
/-- and the rows made of the gains -/
theorem gains : V m c main_v5 = shapeCast S1x1024 (m ((c.tc : Thread nD τ).loc main_arg1) : FVec Ideal S1024 .f32) shapeCasts_S1024_S1x1024 := by
  unfold V
  simp only [List.flatten_cons, List.flatten_nil, List.append_nil, List.cons_append, List.nil_append]
  after_results
  rfl
/-- and of the bias. -/
theorem bias : V m c main_v6 = shapeCast S1x512 (m ((c.tc : Thread nD τ).loc main_arg5) : FVec Ideal S512 .f32) shapeCasts_S512_S1x512 := by
  unfold V
  simp only [List.flatten_cons, List.flatten_nil, List.append_nil, List.cons_append, List.nil_append]
  after_results
  rfl

/-- Each window's block at a point, as a part of its argument: the rows, -/
theorem read0 (r : Fin 512) (h : t.val * 512 + r.val < 16384) (k : Fin 1024) :
    iblk m c 0 t (ix2 r k) = m ((c.tc : Thread nD τ).loc main_arg0) (ix2 ⟨t.val * 512 + r.val, h⟩ k) := by blk_ext [iblk, V_main_arg0, idx t]
/-- the gains, -/
theorem read1 (k : Fin 1024) :
    iblk m c 1 t (ix2 0 k) = m ((c.tc : Thread nD τ).loc main_arg1) (ix1 k) := by
  have e : iblk m c 1 t (ix2 0 k) = V m c main_v5 (ix2 0 k) := by blk_ext [iblk, idx t]
  rw [e, gains]
  pointwise []
/-- the weight, the gate's first weight beside it, -/
theorem read2 (k : Fin 1024) (n : Fin 3200) : iblk m c 2 t (ix2 k n) = V m c main_v2 (ix2 k n) := by blk_ext [iblk, idx t]
/-- the gate's second weight, -/
theorem read3 (n : Fin 128) (j : Fin 512) : iblk m c 3 t (ix2 n j) = V m c main_v4 (ix2 n j) := by blk_ext [iblk, idx t]
/-- and the bias. -/
theorem read4 (j : Fin 512) :
    iblk m c 4 t (ix2 0 j) = m ((c.tc : Thread nD τ).loc main_arg5) (ix1 j) := by
  have e : iblk m c 4 t (ix2 0 j) = V m c main_v6 (ix2 0 j) := by blk_ext [iblk, idx t]
  rw [e, bias]
  pointwise []

/-- The wide weight's first columns are the weight's; -/
theorem wide_left (k : Fin 1024) (n : Fin 3072) :
    V m c main_v2 (ix2 k ⟨n.val, by omega⟩) = (m ((c.tc : Thread nD τ).loc main_arg2) : FVec Ideal S1024x3072 .f32) (ix2 k n) := by
  rw [wide]
  pointwise []
/-- its next sixteen are the gate's first weight; -/
theorem wide_gate (k : Fin 1024) (n : Fin 16) :
    V m c main_v2 (ix2 k ⟨3072 + n.val, by omega⟩) = (m ((c.tc : Thread nD τ).loc main_arg3) : FVec Ideal S1024x16 .f32) (ix2 k n) := by
  rw [wide]
  generalize (m ((c.tc : Thread nD τ).loc main_arg3) : FVec Ideal S1024x16 .f32) = x
  have hk := k.isLt
  have hn := n.isLt
  pointwise []
  rw [dif_pos]
  intro a
  fin_cases a
  · show 0 ≤ k.val ∧ (k.val - 0) % (0 + 1) = 0 ∧ (k.val - 0) / (0 + 1) < 1024
    omega
  · show 0 ≤ n.val ∧ (n.val - 0) % (0 + 1) = 0 ∧ (n.val - 0) / (0 + 1) < 16
    omega
/-- the padded second weight's first rows are the gate's second weight, -/
theorem second_gate (n : Fin 16) (j : Fin 512) :
    V m c main_v4 (ix2 ⟨n.val, by omega⟩ j) = (m ((c.tc : Thread nD τ).loc main_arg4) : FVec Ideal S16x512 .f32) (ix2 n j) := by
  rw [second]
  generalize (m ((c.tc : Thread nD τ).loc main_arg4) : FVec Ideal S16x512 .f32) = x
  have hj := j.isLt
  have hn := n.isLt
  pointwise []
  rw [dif_pos]
  intro a
  fin_cases a
  · show 0 ≤ n.val ∧ (n.val - 0) % (0 + 1) = 0 ∧ (n.val - 0) / (0 + 1) < 16
    omega
  · show 0 ≤ j.val ∧ (j.val - 0) % (0 + 1) = 0 ∧ (j.val - 0) / (0 + 1) < 512
    omega
/-- and its others are zero. -/
theorem second_pad (n : Fin 112) (j : Fin 512) : V m c main_v4 (ix2 ⟨16 + n.val, by omega⟩ j) = (0 : EReal) := by
  rw [second]
  generalize (m ((c.tc : Thread nD τ).loc main_arg4) : FVec Ideal S16x512 .f32) = x
  pointwise []
  rw [dif_neg]
  · show (((0#32 : BitVec 32).toInt : ℝ) : EReal) = 0
    simp
  · intro h
    have h0 : (16 + n.val - 0) / (0 + 1) < 16 := (h 0).2.2
    omega

/-- The gate over the padded lanes is the gate over the sixteen: the other lanes' products are zero. -/
theorem lanes (p : Fin 128 → EReal) (w : Fin 128 → EReal) (p' w' : Fin 16 → EReal) (hp : ∀ n : Fin 16, p ⟨n.val, by omega⟩ = p' n)
    (hw : ∀ n : Fin 16, w ⟨n.val, by omega⟩ = w' n) (h0 : ∀ n : Fin 112, w ⟨16 + n.val, by omega⟩ = 0) :
    ∑ i, p i * w i = ∑ i, p' i * w' i := by
  have e := Fin.sum_univ_add (a := 16) (b := 112) fun i => p i * w i
  have e1 : ∑ i, p (Fin.castAdd 112 i) * w (Fin.castAdd 112 i) = ∑ i, p' i * w' i :=
    Finset.sum_congr rfl fun n _ => congrArg₂ (· * ·) (hp n) (hw n)
  have e2 : ∑ i, p (Fin.natAdd 16 i) * w (Fin.natAdd 16 i) = 0 :=
    Finset.sum_eq_zero fun n _ => (congrArg (_ * ·) (h0 n)).trans (mul_zero _)
  rw [e, e1, e2, add_zero]

/-- The two result arrays, as the reference computes them from the arguments: the projections -/
abbrev resultY (m : (ℓ : Loc nD τ sig) → Buf (Elt Ideal) ℓ) (c : Dev nD) : Vec Ideal S16384x3072 .f32 :=
  Cert.ReferenceInIdeal.Read.val_main_v23 (F := Ideal) (m ((c.tc : Thread nD τ).loc main_arg0)) (m ((c.tc : Thread nD τ).loc main_arg1))
    (m ((c.tc : Thread nD τ).loc main_arg2))
/-- and the log gates. -/
abbrev resultL (m : (ℓ : Loc nD τ sig) → Buf (Elt Ideal) ℓ) (c : Dev nD) : Vec Ideal S16384x512 .f32 :=
  Cert.ReferenceInIdeal.Read.val_main_v24 (F := Ideal) (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg5))

/-- The projections after the run are the reference's. -/
theorem finalY : (dats m 0 c).arrAt 5 cfg0.N = resultY m c := by
  refine (dats m 0 c).arrAt_eq_of_covers 5 _ (by decide +kernel) fun t hf y => ?_
  obtain ⟨r, j, rfl⟩ : ∃ (r : Fin 512) (j : Fin 3072), y = ix2 r j := ⟨y 0, y 1, by funext a; fin_cases a <;> rfl⟩
  blk_simp
  rw [after0_5]
  have ht : t.val < 32 := t.isLt
  have hr := r.isLt
  have hemb : ((cfg0.win 5).blk t).view.emb (ix2 r j) = ix2 (⟨t.val * 512 + r.val, by omega⟩ : Fin 16384) j := by
    blk_ext [idx t]
  rw [out5_row, hemb, resultY, Cert.ReferenceInIdeal.In.y_row]
  congr 1
  · funext k; exact read0 m c t r _ k
  · funext k; exact read1 m c t k
  · funext k n; exact (read2 m c t k _).trans (wide_left m c k n)

/-- The log gates after the run are the reference's. -/
theorem finalL : (dats m 0 c).arrAt 6 cfg0.N = resultL m c := by
  refine (dats m 0 c).arrAt_eq_of_covers 6 _ (by decide +kernel) fun t hf y => ?_
  obtain ⟨r, j, rfl⟩ : ∃ (r : Fin 512) (j : Fin 512), y = ix2 r j := ⟨y 0, y 1, by funext a; fin_cases a <;> rfl⟩
  blk_simp
  rw [after0_6]
  have ht : t.val < 32 := t.isLt
  have hr := r.isLt
  have hemb : ((cfg0.win 6).blk t).view.emb (ix2 r j) = ix2 (⟨t.val * 512 + r.val, by omega⟩ : Fin 16384) j := by
    blk_ext [idx t]
  rw [out6_row, hemb, resultL, Cert.ReferenceInIdeal.In.gate_row]
  unfold Proj.gate
  refine congrArg (fun z => Ideal.div (Proj.logSigmoid z) _) (congrArg₂ (· + ·) (lanes _ _ _ _ (fun n => ?_) (fun n => ?_) fun n => ?_) (read4 m c t j))
  · unfold Proj.project
    refine Finset.sum_congr rfl fun k _ => congrArg₂ (· * ·) (congrArg₂ (fun x g => Post.rms x g k) ?_ ?_) ?_
    · funext k; exact read0 m c t r _ k
    · funext k; exact read1 m c t k
    · exact (read2 m c t k _).trans (wide_gate m c k n)
  · exact (read3 m c t _ j).trans (second_gate m c n j)
  · exact (read3 m c t _ j).trans (second_pad m c n j)

/-- The kernel's run leaves the reference's values in the two results and keeps the arguments. -/
theorem run (ρ : Dev nD → PrngReg) :
    θ_run defs (onTc (τ := τ) (main (F := Ideal))) ⟨m, fun _ => 0, ρ⟩ fun r => ∀ c : Dev nD,
      r.2.mem ((c.tc : Thread nD τ).loc main_v7_0) = resultY m c
      ∧ r.2.mem ((c.tc : Thread nD τ).loc main_v7_1) = resultL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (finalY m c), (h c).2.1.trans (finalL m c), (h c).2.2⟩) (Value.run_blocks m ρ)

end Cert.KernelInIdeal.In

end
-- ==== Proof.PostMidReference.lean ====
/- The references of the residual block in the layers before the last: the last layer's reference before its final norm, over stacks
   of weights that have the layer's weight in every place. -/
module

public import proofs.«01_k».proof.Proof.Gen.ReferencePostFirstIdeal.Read
public import proofs.«01_k».proof.Proof.Gen.ReferencePostSecondIdeal.Read
public import proofs.«01_k».proof.Proof.Gen.ReferencePostThirdIdeal.Read
public import proofs.«01_k».proof.Proof.PostReference

@[expose] public section

set_option maxRecDepth 16384

noncomputable section

namespace Cert.ReferencePostIdeal.Post

open Cert.ReferencePostIdeal Cert.ReferencePostIdeal.Gen Cert.ReferencePostIdeal.Read Idealize.ShloMosaic Idealize.ShloMosaic.TcCoe

/-- The stack of weights that has layer `l` of `w` in every place. -/
def every {L a b : ℕ} (l : Fin L) (w : FVec Ideal ⟨3, ![L, a, b]⟩ .f32) : FVec Ideal ⟨3, ![L, a, b]⟩ .f32 := fun i => w (ix3 l (i 1) (i 2))

/-- Layer `l` of a stack is any layer of that stack. -/
theorem slice_every {L a b : ℕ} (l k : Fin L) (w : FVec Ideal ⟨3, ![L, a, b]⟩ .f32)
    (h : Shape.Slices ⟨3, ![L, a, b]⟩ ![l.val, 0, 0] ⟨3, ![1, a, b]⟩) (h' : Shape.Slices ⟨3, ![L, a, b]⟩ ![k.val, 0, 0] ⟨3, ![1, a, b]⟩) :
    extractStridedSlice ⟨3, ![1, a, b]⟩ ![l.val, 0, 0] w h = extractStridedSlice ⟨3, ![1, a, b]⟩ ![k.val, 0, 0] (every l w) h' := by
  funext i
  unfold extractStridedSlice every
  refine congrArg w (funext fun d => ?_)
  have h0 : (i 0).val < 1 := (i 0).isLt
  fin_cases d
  · refine Fin.ext ?_
    show l.val + (i 0).val = l.val
    omega
  · exact Fin.ext (Nat.zero_add _ |>.trans (Nat.zero_add _).symm)
  · exact Fin.ext (Nat.zero_add _ |>.trans (Nat.zero_add _).symm)

/-- The row before the final norm is the residual block's row function of the flattened row. -/
theorem before_row (x0 x1 : FVec Ideal S16384x1024 .f32) (x2 : FVec Ideal S2x1024x1024 .f32) (x3 : FVec Ideal S1024 .f32)
    (x4 : FVec Ideal S4x1024x512 .f32) (x5 : FVec Ideal S4x256x1024 .f32) (x6 : FVec Ideal S4x512x1024 .f32) (x7 : FVec Ideal S1024 .f32)
    (x8 : FVec Ideal S4x1024x4096 .f32) (x9 : FVec Ideal S4x4096x1024 .f32) (r : Fin 16384) (j : Fin 1024) :
    val_main_v69 (F := Ideal) x0 x1 x2 x3 x4 x5 x6 x7 x8 x9 (ix3 (⟨r.val / 4096, by omega⟩ : Fin 4) (⟨r.val % 4096, by omega⟩ : Fin 4096) j)
      = Post.body (fun k => x0 (ix2 r k)) (fun k => x1 (ix2 r k)) (fun k n => x2 (ix3 1 k n)) (fun k => x3 (ix1 k))
          (fun k n => x4 (ix3 3 k n)) (fun t k => x5 (ix3 (⟨r.val / 4096, by omega⟩ : Fin 4) t k)) (fun k n => x6 (ix3 3 k n)) (fun k => x7 (ix1 k))
          (fun k n => x8 (ix3 3 k n)) (fun k n => x9 (ix3 3 k n)) j := by
  have er : row (⟨r.val / 4096, by omega⟩ : Fin 4) (⟨r.val % 4096, by omega⟩ : Fin 4096) = r :=
    Fin.ext (show r.val / 4096 * 4096 + r.val % 4096 = r.val by omega)
  simp only [v69_row, v47_row, v43_row, v40_row, v29_row, v25_row, v5_row, er]
  rfl

end Cert.ReferencePostIdeal.Post

namespace Cert.ReferencePostFirstIdeal.Post

open Cert.ReferencePostFirstIdeal Cert.ReferencePostFirstIdeal.Gen Cert.ReferencePostFirstIdeal.Read Idealize.ShloMosaic Idealize.ShloMosaic.TcCoe
open Cert.ReferencePostIdeal.Post (every slice_every before_row)

variable (x0 x1 : FVec Ideal S16384x1024 .f32) (x2 : FVec Ideal S2x1024x1024 .f32) (x3 : FVec Ideal S1024 .f32)
  (x4 : FVec Ideal S4x1024x512 .f32) (x5 : FVec Ideal S4x256x1024 .f32) (x6 : FVec Ideal S4x512x1024 .f32) (x7 : FVec Ideal S1024 .f32)
  (x8 : FVec Ideal S4x1024x4096 .f32) (x9 : FVec Ideal S4x4096x1024 .f32)

/-- The reference of layer 0, before its last reshape, is the last layer's one over the stacks with layer 0 in every place. -/
theorem spread : val_main_v69 (F := Ideal) x0 x1 x2 x3 x4 x5 x6 x7 x8 x9
    = Cert.ReferencePostIdeal.Read.val_main_v69 (F := Ideal) x0 x1 (every (L := 2) 0 x2) x3 (every (L := 4) 0 x4) x5 (every (L := 4) 0 x6) x7
        (every (L := 4) 0 x8) (every (L := 4) 0 x9) := by
  have e2 : val_main_v2 (F := Ideal) x2 = Cert.ReferencePostIdeal.Read.val_main_v2 (F := Ideal) (every (L := 2) 0 x2) := slice_every (L := 2) 0 1 x2 _ _
  have e4 : val_main_v23 (F := Ideal) x4 = Cert.ReferencePostIdeal.Read.val_main_v23 (F := Ideal) (every (L := 4) 0 x4) := slice_every (L := 4) 0 3 x4 _ _
  have e6 : val_main_v44 (F := Ideal) x6 = Cert.ReferencePostIdeal.Read.val_main_v44 (F := Ideal) (every (L := 4) 0 x6) := slice_every (L := 4) 0 3 x6 _ _
  have e8 : val_main_v61 (F := Ideal) x8 = Cert.ReferencePostIdeal.Read.val_main_v61 (F := Ideal) (every (L := 4) 0 x8) := slice_every (L := 4) 0 3 x8 _ _
  have e9 : val_main_v66 (F := Ideal) x9 = Cert.ReferencePostIdeal.Read.val_main_v66 (F := Ideal) (every (L := 4) 0 x9) := slice_every (L := 4) 0 3 x9 _ _
  unfold val_main_v69 val_main_v68 val_main_v65 val_main_v64 val_main_call0_v0 val_main_call0_cst val_main_v63 val_main_v60 val_main_v59
    val_main_v58 val_main_v57 val_main_v56 val_main_v55 val_main_v54 val_main_v53 val_main_v52 val_main_v51 val_main_v50 val_main_v49
    val_main_v48 val_main_cst_6 val_main_cst_7 val_main_cst_8 val_main_v47 val_main_v46 val_main_v43 val_main_v42 val_main_v41 val_main_v40
    val_main_v39 val_main_v38 val_main_v37 val_main_cst_5 val_main_v36 val_main_v35 val_main_v34 val_main_v33 val_main_v32 val_main_v31
    val_main_cst_4 val_main_v30 val_main_cst_3 val_main_v29 val_main_v28 val_main_cst_2 val_main_v27 val_main_v26 val_main_v25 val_main_v22
    val_main_v21 val_main_v20 val_main_v19 val_main_v18 val_main_v17 val_main_v16 val_main_v15 val_main_v14 val_main_v13 val_main_v12
    val_main_v11 val_main_v10 val_main_cst val_main_cst_0 val_main_cst_1 val_main_v9 val_main_v8 val_main_v7 val_main_v6 val_main_v5 val_main_v4
    val_main_v1 val_main_v0 val_main_v3 val_main_v24 val_main_v45 val_main_v62 val_main_v67
  rw [e2, e4, e6, e8, e9]
  rfl

/-- The reference's result at an index: the residual block's row function of the flattened row and layer 0 of the stacks. -/
theorem result_row (r : Fin 16384) (j : Fin 1024) :
    val_main_v70 (F := Ideal) x0 x1 x2 x3 x4 x5 x6 x7 x8 x9 (ix2 r j)
      = Post.body (fun k => x0 (ix2 r k)) (fun k => x1 (ix2 r k)) (fun k n => x2 (ix3 0 k n)) (fun k => x3 (ix1 k))
          (fun k n => x4 (ix3 0 k n)) (fun t k => x5 (ix3 (⟨r.val / 4096, by omega⟩ : Fin 4) t k)) (fun k n => x6 (ix3 0 k n)) (fun k => x7 (ix1 k))
          (fun k n => x8 (ix3 0 k n)) (fun k n => x9 (ix3 0 k n)) j := by
  unfold val_main_v70
  rw [spread]
  generalize hy : Cert.ReferencePostIdeal.Read.val_main_v69 (F := Ideal) x0 x1 (every (L := 2) 0 x2) x3 (every (L := 4) 0 x4) x5 (every (L := 4) 0 x6) x7
    (every (L := 4) 0 x8) (every (L := 4) 0 x9) = y
  have e : shapeCast S16384x1024 y shapeCasts_S4x4096x1024_S16384x1024 (ix2 r j)
      = y (ix3 (⟨r.val / 4096, by omega⟩ : Fin 4) (⟨r.val % 4096, by omega⟩ : Fin 4096) j) := by pointwise []
  rw [e, ← hy, before_row]
  rfl

end Cert.ReferencePostFirstIdeal.Post

namespace Cert.ReferencePostSecondIdeal.Post

open Cert.ReferencePostSecondIdeal Cert.ReferencePostSecondIdeal.Gen Cert.ReferencePostSecondIdeal.Read Idealize.ShloMosaic Idealize.ShloMosaic.TcCoe
open Cert.ReferencePostIdeal.Post (every slice_every before_row)

variable (x0 x1 : FVec Ideal S16384x1024 .f32) (x2 : FVec Ideal S2x1024x1024 .f32) (x3 : FVec Ideal S1024 .f32)
  (x4 : FVec Ideal S4x1024x512 .f32) (x5 : FVec Ideal S4x256x1024 .f32) (x6 : FVec Ideal S4x512x1024 .f32) (x7 : FVec Ideal S1024 .f32)
  (x8 : FVec Ideal S4x1024x4096 .f32) (x9 : FVec Ideal S4x4096x1024 .f32)

/-- The reference of layer 1, before its last reshape, is the last layer's one over the stacks with layer 1 in every place. -/
theorem spread : val_main_v69 (F := Ideal) x0 x1 x2 x3 x4 x5 x6 x7 x8 x9
    = Cert.ReferencePostIdeal.Read.val_main_v69 (F := Ideal) x0 x1 (every (L := 2) 0 x2) x3 (every (L := 4) 1 x4) x5 (every (L := 4) 1 x6) x7
        (every (L := 4) 1 x8) (every (L := 4) 1 x9) := by
  have e2 : val_main_v2 (F := Ideal) x2 = Cert.ReferencePostIdeal.Read.val_main_v2 (F := Ideal) (every (L := 2) 0 x2) := slice_every (L := 2) 0 1 x2 _ _
  have e4 : val_main_v23 (F := Ideal) x4 = Cert.ReferencePostIdeal.Read.val_main_v23 (F := Ideal) (every (L := 4) 1 x4) := slice_every (L := 4) 1 3 x4 _ _
  have e6 : val_main_v44 (F := Ideal) x6 = Cert.ReferencePostIdeal.Read.val_main_v44 (F := Ideal) (every (L := 4) 1 x6) := slice_every (L := 4) 1 3 x6 _ _
  have e8 : val_main_v61 (F := Ideal) x8 = Cert.ReferencePostIdeal.Read.val_main_v61 (F := Ideal) (every (L := 4) 1 x8) := slice_every (L := 4) 1 3 x8 _ _
  have e9 : val_main_v66 (F := Ideal) x9 = Cert.ReferencePostIdeal.Read.val_main_v66 (F := Ideal) (every (L := 4) 1 x9) := slice_every (L := 4) 1 3 x9 _ _
  unfold val_main_v69 val_main_v68 val_main_v65 val_main_v64 val_main_call0_v0 val_main_call0_cst val_main_v63 val_main_v60 val_main_v59
    val_main_v58 val_main_v57 val_main_v56 val_main_v55 val_main_v54 val_main_v53 val_main_v52 val_main_v51 val_main_v50 val_main_v49
    val_main_v48 val_main_cst_6 val_main_cst_7 val_main_cst_8 val_main_v47 val_main_v46 val_main_v43 val_main_v42 val_main_v41 val_main_v40
    val_main_v39 val_main_v38 val_main_v37 val_main_cst_5 val_main_v36 val_main_v35 val_main_v34 val_main_v33 val_main_v32 val_main_v31
    val_main_cst_4 val_main_v30 val_main_cst_3 val_main_v29 val_main_v28 val_main_cst_2 val_main_v27 val_main_v26 val_main_v25 val_main_v22
    val_main_v21 val_main_v20 val_main_v19 val_main_v18 val_main_v17 val_main_v16 val_main_v15 val_main_v14 val_main_v13 val_main_v12
    val_main_v11 val_main_v10 val_main_cst val_main_cst_0 val_main_cst_1 val_main_v9 val_main_v8 val_main_v7 val_main_v6 val_main_v5 val_main_v4
    val_main_v1 val_main_v0 val_main_v3 val_main_v24 val_main_v45 val_main_v62 val_main_v67
  rw [e2, e4, e6, e8, e9]
  rfl

/-- The reference's result at an index: the residual block's row function of the flattened row and layer 1 of the stacks. -/
theorem result_row (r : Fin 16384) (j : Fin 1024) :
    val_main_v70 (F := Ideal) x0 x1 x2 x3 x4 x5 x6 x7 x8 x9 (ix2 r j)
      = Post.body (fun k => x0 (ix2 r k)) (fun k => x1 (ix2 r k)) (fun k n => x2 (ix3 0 k n)) (fun k => x3 (ix1 k))
          (fun k n => x4 (ix3 1 k n)) (fun t k => x5 (ix3 (⟨r.val / 4096, by omega⟩ : Fin 4) t k)) (fun k n => x6 (ix3 1 k n)) (fun k => x7 (ix1 k))
          (fun k n => x8 (ix3 1 k n)) (fun k n => x9 (ix3 1 k n)) j := by
  unfold val_main_v70
  rw [spread]
  generalize hy : Cert.ReferencePostIdeal.Read.val_main_v69 (F := Ideal) x0 x1 (every (L := 2) 0 x2) x3 (every (L := 4) 1 x4) x5 (every (L := 4) 1 x6) x7
    (every (L := 4) 1 x8) (every (L := 4) 1 x9) = y
  have e : shapeCast S16384x1024 y shapeCasts_S4x4096x1024_S16384x1024 (ix2 r j)
      = y (ix3 (⟨r.val / 4096, by omega⟩ : Fin 4) (⟨r.val % 4096, by omega⟩ : Fin 4096) j) := by pointwise []
  rw [e, ← hy, before_row]
  rfl

end Cert.ReferencePostSecondIdeal.Post

namespace Cert.ReferencePostThirdIdeal.Post

open Cert.ReferencePostThirdIdeal Cert.ReferencePostThirdIdeal.Gen Cert.ReferencePostThirdIdeal.Read Idealize.ShloMosaic Idealize.ShloMosaic.TcCoe
open Cert.ReferencePostIdeal.Post (every slice_every before_row)

variable (x0 x1 : FVec Ideal S16384x1024 .f32) (x2 : FVec Ideal S2x1024x1024 .f32) (x3 : FVec Ideal S1024 .f32)
  (x4 : FVec Ideal S4x1024x512 .f32) (x5 : FVec Ideal S4x256x1024 .f32) (x6 : FVec Ideal S4x512x1024 .f32) (x7 : FVec Ideal S1024 .f32)
  (x8 : FVec Ideal S4x1024x4096 .f32) (x9 : FVec Ideal S4x4096x1024 .f32)

/-- The reference of layer 2, before its last reshape, is the last layer's one over the stacks with layer 2 in every place. -/
theorem spread : val_main_v69 (F := Ideal) x0 x1 x2 x3 x4 x5 x6 x7 x8 x9
    = Cert.ReferencePostIdeal.Read.val_main_v69 (F := Ideal) x0 x1 (every (L := 2) 1 x2) x3 (every (L := 4) 2 x4) x5 (every (L := 4) 2 x6) x7
        (every (L := 4) 2 x8) (every (L := 4) 2 x9) := by
  have e2 : val_main_v2 (F := Ideal) x2 = Cert.ReferencePostIdeal.Read.val_main_v2 (F := Ideal) (every (L := 2) 1 x2) := slice_every (L := 2) 1 1 x2 _ _
  have e4 : val_main_v23 (F := Ideal) x4 = Cert.ReferencePostIdeal.Read.val_main_v23 (F := Ideal) (every (L := 4) 2 x4) := slice_every (L := 4) 2 3 x4 _ _
  have e6 : val_main_v44 (F := Ideal) x6 = Cert.ReferencePostIdeal.Read.val_main_v44 (F := Ideal) (every (L := 4) 2 x6) := slice_every (L := 4) 2 3 x6 _ _
  have e8 : val_main_v61 (F := Ideal) x8 = Cert.ReferencePostIdeal.Read.val_main_v61 (F := Ideal) (every (L := 4) 2 x8) := slice_every (L := 4) 2 3 x8 _ _
  have e9 : val_main_v66 (F := Ideal) x9 = Cert.ReferencePostIdeal.Read.val_main_v66 (F := Ideal) (every (L := 4) 2 x9) := slice_every (L := 4) 2 3 x9 _ _
  unfold val_main_v69 val_main_v68 val_main_v65 val_main_v64 val_main_call0_v0 val_main_call0_cst val_main_v63 val_main_v60 val_main_v59
    val_main_v58 val_main_v57 val_main_v56 val_main_v55 val_main_v54 val_main_v53 val_main_v52 val_main_v51 val_main_v50 val_main_v49
    val_main_v48 val_main_cst_6 val_main_cst_7 val_main_cst_8 val_main_v47 val_main_v46 val_main_v43 val_main_v42 val_main_v41 val_main_v40
    val_main_v39 val_main_v38 val_main_v37 val_main_cst_5 val_main_v36 val_main_v35 val_main_v34 val_main_v33 val_main_v32 val_main_v31
    val_main_cst_4 val_main_v30 val_main_cst_3 val_main_v29 val_main_v28 val_main_cst_2 val_main_v27 val_main_v26 val_main_v25 val_main_v22
    val_main_v21 val_main_v20 val_main_v19 val_main_v18 val_main_v17 val_main_v16 val_main_v15 val_main_v14 val_main_v13 val_main_v12
    val_main_v11 val_main_v10 val_main_cst val_main_cst_0 val_main_cst_1 val_main_v9 val_main_v8 val_main_v7 val_main_v6 val_main_v5 val_main_v4
    val_main_v1 val_main_v0 val_main_v3 val_main_v24 val_main_v45 val_main_v62 val_main_v67
  rw [e2, e4, e6, e8, e9]
  rfl

/-- The reference's result at an index: the residual block's row function of the flattened row and layer 2 of the stacks. -/
theorem result_row (r : Fin 16384) (j : Fin 1024) :
    val_main_v70 (F := Ideal) x0 x1 x2 x3 x4 x5 x6 x7 x8 x9 (ix2 r j)
      = Post.body (fun k => x0 (ix2 r k)) (fun k => x1 (ix2 r k)) (fun k n => x2 (ix3 1 k n)) (fun k => x3 (ix1 k))
          (fun k n => x4 (ix3 2 k n)) (fun t k => x5 (ix3 (⟨r.val / 4096, by omega⟩ : Fin 4) t k)) (fun k n => x6 (ix3 2 k n)) (fun k => x7 (ix1 k))
          (fun k n => x8 (ix3 2 k n)) (fun k n => x9 (ix3 2 k n)) j := by
  unfold val_main_v70
  rw [spread]
  generalize hy : Cert.ReferencePostIdeal.Read.val_main_v69 (F := Ideal) x0 x1 (every (L := 2) 1 x2) x3 (every (L := 4) 2 x4) x5 (every (L := 4) 2 x6) x7
    (every (L := 4) 2 x8) (every (L := 4) 2 x9) = y
  have e : shapeCast S16384x1024 y shapeCasts_S4x4096x1024_S16384x1024 (ix2 r j)
      = y (ix3 (⟨r.val / 4096, by omega⟩ : Fin 4) (⟨r.val % 4096, by omega⟩ : Fin 4096) j) := by pointwise []
  rw [e, ← hy, before_row]
  rfl

end Cert.ReferencePostThirdIdeal.Post

end
-- ==== Proof.PostFirstValue.lean ====
/- What the first layer's residual block's kernel leaves in its result: at every row the block's row function, which is the reference's
   value. -/
module

public import proofs.«01_k».proof.Proof.Gen.KernelPostFirstIdeal.Frame
public import proofs.«01_k».proof.Proof.Gen.KernelPostFirstIdeal.Value
public import proofs.«01_k».proof.Proof.PostKernel
public import proofs.«01_k».proof.Proof.PostMidReference
public import Idealize.ShloMosaic.Lib.Pipeline.ValueKit
public import Idealize.ShloMosaic.Lib.Claim

@[expose] public section

set_option maxRecDepth 16384

noncomputable section

namespace Cert.KernelPostFirstIdeal.Post

open Cert.KernelPostFirstIdeal Cert.KernelPostFirstIdeal.Gen Idealize.ShloMosaic Idealize.ShloMosaic.TcCoe

/-- The last two tiles of the MLP added to the row. -/
theorem pay1_row (h : FVec Ideal S512x1024 .f32) (y z : FVec Ideal S512x1024 .f32) (u : Vec Ideal S1x1024x1024 .bf16) (d : Vec Ideal S1x1024x1024 .bf16) (r : Fin 512) (j : Fin 1024) :
    k0_pay1 (k0_pay13 h) y z u d (ix2 r j)
      = y (ix2 r j) + z (ix2 r j)
          + ∑ f : Fin 1024, max (∑ k, h (ix2 r k) * u (ix3 0 k f)) 0 * max (∑ k, h (ix2 r k) * u (ix3 0 k f)) 0 * d (ix3 0 f j) := by
  pointwise [k0_pay1, k0_pay13]

/-- The block a grid point writes, at an index: the residual block's row function of the block's row, without the final norm. -/
theorem out_row (x0 x1 : Vec Ideal S512x1024 .f32) (x2 : Vec Ideal S1x1024x1024 .bf16) (x3 : Vec Ideal S1x1024 .f32) (x4 : Vec Ideal S1x1024x512 .bf16) (x5 : Vec Ideal S1x256x1024 .f32) (x6 : Vec Ideal S1x512x1024 .bf16) (x7 : Vec Ideal S1x1024 .f32) (x8 : Vec Ideal S1x1024x4096 .bf16) (x9 : Vec Ideal S1x4096x1024 .bf16) (r : Fin 512) (j : Fin 1024) :
    out0_10 x0 x1 x2 x3 x4 x5 x6 x7 x8 x9 (ix2 r j)
      = Post.body (fun k => x0 (ix2 r k)) (fun k => x1 (ix2 r k)) (fun k n => x2 (ix3 0 k n)) (fun k => x3 (ix2 0 k))
          (fun k n => x4 (ix3 0 k n)) (fun t k => x5 (ix3 0 t k)) (fun k n => x6 (ix3 0 k n)) (fun k => x7 (ix2 0 k))
          (fun k n => x8 (ix3 0 k n)) (fun k n => x9 (ix3 0 k n)) j := by
  have hz : (![0, 0] : Fin 2 → Nat) = fun _ => 0 := funext fun a => by fin_cases a <;> rfl
  have hz3 : (![0, 0, 0] : Fin 3 → Nat) = fun _ => 0 := funext fun a => by fin_cases a <;> rfl
  unfold_out out0_10
  rw [View.canon_unit_zero hz]
  rw [View.ld_unit_zero hz _ x0, View.ld_unit_zero hz _ x1, View.ld_unit_zero hz3 _ x2, View.ld_unit_zero hz _ x3, View.ld_unit_zero hz3 _ x4,
    View.ld_unit_zero hz3 _ x5, View.ld_unit_zero hz3 _ x6, View.ld_unit_zero hz _ x7]
  rw [pay1_row]
  exact Cert.KernelPostIdeal.Post.body_row x0 x1 x2 x3 x4 x5 x6 x7 x8 x9 _ _ _ _ _ _ _ _ (fun k f => by pointwise []) (fun k f => by pointwise [])
    (fun k f => by pointwise []) (fun k f => by pointwise []) (fun f j => by pointwise []) (fun f j => by pointwise []) (fun f j => by pointwise [])
    (fun f j => by pointwise []) _ _ rfl rfl r j

/-- Which block each window holds at a grid point: the point's own row block, its batch's memory, and
    layer 0 of each weight. -/
theorem idx : ∀ t : Fin cfg0.N, win0_0.index t = ![t.val, 0] ∧ win0_1.index t = ![t.val, 0] ∧ win0_2.index t = ![0, 0, 0] ∧
    win0_3.index t = ![0, 0] ∧ win0_4.index t = ![0, 0, 0] ∧ win0_5.index t = ![t.val / 8, 0, 0] ∧ win0_6.index t = ![0, 0, 0] ∧
    win0_7.index t = ![0, 0] ∧ win0_8.index t = ![0, 0, 0] ∧ win0_9.index t = ![0, 0, 0] ∧
    win0_10.index t = ![t.val, 0] := by decide +kernel

variable (m : (ℓ : Loc nD τ sig) → Buf (Elt Ideal) ℓ) (c : Dev nD) (t : Fin cfg0.N)

/-- Each window's block at a point, as a part of its argument: the rows, -/
theorem read0 (r : Fin 512) (h : t.val * 512 + r.val < 16384) (k : Fin 1024) :
    iblk m c 0 t (ix2 r k) = m ((c.tc : Thread nD τ).loc main_arg0) (ix2 ⟨t.val * 512 + r.val, h⟩ k) := by
  blk_ext [iblk, V, idx t]
/-- the mixer's rows, -/
theorem read1 (r : Fin 512) (h : t.val * 512 + r.val < 16384) (k : Fin 1024) :
    iblk m c 1 t (ix2 r k) = m ((c.tc : Thread nD τ).loc main_arg1) (ix2 ⟨t.val * 512 + r.val, h⟩ k) := by
  blk_ext [iblk, V, idx t]
/-- the output projection, -/
theorem read2 (k n : Fin 1024) :
    iblk m c 2 t (ix3 0 k n) = m ((c.tc : Thread nD τ).loc main_arg2) (ix3 0 k n) := by
  blk_ext! [iblk, V, idx t]
/-- the norm before the cross attention, -/
theorem read3 (k : Fin 1024) :
    iblk m c 3 t (ix2 0 k) = m ((c.tc : Thread nD τ).loc main_arg3) (ix1 k) := by
  blk_ext! [iblk, V, idx t]
/-- the query projection, -/
theorem read4 (k : Fin 1024) (n : Fin 512) :
    iblk m c 4 t (ix3 0 k n) = m ((c.tc : Thread nD τ).loc main_arg4) (ix3 0 k n) := by
  blk_ext! [iblk, V, idx t]
/-- the memory of the point's batch, -/
theorem read5 (r : Fin 512) (h : (t.val * 512 + r.val) / 4096 < 4) (k : Fin 256) (n : Fin 1024) :
    iblk m c 5 t (ix3 0 k n) = m ((c.tc : Thread nD τ).loc main_arg5) (ix3 ⟨(t.val * 512 + r.val) / 4096, h⟩ k n) := by
  have hr := r.isLt
  blk_ext [iblk, V, idx t]
/-- the cross attention's output projection, -/
theorem read6 (k : Fin 512) (n : Fin 1024) :
    iblk m c 6 t (ix3 0 k n) = m ((c.tc : Thread nD τ).loc main_arg6) (ix3 0 k n) := by
  blk_ext! [iblk, V, idx t]
/-- the norm before the multilayer perceptron, -/
theorem read7 (k : Fin 1024) :
    iblk m c 7 t (ix2 0 k) = m ((c.tc : Thread nD τ).loc main_arg7) (ix1 k) := by
  blk_ext! [iblk, V, idx t]
/-- its first weight -/
theorem read8 (k : Fin 1024) (n : Fin 4096) :
    iblk m c 8 t (ix3 0 k n) = m ((c.tc : Thread nD τ).loc main_arg8) (ix3 0 k n) := by
  blk_ext! [iblk, V, idx t]
/-- and its second. -/
theorem read9 (k : Fin 4096) (n : Fin 1024) :
    iblk m c 9 t (ix3 0 k n) = m ((c.tc : Thread nD τ).loc main_arg9) (ix3 0 k n) := by
  blk_ext! [iblk, V, idx t]

/-- The result array, as the reference computes it from the arguments. -/
abbrev result (m : (ℓ : Loc nD τ sig) → Buf (Elt Ideal) ℓ) (c : Dev nD) : Vec Ideal S16384x1024 .f32 :=
  Cert.ReferencePostFirstIdeal.Read.val_main_v70 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- The result array after the run is the reference's. -/
theorem final :
    (dats m 0 c).arrAt 10 cfg0.N = result m c := by
  refine (dats m 0 c).arrAt_eq_of_covers 10 _ (by decide +kernel) fun t hf y => ?_
  obtain ⟨r, j, rfl⟩ : ∃ (r : Fin 512) (j : Fin 1024), y = ix2 r j := ⟨y 0, y 1, by funext a; fin_cases a <;> rfl⟩
  blk_simp
  rw [after0_10]
  have ht : t.val < 32 := t.isLt
  have hr := r.isLt
  have hemb : ((cfg0.win 10).blk t).view.emb (ix2 r j) = ix2 (⟨t.val * 512 + r.val, by omega⟩ : Fin 16384) j := by
    blk_ext [idx t]
  rw [out_row, hemb, result, Cert.ReferencePostFirstIdeal.Post.result_row]
  congr 1
  · funext k; exact read0 m c t r _ k
  · funext k; exact read1 m c t r _ k
  · funext k n; exact read2 m c t k n
  · funext k; exact read3 m c t k
  · funext k n; exact read4 m c t k n
  · funext k n; exact read5 m c t r _ k n
  · funext k n; exact read6 m c t k n
  · funext k; exact read7 m c t k
  · funext k n; exact read8 m c t k n
  · funext k n; exact read9 m c t k n

/-- The kernel's run leaves the reference's value in the result and keeps the arguments. -/
theorem run (ρ : Dev nD → PrngReg) :
    θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (final m c), (h c).2⟩) (Value.run_blocks m ρ)

end Cert.KernelPostFirstIdeal.Post

end
-- ==== Proof.PostSecondValue.lean ====
/- What the second layer's residual block's kernel leaves in its result: at every row the block's row function, which is the reference's
   value. -/
module

public import proofs.«01_k».proof.Proof.Gen.KernelPostSecondIdeal.Frame
public import proofs.«01_k».proof.Proof.Gen.KernelPostSecondIdeal.Value
public import proofs.«01_k».proof.Proof.PostFirstValue
public import proofs.«01_k».proof.Proof.PostMidReference
public import Idealize.ShloMosaic.Lib.Pipeline.ValueKit
public import Idealize.ShloMosaic.Lib.Claim

@[expose] public section

set_option maxRecDepth 16384

noncomputable section

namespace Cert.KernelPostSecondIdeal.Post

open Cert.KernelPostSecondIdeal Cert.KernelPostSecondIdeal.Gen Idealize.ShloMosaic Idealize.ShloMosaic.TcCoe

/-- The block a grid point writes, at an index: the residual block's row function of the block's row, without the final norm. -/
theorem out_row (x0 x1 : Vec Ideal S512x1024 .f32) (x2 : Vec Ideal S1x1024x1024 .bf16) (x3 : Vec Ideal S1x1024 .f32) (x4 : Vec Ideal S1x1024x512 .bf16) (x5 : Vec Ideal S1x256x1024 .f32) (x6 : Vec Ideal S1x512x1024 .bf16) (x7 : Vec Ideal S1x1024 .f32) (x8 : Vec Ideal S1x1024x4096 .bf16) (x9 : Vec Ideal S1x4096x1024 .bf16) (r : Fin 512) (j : Fin 1024) :
    out0_10 x0 x1 x2 x3 x4 x5 x6 x7 x8 x9 (ix2 r j)
      = Post.body (fun k => x0 (ix2 r k)) (fun k => x1 (ix2 r k)) (fun k n => x2 (ix3 0 k n)) (fun k => x3 (ix2 0 k))
          (fun k n => x4 (ix3 0 k n)) (fun t k => x5 (ix3 0 t k)) (fun k n => x6 (ix3 0 k n)) (fun k => x7 (ix2 0 k))
          (fun k n => x8 (ix3 0 k n)) (fun k n => x9 (ix3 0 k n)) j :=
  Cert.KernelPostFirstIdeal.Post.out_row x0 x1 x2 x3 x4 x5 x6 x7 x8 x9 r j

/-- Which block each window holds at a grid point: the point's own row block, its batch's memory, and
    layer 1 of each weight. -/
theorem idx : ∀ t : Fin cfg0.N, win0_0.index t = ![t.val, 0] ∧ win0_1.index t = ![t.val, 0] ∧ win0_2.index t = ![0, 0, 0] ∧
    win0_3.index t = ![0, 0] ∧ win0_4.index t = ![1, 0, 0] ∧ win0_5.index t = ![t.val / 8, 0, 0] ∧ win0_6.index t = ![1, 0, 0] ∧
    win0_7.index t = ![0, 0] ∧ win0_8.index t = ![1, 0, 0] ∧ win0_9.index t = ![1, 0, 0] ∧
    win0_10.index t = ![t.val, 0] := by decide +kernel

variable (m : (ℓ : Loc nD τ sig) → Buf (Elt Ideal) ℓ) (c : Dev nD) (t : Fin cfg0.N)

/-- Each window's block at a point, as a part of its argument: the rows, -/
theorem read0 (r : Fin 512) (h : t.val * 512 + r.val < 16384) (k : Fin 1024) :
    iblk m c 0 t (ix2 r k) = m ((c.tc : Thread nD τ).loc main_arg0) (ix2 ⟨t.val * 512 + r.val, h⟩ k) := by
  blk_ext [iblk, V, idx t]
/-- the mixer's rows, -/
theorem read1 (r : Fin 512) (h : t.val * 512 + r.val < 16384) (k : Fin 1024) :
    iblk m c 1 t (ix2 r k) = m ((c.tc : Thread nD τ).loc main_arg1) (ix2 ⟨t.val * 512 + r.val, h⟩ k) := by
  blk_ext [iblk, V, idx t]
/-- the output projection, -/
theorem read2 (k n : Fin 1024) :
    iblk m c 2 t (ix3 0 k n) = m ((c.tc : Thread nD τ).loc main_arg2) (ix3 0 k n) := by
  blk_ext! [iblk, V, idx t]
/-- the norm before the cross attention, -/
theorem read3 (k : Fin 1024) :
    iblk m c 3 t (ix2 0 k) = m ((c.tc : Thread nD τ).loc main_arg3) (ix1 k) := by
  blk_ext! [iblk, V, idx t]
/-- the query projection, -/
theorem read4 (k : Fin 1024) (n : Fin 512) :
    iblk m c 4 t (ix3 0 k n) = m ((c.tc : Thread nD τ).loc main_arg4) (ix3 1 k n) := by
  blk_ext! [iblk, V, idx t]
/-- the memory of the point's batch, -/
theorem read5 (r : Fin 512) (h : (t.val * 512 + r.val) / 4096 < 4) (k : Fin 256) (n : Fin 1024) :
    iblk m c 5 t (ix3 0 k n) = m ((c.tc : Thread nD τ).loc main_arg5) (ix3 ⟨(t.val * 512 + r.val) / 4096, h⟩ k n) := by
  have hr := r.isLt
  blk_ext [iblk, V, idx t]
/-- the cross attention's output projection, -/
theorem read6 (k : Fin 512) (n : Fin 1024) :
    iblk m c 6 t (ix3 0 k n) = m ((c.tc : Thread nD τ).loc main_arg6) (ix3 1 k n) := by
  blk_ext! [iblk, V, idx t]
/-- the norm before the multilayer perceptron, -/
theorem read7 (k : Fin 1024) :
    iblk m c 7 t (ix2 0 k) = m ((c.tc : Thread nD τ).loc main_arg7) (ix1 k) := by
  blk_ext! [iblk, V, idx t]
/-- its first weight -/
theorem read8 (k : Fin 1024) (n : Fin 4096) :
    iblk m c 8 t (ix3 0 k n) = m ((c.tc : Thread nD τ).loc main_arg8) (ix3 1 k n) := by
  blk_ext! [iblk, V, idx t]
/-- and its second. -/
theorem read9 (k : Fin 4096) (n : Fin 1024) :
    iblk m c 9 t (ix3 0 k n) = m ((c.tc : Thread nD τ).loc main_arg9) (ix3 1 k n) := by
  blk_ext! [iblk, V, idx t]

/-- The result array, as the reference computes it from the arguments. -/
abbrev result (m : (ℓ : Loc nD τ sig) → Buf (Elt Ideal) ℓ) (c : Dev nD) : Vec Ideal S16384x1024 .f32 :=
  Cert.ReferencePostSecondIdeal.Read.val_main_v70 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- The result array after the run is the reference's. -/
theorem final :
    (dats m 0 c).arrAt 10 cfg0.N = result m c := by
  refine (dats m 0 c).arrAt_eq_of_covers 10 _ (by decide +kernel) fun t hf y => ?_
  obtain ⟨r, j, rfl⟩ : ∃ (r : Fin 512) (j : Fin 1024), y = ix2 r j := ⟨y 0, y 1, by funext a; fin_cases a <;> rfl⟩
  blk_simp
  rw [after0_10]
  have ht : t.val < 32 := t.isLt
  have hr := r.isLt
  have hemb : ((cfg0.win 10).blk t).view.emb (ix2 r j) = ix2 (⟨t.val * 512 + r.val, by omega⟩ : Fin 16384) j := by
    blk_ext [idx t]
  rw [out_row, hemb, result, Cert.ReferencePostSecondIdeal.Post.result_row]
  congr 1
  · funext k; exact read0 m c t r _ k
  · funext k; exact read1 m c t r _ k
  · funext k n; exact read2 m c t k n
  · funext k; exact read3 m c t k
  · funext k n; exact read4 m c t k n
  · funext k n; exact read5 m c t r _ k n
  · funext k n; exact read6 m c t k n
  · funext k; exact read7 m c t k
  · funext k n; exact read8 m c t k n
  · funext k n; exact read9 m c t k n

/-- The kernel's run leaves the reference's value in the result and keeps the arguments. -/
theorem run (ρ : Dev nD → PrngReg) :
    θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (final m c), (h c).2⟩) (Value.run_blocks m ρ)

end Cert.KernelPostSecondIdeal.Post

end
-- ==== Proof.PostThirdValue.lean ====
/- What the third layer's residual block's kernel leaves in its result: at every row the block's row function, which is the reference's
   value. -/
module

public import proofs.«01_k».proof.Proof.Gen.KernelPostThirdIdeal.Frame
public import proofs.«01_k».proof.Proof.Gen.KernelPostThirdIdeal.Value
public import proofs.«01_k».proof.Proof.PostFirstValue
public import proofs.«01_k».proof.Proof.PostMidReference
public import Idealize.ShloMosaic.Lib.Pipeline.ValueKit
public import Idealize.ShloMosaic.Lib.Claim

@[expose] public section

set_option maxRecDepth 16384

noncomputable section

namespace Cert.KernelPostThirdIdeal.Post

open Cert.KernelPostThirdIdeal Cert.KernelPostThirdIdeal.Gen Idealize.ShloMosaic Idealize.ShloMosaic.TcCoe

/-- The block a grid point writes, at an index: the residual block's row function of the block's row, without the final norm. -/
theorem out_row (x0 x1 : Vec Ideal S512x1024 .f32) (x2 : Vec Ideal S1x1024x1024 .bf16) (x3 : Vec Ideal S1x1024 .f32) (x4 : Vec Ideal S1x1024x512 .bf16) (x5 : Vec Ideal S1x256x1024 .f32) (x6 : Vec Ideal S1x512x1024 .bf16) (x7 : Vec Ideal S1x1024 .f32) (x8 : Vec Ideal S1x1024x4096 .bf16) (x9 : Vec Ideal S1x4096x1024 .bf16) (r : Fin 512) (j : Fin 1024) :
    out0_10 x0 x1 x2 x3 x4 x5 x6 x7 x8 x9 (ix2 r j)
      = Post.body (fun k => x0 (ix2 r k)) (fun k => x1 (ix2 r k)) (fun k n => x2 (ix3 0 k n)) (fun k => x3 (ix2 0 k))
          (fun k n => x4 (ix3 0 k n)) (fun t k => x5 (ix3 0 t k)) (fun k n => x6 (ix3 0 k n)) (fun k => x7 (ix2 0 k))
          (fun k n => x8 (ix3 0 k n)) (fun k n => x9 (ix3 0 k n)) j :=
  Cert.KernelPostFirstIdeal.Post.out_row x0 x1 x2 x3 x4 x5 x6 x7 x8 x9 r j

/-- Which block each window holds at a grid point: the point's own row block, its batch's memory, and
    layer 2 of each weight. -/
theorem idx : ∀ t : Fin cfg0.N, win0_0.index t = ![t.val, 0] ∧ win0_1.index t = ![t.val, 0] ∧ win0_2.index t = ![1, 0, 0] ∧
    win0_3.index t = ![0, 0] ∧ win0_4.index t = ![2, 0, 0] ∧ win0_5.index t = ![t.val / 8, 0, 0] ∧ win0_6.index t = ![2, 0, 0] ∧
    win0_7.index t = ![0, 0] ∧ win0_8.index t = ![2, 0, 0] ∧ win0_9.index t = ![2, 0, 0] ∧
    win0_10.index t = ![t.val, 0] := by decide +kernel

variable (m : (ℓ : Loc nD τ sig) → Buf (Elt Ideal) ℓ) (c : Dev nD) (t : Fin cfg0.N)

/-- Each window's block at a point, as a part of its argument: the rows, -/
theorem read0 (r : Fin 512) (h : t.val * 512 + r.val < 16384) (k : Fin 1024) :
    iblk m c 0 t (ix2 r k) = m ((c.tc : Thread nD τ).loc main_arg0) (ix2 ⟨t.val * 512 + r.val, h⟩ k) := by
  blk_ext [iblk, V, idx t]
/-- the mixer's rows, -/
theorem read1 (r : Fin 512) (h : t.val * 512 + r.val < 16384) (k : Fin 1024) :
    iblk m c 1 t (ix2 r k) = m ((c.tc : Thread nD τ).loc main_arg1) (ix2 ⟨t.val * 512 + r.val, h⟩ k) := by
  blk_ext [iblk, V, idx t]
/-- the output projection, -/
theorem read2 (k n : Fin 1024) :
    iblk m c 2 t (ix3 0 k n) = m ((c.tc : Thread nD τ).loc main_arg2) (ix3 1 k n) := by
  blk_ext! [iblk, V, idx t]
/-- the norm before the cross attention, -/
theorem read3 (k : Fin 1024) :
    iblk m c 3 t (ix2 0 k) = m ((c.tc : Thread nD τ).loc main_arg3) (ix1 k) := by
  blk_ext! [iblk, V, idx t]
/-- the query projection, -/
theorem read4 (k : Fin 1024) (n : Fin 512) :
    iblk m c 4 t (ix3 0 k n) = m ((c.tc : Thread nD τ).loc main_arg4) (ix3 2 k n) := by
  blk_ext! [iblk, V, idx t]
/-- the memory of the point's batch, -/
theorem read5 (r : Fin 512) (h : (t.val * 512 + r.val) / 4096 < 4) (k : Fin 256) (n : Fin 1024) :
    iblk m c 5 t (ix3 0 k n) = m ((c.tc : Thread nD τ).loc main_arg5) (ix3 ⟨(t.val * 512 + r.val) / 4096, h⟩ k n) := by
  have hr := r.isLt
  blk_ext [iblk, V, idx t]
/-- the cross attention's output projection, -/
theorem read6 (k : Fin 512) (n : Fin 1024) :
    iblk m c 6 t (ix3 0 k n) = m ((c.tc : Thread nD τ).loc main_arg6) (ix3 2 k n) := by
  blk_ext! [iblk, V, idx t]
/-- the norm before the multilayer perceptron, -/
theorem read7 (k : Fin 1024) :
    iblk m c 7 t (ix2 0 k) = m ((c.tc : Thread nD τ).loc main_arg7) (ix1 k) := by
  blk_ext! [iblk, V, idx t]
/-- its first weight -/
theorem read8 (k : Fin 1024) (n : Fin 4096) :
    iblk m c 8 t (ix3 0 k n) = m ((c.tc : Thread nD τ).loc main_arg8) (ix3 2 k n) := by
  blk_ext! [iblk, V, idx t]
/-- and its second. -/
theorem read9 (k : Fin 4096) (n : Fin 1024) :
    iblk m c 9 t (ix3 0 k n) = m ((c.tc : Thread nD τ).loc main_arg9) (ix3 2 k n) := by
  blk_ext! [iblk, V, idx t]

/-- The result array, as the reference computes it from the arguments. -/
abbrev result (m : (ℓ : Loc nD τ sig) → Buf (Elt Ideal) ℓ) (c : Dev nD) : Vec Ideal S16384x1024 .f32 :=
  Cert.ReferencePostThirdIdeal.Read.val_main_v70 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- The result array after the run is the reference's. -/
theorem final :
    (dats m 0 c).arrAt 10 cfg0.N = result m c := by
  refine (dats m 0 c).arrAt_eq_of_covers 10 _ (by decide +kernel) fun t hf y => ?_
  obtain ⟨r, j, rfl⟩ : ∃ (r : Fin 512) (j : Fin 1024), y = ix2 r j := ⟨y 0, y 1, by funext a; fin_cases a <;> rfl⟩
  blk_simp
  rw [after0_10]
  have ht : t.val < 32 := t.isLt
  have hr := r.isLt
  have hemb : ((cfg0.win 10).blk t).view.emb (ix2 r j) = ix2 (⟨t.val * 512 + r.val, by omega⟩ : Fin 16384) j := by
    blk_ext [idx t]
  rw [out_row, hemb, result, Cert.ReferencePostThirdIdeal.Post.result_row]
  congr 1
  · funext k; exact read0 m c t r _ k
  · funext k; exact read1 m c t r _ k
  · funext k n; exact read2 m c t k n
  · funext k; exact read3 m c t k
  · funext k n; exact read4 m c t k n
  · funext k n; exact read5 m c t r _ k n
  · funext k n; exact read6 m c t k n
  · funext k; exact read7 m c t k
  · funext k n; exact read8 m c t k n
  · funext k n; exact read9 m c t k n

/-- The kernel's run leaves the reference's value in the result and keeps the arguments. -/
theorem run (ρ : Dev nD → PrngReg) :
    θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (final m c), (h c).2⟩) (Value.run_blocks m ρ)

end Cert.KernelPostThirdIdeal.Post

end
-- ==== Proof.SampleSpec.lean ====
/- The recurrence on the sample batch: each sequence is one chunk of 8 rows, which starts from a given state. What a head reads of the
   projected rows, and the two arrays the call returns. -/
module

public import proofs.«01_k».proof.Proof.GlaSpec
public import Idealize.ShloMosaic.Lib.Pointwise

@[expose] public section

noncomputable section

namespace Cert.Sample

open Idealize.ShloMosaic

/-- The keys decayed to the last of the 8 rows. -/
def krem (k lf : Fin 8 → Fin 128 → EReal) (i : Fin 8) (d : Fin 128) : EReal := k i d * Ideal.exp (Gla.cum lf 7 d - Gla.cum lf i d)

/-- The state after the 8 rows. -/
def next (k lf : Fin 8 → Fin 128 → EReal) (v : Fin 8 → Fin 256 → EReal) (S : Fin 128 → Fin 256 → EReal) (d : Fin 128) (e : Fin 256) : EReal :=
  Ideal.exp (Gla.cum lf 7 d) * S d e + ∑ s, krem k lf s d * v s e

section
variable (Y : (⟨2, ![1024, 3072]⟩ : Shape).Idx → EReal) (L : (⟨2, ![1024, 512]⟩ : Shape).Idx → EReal) (G : (⟨1, ![1024]⟩ : Shape).Idx → EReal)
  (S A : (⟨5, ![2, 128, 4, 128, 256]⟩ : Shape).Idx → EReal)

/-- Row `i` of sequence `b`, in the array of all sequences' rows. -/
def row (b : Fin 128) (i : Fin 8) : Fin 1024 := ⟨b.val * 8 + i.val, by omega⟩

/-- A head's queries, which lie in the first 512 columns, -/
def q (b : Fin 128) (h : Fin 4) (i : Fin 8) (d : Fin 128) : EReal := Y (ix2 (row b i) ⟨128 * h.val + d.val, by omega⟩)
/-- its keys in the next 512, -/
def k (b : Fin 128) (h : Fin 4) (i : Fin 8) (d : Fin 128) : EReal := Y (ix2 (row b i) ⟨512 + (128 * h.val + d.val), by omega⟩)
/-- its values in the next 1024, -/
def v (b : Fin 128) (h : Fin 4) (i : Fin 8) (e : Fin 256) : EReal := Y (ix2 (row b i) ⟨1024 + (256 * h.val + e.val), by omega⟩)
/-- its output gates in the last 1024, -/
def r (b : Fin 128) (h : Fin 4) (i : Fin 8) (e : Fin 256) : EReal := Y (ix2 (row b i) ⟨2048 + (256 * h.val + e.val), by omega⟩)
/-- and its log gates. -/
def l (b : Fin 128) (h : Fin 4) (i : Fin 8) (d : Fin 128) : EReal := L (ix2 (row b i) ⟨128 * h.val + d.val, by omega⟩)

/-- The state a head starts from: the second layer's. -/
def start (b : Fin 128) (h : Fin 4) (d : Fin 128) (e : Fin 256) : EReal := S (ix5 (1 : Fin 2) b h d e)

/-- The gated output row. -/
def gatedAt (b : Fin 128) (h : Fin 4) (i : Fin 8) : Fin 256 → EReal :=
  Gla.gated (Gla.out (q Y b h) (k Y b h) (l L b h) (v Y b h) (start S b h) i) (fun e => G (ix1 ⟨256 * h.val + e.val, by omega⟩)) (r Y b h i)

/-- All gated outputs: sequence, row, lane. -/
def outArr : (⟨3, ![128, 8, 1024]⟩ : Shape).Idx → EReal := fun y =>
  gatedAt Y L G S (y 0) ⟨(y 2).val / 256, by have : (y 2).val < 1024 := (y 2).isLt; omega⟩ (y 1) ⟨(y 2).val % 256, by omega⟩

/-- At a head's row. -/
theorem outArr_at (b : Fin 128) (h : Fin 4) (i : Fin 8) (e : Fin 256) (h2 : 256 * h.val + e.val < 1024) :
    outArr Y L G S (ix3 b i ⟨256 * h.val + e.val, h2⟩) = gatedAt Y L G S b h i e := by
  have e3 : (⟨(256 * h.val + e.val) / 256, by omega⟩ : Fin 4) = h := Fin.ext (by show (256 * h.val + e.val) / 256 = h.val; omega)
  have e4 : (⟨(256 * h.val + e.val) % 256, by omega⟩ : Fin 256) = e := Fin.ext (by show (256 * h.val + e.val) % 256 = e.val; omega)
  show gatedAt Y L G S b ⟨(256 * h.val + e.val) / 256, _⟩ i ⟨(256 * h.val + e.val) % 256, _⟩ = _
  rw [e3, e4]

/-- A head's state after the rows. -/
def nextAt (b : Fin 128) (h : Fin 4) : Fin 128 → Fin 256 → EReal := next (k Y b h) (l L b h) (v Y b h) (start S b h)

/-- The state array: the second layer is the states after the rows, the first is as in the array `A` given. -/
def stateArr : (⟨5, ![2, 128, 4, 128, 256]⟩ : Shape).Idx → EReal := fun y =>
  if (y 0).val = 1 then nextAt Y L S (y 1) (y 2) (y 3) (y 4) else A y

end

end Cert.Sample

end
-- ==== Proof.SampleUnit.lean ====
/- One head's 8 rows of the sample batch as the kernel computes them: the words it stores for a head are the chunk functions of the
   head's rows. -/
module

public import proofs.«01_k».proof.Proof.Gen.KernelSampleIdeal.Skeleton
public import proofs.«01_k».proof.Proof.SampleSpec
public import Idealize.ShloMosaic.Lib.Pipeline.Value
public import Idealize.ShloMosaic.Lib.Pointwise

@[expose] public section

set_option maxRecDepth 16384

noncomputable section

namespace Cert.KernelSampleIdeal.Sample

open Cert.KernelSampleIdeal Cert.KernelSampleIdeal.Gen Idealize.ShloMosaic Idealize.ShloMosaic.TcCoe

/-- The running sums of one head's 128 lanes, cut from the running sums of all 512. -/
abbrev head (o : ℕ) (h : S8x512.Slices ![0, o] S8x128) (lf : Vec Ideal S1x8x512 .f32) : FVec Ideal S8x128 .f32 :=
  extractStridedSlice S8x128 ![0, o] (k0_pay6 lf) h

/-- The state the kernel stores for a head. -/
abbrev nextV (o : ℕ) (h : S8x512.Slices ![0, o] S8x128) (lf : Vec Ideal S1x8x512 .f32) (k : Vec Ideal S1x8x128 .f32) (v : Vec Ideal S1x8x256 .f32)
    (S : Vec Ideal S1x1x1x128x256 .f32) : FVec Ideal S1x1x1x128x256 .f32 :=
  k0_pay205 k0_pay5 (k0_pay134 (head o h lf)) (k0_pay155 (k0_pay137 (head o h lf) (k0_pay133 k)) (k0_pay28 v)) S

/-- The output rows the kernel stores for a head. -/
abbrev outV (o : ℕ) (h : S8x512.Slices ![0, o] S8x128) (lf : Vec Ideal S1x8x512 .f32) (q k : Vec Ideal S1x8x128 .f32) (v : Vec Ideal S1x8x256 .f32)
    (S : Vec Ideal S1x1x1x128x256 .f32) (g : Vec Ideal S1x256 .f32) (r : Vec Ideal S1x8x256 .f32) : FVec Ideal S1x8x256 .f32 :=
  k0_pay218 (k0_pay171 (k0_pay135 (head o h lf) q) S)
    (k0_pay187 k0_pay3 (k0_pay28 v) (k0_pay139 (k0_pay135 (head o h lf) q) (k0_pay136 (head o h lf) (k0_pay133 k)))) g r

/-- A choice by the lower triangle's mask is a choice by the rows' order. -/
theorem sel_le (i s : Fin 8) (a b : EReal) :
    Scalar.select (IntOp.cmpi CmpIPredicate.sge (BitVec.ofNat 32 ↑i) (BitVec.ofNat 32 ↑s)) a b = if s ≤ i then a else b := by
  have h : ∀ i s : Fin 8, IntOp.cmpi CmpIPredicate.sge (BitVec.ofNat 32 ↑i) (BitVec.ofNat 32 ↑s) = if s ≤ i then 1#1 else 0#1 := by decide +kernel
  rw [h]; split <;> rfl

/-- A choice by the diagonal's mask is a choice by equality. -/
theorem sel_eq (d x : Fin 128) (a b : EReal) :
    Scalar.select (IntOp.cmpi CmpIPredicate.eq (BitVec.ofNat 32 ↑d) (BitVec.ofNat 32 ↑x)) a b = if d = x then a else b := by
  have h : ∀ d x : Fin 128, IntOp.cmpi CmpIPredicate.eq (BitVec.ofNat 32 ↑d) (BitVec.ofNat 32 ↑x) = if d = x then 1#1 else 0#1 := by decide +kernel
  rw [h]; split <;> rfl

/-- The running sums of all lanes, where no gate is plus infinity. -/
theorem pay6_row (lf : Vec Ideal S1x8x512 .f32) (i : Fin 8) (n : Fin 512) (hf : ∀ s, lf (ix3 0 s n) ≠ ⊤) :
    k0_pay6 lf (ix2 i n) = ∑ s : Fin 8, if s ≤ i then lf (ix3 0 s n) else 0 := by
  refine Eq.trans ?_ (Gla.cum_split (fun s => lf (ix3 0 s n)) (fun s => if s ≤ i then 1 else 0) (· ≤ i) (fun _ => rfl) hf)
  pointwise [k0_pay6, k0_pay4, k0_pay3]
  simp only [sel_le, ite_mul, one_mul, zero_mul]

/-- A head's running sums. -/
theorem head_row (o : ℕ) (h : S8x512.Slices ![0, o] S8x128) (lf : Vec Ideal S1x8x512 .f32) (ho : o + 128 ≤ 512) (hf : ∀ i, lf i ≠ ⊤) (i : Fin 8) (d : Fin 128) :
    head o h lf (ix2 i d) = Gla.cum (fun s d => lf (ix3 0 s ⟨o + d.val, by omega⟩)) i d := by
  unfold head
  pointwise []
  exact pay6_row lf i _ fun s => hf _

/-- The last row of the running sums. -/
theorem pay134_row (C : FVec Ideal S8x128 .f32) (d : Fin 128) : k0_pay134 C (ix2 0 d) = C (ix2 7 d) := by
  pointwise [k0_pay134]

/-- The scaled and decayed queries. -/
theorem pay135_row (C : FVec Ideal S8x128 .f32) (q : Vec Ideal S1x8x128 .f32) (i : Fin 8) (d : Fin 128) :
    k0_pay135 C q (ix2 i d) = q (ix3 0 i d) * Ideal.ofBits FTy.f32 1035273459#32 * Ideal.exp (C (ix2 i d)) := by
  pointwise [k0_pay135]

/-- The keys with the decay undone. -/
theorem pay136_row (C : FVec Ideal S8x128 .f32) (k : Vec Ideal S1x8x128 .f32) (i : Fin 8) (d : Fin 128) :
    k0_pay136 C (k0_pay133 k) (ix2 i d) = k (ix3 0 i d) * Ideal.exp (-C (ix2 i d)) := by
  pointwise [k0_pay136, k0_pay133]
  rw [zero_sub]

/-- The keys decayed to the last row. -/
theorem pay137_row (C : FVec Ideal S8x128 .f32) (k : Vec Ideal S1x8x128 .f32) (i : Fin 8) (d : Fin 128) :
    k0_pay137 C (k0_pay133 k) (ix2 i d) = k (ix3 0 i d) * Ideal.exp (C (ix2 7 d) - C (ix2 i d)) := by
  pointwise [k0_pay137, k0_pay133, k0_pay134]

/-- The state after the rows: the state before them scaled row by row, and what the rows add. -/
theorem pay205_row (l : FVec Ideal S1x128 .f32) (A : FVec Ideal S128x256 .f32) (S : Vec Ideal S1x1x1x128x256 .f32) (d : Fin 128) (e : Fin 256) :
    k0_pay205 k0_pay5 l A S (ix5 0 0 0 d e) = Ideal.exp (l (ix2 0 d)) * S (ix5 0 0 0 d e) + A (ix2 d e) := by
  pointwise [k0_pay205, k0_pay5]
  simp only [sel_eq, Finset.sum_ite_eq, Finset.mem_univ, if_true]

/-- What the rows add to the state. -/
theorem pay155_row (a : FVec Ideal S8x128 .f32) (v : Vec Ideal S1x8x256 .f32) (d : Fin 128) (e : Fin 256) :
    k0_pay155 a (k0_pay28 v) (ix2 d e) = ∑ s, a (ix2 s d) * v (ix3 0 s e) := by
  pointwise [k0_pay155, k0_pay28]

/-- The outputs from the state. -/
theorem pay171_row (a : FVec Ideal S8x128 .f32) (S : Vec Ideal S1x1x1x128x256 .f32) (i : Fin 8) (e : Fin 256) :
    k0_pay171 a S (ix2 i e) = ∑ d, a (ix2 i d) * S (ix5 0 0 0 d e) := by
  pointwise [k0_pay171]

/-- The scores before the mask. -/
theorem pay139_row (a b : FVec Ideal S8x128 .f32) (i s : Fin 8) :
    k0_pay139 a b (ix2 i s) = ∑ d, a (ix2 i d) * b (ix2 s d) := by
  pointwise [k0_pay139]

/-- The outputs from the rows themselves. -/
theorem pay187_row (A : FVec Ideal S8x8 .f32) (v : Vec Ideal S1x8x256 .f32) (i : Fin 8) (e : Fin 256) :
    k0_pay187 k0_pay3 (k0_pay28 v) A (ix2 i e) = ∑ s : Fin 8, (if s ≤ i then A (ix2 i s) else 0) * v (ix3 0 s e) := by
  pointwise [k0_pay187, k0_pay28, k0_pay3]
  simp only [sel_le, ite_mul, zero_mul]

/-- The gated norm of the outputs. -/
theorem pay218_row (a b : FVec Ideal S8x256 .f32) (g : Vec Ideal S1x256 .f32) (r : Vec Ideal S1x8x256 .f32) (i : Fin 8) (e : Fin 256) :
    k0_pay218 a b g r (ix3 0 i e) = Gla.gated (fun e => a (ix2 i e) + b (ix2 i e)) (fun e => g (ix2 0 e)) (fun e => r (ix3 0 i e)) e := by
  pointwise [k0_pay218, Gla.gated]
  rfl

/-- The state stored for a head is the state after the rows. -/
theorem nextV_row (o : ℕ) (h : S8x512.Slices ![0, o] S8x128) (ho : o + 128 ≤ 512) (lf : Vec Ideal S1x8x512 .f32) (k : Vec Ideal S1x8x128 .f32)
    (v : Vec Ideal S1x8x256 .f32) (S : Vec Ideal S1x1x1x128x256 .f32) (hf : ∀ i, lf i ≠ ⊤) (d : Fin 128) (e : Fin 256) :
    nextV o h lf k v S (ix5 0 0 0 d e)
      = Sample.next (fun i d => k (ix3 0 i d)) (fun i d => lf (ix3 0 i ⟨o + d.val, by omega⟩)) (fun i e => v (ix3 0 i e)) (fun d e => S (ix5 0 0 0 d e)) d e := by
  unfold nextV Sample.next Sample.krem
  simp only [pay205_row, pay155_row, pay134_row, pay137_row, head_row o h lf ho hf]

/-- The output rows stored for a head are the gated norms of its outputs. -/
theorem outV_row (o : ℕ) (h : S8x512.Slices ![0, o] S8x128) (ho : o + 128 ≤ 512) (lf : Vec Ideal S1x8x512 .f32) (q k : Vec Ideal S1x8x128 .f32)
    (v : Vec Ideal S1x8x256 .f32) (S : Vec Ideal S1x1x1x128x256 .f32) (g : Vec Ideal S1x256 .f32) (r : Vec Ideal S1x8x256 .f32) (hf : ∀ i, lf i ≠ ⊤)
    (i : Fin 8) (e : Fin 256) :
    outV o h lf q k v S g r (ix3 0 i e)
      = Gla.gated (Gla.out (fun i d => q (ix3 0 i d)) (fun i d => k (ix3 0 i d)) (fun i d => lf (ix3 0 i ⟨o + d.val, by omega⟩)) (fun i e => v (ix3 0 i e))
          (fun d e => S (ix5 0 0 0 d e)) i) (fun e => g (ix2 0 e)) (fun e => r (ix3 0 i e)) e := by
  unfold outV Gla.out Gla.score Gla.qdec Gla.kdec
  simp only [pay218_row, pay171_row, pay187_row, pay139_row, pay135_row, pay136_row, head_row o h lf ho hf]

end Cert.KernelSampleIdeal.Sample

end
-- ==== Proof.SampleBlock.lean ====
/- A grid point of the sample's recurrence: from the blocks it reads, what it leaves in the state block and in the output block. A point
   takes the 8 rows of four sequences, all four heads. -/
module

public import proofs.«01_k».proof.Proof.Gen.KernelSampleIdeal.Value
public import proofs.«01_k».proof.Proof.SampleUnit
public import Idealize.ShloMosaic.Lib.Pipeline.ValueKit
public import Idealize.ShloMosaic.Lib.Pipeline.ReadBack

@[expose] public section

set_option maxRecDepth 16384

noncomputable section

namespace Cert.KernelSampleIdeal.Sample

open Cert.KernelSampleIdeal Cert.KernelSampleIdeal.Gen Idealize.ShloMosaic Idealize.ShloMosaic.TcCoe

/-- The `w` lanes from lane `o` of sequence `b` of a block lie inside it. -/
theorem inb_cut {C w b o : ℕ} (h : b < 4 ∧ o + w ≤ C) (a : Fin 3) :
    (![b, 0, o] : Fin 3 → ℕ) a + (![1, 8, w] : Fin 3 → ℕ) a ≤ (⟨3, ![4, 8, C]⟩ : Shape).size a := by
  fin_cases a <;> simp <;> omega

/-- Those lanes of all 8 rows. -/
def cut {C : ℕ} (w : ℕ) (x : Vec Ideal ⟨3, ![4, 8, C]⟩ .f32) (b o : ℕ) (h : b < 4 ∧ o + w ≤ C) : Vec Ideal ⟨3, ![1, 8, w]⟩ .f32 :=
  View.ld x (Rect.unit ![b, 0, o] ![1, 8, w] (inb_cut h))

/-- They are read where they lie. -/
theorem cut_row {C w : ℕ} (x : Vec Ideal ⟨3, ![4, 8, C]⟩ .f32) {b o : ℕ} (h : b < 4 ∧ o + w ≤ C) (i : Fin 8) (j : Fin w) :
    cut w x b o h (ix3 0 i j) = x (ix3 ⟨b, h.1⟩ i ⟨o + j.val, by omega⟩) := by
  refine View.ld_unit_apply_of _ _ _ _ _ _ fun a => ?_
  fin_cases a <;> simp

theorem cut_ne_top {C w b o : ℕ} (x : Vec Ideal ⟨3, ![4, 8, C]⟩ .f32) (hx : ∀ i, x i ≠ ⊤) (h : b < 4 ∧ o + w ≤ C) :
    ∀ i, cut w x b o h i ≠ ⊤ := fun _ => hx _

/-- A head's state in the state block. -/
theorem inb_state {b h : ℕ} (hb : b < 4) (hh : h < 4) (a : Fin 5) :
    (![0, b, h, 0, 0] : Fin 5 → ℕ) a + (![1, 1, 1, 128, 256] : Fin 5 → ℕ) a ≤ S1x4x4x128x256.size a := by
  fin_cases a <;> simp <;> omega

def cutS (S : Vec Ideal S1x4x4x128x256 .f32) (b h : ℕ) (hb : b < 4) (hh : h < 4) : Vec Ideal S1x1x1x128x256 .f32 :=
  View.ld S (Rect.unit ![0, b, h, 0, 0] ![1, 1, 1, 128, 256] (inb_state hb hh))

theorem cutS_row (S : Vec Ideal S1x4x4x128x256 .f32) {b h : ℕ} (hb : b < 4) (hh : h < 4) (d : Fin 128) (e : Fin 256) :
    cutS S b h hb hh (ix5 0 0 0 d e) = S (ix5 0 ⟨b, hb⟩ ⟨h, hh⟩ d e) := by
  refine View.ld_unit_apply_of _ _ _ _ _ _ fun a => ?_
  fin_cases a <;> simp

/-- A head's lanes of the gain. -/
theorem inb_gain {o : ℕ} (h : o + 256 ≤ 1024) (a : Fin 2) : (![0, o] : Fin 2 → ℕ) a + (![1, 256] : Fin 2 → ℕ) a ≤ S1x1024.size a := by
  fin_cases a <;> simp <;> omega

def cutG (g : Vec Ideal S1x1024 .f32) (o : ℕ) (h : o + 256 ≤ 1024) : Vec Ideal S1x256 .f32 :=
  View.ld g (Rect.unit ![0, o] ![1, 256] (inb_gain h))

theorem cutG_row (g : Vec Ideal S1x1024 .f32) {o : ℕ} (h : o + 256 ≤ 1024) (e : Fin 256) : cutG g o h (ix2 0 e) = g (ix2 0 ⟨o + e.val, by omega⟩) := by
  refine View.ld_unit_apply_of _ _ _ _ _ _ fun a => ?_
  fin_cases a <;> simp

/-- A head's lanes cut from the running sums. -/
theorem slices {h : ℕ} (hh : h < 4) : S8x512.Slices ![0, 128 * h] S8x128 := by
  refine ⟨rfl, fun a => ?_⟩
  fin_cases a <;> simp <;> omega

/-- A head's rows of a block whose heads are `n` lanes wide. -/
def rows {n : ℕ} (x : Vec Ideal ⟨3, ![4, 8, 4 * n]⟩ .f32) (b h : Fin 4) (i : Fin 8) (d : Fin n) : EReal :=
  x (ix3 b i ⟨n * h.val + d.val, by
    have := d.isLt; have := Nat.mul_le_mul_left n (show h.val ≤ 3 by omega); omega⟩)

section
variable (x0 x1 : Vec Ideal S4x8x512 .f32) (x2 x3 : Vec Ideal S4x8x1024 .f32) (x4 : Vec Ideal S4x8x512 .f32) (x5 : Vec Ideal S1x1024 .f32)
  (S : Vec Ideal S1x4x4x128x256 .f32)

/-- The state block after the point, from the states `S`. -/
def stateB : Vec Ideal S1x4x4x128x256 .f32 := fun y =>
  Sample.next (rows (n := 128) x1 (y 1) (y 2)) (rows (n := 128) x4 (y 1) (y 2)) (rows (n := 256) x2 (y 1) (y 2)) (fun d e => S (ix5 0 (y 1) (y 2) d e)) (y 3) (y 4)

/-- One row of a head's output. -/
def outRow (b h : Fin 4) (i : Fin 8) (e : Fin 256) : EReal :=
  Gla.gated (Gla.out (rows (n := 128) x0 b h) (rows (n := 128) x1 b h) (rows (n := 128) x4 b h) (rows (n := 256) x2 b h)
    (fun d e => S (ix5 0 b h d e)) i) (fun e => x5 (ix2 0 ⟨256 * h.val + e.val, by omega⟩)) (rows (n := 256) x3 b h i) e

/-- The output block after the point. -/
def outB : Vec Ideal S4x8x1024 .f32 := fun y =>
  outRow x0 x1 x2 x3 x4 x5 S (y 0) ⟨(y 2).val / 256, by have : (y 2).val < 1024 := (y 2).isLt; omega⟩ (y 1) ⟨(y 2).val % 256, by omega⟩

/-- The output block at a head's row. -/
theorem outB_at (b h : Fin 4) (i : Fin 8) (e : Fin 256) (h2 : 256 * h.val + e.val < 1024) :
    outB x0 x1 x2 x3 x4 x5 S (ix3 b i ⟨256 * h.val + e.val, h2⟩) = outRow x0 x1 x2 x3 x4 x5 S b h i e := by
  have e3 : (⟨(256 * h.val + e.val) / 256, by omega⟩ : Fin 4) = h := Fin.ext (by show (256 * h.val + e.val) / 256 = h.val; omega)
  have e4 : (⟨(256 * h.val + e.val) % 256, by omega⟩ : Fin 256) = e := Fin.ext (by show (256 * h.val + e.val) % 256 = e.val; omega)
  show outRow x0 x1 x2 x3 x4 x5 S b ⟨(256 * h.val + e.val) / 256, _⟩ i ⟨(256 * h.val + e.val) % 256, _⟩ = _
  rw [e3, e4]

variable (hf : ∀ i, x4 i ≠ ⊤)
include hf

/-- The state the point leaves for a head. -/
theorem state_piece {b h : ℕ}
    (hb : b < 4) (hh : h < 4) (p : FVec Ideal S1x1x1x128x256 .f32)
    (hp : p = nextV (128 * h) (slices hh) (cut 512 x4 b 0 (by omega)) (cut 128 x1 b (128 * h) (by omega)) (cut 256 x2 b (256 * h) (by omega)) (cutS S b h hb hh))
    (x : S1x1x1x128x256.Idx) : p x = stateB x1 x2 x4 S ((Rect.unit (s := S1x4x4x128x256) ![0, b, h, 0, 0] ![1, 1, 1, 128, 256] (inb_state hb hh)).emb x) := by
  subst hp
  obtain ⟨d, e, rfl⟩ : ∃ (d : Fin 128) (e : Fin 256), x = ix5 0 0 0 d e :=
    ⟨x 3, x 4, by funext a; fin_cases a <;> first | rfl | exact Subsingleton.elim (α := Fin 1) _ _⟩
  have he : (Rect.unit (s := S1x4x4x128x256) ![0, b, h, 0, 0] ![1, 1, 1, 128, 256] (inb_state hb hh)).emb (ix5 0 0 0 d e) = ix5 0 ⟨b, hb⟩ ⟨h, hh⟩ d e := by
    funext a; refine Fin.ext ((Rect.idx_unit_val _ _ _ _ a).trans ?_); fin_cases a <;> simp
  rw [he, nextV_row _ _ (by omega) _ _ _ _ (cut_ne_top _ hf _)]
  unfold stateB rows
  simp only [cut_row, cutS_row, Nat.zero_add]
  rfl

/-- The output the point leaves for a head. -/
theorem out_piece {b o : ℕ}
    (hi : b < 4 ∧ o + 256 ≤ 1024) (hb : b < 4) (hh : o / 256 < 4) (ho : o = 256 * (o / 256)) (p : FVec Ideal S1x8x256 .f32)
    (hp : p = outV (128 * (o / 256)) (slices hh) (cut 512 x4 b 0 (by omega)) (cut 128 x0 b (128 * (o / 256)) (by omega)) (cut 128 x1 b (128 * (o / 256)) (by omega))
      (cut 256 x2 b (256 * (o / 256)) (by omega)) (cutS S b (o / 256) hb hh) (cutG x5 (256 * (o / 256)) (by omega)) (cut 256 x3 b (256 * (o / 256)) (by omega)))
    (x : S1x8x256.Idx) : p x = outB x0 x1 x2 x3 x4 x5 S ((Rect.unit (s := S4x8x1024) ![b, 0, o] ![1, 8, 256] (inb_cut hi)).emb x) := by
  subst hp
  obtain ⟨i, e, rfl⟩ : ∃ (i : Fin 8) (e : Fin 256), x = ix3 0 i e :=
    ⟨x 1, x 2, by funext a; fin_cases a <;> first | rfl | exact Subsingleton.elim (α := Fin 1) _ _⟩
  have he : (Rect.unit (s := S4x8x1024) ![b, 0, o] ![1, 8, 256] (inb_cut hi)).emb (ix3 0 i e)
      = ix3 ⟨b, hb⟩ i ⟨256 * (⟨o / 256, hh⟩ : Fin 4).val + e.val, by simp; omega⟩ := by
    funext a; refine Fin.ext ((Rect.idx_unit_val _ _ _ _ a).trans ?_); fin_cases a <;> simp <;> omega
  rw [he, outB_at, outV_row _ _ (by omega) _ _ _ _ _ _ _ (cut_ne_top _ hf _)]
  unfold outRow rows
  simp only [cut_row, cutS_row, cutG_row, Nat.zero_add]

end

end Cert.KernelSampleIdeal.Sample

end
-- ==== Proof.SamplePoint.lean ====
/- A grid point of the sample's recurrence: what it leaves in the state block and in the output block. -/
module

public import proofs.«01_k».proof.Proof.Gen.KernelSampleIdeal.Value
public import proofs.«01_k».proof.Proof.SampleBlock
public import Idealize.ShloMosaic.Lib.Pipeline.ValueKit
public import Idealize.ShloMosaic.Lib.Pipeline.ReadBack

@[expose] public section

set_option maxRecDepth 16384

noncomputable section

namespace Cert.KernelSampleIdeal.Sample

open Cert.KernelSampleIdeal Cert.KernelSampleIdeal.Gen Idealize.ShloMosaic Idealize.ShloMosaic.TcCoe

/-- All the states given, read back from the state block after they are copied there. -/
abbrev given (x6 : Vec Ideal S1x4x4x128x256 .f32) : Vec Ideal S1x4x4x128x256 .f32 := k0_pay2 x6

/-- They are the states given. -/
theorem given_eq (x6 : Vec Ideal S1x4x4x128x256 .f32) : given x6 = x6 := by
  funext y
  obtain ⟨b, h, d, e, rfl⟩ : ∃ (b h : Fin 4) (d : Fin 128) (e : Fin 256), y = ix5 0 b h d e := ⟨y 1, y 2, y 3, y 4, by
    funext a
    fin_cases a
    · exact Subsingleton.elim (α := Fin 1) _ _
    all_goals rfl⟩
  unfold given
  pointwise [k0_pay2]

section
variable (c : Dev nD) (i : grid0.Coords) (arg2 : Memref sig .tc .vmem S4x8x512 .f32) (harg2 : arg2.IsWhole) (arg3 : Memref sig .tc .vmem S4x8x512 .f32) (harg3 : arg3.IsWhole) (arg4 : Memref sig .tc .vmem S4x8x1024 .f32) (harg4 : arg4.IsWhole) (arg5 : Memref sig .tc .vmem S4x8x1024 .f32) (harg5 : arg5.IsWhole) (arg6 : Memref sig .tc .vmem S4x8x512 .f32) (harg6 : arg6.IsWhole) (arg7 : Memref sig .tc .vmem S1x1024 .f32) (harg7 : arg7.IsWhole) (arg8 : Memref sig .tc .vmem S1x4x4x128x256 .f32) (harg8 : arg8.IsWhole) (arg10 : Memref sig .tc .vmem S4x8x1024 .f32) (harg10 : arg10.IsWhole) (arg11 : Memref sig .tc .vmem S1x4x4x128x256 .f32) (harg11 : arg11.IsWhole) (hc0 : cond0_0 i)
  (x0 x1 : Vec Ideal S4x8x512 .f32) (x2 x3 : Vec Ideal S4x8x1024 .f32) (x4 : Vec Ideal S4x8x512 .f32) (x5 : Vec Ideal S1x1024 .f32)
  (x6 : Vec Ideal S1x4x4x128x256 .f32) (hf : ∀ i, x4 i ≠ ⊤)
include hf

set_option maxHeartbeats 4000000 in
/-- A point leaves its state block, -/
theorem left8 :
    out0_A_8 c i arg2 harg2 arg3 harg3 arg4 harg4 arg5 harg5 arg6 harg6 arg7 harg7 arg8 harg8 arg10 harg10 arg11 harg11 hc0 x0 x1 x2 x3 x4 x5 x6 = stateB x1 x2 x4 x6 := by
  funext y
  frame_open
  simp (disch := decide) only [↓ View.readCov_skip, ↓ View.readCov_cons_toLoadRect, ↓ View.readCov_fill]
  frame_out
  refine (View.canon_append_of_piecesOf (stateB x1 x2 x4 (given x6)) _ [_, _, _, _, _, _, _, _, _, _, _, _, _, _, _, _] ?_ y
    (View.cover_of_tiledL _ ![1, 1, 1, 128, 256] (by sl_kernel_rfl) y)).trans (congrArg (fun S => stateB x1 x2 x4 S y) (given_eq x6))
  refine ⟨?_, ?_, ?_, ?_, ?_, ?_, ?_, ?_, ?_, ?_, ?_, ?_, ?_, ?_, ?_, ?_, trivial⟩
  all_goals exact state_piece x1 x2 x4 (given x6) hf (by decide) (by decide) _ rfl

set_option maxHeartbeats 4000000 in
/-- and its output block. -/
theorem left7 :
    out0_A_7 c i arg2 harg2 arg3 harg3 arg4 harg4 arg5 harg5 arg6 harg6 arg7 harg7 arg8 harg8 arg10 harg10 arg11 harg11 hc0 x0 x1 x2 x3 x4 x5 x6 = outB x0 x1 x2 x3 x4 x5 x6 := by
  funext y
  frame_open
  simp (disch := decide) only [↓ View.readCov_skip, ↓ View.readCov_cons_toLoadRect, ↓ View.readCov_fill]
  frame_out
  refine (View.canon_append_of_piecesOf (outB x0 x1 x2 x3 x4 x5 (given x6)) [] [_, _, _, _, _, _, _, _, _, _, _, _, _, _, _, _] ?_ y
    (View.cover_of_tiledL _ ![1, 8, 256] (by sl_kernel_rfl) y)).trans (congrArg (fun S => outB x0 x1 x2 x3 x4 x5 S y) (given_eq x6))
  refine ⟨?_, ?_, ?_, ?_, ?_, ?_, ?_, ?_, ?_, ?_, ?_, ?_, ?_, ?_, ?_, ?_, trivial⟩
  all_goals exact out_piece x0 x1 x2 x3 x4 x5 (given x6) hf (by decide) (by decide) (by decide) rfl _ rfl
end

end Cert.KernelSampleIdeal.Sample

end
-- ==== Proof.SampleValue.lean ====
/- What the kernel of the sample's recurrence leaves in its two results: the gated outputs, and the states after the rows in the state
   array's second layer. -/
module

public import proofs.«01_k».proof.Proof.Gen.KernelSampleIdeal.Value
public import proofs.«01_k».proof.Proof.SamplePoint
public import Idealize.ShloMosaic.Lib.Pipeline.ValueKit
public import Idealize.ShloMosaic.Lib.Claim

@[expose] public section

set_option maxRecDepth 16384

noncomputable section

namespace Cert.KernelSampleIdeal.Sample

open Cert.KernelSampleIdeal Cert.KernelSampleIdeal.Gen Idealize.ShloMosaic Idealize.ShloMosaic.TcCoe

/-- Which block each window holds at a grid point: the point's four sequences, in the second layer's states. -/
theorem idx : ∀ t : Fin cfg0.N, win0_0.index t = ![t.val, 0, 0] ∧ win0_1.index t = ![t.val, 0, 1] ∧ win0_2.index t = ![t.val, 0, 1] ∧
    win0_3.index t = ![t.val, 0, 2] ∧ win0_4.index t = ![t.val, 0, 0] ∧ win0_5.index t = ![0, 0] ∧ win0_6.index t = ![1, t.val, 0, 0, 0] ∧
    win0_7.index t = ![t.val, 0, 0] ∧ win0_8.index t = ![1, t.val, 0, 0, 0] := by decide +kernel

variable (m : (ℓ : Loc nD τ sig) → Buf (Elt Ideal) ℓ) (c : Dev nD) (t : Fin cfg0.N)

/-- The projected rows. -/
abbrev argY : FVec Ideal S1024x3072 .f32 := m ((c.tc : Thread nD τ).loc main_arg0)
/-- The log gates. -/
abbrev argL : FVec Ideal S1024x512 .f32 := m ((c.tc : Thread nD τ).loc main_arg1)
/-- The norm's gain. -/
abbrev argG : FVec Ideal S1024 .f32 := m ((c.tc : Thread nD τ).loc main_arg2)
/-- The states to start from. -/
abbrev argS : FVec Ideal S2x128x4x128x256 .f32 := m ((c.tc : Thread nD τ).loc main_arg3)
/-- The state array to write in. -/
abbrev argA : FVec Ideal S2x128x4x128x256 .f32 := m ((c.tc : Thread nD τ).loc main_arg4)

/-- Sequence `b` of the point's four, in the whole batch. -/
def seq (b : Fin 4) : Fin 128 := ⟨t.val * 4 + b.val, by have ht : t.val < 32 := t.isLt; omega⟩

/-- Each window's block at a point, as a part of its argument: the queries, -/
theorem read0 (b : Fin 4) (r : Fin 8) (k : Fin 512) :
    iblk m c 0 t (ix3 b r k) = argY m c (ix2 (Cert.Sample.row (seq t b) r) ⟨k.val, by omega⟩) := by unfold Cert.Sample.row seq; blk_ext! [iblk, V, idx t]
/-- the keys, -/
theorem read1 (b : Fin 4) (r : Fin 8) (k : Fin 512) :
    iblk m c 1 t (ix3 b r k) = argY m c (ix2 (Cert.Sample.row (seq t b) r) ⟨512 + k.val, by omega⟩) := by unfold Cert.Sample.row seq; blk_ext! [iblk, V, idx t]
/-- the values, -/
theorem read2 (b : Fin 4) (r : Fin 8) (k : Fin 1024) :
    iblk m c 2 t (ix3 b r k) = argY m c (ix2 (Cert.Sample.row (seq t b) r) ⟨1024 + k.val, by omega⟩) := by unfold Cert.Sample.row seq; blk_ext! [iblk, V, idx t]
/-- the output gates, -/
theorem read3 (b : Fin 4) (r : Fin 8) (k : Fin 1024) :
    iblk m c 3 t (ix3 b r k) = argY m c (ix2 (Cert.Sample.row (seq t b) r) ⟨2048 + k.val, by omega⟩) := by unfold Cert.Sample.row seq; blk_ext! [iblk, V, idx t]
/-- the log gates, -/
theorem read4 (b : Fin 4) (r : Fin 8) (k : Fin 512) :
    iblk m c 4 t (ix3 b r k) = argL m c (ix2 (Cert.Sample.row (seq t b) r) k) := by unfold Cert.Sample.row seq; blk_ext! [iblk, V, idx t]
/-- the gain -/
theorem read5 (k : Fin 1024) :
    iblk m c 5 t (ix2 0 k) = argG m c (ix1 k) := by blk_ext! [iblk, V, idx t]
/-- and the states. -/
theorem read6 (b h : Fin 4) (d : Fin 128) (e : Fin 256) :
    iblk m c 6 t (ix5 0 b h d e) = Cert.Sample.start (argS m c) (seq t b) h d e := by unfold Cert.Sample.start seq; blk_ext! [iblk, V, idx t]

/-- No gate of the point's is above every number if none of the call's is. -/
theorem gates (hL : ∀ j, argL m c j ≠ ⊤) : ∀ i : S4x8x512.Idx, @Ne EReal (iblk m c 4 t i) ⊤ := by
  intro i
  obtain ⟨b, r, k, rfl⟩ : ∃ (b : Fin 4) (r : Fin 8) (k : Fin 512), i = ix3 b r k := ⟨i 0, i 1, i 2, by funext a; fin_cases a <;> rfl⟩
  exact fun he => hL _ ((read4 m c t b r k).symm.trans he)

/-- Each window's rows of a head are the head's rows. -/
theorem rows_at (b h : Fin 4) :
    rows (n := 128) (iblk m c 0 t) b h = Cert.Sample.q (argY m c) (seq t b) h ∧ rows (n := 128) (iblk m c 1 t) b h = Cert.Sample.k (argY m c) (seq t b) h ∧
    rows (n := 256) (iblk m c 2 t) b h = Cert.Sample.v (argY m c) (seq t b) h ∧ rows (n := 256) (iblk m c 3 t) b h = Cert.Sample.r (argY m c) (seq t b) h ∧
    rows (n := 128) (iblk m c 4 t) b h = Cert.Sample.l (argL m c) (seq t b) h :=
  ⟨funext fun i => funext fun d => read0 m c t b i _, funext fun i => funext fun d => read1 m c t b i _, funext fun i => funext fun d => read2 m c t b i _,
    funext fun i => funext fun d => read3 m c t b i _, funext fun i => funext fun d => read4 m c t b i _⟩

/-- The states after the rows. -/
theorem stateB_at (b h : Fin 4) (d : Fin 128) (e : Fin 256) : stateB (iblk m c 1 t) (iblk m c 2 t) (iblk m c 4 t) (iblk m c 6 t) (ix5 0 b h d e)
    = Cert.Sample.nextAt (argY m c) (argL m c) (argS m c) (seq t b) h d e := by
  obtain ⟨-, h1, h2, -, h4⟩ := rows_at m c t b h
  show Cert.Sample.next (rows (n := 128) (iblk m c 1 t) b h) (rows (n := 128) (iblk m c 4 t) b h) (rows (n := 256) (iblk m c 2 t) b h)
    (fun d e => iblk m c 6 t (ix5 0 b h d e)) d e = _
  rw [h1, h2, h4]
  exact congrArg (fun S => Cert.Sample.next _ _ _ S d e) (funext fun d => funext fun e => read6 m c t b h d e)

/-- The gated outputs. -/
theorem outRow_at (b h : Fin 4) (i : Fin 8) (e : Fin 256) :
    outRow (iblk m c 0 t) (iblk m c 1 t) (iblk m c 2 t) (iblk m c 3 t) (iblk m c 4 t) (iblk m c 5 t) (iblk m c 6 t) b h i e
      = Cert.Sample.gatedAt (argY m c) (argL m c) (argG m c) (argS m c) (seq t b) h i e := by
  obtain ⟨h0, h1, h2, h3, h4⟩ := rows_at m c t b h
  have h6 : (fun d e => iblk m c 6 t (ix5 0 b h d e)) = Cert.Sample.start (argS m c) (seq t b) h := funext fun d => funext fun e => read6 m c t b h d e
  unfold outRow
  rw [h0, h1, h2, h3, h4, h6]
  exact congrArg (fun g => Gla.gated _ g _ e) (funext fun e => read5 m c t _)

/-- The gated outputs after the run. -/
theorem final7 (hL : ∀ j, argL m c j ≠ ⊤) : (dats m 0 c).arrAt 7 cfg0.N = Cert.Sample.outArr (argY m c) (argL m c) (argG m c) (argS m c) := by
  refine (dats m 0 c).arrAt_eq_of_covers 7 _ (by decide +kernel) fun t hf y => ?_
  have ht : t.val < 32 := t.isLt
  obtain ⟨b, i, h, e, h2, rfl⟩ : ∃ (b : Fin 4) (i : Fin 8) (h : Fin 4) (e : Fin 256) (h2 : 256 * h.val + e.val < 1024),
      y = ix3 b i ⟨256 * h.val + e.val, h2⟩ := by
    have hy2 : (y 2).val < 1024 := (y 2).isLt
    refine ⟨y 0, y 1, ⟨(y 2).val / 256, by omega⟩, ⟨(y 2).val % 256, by omega⟩, ?_, ?_⟩
    · show 256 * ((y 2).val / 256) + (y 2).val % 256 < 1024; omega
    · funext a
      fin_cases a
      · rfl
      · rfl
      · exact Fin.ext (by show (y 2).val = 256 * ((y 2).val / 256) + (y 2).val % 256; omega)
  have hemb : ((cfg0.win 7).blk t).view.emb (ix3 b i ⟨256 * h.val + e.val, h2⟩) = ix3 (seq t b) i (⟨256 * h.val + e.val, h2⟩ : Fin 1024) := by
    unfold seq
    blk_ext [idx t]
  blk_simp
  rw [after0_7, hemb, Cert.Sample.outArr_at]
  unfold outsAt0
  rw [left7 (hf := gates m c t hL)]
  exact (outB_at _ _ _ _ _ _ _ b h i e h2).trans (outRow_at m c t b h i e)

/-- The states after the run: the second layer is the states after the rows, and the first is as given. -/
theorem final8 (hL : ∀ j, argL m c j ≠ ⊤) : (dats m 0 c).arrAt 8 cfg0.N = Cert.Sample.stateArr (argY m c) (argL m c) (argS m c) (argA m c) := by
  have hA : (dats m 0 c).A 8 = argA m c := by blk_ext! [V]
  refine ((dats m 0 c).arrAt_eq_of_coversWhere 8 (fun y => Cert.Sample.nextAt (argY m c) (argL m c) (argS m c) (y 1) (y 2) (y 3) (y 4))
    (P := fun y => (y 0).val = 1) (fun β => β 0 = 1) (by decide +kernel) (fun t hf y => ?_) (fun j => by blk_simp [Pipeline.Window.cell_apply]; omega)).trans ?_
  · have ht : t.val < 32 := t.isLt
    obtain ⟨b, h, d, e, rfl⟩ : ∃ (b h : Fin 4) (d : Fin 128) (e : Fin 256), y = ix5 0 b h d e := ⟨y 1, y 2, y 3, y 4, by
      funext a
      fin_cases a
      · exact Subsingleton.elim (α := Fin 1) _ _
      all_goals rfl⟩
    have hemb : ((cfg0.win 8).blk t).view.emb (ix5 0 b h d e) = ix5 (1 : Fin 2) (seq t b) h d e := by
      unfold seq
      blk_ext [idx t]
    blk_simp
    rw [after0_8, hemb]
    unfold outsAt0
    rw [left8 (hf := gates m c t hL)]
    exact stateB_at m c t b h d e
  · rw [hA]
    rfl

end Cert.KernelSampleIdeal.Sample

end
-- ==== Proof.SampleReference.lean ====
/- The reference of the sample's recurrence, read at a head's row: its results are the gated outputs and the states of the chunk
   functions. -/
module

public import proofs.«01_k».proof.Proof.Gen.ReferenceSampleIdeal.Run
public import proofs.«01_k».proof.Proof.Gen.ReferenceSampleIdeal.Read
public import proofs.«01_k».proof.Proof.GlaReference
public import proofs.«01_k».proof.Proof.SampleSpec

@[expose] public section

set_option maxRecDepth 16384

noncomputable section

namespace Cert.ReferenceSampleIdeal.Sample

open Cert.ReferenceSampleIdeal Cert.ReferenceSampleIdeal.Gen Cert.ReferenceSampleIdeal.Read Idealize.ShloMosaic Idealize.ShloMosaic.TcCoe Idealize.ShloMosaic.Tactic Idealize.ShloMosaic.StableHlo

/-- Positions of the sum's window, which spans the 8 rows. -/
def window : Fin 8 ≃ (⟨4, ![1, 8, 1, 1]⟩ : Shape).Idx where
  toFun a := ix4 0 a 0 0
  invFun w := w 1
  left_inv _ := rfl
  right_inv w := by
    funext a
    fin_cases a
    · exact Subsingleton.elim (α := Fin 1) _ _
    · rfl
    · exact Subsingleton.elim (α := Fin 1) _ _
    · exact Subsingleton.elim (α := Fin 1) _ _

/-- The running sum over the rows. -/
theorem cumsum (x : FVec Ideal S128x8x4x128 .f32) (b : Fin 128) (i : Fin 8) (h : Fin 4) (d : Fin 128) :
    Host.reduceWindowAdd ![1, 8, 1, 1] ![1, 1, 1, 1] ![0, 7, 0, 0] ![0, 0, 0, 0] x (broadcastInDim S_ ![] bcast_S_S_ (constant S_ .f32 0x00000000#32)) reduceWindows_S128x8x4x128_S128x8x4x128_w1s1p0_0_w8s1p7_0_w1s1p0_0_w1s1p0_0 h_S_
     (ix4 b i h d) = ∑ s : Fin 8, if s ≤ i then x (ix4 b s h d) else 0 := by
  have hz : Ideal.ofBits .f32 (0x00000000#32 : BitVec 32) = 0 := by pointwise []
  show List.foldl (fun r n => r + _) (Ideal.ofBits .f32 (0x00000000#32 : BitVec 32)) _ = _
  rw [Cert.ReferenceIdeal.Gla.foldl_add, hz, zero_add, ← Fin.sum_univ_def,
    ← Equiv.sum_comp (⟨4, ![1, 8, 1, 1]⟩ : Shape).rowMajor]
  rw [← Equiv.sum_comp window]
  refine Fintype.sum_equiv (Equiv.addLeft (i + 1)) _ _ fun a => ?_
  have hs : ((Equiv.addLeft (i + 1)) a).val = (i.val + 1 + a.val) % 8 := by
    show ((i + 1) + a).val = _
    rw [Fin.val_add, Fin.val_add]; show ((i.val + 1) % 8 + a.val) % 8 = _; omega
  generalize (Equiv.addLeft (i + 1)) a = s at hs
  simp only [Equiv.symm_apply_apply]
  by_cases hc : 7 ≤ i.val + a.val
  · have hle : s ≤ i := by rw [Fin.le_def]; omega
    rw [if_pos hle, dif_pos]
    · refine congrArg x (funext fun c => ?_)
      fin_cases c
      · exact Fin.ext (by show b.val * 1 + 0 - 0 = b.val; omega)
      · exact Fin.ext (by show i.val * 1 + a.val - 7 = s.val; omega)
      · exact Fin.ext (by show h.val * 1 + 0 - 0 = h.val; omega)
      · exact Fin.ext (by show d.val * 1 + 0 - 0 = d.val; omega)
    · intro c
      fin_cases c
      · show 0 ≤ b.val * 1 + 0 ∧ b.val * 1 + 0 - 0 < 128; omega
      · show 7 ≤ i.val * 1 + a.val ∧ i.val * 1 + a.val - 7 < 8; omega
      · show 0 ≤ h.val * 1 + 0 ∧ h.val * 1 + 0 - 0 < 4; omega
      · show 0 ≤ d.val * 1 + 0 ∧ d.val * 1 + 0 - 0 < 128; omega
  · have hle : ¬s ≤ i := by rw [Fin.le_def]; omega
    rw [if_neg hle, dif_neg]
    · exact hz
    · intro hall
      have h1 : 7 ≤ i.val * 1 + a.val := (hall 1).1
      omega

variable (Y : FVec Ideal S1024x3072 .f32) (L : FVec Ideal S1024x512 .f32) (G : FVec Ideal S1024 .f32) (S A : FVec Ideal S2x128x4x128x256 .f32)
variable (b : Fin 128) (i s : Fin 8) (h : Fin 4) (d : Fin 128) (e : Fin 256)

/-- The heads of an array of 512 lanes, -/
theorem heads128 (x : FVec Ideal S128x8x512 .f32) : shapeCast S128x8x4x128 x shapeCasts_S128x8x512_S128x8x4x128 (ix4 b i h d) = x (ix3 b i ⟨128 * h.val + d.val, by omega⟩) := by
  pointwise []
  exact congrArg (fun k => x (ix3 b i k)) (Fin.ext (by show h.val * 128 + d.val = 128 * h.val + d.val; omega))

/-- and of one of 1024 lanes. -/
theorem heads256 (x : FVec Ideal S128x8x1024 .f32) : shapeCast S128x8x4x256 x shapeCasts_S128x8x1024_S128x8x4x256 (ix4 b i h e) = x (ix3 b i ⟨256 * h.val + e.val, by omega⟩) := by
  pointwise []
  exact congrArg (fun k => x (ix3 b i k)) (Fin.ext (by show h.val * 256 + e.val = 256 * h.val + e.val; omega))

/-- The rows of a sequence. -/
theorem seqs (k : Fin 3072) : val_main_v0 (F := Ideal) Y (ix3 b i k) = Y (ix2 (Sample.row b i) k) := by
  unfold val_main_v0
  pointwise []
  rfl

/-- The scaled queries, -/
theorem v7 : val_main_v7 (F := Ideal) Y (ix4 b i h d) = Sample.q Y b h i d * Ideal.ofBits FTy.f32 1035273459#32 := by
  unfold val_main_v7 val_main_v6 val_main_v5 val_main_v1 val_main_cst
  pointwise [heads128, seqs]
  rfl
/-- the keys, -/
theorem v8 : val_main_v8 (F := Ideal) Y (ix4 b i h d) = Sample.k Y b h i d := by
  unfold val_main_v8 val_main_v2
  pointwise [heads128, seqs]
  rfl
/-- the values, -/
theorem v9 : val_main_v9 (F := Ideal) Y (ix4 b i h e) = Sample.v Y b h i e := by
  unfold val_main_v9 val_main_v3
  pointwise [heads256, seqs]
  rfl
/-- the log gates, -/
theorem v10 : val_main_v10 (F := Ideal) L (ix4 b i h d) = Sample.l L b h i d := by
  unfold val_main_v10
  pointwise []
  exact congrArg (fun k => L (ix2 (Sample.row b i) k)) (Fin.ext (by show h.val * 128 + d.val = 128 * h.val + d.val; omega))
/-- the states given, -/
theorem v14 : val_main_v14 (F := Ideal) S (ix4 b h d e) = Sample.start S b h d e := by
  unfold val_main_v14 val_main_v13
  pointwise []
  rfl
/-- the running sums of the gates, -/
theorem v15 : val_main_v15 (F := Ideal) L (ix4 b i h d) = Gla.cum (Sample.l L b h) i d := by
  unfold val_main_v15 val_main_call1_call0_v0 val_main_call1_call0_cst
  rw [cumsum]
  simp only [v10]
  rfl
/-- the last of them, -/
theorem v17 : val_main_v17 (F := Ideal) L (ix3 b h d) = Gla.cum (Sample.l L b h) 7 d := by
  unfold val_main_v17 val_main_v16
  pointwise [v15]
/-- the decayed queries, -/
theorem v19 : val_main_v19 (F := Ideal) Y L (ix4 b i h d) = Gla.qdec (Sample.q Y b h) (Sample.l L b h) i d := by
  unfold val_main_v19 val_main_v18
  pointwise [v7, v15]
  rfl
/-- the keys with the decay undone, -/
theorem v22 : val_main_v22 (F := Ideal) Y L (ix4 b i h d) = Gla.kdec (Sample.k Y b h) (Sample.l L b h) i d := by
  unfold val_main_v22 val_main_v21 val_main_v20
  pointwise [v8, v15]
  rfl
/-- the outputs from the state, -/
theorem v24 : val_main_v24 (F := Ideal) Y L S (ix4 b i h e) = ∑ d, Gla.qdec (Sample.q Y b h) (Sample.l L b h) i d * Sample.start S b h d e := by
  unfold val_main_v24 val_main_v23
  pointwise [v14, v19]
  exact Finset.sum_congr rfl fun d _ => mul_comm _ _
/-- the scores, -/
theorem v26 : val_main_v26 (F := Ideal) Y L (ix4 b h i s) = Gla.score (Sample.q Y b h) (Sample.k Y b h) (Sample.l L b h) i s := by
  unfold val_main_v26 val_main_call2_v2 val_main_call2_v1 val_main_call2_v0 val_main_cst_0 val_main_v25 val_main_v12 val_main_call0_v5 val_main_call0_c_0 val_main_call0_v4
    val_main_call0_v3 val_main_call0_v2 val_main_call0_v1 val_main_call0_c val_main_call0_v0 val_main_v11 val_main_c
  pointwise [v19, v22]
  have hm : ∀ i s : Fin 8, Scalar.select (IntOp.cmpi CmpIPredicate.sge (IntOp.addi (BitVec.ofNat 32 ↑i) 0#32) (BitVec.ofNat 32 ↑s)) (1#1 : BitVec 1) 0#1 = if s ≤ i then 1#1 else 0#1 := by
    decide +kernel
  rw [hm]
  show Scalar.select (if s ≤ i then 1#1 else 0#1) _ (Ideal.ofBits .f32 (0x00000000#32 : BitVec 32)) = if s ≤ i then _ else 0
  have hz : Ideal.ofBits .f32 (0x00000000#32 : BitVec 32) = 0 := by pointwise []
  rw [hz]
  split <;> rfl
/-- the outputs, -/
theorem v29 : val_main_v29 (F := Ideal) Y L S (ix4 b i h e) = Gla.out (Sample.q Y b h) (Sample.k Y b h) (Sample.l L b h) (Sample.v Y b h) (Sample.start S b h) i e := by
  unfold val_main_v29 val_main_v28 val_main_v27
  pointwise [v24, v26, v9]
  exact congrArg (fun x : EReal => _ + x) (Finset.sum_congr rfl fun s _ => mul_comm _ _)
/-- the states after the rows, -/
theorem v40 : val_main_v40 (F := Ideal) Y L S (ix4 b h d e) = Sample.nextAt Y L S b h d e := by
  unfold val_main_v40 val_main_v39 val_main_v38 val_main_v37 val_main_v36 val_main_v35 val_main_v34 val_main_v33 val_main_v32 val_main_v31 val_main_v30
  pointwise [v17, v14, v15, v8, v9]
  rfl
/-- the output gates -/
theorem v4 (k : Fin 1024) : val_main_v4 (F := Ideal) Y (ix3 b i k) = Y (ix2 (Sample.row b i) ⟨2048 + k.val, by omega⟩) := by
  unfold val_main_v4
  pointwise [seqs]
/-- and the normed outputs. -/
theorem v54 : val_main_v54 (F := Ideal) Y L G S (ix4 b i h e)
    = val_main_v29 (F := Ideal) Y L S (ix4 b i h e) * Ideal.rsqrt (Ideal.div (∑ e' : Fin 256, val_main_v29 (F := Ideal) Y L S (ix4 b i h e') * val_main_v29 (F := Ideal) Y L S (ix4 b i h e'))
      (Ideal.ofBits FTy.f32 1132462080#32) + Ideal.ofBits FTy.f32 897988541#32) * G (ix1 ⟨256 * h.val + e.val, by omega⟩) := by
  unfold val_main_v54 val_main_v53 val_main_v52 val_main_v51 val_main_v50 val_main_v49 val_main_v48 val_main_v47 val_main_v46 val_main_v45 val_main_v44 val_main_v43 val_main_v42 val_main_v41
    val_main_cst_1 val_main_cst_2 val_main_cst_3
  generalize val_main_v29 (F := Ideal) Y L S = o
  pointwise []
  exact congrArg (fun k => _ * G (ix1 k)) (Fin.ext (by show h.val * 256 + e.val = 256 * h.val + e.val; omega))

/-- The rows of all heads side by side. -/
theorem unheads (x : FVec Ideal S128x8x4x256 .f32) (hk : 256 * h.val + e.val < 1024) :
    shapeCast S128x8x1024 x shapeCasts_S128x8x4x256_S128x8x1024 (ix3 b i ⟨256 * h.val + e.val, hk⟩) = x (ix4 b i h e) := by
  pointwise []

/-- A row passed through `x · sigmoid x`. -/
theorem v56 (y : S128x8x1024.Idx) : val_main_v56 (F := Ideal) Y y = val_main_v4 (F := Ideal) Y y * Ideal.div 1 (1 + Ideal.exp (-val_main_v4 (F := Ideal) Y y)) := by
  unfold val_main_v56 val_main_call3_v5 val_main_call3_v4 val_main_call3_v3 val_main_call3_v2 val_main_call3_v1 val_main_call3_v0 val_main_call3_cst val_main_call3_cst_0
  generalize val_main_v4 (F := Ideal) Y = r
  pointwise []

/-- The first result. -/
theorem out_eq : val_main_v57 (F := Ideal) Y L G S = Sample.outArr Y L G S := by
  funext y
  obtain ⟨b, i, h, e, hk, rfl⟩ : ∃ (b : Fin 128) (i : Fin 8) (h : Fin 4) (e : Fin 256) (hk : 256 * h.val + e.val < 1024), y = ix3 b i ⟨256 * h.val + e.val, hk⟩ := by
    have hy2 : (y 2).val < 1024 := (y 2).isLt
    refine ⟨y 0, y 1, ⟨(y 2).val / 256, by omega⟩, ⟨(y 2).val % 256, by omega⟩, ?_, ?_⟩
    · show 256 * ((y 2).val / 256) + (y 2).val % 256 < 1024; omega
    · funext a
      fin_cases a
      · rfl
      · rfl
      · exact Fin.ext (by show (y 2).val = 256 * ((y 2).val / 256) + (y 2).val % 256; omega)
  rw [Sample.outArr_at]
  unfold val_main_v57 val_main_v55
  refine congrArg₂ (fun a b : EReal => a * b) ((unheads b i h e _ hk).trans ((v54 Y L G S b i h e).trans ?_)) ((v56 Y _).trans ?_)
  · simp only [v29]
  · rw [v4]
    rfl

/-- The second result. -/
theorem states_eq : val_main_v62 (F := Ideal) Y L S A = Sample.stateArr Y L S A := by
  funext y
  obtain ⟨a, b, h, d, e, rfl⟩ : ∃ (a : Fin 2) (b : Fin 128) (h : Fin 4) (d : Fin 128) (e : Fin 256), y = ix5 a b h d e := ⟨y 0, y 1, y 2, y 3, y 4, by
    funext a
    fin_cases a <;> rfl⟩
  have h1 := v40 Y L S b h d e
  unfold val_main_v62 val_main_v61 val_main_v60 val_main_v59 val_main_v58
  generalize val_main_v40 (F := Ideal) Y L S = x at h1 ⊢
  obtain rfl | rfl : a = 0 ∨ a = 1 := by omega
  · pointwise []
    rfl
  · pointwise []
    exact h1

end Cert.ReferenceSampleIdeal.Sample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelPost
public import proofs.«01_k».proof.Proof.Gen.KernelPost.Skeleton
public import proofs.«01_k».proof.Proof.Gen.KernelPost.Launch
public import proofs.«01_k».proof.Proof.Gen.KernelPost.Points
public import proofs.«01_k».proof.Proof.Gen.KernelPost.Frame
public import proofs.«01_k».proof.Proof.Gen.KernelPostIdeal
public import proofs.«01_k».proof.Proof.Gen.KernelPostIdeal.Skeleton
public import proofs.«01_k».proof.Proof.Gen.KernelPostIdeal.Launch
public import proofs.«01_k».proof.Proof.Gen.KernelPostIdeal.Points
public import proofs.«01_k».proof.Proof.Gen.KernelPostIdeal.Frame
public import proofs.«01_k».proof.Proof.Gen.ReferencePostIdeal
public import proofs.«01_k».proof.Proof.Gen.KernelIdeal.Value
public import proofs.«01_k».proof.Proof.Gen.KernelPostIdeal.Value
public import proofs.«01_k».proof.Proof.Gen.ReferenceIdeal.Run
public import proofs.«01_k».proof.Proof.Gen.ReferencePostIdeal.Run
public import proofs.«01_k».proof.Proof.Gen.ReferencePostIdeal.Read
public import proofs.«01_k».proof.Proof.PostValue
public import proofs.«01_k».proof.Proof.GlaValue
public import proofs.«01_k».proof.Proof.GlaResult
public import proofs.«01_k».proof.Proof.Gen.KernelMem
public import proofs.«01_k».proof.Proof.Gen.KernelMem.Skeleton
public import proofs.«01_k».proof.Proof.Gen.KernelMem.Launch
public import proofs.«01_k».proof.Proof.Gen.KernelMem.Points
public import proofs.«01_k».proof.Proof.Gen.KernelMem.Frame
public import proofs.«01_k».proof.Proof.Gen.KernelMemIdeal
public import proofs.«01_k».proof.Proof.Gen.KernelMemIdeal.Skeleton
public import proofs.«01_k».proof.Proof.Gen.KernelMemIdeal.Launch
public import proofs.«01_k».proof.Proof.Gen.KernelMemIdeal.Points
public import proofs.«01_k».proof.Proof.Gen.KernelMemIdeal.Frame
public import proofs.«01_k».proof.Proof.Gen.KernelMemIdeal.Value
public import proofs.«01_k».proof.Proof.Gen.ReferenceMemIdeal
public import proofs.«01_k».proof.Proof.Gen.ReferenceMemIdeal.Run
public import proofs.«01_k».proof.Proof.Gen.ReferenceMemIdeal.Read
public import proofs.«01_k».proof.Proof.MemValue
public import proofs.«01_k».proof.Proof.Gen.KernelPostSample
public import proofs.«01_k».proof.Proof.Gen.KernelPostSample.Skeleton
public import proofs.«01_k».proof.Proof.Gen.KernelPostSample.Launch
public import proofs.«01_k».proof.Proof.Gen.KernelPostSample.Points
public import proofs.«01_k».proof.Proof.Gen.KernelPostSample.Frame
public import proofs.«01_k».proof.Proof.Gen.KernelPostSampleIdeal
public import proofs.«01_k».proof.Proof.Gen.KernelPostSampleIdeal.Skeleton
public import proofs.«01_k».proof.Proof.Gen.KernelPostSampleIdeal.Launch
public import proofs.«01_k».proof.Proof.Gen.KernelPostSampleIdeal.Points
public import proofs.«01_k».proof.Proof.Gen.KernelPostSampleIdeal.Frame
public import proofs.«01_k».proof.Proof.Gen.KernelPostSampleIdeal.Value
public import proofs.«01_k».proof.Proof.Gen.ReferencePostSampleIdeal
public import proofs.«01_k».proof.Proof.Gen.ReferencePostSampleIdeal.Run
public import proofs.«01_k».proof.Proof.Gen.ReferencePostSampleIdeal.Read
public import proofs.«01_k».proof.Proof.PostSampleValue
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.InValue
public import proofs.«01_k».proof.Proof.Gen.KernelPostFirst
public import proofs.«01_k».proof.Proof.Gen.KernelPostFirst.Skeleton
public import proofs.«01_k».proof.Proof.Gen.KernelPostFirst.Launch
public import proofs.«01_k».proof.Proof.Gen.KernelPostFirst.Points
public import proofs.«01_k».proof.Proof.Gen.KernelPostFirst.Frame
public import proofs.«01_k».proof.Proof.Gen.KernelPostFirstIdeal
public import proofs.«01_k».proof.Proof.Gen.KernelPostFirstIdeal.Skeleton
public import proofs.«01_k».proof.Proof.Gen.KernelPostFirstIdeal.Launch
public import proofs.«01_k».proof.Proof.Gen.KernelPostFirstIdeal.Points
public import proofs.«01_k».proof.Proof.Gen.KernelPostFirstIdeal.Frame
public import proofs.«01_k».proof.Proof.Gen.KernelPostFirstIdeal.Value
public import proofs.«01_k».proof.Proof.Gen.ReferencePostFirstIdeal
public import proofs.«01_k».proof.Proof.Gen.ReferencePostFirstIdeal.Run
public import proofs.«01_k».proof.Proof.Gen.ReferencePostFirstIdeal.Read
public import proofs.«01_k».proof.Proof.PostFirstValue
public import proofs.«01_k».proof.Proof.Gen.KernelPostSecond
public import proofs.«01_k».proof.Proof.Gen.KernelPostSecond.Skeleton
public import proofs.«01_k».proof.Proof.Gen.KernelPostSecond.Launch
public import proofs.«01_k».proof.Proof.Gen.KernelPostSecond.Points
public import proofs.«01_k».proof.Proof.Gen.KernelPostSecond.Frame
public import proofs.«01_k».proof.Proof.Gen.KernelPostSecondIdeal
public import proofs.«01_k».proof.Proof.Gen.KernelPostSecondIdeal.Skeleton
public import proofs.«01_k».proof.Proof.Gen.KernelPostSecondIdeal.Launch
public import proofs.«01_k».proof.Proof.Gen.KernelPostSecondIdeal.Points
public import proofs.«01_k».proof.Proof.Gen.KernelPostSecondIdeal.Frame
public import proofs.«01_k».proof.Proof.Gen.KernelPostSecondIdeal.Value
public import proofs.«01_k».proof.Proof.Gen.ReferencePostSecondIdeal
public import proofs.«01_k».proof.Proof.Gen.ReferencePostSecondIdeal.Run
public import proofs.«01_k».proof.Proof.Gen.ReferencePostSecondIdeal.Read
public import proofs.«01_k».proof.Proof.PostSecondValue
public import proofs.«01_k».proof.Proof.Gen.KernelPostThird
public import proofs.«01_k».proof.Proof.Gen.KernelPostThird.Skeleton
public import proofs.«01_k».proof.Proof.Gen.KernelPostThird.Launch
public import proofs.«01_k».proof.Proof.Gen.KernelPostThird.Points
public import proofs.«01_k».proof.Proof.Gen.KernelPostThird.Frame
public import proofs.«01_k».proof.Proof.Gen.KernelPostThirdIdeal
public import proofs.«01_k».proof.Proof.Gen.KernelPostThirdIdeal.Skeleton
public import proofs.«01_k».proof.Proof.Gen.KernelPostThirdIdeal.Launch
public import proofs.«01_k».proof.Proof.Gen.KernelPostThirdIdeal.Points
public import proofs.«01_k».proof.Proof.Gen.KernelPostThirdIdeal.Frame
public import proofs.«01_k».proof.Proof.Gen.KernelPostThirdIdeal.Value
public import proofs.«01_k».proof.Proof.Gen.ReferencePostThirdIdeal
public import proofs.«01_k».proof.Proof.Gen.ReferencePostThirdIdeal.Run
public import proofs.«01_k».proof.Proof.Gen.ReferencePostThirdIdeal.Read
public import proofs.«01_k».proof.Proof.PostThirdValue
public import proofs.«01_k».proof.Proof.Gen.KernelSample
public import proofs.«01_k».proof.Proof.Gen.KernelSample.Skeleton
public import proofs.«01_k».proof.Proof.Gen.KernelSample.Launch
public import proofs.«01_k».proof.Proof.Gen.KernelSample.Points
public import proofs.«01_k».proof.Proof.Gen.KernelSample.Frame
public import proofs.«01_k».proof.Proof.Gen.KernelSampleIdeal
public import proofs.«01_k».proof.Proof.Gen.KernelSampleIdeal.Skeleton
public import proofs.«01_k».proof.Proof.Gen.KernelSampleIdeal.Launch
public import proofs.«01_k».proof.Proof.Gen.KernelSampleIdeal.Points
public import proofs.«01_k».proof.Proof.Gen.KernelSampleIdeal.Frame
public import proofs.«01_k».proof.Proof.Gen.KernelSampleIdeal.Value
public import proofs.«01_k».proof.Proof.Gen.ReferenceSampleIdeal
public import proofs.«01_k».proof.Proof.Gen.ReferenceSampleIdeal.Run
public import proofs.«01_k».proof.Proof.Gen.ReferenceSampleIdeal.Read
public import proofs.«01_k».proof.Proof.SampleValue
public import proofs.«01_k».proof.Proof.SampleReference
public import Idealize.ShloMosaic.Adequacy
public import Idealize.ShloMosaic.Init

@[expose] public section

noncomputable section

-- The frame claims also say that every semaphore counter ends at zero; the proof shows that too.

namespace Cert.Proof

open Idealize.ShloMosaic Idealize.SL.Sem Cert.Kernel

/-- The recurrence's reference keeps its arguments. -/
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The residual block's reference keeps its arguments. -/
theorem frame_referencePost : Cert.quiescent_ReferencePostIdeal := fun m ρ _ =>
  (θ_run Cert.ReferencePostIdeal.defs _ _).mono (fun r h => ⟨fun c => (h c).2, Idealize.ShloMosaic.sem_eq_zero_of_no_sems (by decide) r.2⟩)
    (Cert.ReferencePostIdeal.Value.run (F := Ideal) m ρ)

/-- The reference of the memory's keys and values keeps its arguments. -/
theorem frame_referenceMem : Cert.quiescent_ReferenceMemIdeal := fun m ρ _ =>
  (θ_run Cert.ReferenceMemIdeal.defs _ _).mono (fun r h => ⟨fun c => (h c).2, Idealize.ShloMosaic.sem_eq_zero_of_no_sems (by decide) r.2⟩)
    (Cert.ReferenceMemIdeal.Value.run (F := Ideal) m ρ)

/-- The sample's residual block's reference keeps its arguments. -/
theorem frame_referencePostSample : Cert.quiescent_ReferencePostSampleIdeal := fun m ρ _ =>
  (θ_run Cert.ReferencePostSampleIdeal.defs _ _).mono (fun r h => ⟨fun c => (h c).2, Idealize.ShloMosaic.sem_eq_zero_of_no_sems (by decide) r.2⟩)
    (Cert.ReferencePostSampleIdeal.Value.run (F := Ideal) m ρ)

/-- The frame of the reference of the projections: its run ends, its arguments are unchanged and it has no counts. -/
theorem frame_referenceIn : Cert.quiescent_ReferenceInIdeal := fun m ρ _ =>
  (θ_run Cert.ReferenceInIdeal.defs _ _).mono (fun r h => ⟨fun c => (h c).2.2, Idealize.ShloMosaic.sem_eq_zero_of_no_sems (by decide) r.2⟩)
    (Cert.ReferenceInIdeal.Value.run (F := Ideal) m ρ)

/-- The frame of the first layer's reference: its run ends, its arguments are unchanged and it has no counts. -/
theorem frame_referencePostFirst : Cert.quiescent_ReferencePostFirstIdeal := fun m ρ _ =>
  (θ_run Cert.ReferencePostFirstIdeal.defs _ _).mono (fun r h => ⟨fun c => (h c).2, Idealize.ShloMosaic.sem_eq_zero_of_no_sems (by decide) r.2⟩)
    (Cert.ReferencePostFirstIdeal.Value.run (F := Ideal) m ρ)

/-- The frame of the second layer's reference: its run ends, its arguments are unchanged and it has no counts. -/
theorem frame_referencePostSecond : Cert.quiescent_ReferencePostSecondIdeal := fun m ρ _ =>
  (θ_run Cert.ReferencePostSecondIdeal.defs _ _).mono (fun r h => ⟨fun c => (h c).2, Idealize.ShloMosaic.sem_eq_zero_of_no_sems (by decide) r.2⟩)
    (Cert.ReferencePostSecondIdeal.Value.run (F := Ideal) m ρ)

/-- The frame of the third layer's reference: its run ends, its arguments are unchanged and it has no counts. -/
theorem frame_referencePostThird : Cert.quiescent_ReferencePostThirdIdeal := fun m ρ _ =>
  (θ_run Cert.ReferencePostThirdIdeal.defs _ _).mono (fun r h => ⟨fun c => (h c).2, Idealize.ShloMosaic.sem_eq_zero_of_no_sems (by decide) r.2⟩)
    (Cert.ReferencePostThirdIdeal.Value.run (F := Ideal) m ρ)

/-- The reference of the sample's recurrence keeps its arguments. -/
theorem frame_referenceSample : Cert.quiescent_ReferenceSampleIdeal := fun m ρ _ =>
  (θ_run Cert.ReferenceSampleIdeal.defs _ _).mono (fun r h => ⟨fun c => (h c).2.2, Idealize.ShloMosaic.sem_eq_zero_of_no_sems (by decide) r.2⟩)
    (Cert.ReferenceSampleIdeal.Value.run (F := Ideal) m ρ)

/-- From equal arguments the residual block's kernel and its reference end with equal results. -/
theorem algebraic_post : Cert.algebraic_KernelPostIdeal_ReferencePostIdeal := by
  intro m ρ m' ρ' _ hagree
  refine ⟨fun c => Cert.KernelPostIdeal.Post.result m c, Cert.KernelPostIdeal.Post.run m ρ,
    (θ_run Cert.ReferencePostIdeal.defs _ _).mono (fun r h c => ⟨(h c).1.trans ?_, (h c).2⟩) (Cert.ReferencePostIdeal.Value.run (F := Ideal) m' ρ')⟩
  obtain ⟨h0, h1, h2, h3, h4, h5, h6, h7, h8, h9, h10⟩ := hagree c
  refine (Cert.ReferencePostIdeal.Read.val_main_v83_eq _).trans ?_
  beta_reduce
  unfold Cert.KernelPostIdeal.Post.result
  rw [← h0, ← h1, ← h2, ← h3, ← h4, ← h5, ← h6, ← h7, ← h8, ← h9, ← h10]

/-- From equal arguments the projection of the memory's kernel and its reference end with equal keys and values. -/
theorem algebraic_mem : Cert.algebraic_KernelMemIdeal_ReferenceMemIdeal := by
  intro m ρ m' ρ' _ hagree
  refine ⟨fun c => Cert.KernelMemIdeal.Mem.result m c, Cert.KernelMemIdeal.Mem.run m ρ,
    (θ_run Cert.ReferenceMemIdeal.defs _ _).mono (fun r h c => ⟨(h c).1.trans ?_, (h c).2⟩) (Cert.ReferenceMemIdeal.Value.run (F := Ideal) m' ρ')⟩
  obtain ⟨h0, h1, h2⟩ := hagree c
  refine (Cert.ReferenceMemIdeal.Read.val_main_v16_eq _ _ _).trans ?_
  beta_reduce
  unfold Cert.KernelMemIdeal.Mem.result
  rw [← h0, ← h1, ← h2]

/-- From equal arguments the sample's residual block's kernel and its reference end with equal results. -/
theorem algebraic_postSample : Cert.algebraic_KernelPostSampleIdeal_ReferencePostSampleIdeal := by
  intro m ρ m' ρ' _ hagree
  refine ⟨fun c => Cert.KernelPostSampleIdeal.Post.result m c, Cert.KernelPostSampleIdeal.Post.run m ρ,
    (θ_run Cert.ReferencePostSampleIdeal.defs _ _).mono (fun r h c => ⟨(h c).1.trans ?_, (h c).2⟩) (Cert.ReferencePostSampleIdeal.Value.run (F := Ideal) m' ρ')⟩
  obtain ⟨h0, h1, h2, h3, h4, h5, h6⟩ := hagree c
  refine (Cert.ReferencePostSampleIdeal.Read.val_main_v41_eq _ _).trans ?_
  beta_reduce
  unfold Cert.KernelPostSampleIdeal.Post.result
  rw [← h0, ← h1, ← h2, ← h3, ← h4, ← h5, ← h6]

/-- From equal arguments the kernel of the projections into the recurrence and its reference end with equal projections and log gates. -/
theorem algebraic_in : Cert.algebraic_KernelInIdeal_ReferenceInIdeal := by
  intro m ρ m' ρ' _ hagree
  refine ⟨fun c => Cert.KernelInIdeal.In.resultY m c, fun c => Cert.KernelInIdeal.In.resultL m c, Cert.KernelInIdeal.In.run m ρ,
    (θ_run Cert.ReferenceInIdeal.defs _ _).mono (fun r h c => ⟨(h c).1.trans ?_, (h c).2.1.trans ?_, (h c).2.2⟩) (Cert.ReferenceInIdeal.Value.run (F := Ideal) m' ρ')⟩
  · obtain ⟨h0, h1, h2, -⟩ := hagree c
    refine (Cert.ReferenceInIdeal.Read.val_main_v23_eq _ _ _).trans ?_
    beta_reduce
    unfold Cert.KernelInIdeal.In.resultY
    rw [← h0, ← h1, ← h2]
  · obtain ⟨h0, h1, -, h3, h4, h5⟩ := hagree c
    refine (Cert.ReferenceInIdeal.Read.val_main_v24_eq _ _).trans ?_
    beta_reduce
    unfold Cert.KernelInIdeal.In.resultL
    rw [← h0, ← h1, ← h3, ← h4, ← h5]

/-- From equal arguments the first layer's residual block's kernel and its reference end with equal results. -/
theorem algebraic_postFirst : Cert.algebraic_KernelPostFirstIdeal_ReferencePostFirstIdeal := by
  intro m ρ m' ρ' _ hagree
  refine ⟨fun c => Cert.KernelPostFirstIdeal.Post.result m c, Cert.KernelPostFirstIdeal.Post.run m ρ,
    (θ_run Cert.ReferencePostFirstIdeal.defs _ _).mono (fun r h c => ⟨(h c).1.trans ?_, (h c).2⟩) (Cert.ReferencePostFirstIdeal.Value.run (F := Ideal) m' ρ')⟩
  obtain ⟨h0, h1, h2, h3, h4, h5, h6, h7, h8, h9⟩ := hagree c
  refine (Cert.ReferencePostFirstIdeal.Read.val_main_v70_eq _ _).trans ?_
  beta_reduce
  unfold Cert.KernelPostFirstIdeal.Post.result
  rw [← h0, ← h1, ← h2, ← h3, ← h4, ← h5, ← h6, ← h7, ← h8, ← h9]

/-- From equal arguments the second layer's residual block's kernel and its reference end with equal results. -/
theorem algebraic_postSecond : Cert.algebraic_KernelPostSecondIdeal_ReferencePostSecondIdeal := by
  intro m ρ m' ρ' _ hagree
  refine ⟨fun c => Cert.KernelPostSecondIdeal.Post.result m c, Cert.KernelPostSecondIdeal.Post.run m ρ,
    (θ_run Cert.ReferencePostSecondIdeal.defs _ _).mono (fun r h c => ⟨(h c).1.trans ?_, (h c).2⟩) (Cert.ReferencePostSecondIdeal.Value.run (F := Ideal) m' ρ')⟩
  obtain ⟨h0, h1, h2, h3, h4, h5, h6, h7, h8, h9⟩ := hagree c
  refine (Cert.ReferencePostSecondIdeal.Read.val_main_v70_eq _ _).trans ?_
  beta_reduce
  unfold Cert.KernelPostSecondIdeal.Post.result
  rw [← h0, ← h1, ← h2, ← h3, ← h4, ← h5, ← h6, ← h7, ← h8, ← h9]

/-- From equal arguments the third layer's residual block's kernel and its reference end with equal results. -/
theorem algebraic_postThird : Cert.algebraic_KernelPostThirdIdeal_ReferencePostThirdIdeal := by
  intro m ρ m' ρ' _ hagree
  refine ⟨fun c => Cert.KernelPostThirdIdeal.Post.result m c, Cert.KernelPostThirdIdeal.Post.run m ρ,
    (θ_run Cert.ReferencePostThirdIdeal.defs _ _).mono (fun r h c => ⟨(h c).1.trans ?_, (h c).2⟩) (Cert.ReferencePostThirdIdeal.Value.run (F := Ideal) m' ρ')⟩
  obtain ⟨h0, h1, h2, h3, h4, h5, h6, h7, h8, h9⟩ := hagree c
  refine (Cert.ReferencePostThirdIdeal.Read.val_main_v70_eq _ _).trans ?_
  beta_reduce
  unfold Cert.KernelPostThirdIdeal.Post.result
  rw [← h0, ← h1, ← h2, ← h3, ← h4, ← h5, ← h6, ← h7, ← h8, ← h9]

/-- The shape relation the precondition takes. -/
theorem preFacts : Cert.Pre_gates_below_infinity.Facts := ⟨by decide⟩

/-- No gate is above every number when the precondition holds. -/
theorem gates_ne_top [Cert.Pre_gates_below_infinity.Facts] (Y : FVec Ideal Cert.Pre_gates_below_infinity.S16384x3072 .f32) (L : FVec Ideal Cert.Pre_gates_below_infinity.S16384x512 .f32)
    (G : FVec Ideal Cert.Pre_gates_below_infinity.S1024 .f32) (S : FVec Ideal Cert.Pre_gates_below_infinity.S2x4x4x128x256 .f32)
    (h : Cert.Pre_gates_below_infinity.fn (F := Ideal) Y L G S = fun _ => 1#1) : ∀ j, @Ne EReal (L j) ⊤ := by
  intro j hj
  have h1 := congrFun h j
  unfold Cert.Pre_gates_below_infinity.fn at h1
  have h2 : BitVec.ofBool (decide (L j < Ideal.ofBits FTy.f32 0x7F800000#32)) = 1#1 := h1
  rw [show L j = (⊤ : EReal) from hj] at h2
  simp at h2

/-- From equal arguments the recurrence's kernel and its reference end with equal outputs and states. -/
theorem algebraic_gla [Cert.Pre_gates_below_infinity.Facts] : Cert.algebraic_KernelIdeal_ReferenceIdeal_pre_gates_below_infinity := by
  intro m ρ m' ρ' hpre hagree
  have hL := fun c => gates_ne_top _ _ _ _ (hpre c)
  refine ⟨fun c => Cert.Gla.outArr (Cert.KernelIdeal.Gla.argY m c) (Cert.KernelIdeal.Gla.argL m c) (Cert.KernelIdeal.Gla.argG m c),
    fun c => Cert.Gla.stateArr (Cert.KernelIdeal.Gla.argY m c) (Cert.KernelIdeal.Gla.argL m c) (Cert.KernelIdeal.Gla.argS m c),
    (θ_run Cert.KernelIdeal.defs _ _).mono (fun _ h c => ⟨(h c).1.trans (Cert.KernelIdeal.Gla.final6 m c (hL c)), (h c).2.1.trans (Cert.KernelIdeal.Gla.final7 m c (hL c)), (h c).2.2⟩)
      (Cert.KernelIdeal.Value.run_blocks m ρ),
    (θ_run Cert.ReferenceIdeal.defs _ _).mono (fun r h c => ⟨(h c).1.trans ?_, (h c).2.1.trans ?_, (h c).2.2⟩) (Cert.ReferenceIdeal.Gla.run m' ρ')⟩
  · obtain ⟨h0, h1, h2, -⟩ := hagree c
    exact congr (congrArg₂ Cert.Gla.outArr h0 h1) h2
  · obtain ⟨h0, h1, -, h3⟩ := hagree c
    exact congr (congrArg₂ Cert.Gla.stateArr h0 h1) h3

/-- The shape relation the precondition of the sample's recurrence takes. -/
theorem preFactsSample : Cert.Pre_sample_gates_below_infinity.Facts := ⟨by decide⟩

/-- No gate of the sample's is above every number when its precondition holds. -/
theorem sample_gates_ne_top [Cert.Pre_sample_gates_below_infinity.Facts] (Y : FVec Ideal Cert.Pre_sample_gates_below_infinity.S1024x3072 .f32)
    (L : FVec Ideal Cert.Pre_sample_gates_below_infinity.S1024x512 .f32) (G : FVec Ideal Cert.Pre_sample_gates_below_infinity.S1024 .f32)
    (S A : FVec Ideal Cert.Pre_sample_gates_below_infinity.S2x128x4x128x256 .f32)
    (h : Cert.Pre_sample_gates_below_infinity.fn (F := Ideal) Y L G S A = fun _ => 1#1) : ∀ j, @Ne EReal (L j) ⊤ := by
  intro j hj
  have h1 := congrFun h j
  unfold Cert.Pre_sample_gates_below_infinity.fn at h1
  have h2 : BitVec.ofBool (decide (L j < Ideal.ofBits FTy.f32 0x7F800000#32)) = 1#1 := h1
  rw [show L j = (⊤ : EReal) from hj] at h2
  simp at h2

/-- From equal arguments the kernel of the sample's recurrence and its reference end with equal outputs and states. -/
theorem algebraic_sample [Cert.Pre_sample_gates_below_infinity.Facts] : Cert.algebraic_KernelSampleIdeal_ReferenceSampleIdeal_pre_sample_gates_below_infinity := by
  intro m ρ m' ρ' hpre hagree
  have hL := fun c => sample_gates_ne_top _ _ _ _ _ (hpre c)
  refine ⟨fun c => Cert.Sample.outArr (Cert.KernelSampleIdeal.Sample.argY m c) (Cert.KernelSampleIdeal.Sample.argL m c) (Cert.KernelSampleIdeal.Sample.argG m c)
      (Cert.KernelSampleIdeal.Sample.argS m c),
    fun c => Cert.Sample.stateArr (Cert.KernelSampleIdeal.Sample.argY m c) (Cert.KernelSampleIdeal.Sample.argL m c) (Cert.KernelSampleIdeal.Sample.argS m c)
      (Cert.KernelSampleIdeal.Sample.argA m c),
    (θ_run Cert.KernelSampleIdeal.defs _ _).mono (fun _ h c => ⟨(h c).1.trans (Cert.KernelSampleIdeal.Sample.final7 m c (hL c)),
      (h c).2.1.trans (Cert.KernelSampleIdeal.Sample.final8 m c (hL c)), (h c).2.2⟩) (Cert.KernelSampleIdeal.Value.run_blocks m ρ),
    (θ_run Cert.ReferenceSampleIdeal.defs _ _).mono (fun r h c => ⟨(h c).1.trans ?_, (h c).2.1.trans ?_, (h c).2.2⟩) (Cert.ReferenceSampleIdeal.Value.run (F := Ideal) m' ρ')⟩
  · obtain ⟨h0, h1, h2, h3, -⟩ := hagree c
    refine (Cert.ReferenceSampleIdeal.Read.val_main_v57_eq _ _).trans ((Cert.ReferenceSampleIdeal.Sample.out_eq _ _ _ _).trans ?_)
    exact congr (congr (congrArg₂ Cert.Sample.outArr h0 h1) h2) h3
  · obtain ⟨h0, h1, -, h3, h4⟩ := hagree c
    refine (Cert.ReferenceSampleIdeal.Read.val_main_v62_eq _ _ _ _).trans ((Cert.ReferenceSampleIdeal.Sample.states_eq _ _ _ _).trans ?_)
    exact congr (congr (congrArg₂ Cert.Sample.stateArr h0 h1) h3) h4

/-- All claims. -/
theorem claim : Cert.Claim :=
  haveI := preFacts
  haveI := preFactsSample
  ⟨Cert.Kernel.Gen.facts, Cert.KernelIdeal.Gen.facts, Cert.ReferenceIdeal.Gen.facts,
  Cert.KernelPost.Gen.facts, Cert.KernelPostIdeal.Gen.facts, Cert.ReferencePostIdeal.Gen.facts,
  Cert.KernelMem.Gen.facts, Cert.KernelMemIdeal.Gen.facts, Cert.ReferenceMemIdeal.Gen.facts,
  Cert.KernelPostSample.Gen.facts, Cert.KernelPostSampleIdeal.Gen.facts, Cert.ReferencePostSampleIdeal.Gen.facts,
  Cert.KernelIn.Gen.facts, Cert.KernelInIdeal.Gen.facts, Cert.ReferenceInIdeal.Gen.facts,
  Cert.KernelPostFirst.Gen.facts, Cert.KernelPostFirstIdeal.Gen.facts, Cert.ReferencePostFirstIdeal.Gen.facts,
  Cert.KernelPostSecond.Gen.facts, Cert.KernelPostSecondIdeal.Gen.facts, Cert.ReferencePostSecondIdeal.Gen.facts,
  Cert.KernelPostThird.Gen.facts, Cert.KernelPostThirdIdeal.Gen.facts, Cert.ReferencePostThirdIdeal.Gen.facts,
  Cert.KernelSample.Gen.facts, Cert.KernelSampleIdeal.Gen.facts, Cert.ReferenceSampleIdeal.Gen.facts, preFacts, preFactsSample,
  fun m ρ _ => Cert.Kernel.Gen.frame m ρ, fun m ρ _ => Cert.KernelIdeal.Gen.frame m ρ, fun m ρ _ => Cert.KernelIdeal.Gen.frame m ρ, frame_reference, fun m ρ _ => frame_reference m ρ trivial,
  fun m ρ _ => Cert.KernelPost.Gen.frame m ρ, fun m ρ _ => Cert.KernelPostIdeal.Gen.frame m ρ, frame_referencePost,
  fun m ρ _ => Cert.KernelMem.Gen.frame m ρ, fun m ρ _ => Cert.KernelMemIdeal.Gen.frame m ρ, frame_referenceMem,
  fun m ρ _ => Cert.KernelPostSample.Gen.frame m ρ, fun m ρ _ => Cert.KernelPostSampleIdeal.Gen.frame m ρ, frame_referencePostSample,
  fun m ρ _ => Cert.KernelIn.Gen.frame m ρ, fun m ρ _ => Cert.KernelInIdeal.Gen.frame m ρ, frame_referenceIn,
  fun m ρ _ => Cert.KernelPostFirst.Gen.frame m ρ, fun m ρ _ => Cert.KernelPostFirstIdeal.Gen.frame m ρ, frame_referencePostFirst,
  fun m ρ _ => Cert.KernelPostSecond.Gen.frame m ρ, fun m ρ _ => Cert.KernelPostSecondIdeal.Gen.frame m ρ, frame_referencePostSecond,
  fun m ρ _ => Cert.KernelPostThird.Gen.frame m ρ, fun m ρ _ => Cert.KernelPostThirdIdeal.Gen.frame m ρ, frame_referencePostThird,
  fun m ρ _ => Cert.KernelSample.Gen.frame m ρ, fun m ρ _ => Cert.KernelSampleIdeal.Gen.frame m ρ, fun m ρ _ => Cert.KernelSampleIdeal.Gen.frame m ρ, frame_referenceSample, fun m ρ _ => frame_referenceSample m ρ trivial,
  trivial, algebraic_gla, trivial, algebraic_post, trivial, algebraic_mem, trivial, algebraic_postSample, trivial, algebraic_in, trivial, algebraic_postFirst, trivial, algebraic_postSecond, trivial, algebraic_postThird, trivial, algebraic_sample⟩

end Cert.Proof

end
